-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_placed : Cert.Pre_placed.Facts] (m : (ℓ : Loc Cert.Kernel6.nD Cert.Kernel6.τ Cert.Kernel6.sig) → Buf (Elt Bits) ℓ) : Prop :=
  ∀ c : Dev Cert.Kernel6.nD,
    (Cert.Pre_placed.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7))) = (fun _ => 1#1)

def Pre_Kernel6Ideal [hPre_placed : Cert.Pre_placed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_placed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal [hPre_placed : Cert.Pre_placed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_placed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] [hPre_placed : Cert.Pre_placed.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] [hPre_placed : Cert.Pre_placed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] [hPre_placed : Cert.Pre_placed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] [hPre_placed : Cert.Pre_placed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  IdealRules.named_const.Statement Cert.Kernel11Ideal.κ "mask" .f32 0xF149F2CA#32 ⊥

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v47) = v0 c
          ∧ r.2.mem ((c.tc : Thread Cert.Reference11Ideal.nD Cert.Reference11Ideal.τ).loc Cert.Reference11Ideal.main_v49) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_routed : Cert.Pre_routed.Facts) (hPre_placed : Cert.Pre_placed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_placed := hPre_placed)
    ∧ quiescent_Kernel6Ideal (hKernel6Ideal := hKernel6Ideal) (hPre_placed := hPre_placed)
    ∧ quiescent_Reference6Ideal (hReference6Ideal := hReference6Ideal) (hPre_placed := hPre_placed)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_placed := hPre_placed)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_placed.lean ====
abbrev S256 : Shape := ⟨1, ![256]⟩
abbrev S16384x2 : Shape := ⟨2, ![16384, 2]⟩
abbrev S37888x1024 : Shape := ⟨2, ![37888, 1024]⟩
abbrev S16384x1024 : Shape := ⟨2, ![16384, 1024]⟩
abbrev S1x1024 : Shape := ⟨2, ![1, 1024]⟩
abbrev S32x1x8 : Shape := ⟨3, ![32, 1, 8]⟩
abbrev S_ : Shape := ⟨0, ![]⟩
abbrev S32x512x2 : Shape := ⟨3, ![32, 512, 2]⟩
abbrev S8 : Shape := ⟨1, ![8]⟩
abbrev S1x1x8 : Shape := ⟨3, ![1, 1, 8]⟩
abbrev S32x512x1 : Shape := ⟨3, ![32, 512, 1]⟩
abbrev S32x512x8 : Shape := ⟨3, ![32, 512, 8]⟩

class Facts : Prop where
  shapeCasts_S256_S32x1x8 : S256.ShapeCasts S32x1x8
  bcast_S_S32x1x8 : S_.BroadcastsInDim S32x1x8 (![] : Fin 0 → Fin S32x1x8.rank)
  shapeCasts_S16384x2_S32x512x2 : S16384x2.ShapeCasts S32x512x2
  shapeCasts_S8_S1x1x8 : S8.ShapeCasts S1x1x8
  slices_S32x512x2_S32x512x1_0_0_0 : S32x512x2.Slices ![0, 0, 0] S32x512x1
  slices_S32x512x2_S32x512x1_0_0_1 : S32x512x2.Slices ![0, 0, 1] S32x512x1
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S32x1x8_S32x512x8_0_1_2 : S32x1x8.BroadcastsInDim S32x512x8 (![0, 1, 2] : Fin 3 → Fin S32x512x8.rank)
  bcast_S_S32x512x1 : S_.BroadcastsInDim S32x512x1 (![] : Fin 0 → Fin S32x512x1.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32x1x8 32) (arg1 : IVec S_ 32) : IVec S32x1x8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32x1x8 32 := broadcastInDim S32x1x8 ![] bcast_S_S32x1x8 v2
  let v4 : IVec S32x1x8 32 := Host.remsi arg0 v3
  let c_1 : IVec S_ 32 := constantI S_ 32 0#32
  let v5 : IVec S32x1x8 32 := broadcastInDim S32x1x8 ![] bcast_S_S32x1x8 c_1
  let v6 : IVec S32x1x8 1 := cmpi .ne v4 v5
  let c_2 : IVec S_ 32 := constantI S_ 32 0#32
  let v7 : IVec S32x1x8 32 := broadcastInDim S32x1x8 ![] bcast_S_S32x1x8 c_2
  let v8 : IVec S32x1x8 1 := cmpi .slt v4 v7
  let c_3 : IVec S_ 32 := constantI S_ 32 0#32
  let v9 : IVec S_ 1 := cmpi .slt v2 c_3
  let v10 : IVec S32x1x8 1 := broadcastInDim S32x1x8 ![] bcast_S_S32x1x8 v9
  let v11 : IVec S32x1x8 1 := cmpi .ne v8 v10
  let v12 : IVec S32x1x8 1 := andi v11 v6
  let v13 : IVec S32x1x8 32 := broadcastInDim S32x1x8 ![] bcast_S_S32x1x8 v2
  let v14 : IVec S32x1x8 32 := addi v4 v13
  let v15 : IVec S32x1x8 32 := select v12 v14 v4
  v15

def fn_part2 {F : FTy → Type} [FloatOps F] (main_v9 : IVec S32x1x8 1) (main_v16 : IVec S32x512x1 32) (main_v17 : IVec S32x512x1 32) (main_v30 : IVec S32x512x8 1) (main_v33 : IVec S32x512x8 1) (main_v36 : IVec S32x512x8 1) (main_v41 : IVec S32x512x8 1) : IVec S32x512x8 1 :=
  let main_v42 : IVec S32x512x8 1 := andi main_v36 main_v41
  let main_v43 : IVec S32x512x8 1 := ori main_v33 main_v42
  let main_c_5 : IVec S_ 32 := constantI S_ 32 0#32
  let main_v44 : IVec S32x512x1 32 := broadcastInDim S32x512x1 ![] bcast_S_S32x512x1 main_c_5
  let main_v45 : IVec S32x512x1 1 := cmpi .sge main_v16 main_v44
  let main_c_6 : IVec S_ 32 := constantI S_ 32 8#32
  let main_v46 : IVec S32x512x1 32 := broadcastInDim S32x512x1 ![] bcast_S_S32x512x1 main_c_6
  let main_v47 : IVec S32x512x1 1 := cmpi .slt main_v16 main_v46
  let main_v48 : IVec S32x512x1 1 := andi main_v45 main_v47
  let main_c_7 : IVec S_ 32 := constantI S_ 32 0#32
  let main_v49 : IVec S32x512x1 32 := broadcastInDim S32x512x1 ![] bcast_S_S32x512x1 main_c_7
  let main_v50 : IVec S32x512x1 1 := cmpi .sge main_v17 main_v49
  let main_v51 : IVec S32x512x1 1 := andi main_v48 main_v50
  let main_c_8 : IVec S_ 32 := constantI S_ 32 8#32
  let main_v52 : IVec S32x512x1 32 := broadcastInDim S32x512x1 ![] bcast_S_S32x512x1 main_c_8
  let main_v53 : IVec S32x512x1 1 := cmpi .slt main_v17 main_v52
  let main_v54 : IVec S32x512x1 1 := andi main_v51 main_v53
  let main_v55 : IVec S32x512x1 1 := cmpi .ne main_v16 main_v17
  let main_v56 : IVec S32x512x1 1 := andi main_v54 main_v55
  let main_v57 : IVec S32x512x8 1 := broadcastInDim S32x512x8 ![0, 1, 2] bcast_S32x1x8_S32x512x8_0_1_2 main_v9
  let main_v58 : IVec S32x512x8 1 := andi main_v57 main_v30
  let main_v59 : IVec S32x512x8 1 := andi main_v58 main_v43
  let main_v60 : IVec S32x512x8 1 := broadcastInDim S32x512x8 ![0, 1, 2] bcast_S32x512x1_S32x512x8_0_1_2 main_v56
  let main_v61 : IVec S32x512x8 1 := andi main_v59 main_v60
  main_v61

def fn_part1 {F : FTy → Type} [FloatOps F] (main_v0 : IVec S32x1x8 32) (main_v9 : IVec S32x1x8 1) (main_v13 : IVec S1x1x8 32) (main_v14 : IVec S32x512x1 32) (main_v15 : IVec S32x512x1 32) (main_v16 : IVec S32x512x1 32) (main_v17 : IVec S32x512x1 32) (main_v18 : IVec S32x512x8 32) (main_v19 : IVec S32x512x8 32) : IVec S32x512x8 1 :=
  let main_v20 : IVec S32x512x8 1 := cmpi .ne main_v18 main_v19
  let main_v21 : IVec S32x512x8 32 := broadcastInDim S32x512x8 ![0, 1, 2] bcast_S32x512x1_S32x512x8_0_1_2 main_v14
  let main_v22 : IVec S32x512x8 32 := broadcastInDim S32x512x8 ![0, 1, 2] bcast_S32x1x8_S32x512x8_0_1_2 main_v0
  let main_v23 : IVec S32x512x8 1 := cmpi .sge main_v21 main_v22
  let main_c_3 : IVec S_ 32 := constantI S_ 32 640#32
  let main_v24 : IVec S32x1x8 32 := broadcastInDim S32x1x8 ![] bcast_S_S32x1x8 main_c_3
  let main_v25 : IVec S32x1x8 32 := addi main_v0 main_v24
  let main_v26 : IVec S32x512x8 32 := broadcastInDim S32x512x8 ![0, 1, 2] bcast_S32x512x1_S32x512x8_0_1_2 main_v14
  let main_v27 : IVec S32x512x8 32 := broadcastInDim S32x512x8 ![0, 1, 2] bcast_S32x1x8_S32x512x8_0_1_2 main_v25
  let main_v28 : IVec S32x512x8 1 := cmpi .slt main_v26 main_v27
  let main_v29 : IVec S32x512x8 1 := andi main_v23 main_v28
  let main_v30 : IVec S32x512x8 1 := ori main_v20 main_v29
  let main_v31 : IVec S32x512x8 32 := broadcastInDim S32x512x8 ![0, 1, 2] bcast_S32x512x1_S32x512x8_0_1_2 main_v17
  let main_v32 : IVec S32x512x8 32 := broadcastInDim S32x512x8 ![0, 1, 2] bcast_S1x1x8_S32x512x8_0_1_2 main_v13
  let main_v33 : IVec S32x512x8 1 := cmpi .ne main_v31 main_v32
  let main_v34 : IVec S32x512x8 32 := broadcastInDim S32x512x8 ![0, 1, 2] bcast_S32x512x1_S32x512x8_0_1_2 main_v15
  let main_v35 : IVec S32x512x8 32 := broadcastInDim S32x512x8 ![0, 1, 2] bcast_S32x1x8_S32x512x8_0_1_2 main_v0
  let main_v36 : IVec S32x512x8 1 := cmpi .sge main_v34 main_v35
  let main_c_4 : IVec S_ 32 := constantI S_ 32 640#32
  let main_v37 : IVec S32x1x8 32 := broadcastInDim S32x1x8 ![] bcast_S_S32x1x8 main_c_4
  let main_v38 : IVec S32x1x8 32 := addi main_v0 main_v37
  let main_v39 : IVec S32x512x8 32 := broadcastInDim S32x512x8 ![0, 1, 2] bcast_S32x512x1_S32x512x8_0_1_2 main_v15
  let main_v40 : IVec S32x512x8 32 := broadcastInDim S32x512x8 ![0, 1, 2] bcast_S32x1x8_S32x512x8_0_1_2 main_v38
  let main_v41 : IVec S32x512x8 1 := cmpi .slt main_v39 main_v40
  fn_part2 (F := F) main_v9 main_v16 main_v17 main_v30 main_v33 main_v36 main_v41

def fn {F : FTy → Type} [FloatOps F] (main_arg0 : IVec S256 32) (main_arg1 : IVec S16384x2 32) (main_arg2 : IVec S16384x2 32) (main_arg3 : FVec F S37888x1024 .bf16) (main_arg4 : FVec F S37888x1024 .bf16) (main_arg5 : FVec F S16384x1024 .f32) (main_arg6 : FVec F S1x1024 .f32) (main_arg7 : FVec F S1x1024 .f32) : IVec S32x512x8 1 :=
  let main_v0 : IVec S32x1x8 32 := shapeCast S32x1x8 main_arg0 shapeCasts_S256_S32x1x8
  let main_c : IVec S_ 32 := constantI S_ 32 0#32
  let main_v1 : IVec S32x1x8 32 := broadcastInDim S32x1x8 ![] bcast_S_S32x1x8 main_c
  let main_v2 : IVec S32x1x8 1 := cmpi .sge main_v0 main_v1
  let main_c_0 : IVec S_ 32 := constantI S_ 32 37248#32
  let main_v3 : IVec S32x1x8 32 := broadcastInDim S32x1x8 ![] bcast_S_S32x1x8 main_c_0
  let main_v4 : IVec S32x1x8 1 := cmpi .sle main_v0 main_v3
  let main_v5 : IVec S32x1x8 1 := andi main_v2 main_v4
  let main_c_1 : IVec S_ 32 := constantI S_ 32 16#32
  let main_v6 : IVec S32x1x8 32 := fn_remainder (F := F) main_v0 main_c_1
  let main_c_2 : IVec S_ 32 := constantI S_ 32 0#32
  let main_v7 : IVec S32x1x8 32 := broadcastInDim S32x1x8 ![] bcast_S_S32x1x8 main_c_2
  let main_v8 : IVec S32x1x8 1 := cmpi .eq main_v6 main_v7
  let main_v9 : IVec S32x1x8 1 := andi main_v5 main_v8
  let main_v10 : IVec S32x512x2 32 := shapeCast S32x512x2 main_arg1 shapeCasts_S16384x2_S32x512x2
  let main_v11 : IVec S32x512x2 32 := shapeCast S32x512x2 main_arg2 shapeCasts_S16384x2_S32x512x2
  let main_v12 : IVec S8 32 := iotaInDim S8 32 0
  let main_v13 : IVec S1x1x8 32 := shapeCast S1x1x8 main_v12 shapeCasts_S8_S1x1x8
  let main_v14 : IVec S32x512x1 32 := (extractStridedSlice S32x512x1 ![0, 0, 0] · slices_S32x512x2_S32x512x1_0_0_0) main_v10
  let main_v15 : IVec S32x512x1 32 := (extractStridedSlice S32x512x1 ![0, 0, 1] · slices_S32x512x2_S32x512x1_0_0_1) main_v10
  let main_v16 : IVec S32x512x1 32 := (extractStridedSlice S32x512x1 ![0, 0, 0] · slices_S32x512x2_S32x512x1_0_0_0) main_v11
  let main_v17 : IVec S32x512x1 32 := (extractStridedSlice S32x512x1 ![0, 0, 1] · slices_S32x512x2_S32x512x1_0_0_1) main_v11
  let main_v18 : IVec S32x512x8 32 := broadcastInDim S32x512x8 ![0, 1, 2] bcast_S32x512x1_S32x512x8_0_1_2 main_v16
  let main_v19 : IVec S32x512x8 32 := broadcastInDim S32x512x8 ![0, 1, 2] bcast_S1x1x8_S32x512x8_0_1_2 main_v13
  fn_part1 (F := F) main_v0 main_v9 main_v13 main_v14 main_v15 main_v16 main_v17 main_v18 main_v19
-- ==== Pre_routed.lean ====
abbrev S74 : Shape := ⟨1, ![74]⟩
abbrev S1 : Shape := ⟨1, ![1]⟩
abbrev S37888x1 : Shape := ⟨2, ![37888, 1]⟩
abbrev S16384x1024 : Shape := ⟨2, ![16384, 1024]⟩
abbrev S8x1024x3584 : Shape := ⟨3, ![8, 1024, 3584]⟩
abbrev S8x3584x1024 : Shape := ⟨3, ![8, 3584, 1024]⟩
abbrev S74x512 : Shape := ⟨2, ![74, 512]⟩
abbrev S74x1 : Shape := ⟨2, ![74, 1]⟩
abbrev S_ : Shape := ⟨0, ![]⟩

class Facts : Prop where
  shapeCasts_S37888x1_S74x512 : S37888x1.ShapeCasts S74x512
  bcast_S1_S74_0 : S1.BroadcastsInDim S74 (![0] : Fin 1 → Fin S74.rank)
  bcast_S74_S74x1_0 : S74.BroadcastsInDim S74x1 (![0] : Fin 1 → Fin S74x1.rank)
  bcast_S_S74x512 : S_.BroadcastsInDim S74x512 (![] : Fin 0 → Fin S74x512.rank)
  bcast_S_S74x1 : S_.BroadcastsInDim S74x1 (![] : Fin 0 → Fin S74x1.rank)
  bcast_S74x1_S74x512_0_1 : S74x1.BroadcastsInDim S74x512 (![0, 1] : Fin 2 → Fin S74x512.rank)
  bcast_S_S74 : S_.BroadcastsInDim S74 (![] : Fin 0 → Fin S74.rank)

variable [Facts]

def fn_part2 {F : FTy → Type} [FloatOps F] (main_v38 : IVec S74x512 1) (main_v39 : IVec S74x512 1) : IVec S74x512 1 :=
  let main_v40 : IVec S74x512 1 := andi main_v39 main_v38
  main_v40

def fn_part1 {F : FTy → Type} [FloatOps F] (main_arg0 : IVec S74 32) (main_v4 : IVec S74x1 1) (main_v5 : IVec S74x1 32) (main_v6 : IVec S74x1 32) (main_v8 : IVec S74x512 1) (main_v19 : IVec S74x512 1) : IVec S74x512 1 :=
  let main_v20 : IVec S74x512 1 := ori main_v8 main_v19
  let main_c_3 : IVec S_ 32 := constantI S_ 32 0#32
  let main_v21 : IVec S74x1 32 := broadcastInDim S74x1 ![] bcast_S_S74x1 main_c_3
  let main_v22 : IVec S74x1 1 := cmpi .sge main_v5 main_v21
  let main_v23 : IVec S74x1 1 := cmpi .sle main_v5 main_v6
  let main_v24 : IVec S74x1 1 := andi main_v22 main_v23
  let main_c_4 : IVec S_ 32 := constantI S_ 32 32#32
  let main_v25 : IVec S74x1 32 := broadcastInDim S74x1 ![] bcast_S_S74x1 main_c_4
  let main_v26 : IVec S74x1 1 := cmpi .slt main_v6 main_v25
  let main_v27 : IVec S74x1 1 := andi main_v24 main_v26
  let main_v28 : IVec S74x512 1 := broadcastInDim S74x512 ![0, 1] bcast_S74x1_S74x512_0_1 main_v27
  let main_v29 : IVec S74x512 1 := andi main_v28 main_v20
  let main_c_5 : IVec S_ 32 := constantI S_ 32 0#32
  let main_v30 : IVec S74 32 := broadcastInDim S74 ![] bcast_S_S74 main_c_5
  let main_v31 : IVec S74 1 := cmpi .sge main_arg0 main_v30
  let main_c_6 : IVec S_ 32 := constantI S_ 32 8#32
  let main_v32 : IVec S74 32 := broadcastInDim S74 ![] bcast_S_S74 main_c_6
  let main_v33 : IVec S74 1 := cmpi .slt main_arg0 main_v32
  let main_v34 : IVec S74 1 := andi main_v31 main_v33
  let main_v35 : IVec S74x1 1 := broadcastInDim S74x1 ![0] bcast_S74_S74x1_0 main_v34
  let main_v36 : IVec S74x1 1 := noti main_v4
  let main_v37 : IVec S74x512 1 := broadcastInDim S74x512 ![0, 1] bcast_S74x1_S74x512_0_1 main_v36
  let main_v38 : IVec S74x512 1 := ori main_v29 main_v37
  let main_v39 : IVec S74x512 1 := broadcastInDim S74x512 ![0, 1] bcast_S74x1_S74x512_0_1 main_v35
  fn_part2 (F := F) main_v38 main_v39

def fn {F : FTy → Type} [FloatOps F] (main_arg0 : IVec S74 32) (main_arg1 : IVec S1 32) (main_arg2 : IVec S74 32) (main_arg3 : IVec S74 32) (main_arg4 : IVec S37888x1 32) (main_arg5 : FVec F S16384x1024 .bf16) (main_arg6 : FVec F S8x1024x3584 .bf16) (main_arg7 : FVec F S8x1024x3584 .bf16) (main_arg8 : FVec F S8x3584x1024 .bf16) (main_arg9 : FVec F S37888x1 .f32) : IVec S74x512 1 :=
  let main_v0 : IVec S74x512 32 := shapeCast S74x512 main_arg4 shapeCasts_S37888x1_S74x512
  let main_v1 : IVec S74 32 := iotaInDim S74 32 0
  let main_v2 : IVec S74 32 := broadcastInDim S74 ![0] bcast_S1_S74_0 main_arg1
  let main_v3 : IVec S74 1 := cmpi .slt main_v1 main_v2
  let main_v4 : IVec S74x1 1 := broadcastInDim S74x1 ![0] bcast_S74_S74x1_0 main_v3
  let main_v5 : IVec S74x1 32 := broadcastInDim S74x1 ![0] bcast_S74_S74x1_0 main_arg2
  let main_v6 : IVec S74x1 32 := broadcastInDim S74x1 ![0] bcast_S74_S74x1_0 main_arg3
  let main_c : IVec S_ 32 := constantI S_ 32 4294967295#32
  let main_v7 : IVec S74x512 32 := broadcastInDim S74x512 ![] bcast_S_S74x512 main_c
  let main_v8 : IVec S74x512 1 := cmpi .eq main_v0 main_v7
  let main_c_0 : IVec S_ 32 := constantI S_ 32 512#32
  let main_v9 : IVec S74x1 32 := broadcastInDim S74x1 ![] bcast_S_S74x1 main_c_0
  let main_v10 : IVec S74x1 32 := muli main_v5 main_v9
  let main_v11 : IVec S74x512 32 := broadcastInDim S74x512 ![0, 1] bcast_S74x1_S74x512_0_1 main_v10
  let main_v12 : IVec S74x512 1 := cmpi .sge main_v0 main_v11
  let main_c_1 : IVec S_ 32 := constantI S_ 32 512#32
  let main_v13 : IVec S74x1 32 := broadcastInDim S74x1 ![] bcast_S_S74x1 main_c_1
  let main_v14 : IVec S74x1 32 := muli main_v6 main_v13
  let main_c_2 : IVec S_ 32 := constantI S_ 32 512#32
  let main_v15 : IVec S74x1 32 := broadcastInDim S74x1 ![] bcast_S_S74x1 main_c_2
  let main_v16 : IVec S74x1 32 := addi main_v14 main_v15
  let main_v17 : IVec S74x512 32 := broadcastInDim S74x512 ![0, 1] bcast_S74x1_S74x512_0_1 main_v16
  let main_v18 : IVec S74x512 1 := cmpi .slt main_v0 main_v17
  let main_v19 : IVec S74x512 1 := andi main_v12 main_v18
  fn_part1 (F := F) main_arg0 main_v4 main_v5 main_v6 main_v8 main_v19
-- ==== Kernel.lean ====
abbrev S74 : Shape := ⟨1, ![74]⟩
abbrev S1 : Shape := ⟨1, ![1]⟩
abbrev S37888x1 : Shape := ⟨2, ![37888, 1]⟩
abbrev S16384x1024 : Shape := ⟨2, ![16384, 1024]⟩
abbrev S8x1024x3584 : Shape := ⟨3, ![8, 1024, 3584]⟩
abbrev S8x3584x1024 : Shape := ⟨3, ![8, 3584, 1024]⟩
abbrev S37888x1024 : Shape := ⟨2, ![37888, 1024]⟩
abbrev S512x1 : Shape := ⟨2, ![512, 1]⟩
abbrev S1x1024x512 : Shape := ⟨3, ![1, 1024, 512]⟩
abbrev S1x512x1024 : Shape := ⟨3, ![1, 512, 1024]⟩
abbrev S512x1024 : Shape := ⟨2, ![512, 1024]⟩
abbrev S2x512x1024 : Shape := ⟨3, ![2, 512, 1024]⟩
abbrev S2 : Shape := ⟨1, ![2]⟩
abbrev S_ : Shape := ⟨0, ![]⟩
abbrev S512x512 : Shape := ⟨2, ![512, 512]⟩
abbrev S1024x512 : Shape := ⟨2, ![1024, 512]⟩

abbrev nBuf : Space → Nat
  | .hbm => 8
  | .vmem => 17
  | .smem => 4
  | _ => 0

abbrev bufTy : (tb : Table) → Fin (tcTables nBuf tb) → BufTy
  | .hbm, ⟨0, _⟩ => ⟨S37888x1, .i32⟩
  | .hbm, ⟨1, _⟩ => ⟨S16384x1024, .bf16⟩
  | .hbm, ⟨2, _⟩ => ⟨S8x1024x3584, .bf16⟩
  | .hbm, ⟨3, _⟩ => ⟨S8x1024x3584, .bf16⟩
  | .hbm, ⟨4, _⟩ => ⟨S8x3584x1024, .bf16⟩
  | .hbm, ⟨5, _⟩ => ⟨S37888x1, .f32⟩
  | .hbm, ⟨6, _⟩ => ⟨S37888x1024, .bf16⟩
  | .hbm, ⟨7, _⟩ => ⟨S37888x1024, .bf16⟩
  | .local _ .vmem, ⟨0, _⟩ => ⟨S512x1, .i32⟩
  | .local _ .vmem, ⟨1, _⟩ => ⟨S512x1, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1, .f32⟩
  | .local _ .vmem, ⟨9, _⟩ => ⟨S512x1, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .bf16⟩
  | .local _ .vmem, ⟨16, _⟩ => ⟨S2x512x1024, .bf16⟩
  | .local _ .smem, ⟨0, _⟩ => ⟨S74, .i32⟩
  | .local _ .smem, ⟨1, _⟩ => ⟨S1, .i32⟩
  | .local _ .smem, ⟨2, _⟩ => ⟨S74, .i32⟩
  | .local _ .smem, ⟨3, _⟩ => ⟨S74, .i32⟩
  | _, _ => ⟨S37888x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![74, 7], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v14 : Index := Scalar.indexCast arg0
  ![v14.toNat]
def k0_off3 (v15 : BitVec 32) : Fin 2 → Nat :=
  let c512_i32 : BitVec 32 := 512#32
  let v22 : BitVec 32 := Scalar.muli v15 c512_i32
  let c0_i32_11 : BitVec 32 := 0#32
  ![v22.toNat, 0]
def k0_cond1 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k0_chk1 (i : grid0.Coords) (v0 : BitVec 32) (v15 : BitVec 32) : Prop :=
  (∀ (k0_h1 : k0_cond1 i v0 = 1#1), ∀ a, (k0_off3 v15) a + S512x1024.size a ≤ S16384x1024.size a) ∧
  (∀ (k0_h1 : k0_cond1 i v0 = 1#1), ∀ (hinb : ∀ a, (k0_off3 v15) a + S512x1024.size a ≤ S16384x1024.size a), (Rect.unit (s := S16384x1024) (k0_off3 v15) S512x1024.size hinb).WholeWords (EltTy.packing .bf16))
theorem k0_off3_inb : ∀ (i : grid0.Coords) (v0 : BitVec 32) (v15 : BitVec 32) (k0_hw1 : k0_chk1 i v0 v15), ∀ (k0_h1 : k0_cond1 i v0 = 1#1), ∀ a, (k0_off3 v15) a + S512x1024.size a ≤ S16384x1024.size a := fun i v0 v15 k0_hw1 k0_h1 => k0_hw1.1 k0_h1
theorem k0_off3_wordsbf16 : ∀ (i : grid0.Coords) (v0 : BitVec 32) (v15 : BitVec 32) (k0_hw1 : k0_chk1 i v0 v15), ∀ (k0_h1 : k0_cond1 i v0 = 1#1), (Rect.unit (s := S16384x1024) (k0_off3 v15) S512x1024.size (k0_off3_inb i v0 v15 k0_hw1 k0_h1)).WholeWords (EltTy.packing .bf16) := fun i v0 v15 k0_hw1 k0_h1 => k0_hw1.2 k0_h1 (k0_off3_inb i v0 v15 k0_hw1 k0_h1)

@[reducible] def k0_t1_loop (v15 : BitVec 32) (v17 : BitVec 32) : Scf.Loop 32 :=
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_16 : BitVec 32 := 1#32
  ⟨v15, v35, c1_i32_16⟩

def k0_off4 (v15 : BitVec 32) (v17 : BitVec 32) (k0_t1 : Fin (k0_t1_loop v15 v17).trips) : Fin 1 → Nat :=
  let c1_i32_39 : BitVec 32 := 1#32
  let c1_i32_16 : BitVec 32 := 1#32
  let arg18 : BitVec 32 := Scf.iv v15 c1_i32_16 k0_t1
  let v41 : BitVec 32 := Scalar.subi arg18 v15
  let c1_i32_22 : BitVec 32 := 1#32
  let v42 : BitVec 32 := Scalar.andi v41 c1_i32_22
  let v71 : BitVec 32 := Scalar.subi c1_i32_39 v42
  ![v71.toNat]
def k0_cond2 (v15 : BitVec 32) (v17 : BitVec 32) (k0_t1 : Fin (k0_t1_loop v15 v17).trips) : BitVec 1 :=
  let c1_i32_16 : BitVec 32 := 1#32
  let arg18 : BitVec 32 := Scf.iv v15 c1_i32_16 k0_t1
  let v43 : BitVec 1 := Scalar.cmpi .slt arg18 v17
  let v44 : BitVec 32 := Scalar.extui v43
  let c0_i32_23 : BitVec 32 := 0#32
  let v45 : BitVec 1 := Scalar.cmpi .ne v44 c0_i32_23
  v45

def k0_off5 (v15 : BitVec 32) (v17 : BitVec 32) (k0_t1 : Fin (k0_t1_loop v15 v17).trips) : Fin 3 → Nat :=
  let c1_i32_39 : BitVec 32 := 1#32
  let c1_i32_16 : BitVec 32 := 1#32
  let arg18 : BitVec 32 := Scf.iv v15 c1_i32_16 k0_t1
  let v41 : BitVec 32 := Scalar.subi arg18 v15
  let c1_i32_22 : BitVec 32 := 1#32
  let v42 : BitVec 32 := Scalar.andi v41 c1_i32_22
  let v71 : BitVec 32 := Scalar.subi c1_i32_39 v42
  let c0_i32_41 : BitVec 32 := 0#32
  let c0_i32_42 : BitVec 32 := 0#32
  ![v71.toNat, 0, 0]
def k0_off6 (v15 : BitVec 32) (v17 : BitVec 32) (k0_t1 : Fin (k0_t1_loop v15 v17).trips) : Fin 2 → Nat :=
  let c1_i32_16 : BitVec 32 := 1#32
  let arg18 : BitVec 32 := Scf.iv v15 c1_i32_16 k0_t1
  let c1_i32_38 : BitVec 32 := 1#32
  let v70 : BitVec 32 := Scalar.addi arg18 c1_i32_38
  let c512_i32_40 : BitVec 32 := 512#32
  let v72 : BitVec 32 := Scalar.muli v70 c512_i32_40
  let c0_i32_43 : BitVec 32 := 0#32
  ![v72.toNat, 0]
def k0_off7 (v15 : BitVec 32) (v17 : BitVec 32) (k0_t1 : Fin (k0_t1_loop v15 v17).trips) : Fin 1 → Nat :=
  let c1_i32_16 : BitVec 32 := 1#32
  let arg18 : BitVec 32 := Scf.iv v15 c1_i32_16 k0_t1
  let v41 : BitVec 32 := Scalar.subi arg18 v15
  let c1_i32_22 : BitVec 32 := 1#32
  let v42 : BitVec 32 := Scalar.andi v41 c1_i32_22
  ![v42.toNat]
def k0_off8 (v15 : BitVec 32) (v17 : BitVec 32) (k0_t1 : Fin (k0_t1_loop v15 v17).trips) : Fin 3 → Nat :=
  let c1_i32_16 : BitVec 32 := 1#32
  let arg18 : BitVec 32 := Scf.iv v15 c1_i32_16 k0_t1
  let v41 : BitVec 32 := Scalar.subi arg18 v15
  let c1_i32_22 : BitVec 32 := 1#32
  let v42 : BitVec 32 := Scalar.andi v41 c1_i32_22
  let c0_i32_25 : BitVec 32 := 0#32
  let c0_i32_26 : BitVec 32 := 0#32
  ![v42.toNat, 0, 0]
def k0_off9 (v15 : BitVec 32) (v17 : BitVec 32) (k0_t1 : Fin (k0_t1_loop v15 v17).trips) : Fin 2 → Nat :=
  let c1_i32_16 : BitVec 32 := 1#32
  let arg18 : BitVec 32 := Scf.iv v15 c1_i32_16 k0_t1
  let c512_i32_24 : BitVec 32 := 512#32
  let v46 : BitVec 32 := Scalar.muli arg18 c512_i32_24
  let c0_i32_27 : BitVec 32 := 0#32
  ![v46.toNat, 0]
def k0_off10 (v15 : BitVec 32) (v17 : BitVec 32) (k0_t1 : Fin (k0_t1_loop v15 v17).trips) : Fin 3 → Nat :=
  let c1_i32_16 : BitVec 32 := 1#32
  let arg18 : BitVec 32 := Scf.iv v15 c1_i32_16 k0_t1
  let v41 : BitVec 32 := Scalar.subi arg18 v15
  let c1_i32_22 : BitVec 32 := 1#32
  let v42 : BitVec 32 := Scalar.andi v41 c1_i32_22
  let v62 : Index := Scalar.indexCast v42
  let c0_33 : Index := 0#32
  let c0_34 : Index := 0#32
  ![v62.toNat, 0, 0]
@[reducible] def k0_t2_loop (v15 : BitVec 32) (v17 : BitVec 32) : Scf.Loop 32 :=
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let v32 : BitVec 32 := Scalar.addi v15 v31
  let c1_i32_17 : BitVec 32 := 1#32
  ⟨v35, v32, c1_i32_17⟩
def k0_off11 (v15 : BitVec 32) (v17 : BitVec 32) (k0_t2 : Fin (k0_t2_loop v15 v17).trips) : Fin 1 → Nat :=
  let c1_i32_39 : BitVec 32 := 1#32
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_17 : BitVec 32 := 1#32
  let arg18 : BitVec 32 := Scf.iv v35 c1_i32_17 k0_t2
  let v41 : BitVec 32 := Scalar.subi arg18 v15
  let c1_i32_22 : BitVec 32 := 1#32
  let v42 : BitVec 32 := Scalar.andi v41 c1_i32_22
  let v71 : BitVec 32 := Scalar.subi c1_i32_39 v42
  ![v71.toNat]
def k0_cond3 (v15 : BitVec 32) (v17 : BitVec 32) (k0_t2 : Fin (k0_t2_loop v15 v17).trips) : BitVec 1 :=
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_17 : BitVec 32 := 1#32
  let arg18 : BitVec 32 := Scf.iv v35 c1_i32_17 k0_t2
  let v43 : BitVec 1 := Scalar.cmpi .slt arg18 v17
  let v44 : BitVec 32 := Scalar.extui v43
  let c0_i32_23 : BitVec 32 := 0#32
  let v45 : BitVec 1 := Scalar.cmpi .ne v44 c0_i32_23
  v45

def k0_off12 (v15 : BitVec 32) (v17 : BitVec 32) (k0_t2 : Fin (k0_t2_loop v15 v17).trips) : Fin 3 → Nat :=
  let c1_i32_39 : BitVec 32 := 1#32
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_17 : BitVec 32 := 1#32
  let arg18 : BitVec 32 := Scf.iv v35 c1_i32_17 k0_t2
  let v41 : BitVec 32 := Scalar.subi arg18 v15
  let c1_i32_22 : BitVec 32 := 1#32
  let v42 : BitVec 32 := Scalar.andi v41 c1_i32_22
  let v71 : BitVec 32 := Scalar.subi c1_i32_39 v42
  let c0_i32_41 : BitVec 32 := 0#32
  let c0_i32_42 : BitVec 32 := 0#32
  ![v71.toNat, 0, 0]
def k0_off13 (v15 : BitVec 32) (v17 : BitVec 32) (k0_t2 : Fin (k0_t2_loop v15 v17).trips) : Fin 2 → Nat :=
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_17 : BitVec 32 := 1#32
  let arg18 : BitVec 32 := Scf.iv v35 c1_i32_17 k0_t2
  let c1_i32_38 : BitVec 32 := 1#32
  let v70 : BitVec 32 := Scalar.addi arg18 c1_i32_38
  let c512_i32_40 : BitVec 32 := 512#32
  let v72 : BitVec 32 := Scalar.muli v70 c512_i32_40
  let c0_i32_43 : BitVec 32 := 0#32
  ![v72.toNat, 0]
def k0_off14 (v15 : BitVec 32) (v17 : BitVec 32) (k0_t2 : Fin (k0_t2_loop v15 v17).trips) : Fin 1 → Nat :=
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_17 : BitVec 32 := 1#32
  let arg18 : BitVec 32 := Scf.iv v35 c1_i32_17 k0_t2
  let v41 : BitVec 32 := Scalar.subi arg18 v15
  let c1_i32_22 : BitVec 32 := 1#32
  let v42 : BitVec 32 := Scalar.andi v41 c1_i32_22
  ![v42.toNat]
def k0_off15 (v15 : BitVec 32) (v17 : BitVec 32) (k0_t2 : Fin (k0_t2_loop v15 v17).trips) : Fin 3 → Nat :=
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_17 : BitVec 32 := 1#32
  let arg18 : BitVec 32 := Scf.iv v35 c1_i32_17 k0_t2
  let v41 : BitVec 32 := Scalar.subi arg18 v15
  let c1_i32_22 : BitVec 32 := 1#32
  let v42 : BitVec 32 := Scalar.andi v41 c1_i32_22
  let c0_i32_25 : BitVec 32 := 0#32
  let c0_i32_26 : BitVec 32 := 0#32
  ![v42.toNat, 0, 0]
def k0_off16 (v15 : BitVec 32) (v17 : BitVec 32) (k0_t2 : Fin (k0_t2_loop v15 v17).trips) : Fin 2 → Nat :=
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_17 : BitVec 32 := 1#32
  let arg18 : BitVec 32 := Scf.iv v35 c1_i32_17 k0_t2
  let c512_i32_24 : BitVec 32 := 512#32
  let v46 : BitVec 32 := Scalar.muli arg18 c512_i32_24
  let c0_i32_27 : BitVec 32 := 0#32
  ![v46.toNat, 0]
def k0_off17 (v15 : BitVec 32) (v17 : BitVec 32) (k0_t2 : Fin (k0_t2_loop v15 v17).trips) : Fin 3 → Nat :=
  let c1_i32 : BitVec 32 := 1#32
  let v30 : BitVec 32 := Scalar.addi v17 c1_i32
  let v31 : BitVec 32 := Scalar.subi v30 v15
  let c1_i32_15 : BitVec 32 := 1#32
  let v33 : BitVec 32 := Scalar.divsi v31 c1_i32_15
  let v34 : BitVec 32 := Scalar.muli v33 c1_i32_15
  let v35 : BitVec 32 := Scalar.addi v15 v34
  let c1_i32_17 : BitVec 32 := 1#32
  let arg18 : BitVec 32 := Scf.iv v35 c1_i32_17 k0_t2
  let v41 : BitVec 32 := Scalar.subi arg18 v15
  let c1_i32_22 : BitVec 32 := 1#32
  let v42 : BitVec 32 := Scalar.andi v41 c1_i32_22
  let v62 : Index := Scalar.indexCast v42
  let c0_33 : Index := 0#32
  let c0_34 : Index := 0#32
  ![v62.toNat, 0, 0]

def k0_chk2 (i : grid0.Coords) (v0 : BitVec 32) (v15 : BitVec 32) (v17 : BitVec 32) : Prop :=
  (∀ (k0_h1 : k0_cond1 i v0 = 1#1), (k0_t1_loop v15 v17).OK) ∧
  (∀ k0_t1 : Fin (k0_t1_loop v15 v17).trips, ∀ (k0_h1 : k0_cond1 i v0 = 1#1), ∀ (k0_h2 : k0_cond2 v15 v17 k0_t1 = 1#1), ∀ a, (k0_off4 v15 v17 k0_t1) a + S1.size a ≤ S2.size a) ∧
  (∀ k0_t1 : Fin (k0_t1_loop v15 v17).trips, ∀ (k0_h1 : k0_cond1 i v0 = 1#1), ∀ (k0_h2 : k0_cond2 v15 v17 k0_t1 = 1#1), ∀ a, (k0_off5 v15 v17 k0_t1) a + S1x512x1024.size a ≤ S2x512x1024.size a) ∧
  (∀ k0_t1 : Fin (k0_t1_loop v15 v17).trips, ∀ (k0_h1 : k0_cond1 i v0 = 1#1), ∀ (k0_h2 : k0_cond2 v15 v17 k0_t1 = 1#1), ∀ a, (k0_off6 v15 v17 k0_t1) a + S512x1024.size a ≤ S16384x1024.size a) ∧
  (∀ k0_t1 : Fin (k0_t1_loop v15 v17).trips, ∀ (k0_h1 : k0_cond1 i v0 = 1#1), ∀ (k0_h2 : k0_cond2 v15 v17 k0_t1 = 1#1), ∀ (hinb : ∀ a, (k0_off6 v15 v17 k0_t1) a + S512x1024.size a ≤ S16384x1024.size a), (Rect.unit (s := S16384x1024) (k0_off6 v15 v17 k0_t1) S512x1024.size hinb).WholeWords (EltTy.packing .bf16)) ∧
  (∀ k0_t1 : Fin (k0_t1_loop v15 v17).trips, ∀ (k0_h1 : k0_cond1 i v0 = 1#1), ∀ (k0_h2 : k0_cond2 v15 v17 k0_t1 = 1#1), ∀ (hinb : ∀ a, (k0_off5 v15 v17 k0_t1) a + S1x512x1024.size a ≤ S2x512x1024.size a), (Rect.unit (s := S2x512x1024) (k0_off5 v15 v17 k0_t1) S1x512x1024.size hinb).WholeWords (EltTy.packing .bf16)) ∧
  (∀ k0_t1 : Fin (k0_t1_loop v15 v17).trips, ∀ (k0_h1 : k0_cond1 i v0 = 1#1), ∀ a, (k0_off7 v15 v17 k0_t1) a + S1.size a ≤ S2.size a) ∧
  (∀ k0_t1 : Fin (k0_t1_loop v15 v17).trips, ∀ (k0_h1 : k0_cond1 i v0 = 1#1), ∀ a, (k0_off8 v15 v17 k0_t1) a + S1x512x1024.size a ≤ S2x512x1024.size a) ∧
  (∀ k0_t1 : Fin (k0_t1_loop v15 v17).trips, ∀ (k0_h1 : k0_cond1 i v0 = 1#1), ∀ a, (k0_off9 v15 v17 k0_t1) a + S512x1024.size a ≤ S16384x1024.size a) ∧
  (∀ k0_t1 : Fin (k0_t1_loop v15 v17).trips, ∀ (k0_h1 : k0_cond1 i v0 = 1#1), ∀ (hinb : ∀ a, (k0_off9 v15 v17 k0_t1) a + S512x1024.size a ≤ S16384x1024.size a), (Rect.unit (s := S16384x1024) (k0_off9 v15 v17 k0_t1) S512x1024.size hinb).WholeWords (EltTy.packing .bf16)) ∧
  (∀ k0_t1 : Fin (k0_t1_loop v15 v17).trips, ∀ (k0_h1 : k0_cond1 i v0 = 1#1), ∀ (hinb : ∀ a, (k0_off8 v15 v17 k0_t1) a + S1x512x1024.size a ≤ S2x512x1024.size a), (Rect.unit (s := S2x512x1024) (k0_off8 v15 v17 k0_t1) S1x512x1024.size hinb).WholeWords (EltTy.packing .bf16)) ∧
  (∀ k0_t1 : Fin (k0_t1_loop v15 v17).trips, ∀ (k0_h1 : k0_cond1 i v0 = 1#1), ∀ a, (k0_off10 v15 v17 k0_t1) a + S1x512x1024.size a ≤ S2x512x1024.size a) ∧
  (∀ (k0_h1 : k0_cond1 i v0 = 1#1), (k0_t2_loop v15 v17).OK) ∧
  (∀ k0_t2 : Fin (k0_t2_loop v15 v17).trips, ∀ (k0_h1 : k0_cond1 i v0 = 1#1), ∀ (k0_h3 : k0_cond3 v15 v17 k0_t2 = 1#1), ∀ a, (k0_off11 v15 v17 k0_t2) a + S1.size a ≤ S2.size a) ∧
  (∀ k0_t2 : Fin (k0_t2_loop v15 v17).trips, ∀ (k0_h1 : k0_cond1 i v0 = 1#1), ∀ (k0_h3 : k0_cond3 v15 v17 k0_t2 = 1#1), ∀ a, (k0_off12 v15 v17 k0_t2) a + S1x512x1024.size a ≤ S2x512x1024.size a) ∧
  (∀ k0_t2 : Fin (k0_t2_loop v15 v17).trips, ∀ (k0_h1 : k0_cond1 i v0 = 1#1), ∀ (k0_h3 : k0_cond3 v15 v17 k0_t2 = 1#1), ∀ a, (k0_off13 v15 v17 k0_t2) a + S512x1024.size a ≤ S16384x1024.size a) ∧
  (∀ k0_t2 : Fin (k0_t2_loop v15 v17).trips, ∀ (k0_h1 : k0_cond1 i v0 = 1#1), ∀ (k0_h3 : k0_cond3 v15 v17 k0_t2 = 1#1), ∀ (hinb : ∀ a, (k0_off13 v15 v17 k0_t2) a + S512x1024.size a ≤ S16384x1024.size a), (Rect.unit (s := S16384x1024) (k0_off13 v15 v17 k0_t2) S512x1024.size hinb).WholeWords (EltTy.packing .bf16)) ∧
  (∀ k0_t2 : Fin (k0_t2_loop v15 v17).trips, ∀ (k0_h1 : k0_cond1 i v0 = 1#1), ∀ (k0_h3 : k0_cond3 v15 v17 k0_t2 = 1#1), ∀ (hinb : ∀ a, (k0_off12 v15 v17 k0_t2) a + S1x512x1024.size a ≤ S2x512x1024.size a), (Rect.unit (s := S2x512x1024) (k0_off12 v15 v17 k0_t2) S1x512x1024.size hinb).WholeWords (EltTy.packing .bf16)) ∧
  (∀ k0_t2 : Fin (k0_t2_loop v15 v17).trips, ∀ (k0_h1 : k0_cond1 i v0 = 1#1), ∀ a, (k0_off14 v15 v17 k0_t2) a + S1.size a ≤ S2.size a) ∧
  (∀ k0_t2 : Fin (k0_t2_loop v15 v17).trips, ∀ (k0_h1 : k0_cond1 i v0 = 1#1), ∀ a, (k0_off15 v15 v17 k0_t2) a + S1x512x1024.size a ≤ S2x512x1024.size a) ∧
  (∀ k0_t2 : Fin (k0_t2_loop v15 v17).trips, ∀ (k0_h1 : k0_cond1 i v0 = 1#1), ∀ a, (k0_off16 v15 v17 k0_t2) a + S512x1024.size a ≤ S16384x1024.size a) ∧
  (∀ k0_t2 : Fin (k0_t2_loop v15 v17).trips, ∀ (k0_h1 : k0_cond1 i v0 = 1#1), ∀ (hinb : ∀ a, (k0_off16 v15 v17 k0_t2) a + S512x1024.size a ≤ S16384x1024.size a), (Rect.unit (s := S16384x1024) (k0_off16 v15 v17 k0_t2) S512x1024.size hinb).WholeWords (EltTy.packing .bf16)) ∧
  (∀ k0_t2 : Fin (k0_t2_loop v15 v17).trips, ∀ (k0_h1 : k0_cond1 i v0 = 1#1), ∀ (hinb : ∀ a, (k0_off15 v15 v17 k0_t2) a + S1x512x1024.size a ≤ S2x512x1024.size a), (Rect.unit (s := S2x512x1024) (k0_off15 v15 v17 k0_t2) S1x512x1024.size hinb).WholeWords (EltTy.packing .bf16)) ∧
  (∀ k0_t2 : Fin (k0_t2_loop v15 v17).trips, ∀ (k0_h1 : k0_cond1 i v0 = 1#1), ∀ a, (k0_off17 v15 v17 k0_t2) a + S1x512x1024.size a ≤ S2x512x1024.size a)
theorem k0_t1_ok : ∀ (i : grid0.Coords) (v0 : BitVec 32) (v15 : BitVec 32) (v17 : BitVec 32) (k0_hw2 : k0_chk2 i v0 v15 v17), ∀ (k0_h1 : k0_cond1 i v0 = 1#1), (k0_t1_loop v15 v17).OK := fun i v0 v15 v17 k0_hw2 k0_h1 => k0_hw2.1 k0_h1
theorem k0_off4_inb : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ (k0_h2 : k0_cond2 v15 v17 k0_t1 = 1#1), ∀ a, (k0_off4 v15 v17 k0_t1) a + S1.size a ≤ S2.size a := fun i v0 v15 v17 k0_hw2 k0_t1 k0_h1 k0_h2 => k0_hw2.2.1 k0_t1 k0_h1 k0_h2
theorem k0_off5_inb : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ (k0_h2 : k0_cond2 v15 v17 k0_t1 = 1#1), ∀ a, (k0_off5 v15 v17 k0_t1) a + S1x512x1024.size a ≤ S2x512x1024.size a := fun i v0 v15 v17 k0_hw2 k0_t1 k0_h1 k0_h2 => k0_hw2.2.2.1 k0_t1 k0_h1 k0_h2
theorem k0_off6_inb : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ (k0_h2 : k0_cond2 v15 v17 k0_t1 = 1#1), ∀ a, (k0_off6 v15 v17 k0_t1) a + S512x1024.size a ≤ S16384x1024.size a := fun i v0 v15 v17 k0_hw2 k0_t1 k0_h1 k0_h2 => k0_hw2.2.2.2.1 k0_t1 k0_h1 k0_h2
theorem k0_off6_wordsbf16 : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ (k0_h2 : k0_cond2 v15 v17 k0_t1 = 1#1), (Rect.unit (s := S16384x1024) (k0_off6 v15 v17 k0_t1) S512x1024.size (k0_off6_inb i v0 v15 v17 k0_hw2 k0_t1 k0_h1 k0_h2)).WholeWords (EltTy.packing .bf16) := fun i v0 v15 v17 k0_hw2 k0_t1 k0_h1 k0_h2 => k0_hw2.2.2.2.2.1 k0_t1 k0_h1 k0_h2 (k0_off6_inb i v0 v15 v17 k0_hw2 k0_t1 k0_h1 k0_h2)
theorem k0_off5_wordsbf16 : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ (k0_h2 : k0_cond2 v15 v17 k0_t1 = 1#1), (Rect.unit (s := S2x512x1024) (k0_off5 v15 v17 k0_t1) S1x512x1024.size (k0_off5_inb i v0 v15 v17 k0_hw2 k0_t1 k0_h1 k0_h2)).WholeWords (EltTy.packing .bf16) := fun i v0 v15 v17 k0_hw2 k0_t1 k0_h1 k0_h2 => k0_hw2.2.2.2.2.2.1 k0_t1 k0_h1 k0_h2 (k0_off5_inb i v0 v15 v17 k0_hw2 k0_t1 k0_h1 k0_h2)
theorem k0_off7_inb : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ a, (k0_off7 v15 v17 k0_t1) a + S1.size a ≤ S2.size a := fun i v0 v15 v17 k0_hw2 k0_t1 k0_h1 => k0_hw2.2.2.2.2.2.2.1 k0_t1 k0_h1
theorem k0_off8_inb : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ a, (k0_off8 v15 v17 k0_t1) a + S1x512x1024.size a ≤ S2x512x1024.size a := fun i v0 v15 v17 k0_hw2 k0_t1 k0_h1 => k0_hw2.2.2.2.2.2.2.2.1 k0_t1 k0_h1
theorem k0_off9_inb : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ a, (k0_off9 v15 v17 k0_t1) a + S512x1024.size a ≤ S16384x1024.size a := fun i v0 v15 v17 k0_hw2 k0_t1 k0_h1 => k0_hw2.2.2.2.2.2.2.2.2.1 k0_t1 k0_h1
theorem k0_off9_wordsbf16 : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), (Rect.unit (s := S16384x1024) (k0_off9 v15 v17 k0_t1) S512x1024.size (k0_off9_inb i v0 v15 v17 k0_hw2 k0_t1 k0_h1)).WholeWords (EltTy.packing .bf16) := fun i v0 v15 v17 k0_hw2 k0_t1 k0_h1 => k0_hw2.2.2.2.2.2.2.2.2.2.1 k0_t1 k0_h1 (k0_off9_inb i v0 v15 v17 k0_hw2 k0_t1 k0_h1)
theorem k0_off8_wordsbf16 : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), (Rect.unit (s := S2x512x1024) (k0_off8 v15 v17 k0_t1) S1x512x1024.size (k0_off8_inb i v0 v15 v17 k0_hw2 k0_t1 k0_h1)).WholeWords (EltTy.packing .bf16) := fun i v0 v15 v17 k0_hw2 k0_t1 k0_h1 => k0_hw2.2.2.2.2.2.2.2.2.2.2.1 k0_t1 k0_h1 (k0_off8_inb i v0 v15 v17 k0_hw2 k0_t1 k0_h1)
theorem k0_off10_inb : ∀ (i : grid0.Coords) (v0 : BitVec 32) (v15 : BitVec 32) (v17 : BitVec 32) (k0_hw2 : k0_chk2 i v0 v15 v17) (k0_t1 : Fin (k0_t1_loop v15 v17).trips), ∀ (k0_h1 : k0_cond1 i v0 = 1#1), ∀ a, (k0_off10 v15 v17 k0_t1) a + S1x512x1024.size a ≤ S2x512x1024.size a := fun i v0 v15 v17 k0_hw2 k0_t1 k0_h1 => k0_hw2.2.2.2.2.2.2.2.2.2.2.2.1 k0_t1 k0_h1
theorem k0_t2_ok : ∀ (i : grid0.Coords) (v0 : BitVec 32) (v15 : BitVec 32) (v17 : BitVec 32) (k0_hw2 : k0_chk2 i v0 v15 v17), ∀ (k0_h1 : k0_cond1 i v0 = 1#1), (k0_t2_loop v15 v17).OK := fun i v0 v15 v17 k0_hw2 k0_h1 => k0_hw2.2.2.2.2.2.2.2.2.2.2.2.2.1 k0_h1
theorem k0_off11_inb : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ (k0_h3 : k0_cond3 v15 v17 k0_t2 = 1#1), ∀ a, (k0_off11 v15 v17 k0_t2) a + S1.size a ≤ S2.size a := fun i v0 v15 v17 k0_hw2 k0_t2 k0_h1 k0_h3 => k0_hw2.2.2.2.2.2.2.2.2.2.2.2.2.2.1 k0_t2 k0_h1 k0_h3
theorem k0_off12_inb : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ (k0_h3 : k0_cond3 v15 v17 k0_t2 = 1#1), ∀ a, (k0_off12 v15 v17 k0_t2) a + S1x512x1024.size a ≤ S2x512x1024.size a := fun i v0 v15 v17 k0_hw2 k0_t2 k0_h1 k0_h3 => k0_hw2.2.2.2.2.2.2.2.2.2.2.2.2.2.2.1 k0_t2 k0_h1 k0_h3
theorem k0_off13_inb : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ (k0_h3 : k0_cond3 v15 v17 k0_t2 = 1#1), ∀ a, (k0_off13 v15 v17 k0_t2) a + S512x1024.size a ≤ S16384x1024.size a := fun i v0 v15 v17 k0_hw2 k0_t2 k0_h1 k0_h3 => k0_hw2.2.2.2.2.2.2.2.2.2.2.2.2.2.2.2.1 k0_t2 k0_h1 k0_h3
theorem k0_off13_wordsbf16 : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ (k0_h3 : k0_cond3 v15 v17 k0_t2 = 1#1), (Rect.unit (s := S16384x1024) (k0_off13 v15 v17 k0_t2) S512x1024.size (k0_off13_inb i v0 v15 v17 k0_hw2 k0_t2 k0_h1 k0_h3)).WholeWords (EltTy.packing .bf16) := fun i v0 v15 v17 k0_hw2 k0_t2 k0_h1 k0_h3 => k0_hw2.2.2.2.2.2.2.2.2.2.2.2.2.2.2.2.2.1 k0_t2 k0_h1 k0_h3 (k0_off13_inb i v0 v15 v17 k0_hw2 k0_t2 k0_h1 k0_h3)
theorem k0_off12_wordsbf16 : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ (k0_h3 : k0_cond3 v15 v17 k0_t2 = 1#1), (Rect.unit (s := S2x512x1024) (k0_off12 v15 v17 k0_t2) S1x512x1024.size (k0_off12_inb i v0 v15 v17 k0_hw2 k0_t2 k0_h1 k0_h3)).WholeWords (EltTy.packing .bf16) := fun i v0 v15 v17 k0_hw2 k0_t2 k0_h1 k0_h3 => k0_hw2.2.2.2.2.2.2.2.2.2.2.2.2.2.2.2.2.2.1 k0_t2 k0_h1 k0_h3 (k0_off12_inb i v0 v15 v17 k0_hw2 k0_t2 k0_h1 k0_h3)
theorem k0_off14_inb : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ a, (k0_off14 v15 v17 k0_t2) a + S1.size a ≤ S2.size a := fun i v0 v15 v17 k0_hw2 k0_t2 k0_h1 => k0_hw2.2.2.2.2.2.2.2.2.2.2.2.2.2.2.2.2.2.2.1 k0_t2 k0_h1
theorem k0_off15_inb : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ a, (k0_off15 v15 v17 k0_t2) a + S1x512x1024.size a ≤ S2x512x1024.size a := fun i v0 v15 v17 k0_hw2 k0_t2 k0_h1 => k0_hw2.2.2.2.2.2.2.2.2.2.2.2.2.2.2.2.2.2.2.2.1 k0_t2 k0_h1
theorem k0_off16_inb : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ a, (k0_off16 v15 v17 k0_t2) a + S512x1024.size a ≤ S16384x1024.size a := fun i v0 v15 v17 k0_hw2 k0_t2 k0_h1 => k0_hw2.2.2.2.2.2.2.2.2.2.2.2.2.2.2.2.2.2.2.2.2.1 k0_t2 k0_h1
theorem k0_off16_wordsbf16 : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), (Rect.unit (s := S16384x1024) (k0_off16 v15 v17 k0_t2) S512x1024.size (k0_off16_inb i v0 v15 v17 k0_hw2 k0_t2 k0_h1)).WholeWords (EltTy.packing .bf16) := fun i v0 v15 v17 k0_hw2 k0_t2 k0_h1 => k0_hw2.2.2.2.2.2.2.2.2.2.2.2.2.2.2.2.2.2.2.2.2.2.1 k0_t2 k0_h1 (k0_off16_inb i v0 v15 v17 k0_hw2 k0_t2 k0_h1)
theorem k0_off15_wordsbf16 : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), (Rect.unit (s := S2x512x1024) (k0_off15 v15 v17 k0_t2) S1x512x1024.size (k0_off15_inb i v0 v15 v17 k0_hw2 k0_t2 k0_h1)).WholeWords (EltTy.packing .bf16) := fun i v0 v15 v17 k0_hw2 k0_t2 k0_h1 => k0_hw2.2.2.2.2.2.2.2.2.2.2.2.2.2.2.2.2.2.2.2.2.2.2.1 k0_t2 k0_h1 (k0_off15_inb i v0 v15 v17 k0_hw2 k0_t2 k0_h1)
theorem k0_off17_inb : ∀ (i : grid0.Coords) (v0 : BitVec 32) (v15 : BitVec 32) (v17 : BitVec 32) (k0_hw2 : k0_chk2 i v0 v15 v17) (k0_t2 : Fin (k0_t2_loop v15 v17).trips), ∀ (k0_h1 : k0_cond1 i v0 = 1#1), ∀ a, (k0_off17 v15 v17 k0_t2) a + S1x512x1024.size a ≤ S2x512x1024.size a := fun i v0 v15 v17 k0_hw2 k0_t2 k0_h1 => k0_hw2.2.2.2.2.2.2.2.2.2.2.2.2.2.2.2.2.2.2.2.2.2.2.2 k0_t2 k0_h1

def k0_cond6 (i : grid0.Coords) : BitVec 1 :=
  let arg1 : BitVec 32 := BitVec.ofNat 32 (i 1).val
  let c6_i32 : BitVec 32 := 6#32
  let v11 : BitVec 1 := Scalar.cmpi .eq arg1 c6_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S74.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S74.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S74.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S74 : Shape := ⟨1, ![74]⟩
abbrev S1 : Shape := ⟨1, ![1]⟩
abbrev S37888x1 : Shape := ⟨2, ![37888, 1]⟩
abbrev S16384x1024 : Shape := ⟨2, ![16384, 1024]⟩
abbrev S8x1024x3584 : Shape := ⟨3, ![8, 1024, 3584]⟩
abbrev S8x3584x1024 : Shape := ⟨3, ![8, 3584, 1024]⟩
abbrev S_ : Shape := ⟨0, ![]⟩
abbrev S74x1 : Shape := ⟨2, ![74, 1]⟩
abbrev S74x512 : Shape := ⟨2, ![74, 512]⟩
abbrev S37888 : Shape := ⟨1, ![37888]⟩
abbrev S37888x1024 : Shape := ⟨2, ![37888, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S37888x3584 : Shape := ⟨2, ![37888, 3584]⟩

abbrev nBuf : Space → Nat
  | .hbm => 304
  | .vmem => 0
  | .smem => 0
  | _ => 0

abbrev hbmTy0_0 (i : Nat) : BufTy := match i % 128 with
  | 0 => ⟨S74, .i32⟩
  | 1 => ⟨S1, .i32⟩
  | 2 => ⟨S74, .i32⟩
  | 3 => ⟨S74, .i32⟩
  | 4 => ⟨S37888x1, .i32⟩
  | 5 => ⟨S16384x1024, .bf16⟩
  | 6 => ⟨S8x1024x3584, .bf16⟩
  | 7 => ⟨S8x1024x3584, .bf16⟩
  | 8 => ⟨S8x3584x1024, .bf16⟩
  | 9 => ⟨S37888x1, .f32⟩
  | 10 => ⟨S74, .i32⟩
  | 11 => ⟨S74, .i32⟩
  | 12 => ⟨S74, .i1⟩
  | 13 => ⟨S_, .i32⟩
  | 14 => ⟨S_, .i32⟩
  | 15 => ⟨S74, .i32⟩
  | 16 => ⟨S74, .i32⟩
  | 17 => ⟨S74x1, .i32⟩
  | 18 => ⟨S74x512, .i32⟩
  | 19 => ⟨S37888x1, .i32⟩
  | 20 => ⟨S_, .i32⟩
  | 21 => ⟨S37888x1, .i32⟩
  | 22 => ⟨S37888x1, .i1⟩
  | 23 => ⟨S16384x1024, .f32⟩
  | 24 => ⟨S37888, .i32⟩
  | 25 => ⟨S_, .i32⟩
  | 26 => ⟨S37888, .i32⟩
  | 27 => ⟨S37888, .i32⟩
  | 28 => ⟨S_, .i32⟩
  | 29 => ⟨S37888, .i32⟩
  | 30 => ⟨S37888, .i1⟩
  | 31 => ⟨S_, .i32⟩
  | 32 => ⟨S37888, .i32⟩
  | 33 => ⟨S37888, .i32⟩
  | 34 => ⟨S37888, .i32⟩
  | 35 => ⟨S37888x1, .i32⟩
  | 36 => ⟨S37888x1024, .f32⟩
  | 37 => ⟨S_, .f32⟩
  | 38 => ⟨S_, .f32⟩
  | 39 => ⟨S37888x1024, .i1⟩
  | 40 => ⟨S37888x1024, .f32⟩
  | 41 => ⟨S37888x1024, .f32⟩
  | 42 => ⟨S_, .f32⟩
  | 43 => ⟨S37888x1024, .f32⟩
  | 44 => ⟨S1x1024x3584, .bf16⟩
  | 45 => ⟨S1024x3584, .bf16⟩
  | 46 => ⟨S1024x3584, .f32⟩
  | 47 => ⟨S1x1024x3584, .bf16⟩
  | 48 => ⟨S1024x3584, .bf16⟩
  | 49 => ⟨S1024x3584, .f32⟩
  | 50 => ⟨S1x3584x1024, .bf16⟩
  | 51 => ⟨S3584x1024, .bf16⟩
  | 52 => ⟨S3584x1024, .f32⟩
  | 53 => ⟨S37888x3584, .f32⟩
  | 54 => ⟨S37888x3584, .f32⟩
  | 55 => ⟨S37888x3584, .f32⟩
  | 56 => ⟨S_, .f32⟩
  | 57 => ⟨S37888x3584, .f32⟩
  | 58 => ⟨S37888x3584, .f32⟩
  | 59 => ⟨S_, .f32⟩
  | 60 => ⟨S37888x3584, .f32⟩
  | 61 => ⟨S37888x3584, .f32⟩
  | 62 => ⟨S37888x3584, .f32⟩
  | 63 => ⟨S37888x3584, .f32⟩
  | 64 => ⟨S37888x3584, .f32⟩
  | 65 => ⟨S37888x1024, .f32⟩
  | 66 => ⟨S_, .i32⟩
  | 67 => ⟨S37888x1, .i32⟩
  | 68 => ⟨S37888x1, .i1⟩
  | 69 => ⟨S_, .f32⟩
  | 70 => ⟨S_, .f32⟩
  | 71 => ⟨S37888x1, .f32⟩
  | 72 => ⟨S37888x1, .f32⟩
  | 73 => ⟨S37888x1024, .f32⟩
  | 74 => ⟨S37888x1024, .f32⟩
  | 75 => ⟨S37888x1024, .f32⟩
  | 76 => ⟨S1x1024x3584, .bf16⟩
  | 77 => ⟨S1024x3584, .bf16⟩
  | 78 => ⟨S1024x3584, .f32⟩
  | 79 => ⟨S1x1024x3584, .bf16⟩
  | 80 => ⟨S1024x3584, .bf16⟩
  | 81 => ⟨S1024x3584, .f32⟩
  | 82 => ⟨S1x3584x1024, .bf16⟩
  | 83 => ⟨S3584x1024, .bf16⟩
  | 84 => ⟨S3584x1024, .f32⟩
  | 85 => ⟨S37888x3584, .f32⟩
  | 86 => ⟨S37888x3584, .f32⟩
  | 87 => ⟨S37888x3584, .f32⟩
  | 88 => ⟨S_, .f32⟩
  | 89 => ⟨S37888x3584, .f32⟩
  | 90 => ⟨S37888x3584, .f32⟩
  | 91 => ⟨S_, .f32⟩
  | 92 => ⟨S37888x3584, .f32⟩
  | 93 => ⟨S37888x3584, .f32⟩
  | 94 => ⟨S37888x3584, .f32⟩
  | 95 => ⟨S37888x3584, .f32⟩
  | 96 => ⟨S37888x3584, .f32⟩
  | 97 => ⟨S37888x1024, .f32⟩
  | 98 => ⟨S_, .i32⟩
  | 99 => ⟨S37888x1, .i32⟩
  | 100 => ⟨S37888x1, .i1⟩
  | 101 => ⟨S_, .f32⟩
  | 102 => ⟨S_, .f32⟩
  | 103 => ⟨S37888x1, .f32⟩
  | 104 => ⟨S37888x1, .f32⟩
  | 105 => ⟨S37888x1024, .f32⟩
  | 106 => ⟨S37888x1024, .f32⟩
  | 107 => ⟨S37888x1024, .f32⟩
  | 108 => ⟨S1x1024x3584, .bf16⟩
  | 109 => ⟨S1024x3584, .bf16⟩
  | 110 => ⟨S1024x3584, .f32⟩
  | 111 => ⟨S1x1024x3584, .bf16⟩
  | 112 => ⟨S1024x3584, .bf16⟩
  | 113 => ⟨S1024x3584, .f32⟩
  | 114 => ⟨S1x3584x1024, .bf16⟩
  | 115 => ⟨S3584x1024, .bf16⟩
  | 116 => ⟨S3584x1024, .f32⟩
  | 117 => ⟨S37888x3584, .f32⟩
  | 118 => ⟨S37888x3584, .f32⟩
  | 119 => ⟨S37888x3584, .f32⟩
  | 120 => ⟨S_, .f32⟩
  | 121 => ⟨S37888x3584, .f32⟩
  | 122 => ⟨S37888x3584, .f32⟩
  | 123 => ⟨S_, .f32⟩
  | 124 => ⟨S37888x3584, .f32⟩
  | 125 => ⟨S37888x3584, .f32⟩
  | 126 => ⟨S37888x3584, .f32⟩
  | 127 => ⟨S37888x3584, .f32⟩
  | _ => ⟨S74, .i32⟩

abbrev hbmTy0_1 (i : Nat) : BufTy := match i % 128 with
  | 0 => ⟨S37888x3584, .f32⟩
  | 1 => ⟨S37888x1024, .f32⟩
  | 2 => ⟨S_, .i32⟩
  | 3 => ⟨S37888x1, .i32⟩
  | 4 => ⟨S37888x1, .i1⟩
  | 5 => ⟨S_, .f32⟩
  | 6 => ⟨S_, .f32⟩
  | 7 => ⟨S37888x1, .f32⟩
  | 8 => ⟨S37888x1, .f32⟩
  | 9 => ⟨S37888x1024, .f32⟩
  | 10 => ⟨S37888x1024, .f32⟩
  | 11 => ⟨S37888x1024, .f32⟩
  | 12 => ⟨S1x1024x3584, .bf16⟩
  | 13 => ⟨S1024x3584, .bf16⟩
  | 14 => ⟨S1024x3584, .f32⟩
  | 15 => ⟨S1x1024x3584, .bf16⟩
  | 16 => ⟨S1024x3584, .bf16⟩
  | 17 => ⟨S1024x3584, .f32⟩
  | 18 => ⟨S1x3584x1024, .bf16⟩
  | 19 => ⟨S3584x1024, .bf16⟩
  | 20 => ⟨S3584x1024, .f32⟩
  | 21 => ⟨S37888x3584, .f32⟩
  | 22 => ⟨S37888x3584, .f32⟩
  | 23 => ⟨S37888x3584, .f32⟩
  | 24 => ⟨S_, .f32⟩
  | 25 => ⟨S37888x3584, .f32⟩
  | 26 => ⟨S37888x3584, .f32⟩
  | 27 => ⟨S_, .f32⟩
  | 28 => ⟨S37888x3584, .f32⟩
  | 29 => ⟨S37888x3584, .f32⟩
  | 30 => ⟨S37888x3584, .f32⟩
  | 31 => ⟨S37888x3584, .f32⟩
  | 32 => ⟨S37888x3584, .f32⟩
  | 33 => ⟨S37888x1024, .f32⟩
  | 34 => ⟨S_, .i32⟩
  | 35 => ⟨S37888x1, .i32⟩
  | 36 => ⟨S37888x1, .i1⟩
  | 37 => ⟨S_, .f32⟩
  | 38 => ⟨S_, .f32⟩
  | 39 => ⟨S37888x1, .f32⟩
  | 40 => ⟨S37888x1, .f32⟩
  | 41 => ⟨S37888x1024, .f32⟩
  | 42 => ⟨S37888x1024, .f32⟩
  | 43 => ⟨S37888x1024, .f32⟩
  | 44 => ⟨S1x1024x3584, .bf16⟩
  | 45 => ⟨S1024x3584, .bf16⟩
  | 46 => ⟨S1024x3584, .f32⟩
  | 47 => ⟨S1x1024x3584, .bf16⟩
  | 48 => ⟨S1024x3584, .bf16⟩
  | 49 => ⟨S1024x3584, .f32⟩
  | 50 => ⟨S1x3584x1024, .bf16⟩
  | 51 => ⟨S3584x1024, .bf16⟩
  | 52 => ⟨S3584x1024, .f32⟩
  | 53 => ⟨S37888x3584, .f32⟩
  | 54 => ⟨S37888x3584, .f32⟩
  | 55 => ⟨S37888x3584, .f32⟩
  | 56 => ⟨S_, .f32⟩
  | 57 => ⟨S37888x3584, .f32⟩
  | 58 => ⟨S37888x3584, .f32⟩
  | 59 => ⟨S_, .f32⟩
  | 60 => ⟨S37888x3584, .f32⟩
  | 61 => ⟨S37888x3584, .f32⟩
  | 62 => ⟨S37888x3584, .f32⟩
  | 63 => ⟨S37888x3584, .f32⟩
  | 64 => ⟨S37888x3584, .f32⟩
  | 65 => ⟨S37888x1024, .f32⟩
  | 66 => ⟨S_, .i32⟩
  | 67 => ⟨S37888x1, .i32⟩
  | 68 => ⟨S37888x1, .i1⟩
  | 69 => ⟨S_, .f32⟩
  | 70 => ⟨S_, .f32⟩
  | 71 => ⟨S37888x1, .f32⟩
  | 72 => ⟨S37888x1, .f32⟩
  | 73 => ⟨S37888x1024, .f32⟩
  | 74 => ⟨S37888x1024, .f32⟩
  | 75 => ⟨S37888x1024, .f32⟩
  | 76 => ⟨S1x1024x3584, .bf16⟩
  | 77 => ⟨S1024x3584, .bf16⟩
  | 78 => ⟨S1024x3584, .f32⟩
  | 79 => ⟨S1x1024x3584, .bf16⟩
  | 80 => ⟨S1024x3584, .bf16⟩
  | 81 => ⟨S1024x3584, .f32⟩
  | 82 => ⟨S1x3584x1024, .bf16⟩
  | 83 => ⟨S3584x1024, .bf16⟩
  | 84 => ⟨S3584x1024, .f32⟩
  | 85 => ⟨S37888x3584, .f32⟩
  | 86 => ⟨S37888x3584, .f32⟩
  | 87 => ⟨S37888x3584, .f32⟩
  | 88 => ⟨S_, .f32⟩
  | 89 => ⟨S37888x3584, .f32⟩
  | 90 => ⟨S37888x3584, .f32⟩
  | 91 => ⟨S_, .f32⟩
  | 92 => ⟨S37888x3584, .f32⟩
  | 93 => ⟨S37888x3584, .f32⟩
  | 94 => ⟨S37888x3584, .f32⟩
  | 95 => ⟨S37888x3584, .f32⟩
  | 96 => ⟨S37888x3584, .f32⟩
  | 97 => ⟨S37888x1024, .f32⟩
  | 98 => ⟨S_, .i32⟩
  | 99 => ⟨S37888x1, .i32⟩
  | 100 => ⟨S37888x1, .i1⟩
  | 101 => ⟨S_, .f32⟩
  | 102 => ⟨S_, .f32⟩
  | 103 => ⟨S37888x1, .f32⟩
  | 104 => ⟨S37888x1, .f32⟩
  | 105 => ⟨S37888x1024, .f32⟩
  | 106 => ⟨S37888x1024, .f32⟩
  | 107 => ⟨S37888x1024, .f32⟩
  | 108 => ⟨S1x1024x3584, .bf16⟩
  | 109 => ⟨S1024x3584, .bf16⟩
  | 110 => ⟨S1024x3584, .f32⟩
  | 111 => ⟨S1x1024x3584, .bf16⟩
  | 112 => ⟨S1024x3584, .bf16⟩
  | 113 => ⟨S1024x3584, .f32⟩
  | 114 => ⟨S1x3584x1024, .bf16⟩
  | 115 => ⟨S3584x1024, .bf16⟩
  | 116 => ⟨S3584x1024, .f32⟩
  | 117 => ⟨S37888x3584, .f32⟩
  | 118 => ⟨S37888x3584, .f32⟩
  | 119 => ⟨S37888x3584, .f32⟩
  | 120 => ⟨S_, .f32⟩
  | 121 => ⟨S37888x3584, .f32⟩
  | 122 => ⟨S37888x3584, .f32⟩
  | 123 => ⟨S_, .f32⟩
  | 124 => ⟨S37888x3584, .f32⟩
  | 125 => ⟨S37888x3584, .f32⟩
  | 126 => ⟨S37888x3584, .f32⟩
  | 127 => ⟨S37888x3584, .f32⟩
  | _ => ⟨S74, .i32⟩

abbrev hbmTy0_2 (i : Nat) : BufTy := match i % 128 with
  | 0 => ⟨S37888x3584, .f32⟩
  | 1 => ⟨S37888x1024, .f32⟩
  | 2 => ⟨S_, .i32⟩
  | 3 => ⟨S37888x1, .i32⟩
  | 4 => ⟨S37888x1, .i1⟩
  | 5 => ⟨S_, .f32⟩
  | 6 => ⟨S_, .f32⟩
  | 7 => ⟨S37888x1, .f32⟩
  | 8 => ⟨S37888x1, .f32⟩
  | 9 => ⟨S37888x1024, .f32⟩
  | 10 => ⟨S37888x1024, .f32⟩
  | 11 => ⟨S37888x1024, .f32⟩
  | 12 => ⟨S1x1024x3584, .bf16⟩
  | 13 => ⟨S1024x3584, .bf16⟩
  | 14 => ⟨S1024x3584, .f32⟩
  | 15 => ⟨S1x1024x3584, .bf16⟩
  | 16 => ⟨S1024x3584, .bf16⟩
  | 17 => ⟨S1024x3584, .f32⟩
  | 18 => ⟨S1x3584x1024, .bf16⟩
  | 19 => ⟨S3584x1024, .bf16⟩
  | 20 => ⟨S3584x1024, .f32⟩
  | 21 => ⟨S37888x3584, .f32⟩
  | 22 => ⟨S37888x3584, .f32⟩
  | 23 => ⟨S37888x3584, .f32⟩
  | 24 => ⟨S_, .f32⟩
  | 25 => ⟨S37888x3584, .f32⟩
  | 26 => ⟨S37888x3584, .f32⟩
  | 27 => ⟨S_, .f32⟩
  | 28 => ⟨S37888x3584, .f32⟩
  | 29 => ⟨S37888x3584, .f32⟩
  | 30 => ⟨S37888x3584, .f32⟩
  | 31 => ⟨S37888x3584, .f32⟩
  | 32 => ⟨S37888x3584, .f32⟩
  | 33 => ⟨S37888x1024, .f32⟩
  | 34 => ⟨S_, .i32⟩
  | 35 => ⟨S37888x1, .i32⟩
  | 36 => ⟨S37888x1, .i1⟩
  | 37 => ⟨S_, .f32⟩
  | 38 => ⟨S_, .f32⟩
  | 39 => ⟨S37888x1, .f32⟩
  | 40 => ⟨S37888x1, .f32⟩
  | 41 => ⟨S37888x1024, .f32⟩
  | 42 => ⟨S37888x1024, .f32⟩
  | 43 => ⟨S37888x1024, .f32⟩
  | 44 => ⟨S37888x1024, .bf16⟩
  | 45 => ⟨S37888x1024, .f32⟩
  | 46 => ⟨S37888x1024, .f32⟩
  | 47 => ⟨S37888x1024, .bf16⟩
  | _ => ⟨S74, .i32⟩

abbrev hbmTy (i : Nat) : BufTy := match i / 128 with
  | 0 => hbmTy0_0 i
  | 1 => hbmTy0_1 i
  | 2 => hbmTy0_2 i
  | _ => ⟨S74, .i32⟩

abbrev bufTy : (tb : Table) → Fin (tcTables nBuf tb) → BufTy
  | .hbm, ⟨i, _⟩ => hbmTy i
  | _, _ => ⟨S74, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_call3_v0 : Ref sig .tc := ⟨.hbm, 70, rfl⟩
abbrev main_call3_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call4_v0 : Ref sig .tc := ⟨.hbm, 86, rfl⟩
abbrev main_call4_v1 : Ref sig .tc := ⟨.hbm, 87, rfl⟩
abbrev main_call4_cst : Ref sig .tc := ⟨.hbm, 88, rfl⟩
abbrev main_call4_v2 : Ref sig .tc := ⟨.hbm, 89, rfl⟩
abbrev main_call4_v3 : Ref sig .tc := ⟨.hbm, 90, rfl⟩
abbrev main_call4_cst_0 : Ref sig .tc := ⟨.hbm, 91, rfl⟩
abbrev main_call4_v4 : Ref sig .tc := ⟨.hbm, 92, rfl⟩
abbrev main_call4_v5 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_7 : Ref sig .tc := ⟨.hbm, 98, rfl⟩
abbrev main_v56 : Ref sig .tc := ⟨.hbm, 99, rfl⟩
abbrev main_v57 : Ref sig .tc := ⟨.hbm, 100, rfl⟩
abbrev main_cst_8 : Ref sig .tc := ⟨.hbm, 101, rfl⟩
abbrev main_call5_v0 : Ref sig .tc := ⟨.hbm, 102, rfl⟩
abbrev main_call5_v1 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_call6_v0 : Ref sig .tc := ⟨.hbm, 118, rfl⟩
abbrev main_call6_v1 : Ref sig .tc := ⟨.hbm, 119, rfl⟩
abbrev main_call6_cst : Ref sig .tc := ⟨.hbm, 120, rfl⟩
abbrev main_call6_v2 : Ref sig .tc := ⟨.hbm, 121, rfl⟩
abbrev main_call6_v3 : Ref sig .tc := ⟨.hbm, 122, rfl⟩
abbrev main_call6_cst_0 : Ref sig .tc := ⟨.hbm, 123, rfl⟩
abbrev main_call6_v4 : Ref sig .tc := ⟨.hbm, 124, rfl⟩
abbrev main_call6_v5 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_c_9 : Ref sig .tc := ⟨.hbm, 130, rfl⟩
abbrev main_v76 : Ref sig .tc := ⟨.hbm, 131, rfl⟩
abbrev main_v77 : Ref sig .tc := ⟨.hbm, 132, rfl⟩
abbrev main_cst_10 : Ref sig .tc := ⟨.hbm, 133, rfl⟩
abbrev main_call7_v0 : Ref sig .tc := ⟨.hbm, 134, rfl⟩
abbrev main_call7_v1 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_call8_v0 : Ref sig .tc := ⟨.hbm, 150, rfl⟩
abbrev main_call8_v1 : Ref sig .tc := ⟨.hbm, 151, rfl⟩
abbrev main_call8_cst : Ref sig .tc := ⟨.hbm, 152, rfl⟩
abbrev main_call8_v2 : Ref sig .tc := ⟨.hbm, 153, rfl⟩
abbrev main_call8_v3 : Ref sig .tc := ⟨.hbm, 154, rfl⟩
abbrev main_call8_cst_0 : Ref sig .tc := ⟨.hbm, 155, rfl⟩
abbrev main_call8_v4 : Ref sig .tc := ⟨.hbm, 156, rfl⟩
abbrev main_call8_v5 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_c_11 : Ref sig .tc := ⟨.hbm, 162, rfl⟩
abbrev main_v96 : Ref sig .tc := ⟨.hbm, 163, rfl⟩
abbrev main_v97 : Ref sig .tc := ⟨.hbm, 164, rfl⟩
abbrev main_cst_12 : Ref sig .tc := ⟨.hbm, 165, rfl⟩
abbrev main_call9_v0 : Ref sig .tc := ⟨.hbm, 166, rfl⟩
abbrev main_call9_v1 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_call10_v0 : Ref sig .tc := ⟨.hbm, 182, rfl⟩
abbrev main_call10_v1 : Ref sig .tc := ⟨.hbm, 183, rfl⟩
abbrev main_call10_cst : Ref sig .tc := ⟨.hbm, 184, rfl⟩
abbrev main_call10_v2 : Ref sig .tc := ⟨.hbm, 185, rfl⟩
abbrev main_call10_v3 : Ref sig .tc := ⟨.hbm, 186, rfl⟩
abbrev main_call10_cst_0 : Ref sig .tc := ⟨.hbm, 187, rfl⟩
abbrev main_call10_v4 : Ref sig .tc := ⟨.hbm, 188, rfl⟩
abbrev main_call10_v5 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_c_13 : Ref sig .tc := ⟨.hbm, 194, rfl⟩
abbrev main_v116 : Ref sig .tc := ⟨.hbm, 195, rfl⟩
abbrev main_v117 : Ref sig .tc := ⟨.hbm, 196, rfl⟩
abbrev main_cst_14 : Ref sig .tc := ⟨.hbm, 197, rfl⟩
abbrev main_call11_v0 : Ref sig .tc := ⟨.hbm, 198, rfl⟩
abbrev main_call11_v1 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_call12_v0 : Ref sig .tc := ⟨.hbm, 214, rfl⟩
abbrev main_call12_v1 : Ref sig .tc := ⟨.hbm, 215, rfl⟩
abbrev main_call12_cst : Ref sig .tc := ⟨.hbm, 216, rfl⟩
abbrev main_call12_v2 : Ref sig .tc := ⟨.hbm, 217, rfl⟩
abbrev main_call12_v3 : Ref sig .tc := ⟨.hbm, 218, rfl⟩
abbrev main_call12_cst_0 : Ref sig .tc := ⟨.hbm, 219, rfl⟩
abbrev main_call12_v4 : Ref sig .tc := ⟨.hbm, 220, rfl⟩
abbrev main_call12_v5 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_c_15 : Ref sig .tc := ⟨.hbm, 226, rfl⟩
abbrev main_v136 : Ref sig .tc := ⟨.hbm, 227, rfl⟩
abbrev main_v137 : Ref sig .tc := ⟨.hbm, 228, rfl⟩
abbrev main_cst_16 : Ref sig .tc := ⟨.hbm, 229, rfl⟩
abbrev main_call13_v0 : Ref sig .tc := ⟨.hbm, 230, rfl⟩
abbrev main_call13_v1 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_call14_v0 : Ref sig .tc := ⟨.hbm, 246, rfl⟩
abbrev main_call14_v1 : Ref sig .tc := ⟨.hbm, 247, rfl⟩
abbrev main_call14_cst : Ref sig .tc := ⟨.hbm, 248, rfl⟩
abbrev main_call14_v2 : Ref sig .tc := ⟨.hbm, 249, rfl⟩
abbrev main_call14_v3 : Ref sig .tc := ⟨.hbm, 250, rfl⟩
abbrev main_call14_cst_0 : Ref sig .tc := ⟨.hbm, 251, rfl⟩
abbrev main_call14_v4 : Ref sig .tc := ⟨.hbm, 252, rfl⟩
abbrev main_call14_v5 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_c_17 : Ref sig .tc := ⟨.hbm, 258, rfl⟩
abbrev main_v156 : Ref sig .tc := ⟨.hbm, 259, rfl⟩
abbrev main_v157 : Ref sig .tc := ⟨.hbm, 260, rfl⟩
abbrev main_cst_18 : Ref sig .tc := ⟨.hbm, 261, rfl⟩
abbrev main_call15_v0 : Ref sig .tc := ⟨.hbm, 262, rfl⟩
abbrev main_call15_v1 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_v171 : Ref sig .tc := ⟨.hbm, 277, rfl⟩
abbrev main_call16_v0 : Ref sig .tc := ⟨.hbm, 278, rfl⟩
abbrev main_call16_v1 : Ref sig .tc := ⟨.hbm, 279, rfl⟩
abbrev main_call16_cst : Ref sig .tc := ⟨.hbm, 280, rfl⟩
abbrev main_call16_v2 : Ref sig .tc := ⟨.hbm, 281, rfl⟩
abbrev main_call16_v3 : Ref sig .tc := ⟨.hbm, 282, rfl⟩
abbrev main_call16_cst_0 : Ref sig .tc := ⟨.hbm, 283, rfl⟩
abbrev main_call16_v4 : Ref sig .tc := ⟨.hbm, 284, rfl⟩
abbrev main_call16_v5 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_c_19 : Ref sig .tc := ⟨.hbm, 290, rfl⟩
abbrev main_v176 : Ref sig .tc := ⟨.hbm, 291, rfl⟩
abbrev main_v177 : Ref sig .tc := ⟨.hbm, 292, rfl⟩
abbrev main_cst_20 : Ref sig .tc := ⟨.hbm, 293, rfl⟩
abbrev main_call17_v0 : Ref sig .tc := ⟨.hbm, 294, rfl⟩
abbrev main_call17_v1 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S1024x3584 : Shape := ⟨2, ![1024, 3584]⟩
abbrev S16384x3584 : Shape := ⟨2, ![16384, 3584]⟩
abbrev S512x1024 : Shape := ⟨2, ![512, 1024]⟩
abbrev S512x3584 : Shape := ⟨2, ![512, 3584]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x3584, .bf16⟩
  | .hbm, ⟨2, _⟩ => ⟨S16384x3584, .bf16⟩
  | .local _ .vmem, ⟨0, _⟩ => ⟨S512x1024, .bf16⟩
  | .local _ .vmem, ⟨1, _⟩ => ⟨S512x1024, .bf16⟩
  | .local _ .vmem, ⟨2, _⟩ => ⟨S1024x3584, .bf16⟩
  | .local _ .vmem, ⟨3, _⟩ => ⟨S512x3584, .bf16⟩
  | .local _ .vmem, ⟨4, _⟩ => ⟨S512x3584, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x3584 : Shape := ⟨2, ![1024, 3584]⟩
abbrev S16384x3584 : Shape := ⟨2, ![16384, 3584]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3584, .bf16⟩
  | .hbm, ⟨2, _⟩ => ⟨S16384x1024, .f32⟩
  | .hbm, ⟨3, _⟩ => ⟨S1024x3584, .f32⟩
  | .hbm, ⟨4, _⟩ => ⟨S16384x3584, .f32⟩
  | .hbm, ⟨5, _⟩ => ⟨S16384x3584, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x1024, .f32⟩
  | .hbm, ⟨3, _⟩ => ⟨S1024x3072, .f32⟩
  | .hbm, ⟨4, _⟩ => ⟨S16384x3072, .f32⟩
  | .hbm, ⟨5, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel6.lean ====
abbrev S256 : Shape := ⟨1, ![256]⟩
abbrev S16384x2 : Shape := ⟨2, ![16384, 2]⟩
abbrev S37888x1024 : Shape := ⟨2, ![37888, 1024]⟩
abbrev S16384x1024 : Shape := ⟨2, ![16384, 1024]⟩
abbrev S1x1024 : Shape := ⟨2, ![1, 1024]⟩
abbrev S512x2 : Shape := ⟨2, ![512, 2]⟩
abbrev S512x1024 : Shape := ⟨2, ![512, 1024]⟩
abbrev S2x640x1024 : Shape := ⟨3, ![2, 640, 1024]⟩
abbrev S2x2 : Shape := ⟨2, ![2, 2]⟩
abbrev S1 : Shape := ⟨1, ![1]⟩
abbrev S1x1 : Shape := ⟨2, ![1, 1]⟩
abbrev S_ : Shape := ⟨0, ![]⟩
abbrev S1x640x1024 : Shape := ⟨3, ![1, 640, 1024]⟩
abbrev S640x1024 : Shape := ⟨2, ![640, 1024]⟩
abbrev S512x1 : Shape := ⟨2, ![512, 1]⟩
abbrev S512x640 : Shape := ⟨2, ![512, 640]⟩
abbrev S512 : Shape := ⟨1, ![512]⟩

abbrev nBuf : Space → Nat
  | .hbm => 9
  | .vmem => 15
  | .smem => 1
  | _ => 0

abbrev bufTy : (tb : Table) → Fin (tcTables nBuf tb) → BufTy
  | .hbm, ⟨0, _⟩ => ⟨S16384x2, .i32⟩
  | .hbm, ⟨1, _⟩ => ⟨S16384x2, .i32⟩
  | .hbm, ⟨2, _⟩ => ⟨S37888x1024, .bf16⟩
  | .hbm, ⟨3, _⟩ => ⟨S37888x1024, .bf16⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S512x2, .i32⟩
  | .local _ .vmem, ⟨1, _⟩ => ⟨S512x2, .i32⟩
  | .local _ .vmem, ⟨2, _⟩ => ⟨S512x2, .i32⟩
  | .local _ .vmem, ⟨3, _⟩ => ⟨S512x2, .i32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S2x640x1024, .bf16⟩
  | .local _ .vmem, ⟨14, _⟩ => ⟨S2x640x1024, .bf16⟩
  | .local _ .smem, ⟨0, _⟩ => ⟨S256, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_mult1 (v3 : BitVec 32) : BitVec 32 :=
  v3

def k0_off2 (v3 : BitVec 32) : Fin 2 → Nat :=
  let v4 : BitVec 32 := v3
  let c0_i32_5 : BitVec 32 := 0#32
  ![v4.toNat, 0]

def k0_chk1 (v3 : BitVec 32) : Prop :=
  (16 ∣ (k0_mult1 v3).toNat) ∧
  (∀ a, (k0_off2 v3) a + S640x1024.size a ≤ S37888x1024.size a) ∧
  (∀ (hinb : ∀ a, (k0_off2 v3) a + S640x1024.size a ≤ S37888x1024.size a), (Rect.unit (s := S37888x1024) (k0_off2 v3) S640x1024.size hinb).WholeWords (EltTy.packing .bf16))
theorem k0_mult1_dvd : ∀ (v3 : BitVec 32) (k0_hw1 : k0_chk1 v3), 16 ∣ (k0_mult1 v3).toNat := fun v3 k0_hw1 => k0_hw1.1
theorem k0_off2_inb : ∀ (v3 : BitVec 32) (k0_hw1 : k0_chk1 v3), ∀ a, (k0_off2 v3) a + S640x1024.size a ≤ S37888x1024.size a := fun v3 k0_hw1 => k0_hw1.2.1
theorem k0_off2_wordsbf16 : ∀ (v3 : BitVec 32) (k0_hw1 : k0_chk1 v3), (Rect.unit (s := S37888x1024) (k0_off2 v3) S640x1024.size (k0_off2_inb v3 k0_hw1)).WholeWords (EltTy.packing .bf16) := fun v3 k0_hw1 => k0_hw1.2.2 (k0_off2_inb v3 k0_hw1)

def k0_off3 (i : grid0.Coords) : Fin 1 → Nat :=
  let arg0 : BitVec 32 := BitVec.ofNat 32 (i 0).val
  let c8_i32_17 : BitVec 32 := 8#32
  let v24 : BitVec 32 := Scalar.muli arg0 c8_i32_17
  let c1_i32_18 : BitVec 32 := 1#32
  let v25 : BitVec 32 := Scalar.addi v24 c1_i32_18
  let v26 : Index := Scalar.indexCast v25
  ![v26.toNat]
def k0_mult2 (v27 : BitVec 32) : BitVec 32 :=
  v27

def k0_off4 (v27 : BitVec 32) : Fin 2 → Nat :=
  let v28 : BitVec 32 := v27
  let c0_i32_24 : BitVec 32 := 0#32
  ![v28.toNat, 0]

def k0_chk2 (v27 : BitVec 32) : Prop :=
  (16 ∣ (k0_mult2 v27).toNat) ∧
  (∀ a, (k0_off4 v27) a + S640x1024.size a ≤ S37888x1024.size a) ∧
  (∀ (hinb : ∀ a, (k0_off4 v27) a + S640x1024.size a ≤ S37888x1024.size a), (Rect.unit (s := S37888x1024) (k0_off4 v27) S640x1024.size hinb).WholeWords (EltTy.packing .bf16))
theorem k0_mult2_dvd : ∀ (v27 : BitVec 32) (k0_hw2 : k0_chk2 v27), 16 ∣ (k0_mult2 v27).toNat := fun v27 k0_hw2 => k0_hw2.1
theorem k0_off4_inb : ∀ (v27 : BitVec 32) (k0_hw2 : k0_chk2 v27), ∀ a, (k0_off4 v27) a + S640x1024.size a ≤ S37888x1024.size a := fun v27 k0_hw2 => k0_hw2.2.1
theorem k0_off4_wordsbf16 : ∀ (v27 : BitVec 32) (k0_hw2 : k0_chk2 v27), (Rect.unit (s := S37888x1024) (k0_off4 v27) S640x1024.size (k0_off4_inb v27 k0_hw2)).WholeWords (EltTy.packing .bf16) := fun v27 k0_hw2 => k0_hw2.2.2 (k0_off4_inb v27 k0_hw2)

def k0_off5 (i : grid0.Coords) : Fin 1 → Nat :=
  let arg0 : BitVec 32 := BitVec.ofNat 32 (i 0).val
  let c8_i32_31 : BitVec 32 := 8#32
  let v39 : BitVec 32 := Scalar.muli arg0 c8_i32_31
  let c0_i32_32 : BitVec 32 := 0#32
  let v40 : BitVec 32 := Scalar.addi v39 c0_i32_32
  let v41 : Index := Scalar.indexCast v40
  ![v41.toNat]
def k0_mult3 (v42 : BitVec 32) : BitVec 32 :=
  v42

def k0_off6 (v42 : BitVec 32) : Fin 2 → Nat :=
  let v43 : BitVec 32 := v42
  let c0_i32_38 : BitVec 32 := 0#32
  ![v43.toNat, 0]

def k0_chk3 (v42 : BitVec 32) : Prop :=
  (16 ∣ (k0_mult3 v42).toNat) ∧
  (∀ a, (k0_off6 v42) a + S640x1024.size a ≤ S37888x1024.size a) ∧
  (∀ (hinb : ∀ a, (k0_off6 v42) a + S640x1024.size a ≤ S37888x1024.size a), (Rect.unit (s := S37888x1024) (k0_off6 v42) S640x1024.size hinb).WholeWords (EltTy.packing .bf16))
theorem k0_mult3_dvd : ∀ (v42 : BitVec 32) (k0_hw3 : k0_chk3 v42), 16 ∣ (k0_mult3 v42).toNat := fun v42 k0_hw3 => k0_hw3.1
theorem k0_off6_inb : ∀ (v42 : BitVec 32) (k0_hw3 : k0_chk3 v42), ∀ a, (k0_off6 v42) a + S640x1024.size a ≤ S37888x1024.size a := fun v42 k0_hw3 => k0_hw3.2.1
theorem k0_off6_wordsbf16 : ∀ (v42 : BitVec 32) (k0_hw3 : k0_chk3 v42), (Rect.unit (s := S37888x1024) (k0_off6 v42) S640x1024.size (k0_off6_inb v42 k0_hw3)).WholeWords (EltTy.packing .bf16) := fun v42 k0_hw3 => k0_hw3.2.2 (k0_off6_inb v42 k0_hw3)

def k0_off7 (i : grid0.Coords) (c0_i32_46 : BitVec 32) : Fin 1 → Nat :=
  let arg0 : BitVec 32 := BitVec.ofNat 32 (i 0).val
  let c8_i32_45 : BitVec 32 := 8#32
  let v54 : BitVec 32 := Scalar.muli arg0 c8_i32_45
  let v55 : BitVec 32 := Scalar.addi v54 c0_i32_46
  let v56 : Index := Scalar.indexCast v55
  ![v56.toNat]
def k0_mult4 (v96 : BitVec 32) : BitVec 32 :=
  v96

def k0_off8 (v96 : BitVec 32) : Fin 2 → Nat :=
  let v97 : BitVec 32 := v96
  let c0_i32_74 : BitVec 32 := 0#32
  ![v97.toNat, 0]

def k0_chk4 (v96 : BitVec 32) : Prop :=
  (16 ∣ (k0_mult4 v96).toNat) ∧
  (∀ a, (k0_off8 v96) a + S640x1024.size a ≤ S37888x1024.size a) ∧
  (∀ (hinb : ∀ a, (k0_off8 v96) a + S640x1024.size a ≤ S37888x1024.size a), (Rect.unit (s := S37888x1024) (k0_off8 v96) S640x1024.size hinb).WholeWords (EltTy.packing .bf16))
theorem k0_mult4_dvd : ∀ (v96 : BitVec 32) (k0_hw4 : k0_chk4 v96), 16 ∣ (k0_mult4 v96).toNat := fun v96 k0_hw4 => k0_hw4.1
theorem k0_off8_inb : ∀ (v96 : BitVec 32) (k0_hw4 : k0_chk4 v96), ∀ a, (k0_off8 v96) a + S640x1024.size a ≤ S37888x1024.size a := fun v96 k0_hw4 => k0_hw4.2.1
theorem k0_off8_wordsbf16 : ∀ (v96 : BitVec 32) (k0_hw4 : k0_chk4 v96), (Rect.unit (s := S37888x1024) (k0_off8 v96) S640x1024.size (k0_off8_inb v96 k0_hw4)).WholeWords (EltTy.packing .bf16) := fun v96 k0_hw4 => k0_hw4.2.2 (k0_off8_inb v96 k0_hw4)

def k0_off9 (i : grid0.Coords) : Fin 1 → Nat :=
  let arg0 : BitVec 32 := BitVec.ofNat 32 (i 0).val
  let c8_i32_81 : BitVec 32 := 8#32
  let v108 : BitVec 32 := Scalar.muli arg0 c8_i32_81
  let c1_i32_82 : BitVec 32 := 1#32
  let v109 : BitVec 32 := Scalar.addi v108 c1_i32_82
  let v110 : Index := Scalar.indexCast v109
  ![v110.toNat]
def k0_mult5 (v111 : BitVec 32) : BitVec 32 :=
  v111

def k0_off10 (v111 : BitVec 32) : Fin 2 → Nat :=
  let v112 : BitVec 32 := v111
  let c0_i32_88 : BitVec 32 := 0#32
  ![v112.toNat, 0]

def k0_chk5 (v111 : BitVec 32) : Prop :=
  (16 ∣ (k0_mult5 v111).toNat) ∧
  (∀ a, (k0_off10 v111) a + S640x1024.size a ≤ S37888x1024.size a) ∧
  (∀ (hinb : ∀ a, (k0_off10 v111) a + S640x1024.size a ≤ S37888x1024.size a), (Rect.unit (s := S37888x1024) (k0_off10 v111) S640x1024.size hinb).WholeWords (EltTy.packing .bf16))
theorem k0_mult5_dvd : ∀ (v111 : BitVec 32) (k0_hw5 : k0_chk5 v111), 16 ∣ (k0_mult5 v111).toNat := fun v111 k0_hw5 => k0_hw5.1
theorem k0_off10_inb : ∀ (v111 : BitVec 32) (k0_hw5 : k0_chk5 v111), ∀ a, (k0_off10 v111) a + S640x1024.size a ≤ S37888x1024.size a := fun v111 k0_hw5 => k0_hw5.2.1
theorem k0_off10_wordsbf16 : ∀ (v111 : BitVec 32) (k0_hw5 : k0_chk5 v111), (Rect.unit (s := S37888x1024) (k0_off10 v111) S640x1024.size (k0_off10_inb v111 k0_hw5)).WholeWords (EltTy.packing .bf16) := fun v111 k0_hw5 => k0_hw5.2.2 (k0_off10_inb v111 k0_hw5)

def k0_off11 (i : grid0.Coords) (c1_i32_96 : BitVec 32) : Fin 1 → Nat :=
  let arg0 : BitVec 32 := BitVec.ofNat 32 (i 0).val
  let c8_i32_95 : BitVec 32 := 8#32
  let v123 : BitVec 32 := Scalar.muli arg0 c8_i32_95
  let v124 : BitVec 32 := Scalar.addi v123 c1_i32_96
  let v125 : Index := Scalar.indexCast v124
  ![v125.toNat]
def k0_mult6 (v165 : BitVec 32) : BitVec 32 :=
  v165

def k0_off12 (v165 : BitVec 32) : Fin 2 → Nat :=
  let v166 : BitVec 32 := v165
  let c0_i32_125 : BitVec 32 := 0#32
  ![v166.toNat, 0]

def k0_chk6 (v165 : BitVec 32) : Prop :=
  (16 ∣ (k0_mult6 v165).toNat) ∧
  (∀ a, (k0_off12 v165) a + S640x1024.size a ≤ S37888x1024.size a) ∧
  (∀ (hinb : ∀ a, (k0_off12 v165) a + S640x1024.size a ≤ S37888x1024.size a), (Rect.unit (s := S37888x1024) (k0_off12 v165) S640x1024.size hinb).WholeWords (EltTy.packing .bf16))
theorem k0_mult6_dvd : ∀ (v165 : BitVec 32) (k0_hw6 : k0_chk6 v165), 16 ∣ (k0_mult6 v165).toNat := fun v165 k0_hw6 => k0_hw6.1
theorem k0_off12_inb : ∀ (v165 : BitVec 32) (k0_hw6 : k0_chk6 v165), ∀ a, (k0_off12 v165) a + S640x1024.size a ≤ S37888x1024.size a := fun v165 k0_hw6 => k0_hw6.2.1
theorem k0_off12_wordsbf16 : ∀ (v165 : BitVec 32) (k0_hw6 : k0_chk6 v165), (Rect.unit (s := S37888x1024) (k0_off12 v165) S640x1024.size (k0_off12_inb v165 k0_hw6)).WholeWords (EltTy.packing .bf16) := fun v165 k0_hw6 => k0_hw6.2.2 (k0_off12_inb v165 k0_hw6)

def k0_off13 (i : grid0.Coords) : Fin 1 → Nat :=
  let arg0 : BitVec 32 := BitVec.ofNat 32 (i 0).val
  let c8_i32_132 : BitVec 32 := 8#32
  let v177 : BitVec 32 := Scalar.muli arg0 c8_i32_132
  let c2_i32_133 : BitVec 32 := 2#32
  let v178 : BitVec 32 := Scalar.addi v177 c2_i32_133
  let v179 : Index := Scalar.indexCast v178
  ![v179.toNat]
def k0_mult7 (v180 : BitVec 32) : BitVec 32 :=
  v180

def k0_off14 (v180 : BitVec 32) : Fin 2 → Nat :=
  let v181 : BitVec 32 := v180
  let c0_i32_139 : BitVec 32 := 0#32
  ![v181.toNat, 0]

def k0_chk7 (v180 : BitVec 32) : Prop :=
  (16 ∣ (k0_mult7 v180).toNat) ∧
  (∀ a, (k0_off14 v180) a + S640x1024.size a ≤ S37888x1024.size a) ∧
  (∀ (hinb : ∀ a, (k0_off14 v180) a + S640x1024.size a ≤ S37888x1024.size a), (Rect.unit (s := S37888x1024) (k0_off14 v180) S640x1024.size hinb).WholeWords (EltTy.packing .bf16))
theorem k0_mult7_dvd : ∀ (v180 : BitVec 32) (k0_hw7 : k0_chk7 v180), 16 ∣ (k0_mult7 v180).toNat := fun v180 k0_hw7 => k0_hw7.1
theorem k0_off14_inb : ∀ (v180 : BitVec 32) (k0_hw7 : k0_chk7 v180), ∀ a, (k0_off14 v180) a + S640x1024.size a ≤ S37888x1024.size a := fun v180 k0_hw7 => k0_hw7.2.1
theorem k0_off14_wordsbf16 : ∀ (v180 : BitVec 32) (k0_hw7 : k0_chk7 v180), (Rect.unit (s := S37888x1024) (k0_off14 v180) S640x1024.size (k0_off14_inb v180 k0_hw7)).WholeWords (EltTy.packing .bf16) := fun v180 k0_hw7 => k0_hw7.2.2 (k0_off14_inb v180 k0_hw7)

def k0_off15 (i : grid0.Coords) (c2_i32_147 : BitVec 32) : Fin 1 → Nat :=
  let arg0 : BitVec 32 := BitVec.ofNat 32 (i 0).val
  let c8_i32_146 : BitVec 32 := 8#32
  let v192 : BitVec 32 := Scalar.muli arg0 c8_i32_146
  let v193 : BitVec 32 := Scalar.addi v192 c2_i32_147
  let v194 : Index := Scalar.indexCast v193
  ![v194.toNat]
def k0_mult8 (v234 : BitVec 32) : BitVec 32 :=
  v234

def k0_off16 (v234 : BitVec 32) : Fin 2 → Nat :=
  let v235 : BitVec 32 := v234
  let c0_i32_176 : BitVec 32 := 0#32
  ![v235.toNat, 0]

def k0_chk8 (v234 : BitVec 32) : Prop :=
  (16 ∣ (k0_mult8 v234).toNat) ∧
  (∀ a, (k0_off16 v234) a + S640x1024.size a ≤ S37888x1024.size a) ∧
  (∀ (hinb : ∀ a, (k0_off16 v234) a + S640x1024.size a ≤ S37888x1024.size a), (Rect.unit (s := S37888x1024) (k0_off16 v234) S640x1024.size hinb).WholeWords (EltTy.packing .bf16))
theorem k0_mult8_dvd : ∀ (v234 : BitVec 32) (k0_hw8 : k0_chk8 v234), 16 ∣ (k0_mult8 v234).toNat := fun v234 k0_hw8 => k0_hw8.1
theorem k0_off16_inb : ∀ (v234 : BitVec 32) (k0_hw8 : k0_chk8 v234), ∀ a, (k0_off16 v234) a + S640x1024.size a ≤ S37888x1024.size a := fun v234 k0_hw8 => k0_hw8.2.1
theorem k0_off16_wordsbf16 : ∀ (v234 : BitVec 32) (k0_hw8 : k0_chk8 v234), (Rect.unit (s := S37888x1024) (k0_off16 v234) S640x1024.size (k0_off16_inb v234 k0_hw8)).WholeWords (EltTy.packing .bf16) := fun v234 k0_hw8 => k0_hw8.2.2 (k0_off16_inb v234 k0_hw8)

def k0_off17 (i : grid0.Coords) : Fin 1 → Nat :=
  let arg0 : BitVec 32 := BitVec.ofNat 32 (i 0).val
  let c8_i32_183 : BitVec 32 := 8#32
  let v246 : BitVec 32 := Scalar.muli arg0 c8_i32_183
  let c3_i32_184 : BitVec 32 := 3#32
  let v247 : BitVec 32 := Scalar.addi v246 c3_i32_184
  let v248 : Index := Scalar.indexCast v247
  ![v248.toNat]
def k0_mult9 (v249 : BitVec 32) : BitVec 32 :=
  v249

def k0_off18 (v249 : BitVec 32) : Fin 2 → Nat :=
  let v250 : BitVec 32 := v249
  let c0_i32_190 : BitVec 32 := 0#32
  ![v250.toNat, 0]

def k0_chk9 (v249 : BitVec 32) : Prop :=
  (16 ∣ (k0_mult9 v249).toNat) ∧
  (∀ a, (k0_off18 v249) a + S640x1024.size a ≤ S37888x1024.size a) ∧
  (∀ (hinb : ∀ a, (k0_off18 v249) a + S640x1024.size a ≤ S37888x1024.size a), (Rect.unit (s := S37888x1024) (k0_off18 v249) S640x1024.size hinb).WholeWords (EltTy.packing .bf16))
theorem k0_mult9_dvd : ∀ (v249 : BitVec 32) (k0_hw9 : k0_chk9 v249), 16 ∣ (k0_mult9 v249).toNat := fun v249 k0_hw9 => k0_hw9.1
theorem k0_off18_inb : ∀ (v249 : BitVec 32) (k0_hw9 : k0_chk9 v249), ∀ a, (k0_off18 v249) a + S640x1024.size a ≤ S37888x1024.size a := fun v249 k0_hw9 => k0_hw9.2.1
theorem k0_off18_wordsbf16 : ∀ (v249 : BitVec 32) (k0_hw9 : k0_chk9 v249), (Rect.unit (s := S37888x1024) (k0_off18 v249) S640x1024.size (k0_off18_inb v249 k0_hw9)).WholeWords (EltTy.packing .bf16) := fun v249 k0_hw9 => k0_hw9.2.2 (k0_off18_inb v249 k0_hw9)

def k0_off19 (i : grid0.Coords) (c3_i32_198 : BitVec 32) : Fin 1 → Nat :=
  let arg0 : BitVec 32 := BitVec.ofNat 32 (i 0).val
  let c8_i32_197 : BitVec 32 := 8#32
  let v261 : BitVec 32 := Scalar.muli arg0 c8_i32_197
  let v262 : BitVec 32 := Scalar.addi v261 c3_i32_198
  let v263 : Index := Scalar.indexCast v262
  ![v263.toNat]
def k0_mult10 (v303 : BitVec 32) : BitVec 32 :=
  v303

def k0_off20 (v303 : BitVec 32) : Fin 2 → Nat :=
  let v304 : BitVec 32 := v303
  let c0_i32_227 : BitVec 32 := 0#32
  ![v304.toNat, 0]

def k0_chk10 (v303 : BitVec 32) : Prop :=
  (16 ∣ (k0_mult10 v303).toNat) ∧
  (∀ a, (k0_off20 v303) a + S640x1024.size a ≤ S37888x1024.size a) ∧
  (∀ (hinb : ∀ a, (k0_off20 v303) a + S640x1024.size a ≤ S37888x1024.size a), (Rect.unit (s := S37888x1024) (k0_off20 v303) S640x1024.size hinb).WholeWords (EltTy.packing .bf16))
theorem k0_mult10_dvd : ∀ (v303 : BitVec 32) (k0_hw10 : k0_chk10 v303), 16 ∣ (k0_mult10 v303).toNat := fun v303 k0_hw10 => k0_hw10.1
theorem k0_off20_inb : ∀ (v303 : BitVec 32) (k0_hw10 : k0_chk10 v303), ∀ a, (k0_off20 v303) a + S640x1024.size a ≤ S37888x1024.size a := fun v303 k0_hw10 => k0_hw10.2.1
theorem k0_off20_wordsbf16 : ∀ (v303 : BitVec 32) (k0_hw10 : k0_chk10 v303), (Rect.unit (s := S37888x1024) (k0_off20 v303) S640x1024.size (k0_off20_inb v303 k0_hw10)).WholeWords (EltTy.packing .bf16) := fun v303 k0_hw10 => k0_hw10.2.2 (k0_off20_inb v303 k0_hw10)

def k0_off21 (i : grid0.Coords) : Fin 1 → Nat :=
  let arg0 : BitVec 32 := BitVec.ofNat 32 (i 0).val
  let c8_i32_234 : BitVec 32 := 8#32
  let v315 : BitVec 32 := Scalar.muli arg0 c8_i32_234
  let c4_i32_235 : BitVec 32 := 4#32
  let v316 : BitVec 32 := Scalar.addi v315 c4_i32_235
  let v317 : Index := Scalar.indexCast v316
  ![v317.toNat]
def k0_mult11 (v318 : BitVec 32) : BitVec 32 :=
  v318

def k0_off22 (v318 : BitVec 32) : Fin 2 → Nat :=
  let v319 : BitVec 32 := v318
  let c0_i32_241 : BitVec 32 := 0#32
  ![v319.toNat, 0]

def k0_chk11 (v318 : BitVec 32) : Prop :=
  (16 ∣ (k0_mult11 v318).toNat) ∧
  (∀ a, (k0_off22 v318) a + S640x1024.size a ≤ S37888x1024.size a) ∧
  (∀ (hinb : ∀ a, (k0_off22 v318) a + S640x1024.size a ≤ S37888x1024.size a), (Rect.unit (s := S37888x1024) (k0_off22 v318) S640x1024.size hinb).WholeWords (EltTy.packing .bf16))
theorem k0_mult11_dvd : ∀ (v318 : BitVec 32) (k0_hw11 : k0_chk11 v318), 16 ∣ (k0_mult11 v318).toNat := fun v318 k0_hw11 => k0_hw11.1
theorem k0_off22_inb : ∀ (v318 : BitVec 32) (k0_hw11 : k0_chk11 v318), ∀ a, (k0_off22 v318) a + S640x1024.size a ≤ S37888x1024.size a := fun v318 k0_hw11 => k0_hw11.2.1
theorem k0_off22_wordsbf16 : ∀ (v318 : BitVec 32) (k0_hw11 : k0_chk11 v318), (Rect.unit (s := S37888x1024) (k0_off22 v318) S640x1024.size (k0_off22_inb v318 k0_hw11)).WholeWords (EltTy.packing .bf16) := fun v318 k0_hw11 => k0_hw11.2.2 (k0_off22_inb v318 k0_hw11)

def k0_off23 (i : grid0.Coords) (c4_i32_249 : BitVec 32) : Fin 1 → Nat :=
  let arg0 : BitVec 32 := BitVec.ofNat 32 (i 0).val
  let c8_i32_248 : BitVec 32 := 8#32
  let v330 : BitVec 32 := Scalar.muli arg0 c8_i32_248
  let v331 : BitVec 32 := Scalar.addi v330 c4_i32_249
  let v332 : Index := Scalar.indexCast v331
  ![v332.toNat]
def k0_mult12 (v372 : BitVec 32) : BitVec 32 :=
  v372

def k0_off24 (v372 : BitVec 32) : Fin 2 → Nat :=
  let v373 : BitVec 32 := v372
  let c0_i32_278 : BitVec 32 := 0#32
  ![v373.toNat, 0]

def k0_chk12 (v372 : BitVec 32) : Prop :=
  (16 ∣ (k0_mult12 v372).toNat) ∧
  (∀ a, (k0_off24 v372) a + S640x1024.size a ≤ S37888x1024.size a) ∧
  (∀ (hinb : ∀ a, (k0_off24 v372) a + S640x1024.size a ≤ S37888x1024.size a), (Rect.unit (s := S37888x1024) (k0_off24 v372) S640x1024.size hinb).WholeWords (EltTy.packing .bf16))
theorem k0_mult12_dvd : ∀ (v372 : BitVec 32) (k0_hw12 : k0_chk12 v372), 16 ∣ (k0_mult12 v372).toNat := fun v372 k0_hw12 => k0_hw12.1
theorem k0_off24_inb : ∀ (v372 : BitVec 32) (k0_hw12 : k0_chk12 v372), ∀ a, (k0_off24 v372) a + S640x1024.size a ≤ S37888x1024.size a := fun v372 k0_hw12 => k0_hw12.2.1
theorem k0_off24_wordsbf16 : ∀ (v372 : BitVec 32) (k0_hw12 : k0_chk12 v372), (Rect.unit (s := S37888x1024) (k0_off24 v372) S640x1024.size (k0_off24_inb v372 k0_hw12)).WholeWords (EltTy.packing .bf16) := fun v372 k0_hw12 => k0_hw12.2.2 (k0_off24_inb v372 k0_hw12)

def k0_off25 (i : grid0.Coords) : Fin 1 → Nat :=
  let arg0 : BitVec 32 := BitVec.ofNat 32 (i 0).val
  let c8_i32_285 : BitVec 32 := 8#32
  let v384 : BitVec 32 := Scalar.muli arg0 c8_i32_285
  let c5_i32_286 : BitVec 32 := 5#32
  let v385 : BitVec 32 := Scalar.addi v384 c5_i32_286
  let v386 : Index := Scalar.indexCast v385
  ![v386.toNat]
def k0_mult13 (v387 : BitVec 32) : BitVec 32 :=
  v387

def k0_off26 (v387 : BitVec 32) : Fin 2 → Nat :=
  let v388 : BitVec 32 := v387
  let c0_i32_292 : BitVec 32 := 0#32
  ![v388.toNat, 0]

def k0_chk13 (v387 : BitVec 32) : Prop :=
  (16 ∣ (k0_mult13 v387).toNat) ∧
  (∀ a, (k0_off26 v387) a + S640x1024.size a ≤ S37888x1024.size a) ∧
  (∀ (hinb : ∀ a, (k0_off26 v387) a + S640x1024.size a ≤ S37888x1024.size a), (Rect.unit (s := S37888x1024) (k0_off26 v387) S640x1024.size hinb).WholeWords (EltTy.packing .bf16))
theorem k0_mult13_dvd : ∀ (v387 : BitVec 32) (k0_hw13 : k0_chk13 v387), 16 ∣ (k0_mult13 v387).toNat := fun v387 k0_hw13 => k0_hw13.1
theorem k0_off26_inb : ∀ (v387 : BitVec 32) (k0_hw13 : k0_chk13 v387), ∀ a, (k0_off26 v387) a + S640x1024.size a ≤ S37888x1024.size a := fun v387 k0_hw13 => k0_hw13.2.1
theorem k0_off26_wordsbf16 : ∀ (v387 : BitVec 32) (k0_hw13 : k0_chk13 v387), (Rect.unit (s := S37888x1024) (k0_off26 v387) S640x1024.size (k0_off26_inb v387 k0_hw13)).WholeWords (EltTy.packing .bf16) := fun v387 k0_hw13 => k0_hw13.2.2 (k0_off26_inb v387 k0_hw13)

def k0_off27 (i : grid0.Coords) (c5_i32_300 : BitVec 32) : Fin 1 → Nat :=
  let arg0 : BitVec 32 := BitVec.ofNat 32 (i 0).val
  let c8_i32_299 : BitVec 32 := 8#32
  let v399 : BitVec 32 := Scalar.muli arg0 c8_i32_299
  let v400 : BitVec 32 := Scalar.addi v399 c5_i32_300
  let v401 : Index := Scalar.indexCast v400
  ![v401.toNat]
def k0_mult14 (v441 : BitVec 32) : BitVec 32 :=
  v441

def k0_off28 (v441 : BitVec 32) : Fin 2 → Nat :=
  let v442 : BitVec 32 := v441
  let c0_i32_329 : BitVec 32 := 0#32
  ![v442.toNat, 0]

def k0_chk14 (v441 : BitVec 32) : Prop :=
  (16 ∣ (k0_mult14 v441).toNat) ∧
  (∀ a, (k0_off28 v441) a + S640x1024.size a ≤ S37888x1024.size a) ∧
  (∀ (hinb : ∀ a, (k0_off28 v441) a + S640x1024.size a ≤ S37888x1024.size a), (Rect.unit (s := S37888x1024) (k0_off28 v441) S640x1024.size hinb).WholeWords (EltTy.packing .bf16))
theorem k0_mult14_dvd : ∀ (v441 : BitVec 32) (k0_hw14 : k0_chk14 v441), 16 ∣ (k0_mult14 v441).toNat := fun v441 k0_hw14 => k0_hw14.1
theorem k0_off28_inb : ∀ (v441 : BitVec 32) (k0_hw14 : k0_chk14 v441), ∀ a, (k0_off28 v441) a + S640x1024.size a ≤ S37888x1024.size a := fun v441 k0_hw14 => k0_hw14.2.1
theorem k0_off28_wordsbf16 : ∀ (v441 : BitVec 32) (k0_hw14 : k0_chk14 v441), (Rect.unit (s := S37888x1024) (k0_off28 v441) S640x1024.size (k0_off28_inb v441 k0_hw14)).WholeWords (EltTy.packing .bf16) := fun v441 k0_hw14 => k0_hw14.2.2 (k0_off28_inb v441 k0_hw14)

def k0_off29 (i : grid0.Coords) : Fin 1 → Nat :=
  let arg0 : BitVec 32 := BitVec.ofNat 32 (i 0).val
  let c8_i32_336 : BitVec 32 := 8#32
  let v453 : BitVec 32 := Scalar.muli arg0 c8_i32_336
  let c6_i32_337 : BitVec 32 := 6#32
  let v454 : BitVec 32 := Scalar.addi v453 c6_i32_337
  let v455 : Index := Scalar.indexCast v454
  ![v455.toNat]
def k0_mult15 (v456 : BitVec 32) : BitVec 32 :=
  v456

def k0_off30 (v456 : BitVec 32) : Fin 2 → Nat :=
  let v457 : BitVec 32 := v456
  let c0_i32_343 : BitVec 32 := 0#32
  ![v457.toNat, 0]

def k0_chk15 (v456 : BitVec 32) : Prop :=
  (16 ∣ (k0_mult15 v456).toNat) ∧
  (∀ a, (k0_off30 v456) a + S640x1024.size a ≤ S37888x1024.size a) ∧
  (∀ (hinb : ∀ a, (k0_off30 v456) a + S640x1024.size a ≤ S37888x1024.size a), (Rect.unit (s := S37888x1024) (k0_off30 v456) S640x1024.size hinb).WholeWords (EltTy.packing .bf16))
theorem k0_mult15_dvd : ∀ (v456 : BitVec 32) (k0_hw15 : k0_chk15 v456), 16 ∣ (k0_mult15 v456).toNat := fun v456 k0_hw15 => k0_hw15.1
theorem k0_off30_inb : ∀ (v456 : BitVec 32) (k0_hw15 : k0_chk15 v456), ∀ a, (k0_off30 v456) a + S640x1024.size a ≤ S37888x1024.size a := fun v456 k0_hw15 => k0_hw15.2.1
theorem k0_off30_wordsbf16 : ∀ (v456 : BitVec 32) (k0_hw15 : k0_chk15 v456), (Rect.unit (s := S37888x1024) (k0_off30 v456) S640x1024.size (k0_off30_inb v456 k0_hw15)).WholeWords (EltTy.packing .bf16) := fun v456 k0_hw15 => k0_hw15.2.2 (k0_off30_inb v456 k0_hw15)

def k0_off31 (i : grid0.Coords) (c6_i32_351 : BitVec 32) : Fin 1 → Nat :=
  let arg0 : BitVec 32 := BitVec.ofNat 32 (i 0).val
  let c8_i32_350 : BitVec 32 := 8#32
  let v468 : BitVec 32 := Scalar.muli arg0 c8_i32_350
  let v469 : BitVec 32 := Scalar.addi v468 c6_i32_351
  let v470 : Index := Scalar.indexCast v469
  ![v470.toNat]
def k0_mult16 (v510 : BitVec 32) : BitVec 32 :=
  v510

def k0_off32 (v510 : BitVec 32) : Fin 2 → Nat :=
  let v511 : BitVec 32 := v510
  let c0_i32_381 : BitVec 32 := 0#32
  ![v511.toNat, 0]

def k0_chk16 (v510 : BitVec 32) : Prop :=
  (16 ∣ (k0_mult16 v510).toNat) ∧
  (∀ a, (k0_off32 v510) a + S640x1024.size a ≤ S37888x1024.size a) ∧
  (∀ (hinb : ∀ a, (k0_off32 v510) a + S640x1024.size a ≤ S37888x1024.size a), (Rect.unit (s := S37888x1024) (k0_off32 v510) S640x1024.size hinb).WholeWords (EltTy.packing .bf16))
theorem k0_mult16_dvd : ∀ (v510 : BitVec 32) (k0_hw16 : k0_chk16 v510), 16 ∣ (k0_mult16 v510).toNat := fun v510 k0_hw16 => k0_hw16.1
theorem k0_off32_inb : ∀ (v510 : BitVec 32) (k0_hw16 : k0_chk16 v510), ∀ a, (k0_off32 v510) a + S640x1024.size a ≤ S37888x1024.size a := fun v510 k0_hw16 => k0_hw16.2.1
theorem k0_off32_wordsbf16 : ∀ (v510 : BitVec 32) (k0_hw16 : k0_chk16 v510), (Rect.unit (s := S37888x1024) (k0_off32 v510) S640x1024.size (k0_off32_inb v510 k0_hw16)).WholeWords (EltTy.packing .bf16) := fun v510 k0_hw16 => k0_hw16.2.2 (k0_off32_inb v510 k0_hw16)

def k0_off33 (i : grid0.Coords) : Fin 1 → Nat :=
  let arg0 : BitVec 32 := BitVec.ofNat 32 (i 0).val
  let c8_i32_388 : BitVec 32 := 8#32
  let v522 : BitVec 32 := Scalar.muli arg0 c8_i32_388
  let c7_i32_389 : BitVec 32 := 7#32
  let v523 : BitVec 32 := Scalar.addi v522 c7_i32_389
  let v524 : Index := Scalar.indexCast v523
  ![v524.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S256 : Shape := ⟨1, ![256]⟩
abbrev S16384x2 : Shape := ⟨2, ![16384, 2]⟩
abbrev S37888x1024 : Shape := ⟨2, ![37888, 1024]⟩
abbrev S16384x1024 : Shape := ⟨2, ![16384, 1024]⟩
abbrev S1x1024 : Shape := ⟨2, ![1, 1024]⟩
abbrev S_ : Shape := ⟨0, ![]⟩
abbrev S16384x1 : Shape := ⟨2, ![16384, 1]⟩
abbrev S16384 : Shape := ⟨1, ![16384]⟩

abbrev nBuf : Space → Nat
  | .hbm => 66
  | .vmem => 0
  | .smem => 0
  | _ => 0

abbrev bufTy : (tb : Table) → Fin (tcTables nBuf tb) → BufTy
  | .hbm, ⟨0, _⟩ => ⟨S256, .i32⟩
  | .hbm, ⟨1, _⟩ => ⟨S16384x2, .i32⟩
  | .hbm, ⟨2, _⟩ => ⟨S16384x2, .i32⟩
  | .hbm, ⟨3, _⟩ => ⟨S37888x1024, .bf16⟩
  | .hbm, ⟨4, _⟩ => ⟨S37888x1024, .bf16⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S37888x1024, .f32⟩
  | .hbm, ⟨9, _⟩ => ⟨S37888x1024, .f32⟩
  | .hbm, ⟨10, _⟩ => ⟨S37888x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384x1024, .f32⟩
  | .hbm, ⟨25, _⟩ => ⟨S16384x1, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .bf16⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel7.lean ====
abbrev S16384x1024 : Shape := ⟨2, ![16384, 1024]⟩
abbrev S1024x256 : Shape := ⟨2, ![1024, 256]⟩
abbrev S16384x256 : Shape := ⟨2, ![16384, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x256, .bf16⟩
  | .hbm, ⟨2, _⟩ => ⟨S16384x256, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x1024 : Shape := ⟨2, ![16384, 1024]⟩
abbrev S1024x256 : Shape := ⟨2, ![1024, 256]⟩
abbrev S16384x256 : Shape := ⟨2, ![16384, 256]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x256, .bf16⟩
  | .hbm, ⟨2, _⟩ => ⟨S16384x1024, .f32⟩
  | .hbm, ⟨3, _⟩ => ⟨S1024x256, .f32⟩
  | .hbm, ⟨4, _⟩ => ⟨S16384x256, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S16384x1024 : Shape := ⟨2, ![16384, 1024]⟩
abbrev S1024x128 : Shape := ⟨2, ![1024, 128]⟩
abbrev S16384x128 : Shape := ⟨2, ![16384, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x1024 : Shape := ⟨2, ![16384, 1024]⟩
abbrev S1024x128 : Shape := ⟨2, ![1024, 128]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x1024, .f32⟩
  | .hbm, ⟨3, _⟩ => ⟨S1024x128, .f32⟩
  | .hbm, ⟨4, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16384x128 : Shape := ⟨2, ![16384, 128]⟩
abbrev S1x128 : Shape := ⟨2, ![1, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x128 : Shape := ⟨2, ![16384, 128]⟩
abbrev S1x128 : Shape := ⟨2, ![1, 128]⟩
abbrev S_ : Shape := ⟨0, ![]⟩
abbrev S2x8192x128 : Shape := ⟨3, ![2, 8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S_, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .i1⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S2x8192x128, .f32⟩
  | .hbm, ⟨21, _⟩ => ⟨S_, .f32⟩
  | .hbm, ⟨22, _⟩ => ⟨S_, .f32⟩
  | .hbm, ⟨23, _⟩ => ⟨S2x8192x128, .f32⟩
  | .hbm, ⟨24, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== Kernel10.lean ====
abbrev S16384x512 : Shape := ⟨2, ![16384, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S16384x512 : Shape := ⟨2, ![16384, 512]⟩
abbrev S1x16384x512 : Shape := ⟨3, ![1, 16384, 512]⟩
abbrev S3x16384x512 : Shape := ⟨3, ![3, 16384, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S1x16384x512, .f32⟩
  | .hbm, ⟨7, _⟩ => ⟨S1x16384x512, .f32⟩
  | .hbm, ⟨8, _⟩ => ⟨S1x16384x512, .f32⟩
  | .hbm, ⟨9, _⟩ => ⟨S3x16384x512, .f32⟩
  | .hbm, ⟨10, _⟩ => ⟨S1x16384x512, .f32⟩
  | .hbm, ⟨11, _⟩ => ⟨S1x16384x512, .f32⟩
  | .hbm, ⟨12, _⟩ => ⟨S1x16384x512, .f32⟩
  | .hbm, ⟨13, _⟩ => ⟨S3x16384x512, .f32⟩
  | .hbm, ⟨14, _⟩ => ⟨S_, .f32⟩
  | .hbm, ⟨15, _⟩ => ⟨S16384x512, .f32⟩
  | .hbm, ⟨16, _⟩ => ⟨S1x16384x512, .f32⟩
  | .hbm, ⟨17, _⟩ => ⟨S3x16384x512, .f32⟩
  | .hbm, ⟨18, _⟩ => ⟨S3x16384x512, .f32⟩
  | .hbm, ⟨19, _⟩ => ⟨S3x16384x512, .f32⟩
  | .hbm, ⟨20, _⟩ => ⟨S3x16384x512, .f32⟩
  | .hbm, ⟨21, _⟩ => ⟨S_, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel11.lean ====
abbrev S16384x3072 : Shape := ⟨2, ![16384, 3072]⟩
abbrev S8x128x256 : Shape := ⟨3, ![8, 128, 256]⟩
abbrev S16384x512 : Shape := ⟨2, ![16384, 512]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 4
  | .vmem => 15
  | .smem => 0
  | _ => 0

abbrev bufTy : (tb : Table) → Fin (tcTables nBuf tb) → BufTy
  | .hbm, ⟨0, _⟩ => ⟨S16384x3072, .bf16⟩
  | .hbm, ⟨1, _⟩ => ⟨S8x128x256, .f32⟩
  | .hbm, ⟨2, _⟩ => ⟨S16384x512, .f32⟩
  | .hbm, ⟨3, _⟩ => ⟨S16384x512, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S8x128x256, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c6_i32 : BitVec 32 := 6#32
  let v2 : BitVec 32 := Scalar.muli arg1 c6_i32
  let c3_i32 : BitVec 32 := 3#32
  let v3 : BitVec 32 := Scalar.addi v2 c3_i32
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c6_i32 : BitVec 32 := 6#32
  let v5 : BitVec 32 := Scalar.muli arg1 c6_i32
  let c4_i32 : BitVec 32 := 4#32
  let v6 : BitVec 32 := Scalar.addi v5 c4_i32
  let c0_i32_1 : BitVec 32 := 0#32
  ![v4.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c1_i32_0 : BitVec 32 := 1#32
  let v2 : BitVec 32 := Scalar.addi v1 c1_i32_0
  let c0_i32 : BitVec 32 := 0#32
  let v3 : BitVec 32 := Scalar.maxsi v2 c0_i32
  let v4 : BitVec 32 := Scalar.addi v0 v3
  let c6_i32 : BitVec 32 := 6#32
  let v5 : BitVec 32 := Scalar.muli arg1 c6_i32
  let c4_i32 : BitVec 32 := 4#32
  let v6 : BitVec 32 := Scalar.addi v5 c4_i32
  let c0_i32_1 : BitVec 32 := 0#32
  ![v4.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c6_i32 : BitVec 32 := 6#32
  let v5 : BitVec 32 := Scalar.muli arg1 c6_i32
  let c5_i32 : BitVec 32 := 5#32
  let v6 : BitVec 32 := Scalar.addi v5 c5_i32
  let c0_i32_1 : BitVec 32 := 0#32
  ![v4.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c1_i32_0 : BitVec 32 := 1#32
  let v2 : BitVec 32 := Scalar.addi v1 c1_i32_0
  let c0_i32 : BitVec 32 := 0#32
  let v3 : BitVec 32 := Scalar.maxsi v2 c0_i32
  let v4 : BitVec 32 := Scalar.addi v0 v3
  let c6_i32 : BitVec 32 := 6#32
  let v5 : BitVec 32 := Scalar.muli arg1 c6_i32
  let c5_i32 : BitVec 32 := 5#32
  let v6 : BitVec 32 := Scalar.addi v5 c5_i32
  let c0_i32_1 : BitVec 32 := 0#32
  ![v4.toNat, v6.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel11Ideal.lean ====
variable {F : FTy → Type} [FloatOps F] [Named F]
def κ : String → Option EReal := fun
  | "mask" => some ⊥
  | _ => none
-- ==== Reference11Ideal.lean ====
abbrev S16384x3072 : Shape := ⟨2, ![16384, 3072]⟩
abbrev S8x128x256 : Shape := ⟨3, ![8, 128, 256]⟩
abbrev S16384x512 : Shape := ⟨2, ![16384, 512]⟩
abbrev S2x64x128x8x64 : Shape := ⟨5, ![2, 64, 128, 8, 64]⟩
abbrev S2x1x128x8x64 : Shape := ⟨5, ![2, 1, 128, 8, 64]⟩
abbrev S_ : Shape := ⟨0, ![]⟩
abbrev S2x63x128x8x64 : Shape := ⟨5, ![2, 63, 128, 8, 64]⟩
abbrev S2x64x256x8x64 : Shape := ⟨5, ![2, 64, 256, 8, 64]⟩
abbrev S2x64x8x128x256 : Shape := ⟨5, ![2, 64, 8, 128, 256]⟩
abbrev S1x1x8x128x256 : Shape := ⟨5, ![1, 1, 8, 128, 256]⟩
abbrev S2x64x8x128 : Shape := ⟨4, ![2, 64, 8, 128]⟩
abbrev S2x64x8x128x1 : Shape := ⟨5, ![2, 64, 8, 128, 1]⟩
abbrev S2x64x8x128x64 : Shape := ⟨5, ![2, 64, 8, 128, 64]⟩

abbrev nBuf : Space → Nat
  | .hbm => 62
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S8x128x256, .f32⟩
  | .hbm, ⟨2, _⟩ => ⟨S16384x512, .bf16⟩
  | .hbm, ⟨3, _⟩ => ⟨S16384x512, .f32⟩
  | .hbm, ⟨4, _⟩ => ⟨S2x64x128x8x64, .f32⟩
  | .hbm, ⟨5, _⟩ => ⟨S16384x512, .bf16⟩
  | .hbm, ⟨6, _⟩ => ⟨S16384x512, .f32⟩
  | .hbm, ⟨7, _⟩ => ⟨S2x64x128x8x64, .f32⟩
  | .hbm, ⟨8, _⟩ => ⟨S16384x512, .bf16⟩
  | .hbm, ⟨9, _⟩ => ⟨S16384x512, .f32⟩
  | .hbm, ⟨10, _⟩ => ⟨S2x64x128x8x64, .f32⟩
  | .hbm, ⟨11, _⟩ => ⟨S2x1x128x8x64, .f32⟩
  | .hbm, ⟨12, _⟩ => ⟨S_, .f32⟩
  | .hbm, ⟨13, _⟩ => ⟨S2x1x128x8x64, .f32⟩
  | .hbm, ⟨14, _⟩ => ⟨S2x63x128x8x64, .f32⟩
  | .hbm, ⟨15, _⟩ => ⟨S2x64x128x8x64, .f32⟩
  | .hbm, ⟨16, _⟩ => ⟨S2x64x256x8x64, .f32⟩
  | .hbm, ⟨17, _⟩ => ⟨S2x1x128x8x64, .f32⟩
  | .hbm, ⟨18, _⟩ => ⟨S_, .f32⟩
  | .hbm, ⟨19, _⟩ => ⟨S2x1x128x8x64, .f32⟩
  | .hbm, ⟨20, _⟩ => ⟨S2x63x128x8x64, .f32⟩
  | .hbm, ⟨21, _⟩ => ⟨S2x64x128x8x64, .f32⟩
  | .hbm, ⟨22, _⟩ => ⟨S2x64x256x8x64, .f32⟩
  | .hbm, ⟨23, _⟩ => ⟨S_, .f32⟩
  | .hbm, ⟨24, _⟩ => ⟨S2x64x128x8x64, .f32⟩
  | .hbm, ⟨25, _⟩ => ⟨S2x64x128x8x64, .f32⟩
  | .hbm, ⟨26, _⟩ => ⟨S2x64x8x128x256, .f32⟩
  | .hbm, ⟨27, _⟩ => ⟨S1x1x8x128x256, .f32⟩
  | .hbm, ⟨28, _⟩ => ⟨S2x64x8x128x256, .f32⟩
  | .hbm, ⟨29, _⟩ => ⟨S2x64x8x128x256, .f32⟩
  | .hbm, ⟨30, _⟩ => ⟨S2x64x8x128x256, .i32⟩
  | .hbm, ⟨31, _⟩ => ⟨S2x64x8x128x256, .i32⟩
  | .hbm, ⟨32, _⟩ => ⟨S_, .i32⟩
  | .hbm, ⟨33, _⟩ => ⟨S2x64x8x128x256, .i32⟩
  | .hbm, ⟨34, _⟩ => ⟨S2x64x8x128x256, .i1⟩
  | .hbm, ⟨35, _⟩ => ⟨S_, .i32⟩
  | .hbm, ⟨36, _⟩ => ⟨S2x64x8x128x256, .i32⟩
  | .hbm, ⟨37, _⟩ => ⟨S2x64x8x128x256, .i1⟩
  | .hbm, ⟨38, _⟩ => ⟨S2x64x8x128x256, .i1⟩
  | .hbm, ⟨39, _⟩ => ⟨S_, .f32⟩
  | .hbm, ⟨40, _⟩ => ⟨S_, .f32⟩
  | .hbm, ⟨41, _⟩ => ⟨S2x64x8x128x256, .f32⟩
  | .hbm, ⟨42, _⟩ => ⟨S2x64x8x128x256, .f32⟩
  | .hbm, ⟨43, _⟩ => ⟨S_, .f32⟩
  | .hbm, ⟨44, _⟩ => ⟨S2x64x8x128, .f32⟩
  | .hbm, ⟨45, _⟩ => ⟨S2x64x8x128x1, .f32⟩
  | .hbm, ⟨46, _⟩ => ⟨S2x64x8x128x256, .f32⟩
  | .hbm, ⟨47, _⟩ => ⟨S2x64x8x128x256, .f32⟩
  | .hbm, ⟨48, _⟩ => ⟨S2x64x8x128x256, .f32⟩
  | .hbm, ⟨49, _⟩ => ⟨S_, .f32⟩
  | .hbm, ⟨50, _⟩ => ⟨S2x64x8x128, .f32⟩
  | .hbm, ⟨51, _⟩ => ⟨S2x64x8x128x1, .f32⟩
  | .hbm, ⟨52, _⟩ => ⟨S2x64x8x128x64, .f32⟩
  | .hbm, ⟨53, _⟩ => ⟨S2x64x8x128x64, .f32⟩
  | .hbm, ⟨54, _⟩ => ⟨S2x64x8x128x64, .f32⟩
  | .hbm, ⟨55, _⟩ => ⟨S2x64x8x128x1, .f32⟩
  | .hbm, ⟨56, _⟩ => ⟨S2x64x8x128x1, .f32⟩
  | .hbm, ⟨57, _⟩ => ⟨S2x64x8x128x64, .f32⟩
  | .hbm, ⟨58, _⟩ => ⟨S2x64x128x8x64, .f32⟩
  | .hbm, ⟨59, _⟩ => ⟨S16384x512, .f32⟩
  | .hbm, ⟨60, _⟩ => ⟨S2x64x128x8x64, .f32⟩
  | .hbm, ⟨61, _⟩ => ⟨S16384x512, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Proof.Dense.lean ====
/- The value of the dense SwiGLU call: over the extended reals, the two results of the tiled kernel are those of the
   reference — the same layer norm of `ALPHA·x + swiglu(xb)`, the inner sum over 2816 channels taken in two halves. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Dense

open Idealize.ShloMosaic Idealize.ShloMosaic.TcCoe Idealize.SL.Sem
open Idealize.ShloMosaic.Pipeline (Dat)

/-- One gated product: `silu a · c` with `silu a = a / (1 + e^(-a))`. -/
def gated (a c : EReal) : EReal := Ideal.div a (1 + Ideal.exp (0 - a)) * c

/-- One entry of the layer norm of a row `z` of 1024 numbers, with gain `g` and shift `b`. -/
def lnAt (z : Fin 1024 → EReal) (g b : EReal) (d : Fin 1024) : EReal :=
  (z d - Ideal.div (∑ k, z k) (Ideal.ofBits .f32 1149239296#32)) *
    Ideal.rsqrt (Ideal.div (∑ j, (z j - Ideal.div (∑ k, z k) (Ideal.ofBits .f32 1149239296#32)) *
      (z j - Ideal.div (∑ k, z k) (Ideal.ofBits .f32 1149239296#32))) (Ideal.ofBits .f32 1149239296#32)
      + Ideal.ofBits .f32 925353388#32) * g + b

/-- The exponential is not negative. -/
theorem exp_nonneg (x : EReal) : 0 ≤ Ideal.exp x := by
  unfold Ideal.exp
  split
  · exact le_refl _
  · exact le_top
  · exact_mod_cast (Real.exp_pos _).le

/-- `1 + e^x` is not zero. -/
theorem one_add_exp_ne (x : EReal) : 1 + Ideal.exp x ≠ 0 := by
  have h : (0 : EReal) < 1 + Ideal.exp x := lt_of_lt_of_le zero_lt_one (le_add_of_nonneg_right (exp_nonneg x))
  exact h.ne'

/-- The two spellings of `silu`: the quotient, and the product with the reciprocal. -/
theorem gated_eq (a c : EReal) : a * Ideal.div 1 (1 + Ideal.exp (-a)) * c = gated a c := by
  unfold gated
  rw [Ideal.mul_one_div (one_add_exp_ne _), zero_sub]

namespace K

open Cert.Kernel2Ideal Cert.Kernel2Ideal.Gen

variable (m : (ℓ : Loc nD τ sig) → Buf (Elt Ideal) ℓ)

/-- The update of the accumulator, at an entry. -/
theorem pay2_apply (x : Vec Ideal S512x1024 .bf16) (w1 w3 : Vec Ideal S1024x1408 .bf16) (acc : Vec Ideal S512x1024 .f32)
    (w2 : Vec Ideal S1408x1024 .bf16) (r : Fin 512) (d : Fin 1024) :
    k0_pay2 (F := Ideal) x w1 w3 acc w2 (ix2 r d) = acc (ix2 r d) + ∑ f : Fin 1408,
      gated (∑ k : Fin 1024, x (ix2 r k) * w1 (ix2 k f)) (∑ k : Fin 1024, x (ix2 r k) * w3 (ix2 k f)) * w2 (ix2 f d) := by
  pointwise [k0_pay2, gated]

/-- The accumulator's first contents: zero everywhere. -/
theorem pay1_apply (r : Fin 512) (d : Fin 1024) : k0_pay1 (F := Ideal) (ix2 r d) = 0 := by
  pointwise [k0_pay1]

/-- The stored result, at an entry. -/
theorem pay3_apply (x acc : Vec Ideal S512x1024 .f32) (g b : Vec Ideal S1x1024 .f32) (r : Fin 512) (d : Fin 1024) :
    k0_pay3 (F := Ideal) x acc g b (ix2 r d) = lnAt (fun j => Ideal.ofBits .f32 1071072509#32 * x (ix2 r j) + acc (ix2 r j))
      (g (ix2 0 d)) (b (ix2 0 d)) d := by
  pointwise [k0_pay3, lnAt]

/-- The index maps of the grid's windows. -/
theorem idx : ∀ t : Fin cfg0.N, win0_0.index t = ![t.val / 2, 0] ∧ win0_1.index t = ![0, t.val % 2]
    ∧ win0_2.index t = ![0, t.val % 2] ∧ win0_3.index t = ![t.val % 2, 0] ∧ win0_4.index t = ![t.val / 2, 0]
    ∧ win0_5.index t = ![0, 0] ∧ win0_6.index t = ![0, 0] ∧ win0_7.index t = ![t.val / 2, 0]
    ∧ win0_8.index t = ![t.val / 2, 0] :=
  (by decide +kernel : ∀ t : Fin grid0.N, _)

/-- The launch's arrays, each at its type. -/
abbrev A0 (c : Dev nD) : S16384x1024.Idx → EReal := m ((c : Thread nD τ).loc main_arg0)
/-- The first weight. -/
abbrev A1 (c : Dev nD) : S1024x2816.Idx → EReal := m ((c : Thread nD τ).loc main_arg1)
/-- The second factor's weight. -/
abbrev A2 (c : Dev nD) : S1024x2816.Idx → EReal := m ((c : Thread nD τ).loc main_arg2)
/-- The weight of the way back. -/
abbrev A3 (c : Dev nD) : S2816x1024.Idx → EReal := m ((c : Thread nD τ).loc main_arg3)
/-- The residual. -/
abbrev A4 (c : Dev nD) : S16384x1024.Idx → EReal := m ((c : Thread nD τ).loc main_arg4)
/-- The norm's gain. -/
abbrev A5 (c : Dev nD) : S1x1024.Idx → EReal := m ((c : Thread nD τ).loc main_arg5)
/-- The norm's shift. -/
abbrev A6 (c : Dev nD) : S1x1024.Idx → EReal := m ((c : Thread nD τ).loc main_arg6)

/-- The row before the norm, of the launch's arrays. -/
def z (c : Dev nD) (r : Fin 16384) (d : Fin 1024) : EReal :=
  Ideal.ofBits .f32 1071072509#32 * A4 m c (ix2 r d) + ∑ f : Fin 2816,
    gated (∑ k : Fin 1024, A0 m c (ix2 r k) * A1 m c (ix2 k f)) (∑ k : Fin 1024, A0 m c (ix2 r k) * A2 m c (ix2 k f))
      * A3 m c (ix2 f d)

/-- The result, of the launch's arrays. -/
def Y (c : Dev nD) : S16384x1024.Idx → EReal := fun i =>
  lnAt (z m c (i 0)) (A5 m c (ix2 0 (i 1))) (A6 m c (ix2 0 (i 1))) (i 1)

/-- What a flushing point leaves in the f32 output's buffer. -/
theorem out7 (c : Dev nD) (t : Fin cfg0.N) (h1 : t.val % 2 = 1) (r : Fin 512) (d : Fin 1024) (q : Fin 16384)
    (hq : q.val = t.val / 2 * 512 + r.val) :
    (outsAt0 m c t.val t.isLt).1 (ix2 r d) = Y m c (ix2 q d) ∧ (outsAt0 m c t.val t.isLt).2.1 (ix2 r d) = Y m c (ix2 q d) := by
  have hlt : t.val - 1 < cfg0.N := by have := t.isLt; omega
  obtain ⟨i0, i1, i2, i3, i4, i5, i6, -, -⟩ := idx t
  obtain ⟨p0, p1, p2, p3, -, -, -, -, -⟩ := idx ⟨t.val - 1, hlt⟩
  have b0 : ∀ k, (iblk m c 0 t : Vec Ideal S512x1024 .bf16) (ix2 r k) = A0 m c (ix2 q k) := fun k => by
    blk_ext [iblk, V, i0]
  have b0' : ∀ k, (iblk m c 0 ⟨t.val - 1, hlt⟩ : Vec Ideal S512x1024 .bf16) (ix2 r k) = A0 m c (ix2 q k) := fun k => by
    blk_ext [iblk, V, p0]
  have b1 : ∀ k (f : Fin 1408), (iblk m c 1 t : Vec Ideal S1024x1408 .bf16) (ix2 k f)
      = A1 m c (ix2 k ⟨1408 + f.val, by omega⟩) := fun k f => by blk_ext [iblk, V, i1]
  have b1' : ∀ k (f : Fin 1408), (iblk m c 1 ⟨t.val - 1, hlt⟩ : Vec Ideal S1024x1408 .bf16) (ix2 k f)
      = A1 m c (ix2 k ⟨f.val, by omega⟩) := fun k f => by blk_ext [iblk, V, p1]
  have b2 : ∀ k (f : Fin 1408), (iblk m c 2 t : Vec Ideal S1024x1408 .bf16) (ix2 k f)
      = A2 m c (ix2 k ⟨1408 + f.val, by omega⟩) := fun k f => by blk_ext [iblk, V, i2]
  have b2' : ∀ k (f : Fin 1408), (iblk m c 2 ⟨t.val - 1, hlt⟩ : Vec Ideal S1024x1408 .bf16) (ix2 k f)
      = A2 m c (ix2 k ⟨f.val, by omega⟩) := fun k f => by blk_ext [iblk, V, p2]
  have b3 : ∀ (f : Fin 1408) j, (iblk m c 3 t : Vec Ideal S1408x1024 .bf16) (ix2 f j)
      = A3 m c (ix2 ⟨1408 + f.val, by omega⟩ j) := fun f j => by blk_ext [iblk, V, i3]
  have b3' : ∀ (f : Fin 1408) j, (iblk m c 3 ⟨t.val - 1, hlt⟩ : Vec Ideal S1408x1024 .bf16) (ix2 f j)
      = A3 m c (ix2 ⟨f.val, by omega⟩ j) := fun f j => by blk_ext [iblk, V, p3]
  have b4 : ∀ j, (iblk m c 4 t : Vec Ideal S512x1024 .f32) (ix2 r j) = A4 m c (ix2 q j) := fun j => by
    blk_ext [iblk, V, i4]
  have b5 : (iblk m c 5 t : Vec Ideal S1x1024 .f32) (ix2 0 d) = A5 m c (ix2 0 d) := by blk_ext [iblk, V, i5]
  have b6 : (iblk m c 6 t : Vec Ideal S1x1024 .f32) (ix2 0 d) = A6 m c (ix2 0 d) := by blk_ext [iblk, V, i6]
  have key : ∀ j : Fin 1024, Ideal.ofBits .f32 1071072509#32 * iblk m c 4 t (ix2 r j) +
      k0_pay2 (F := Ideal) (iblk m c 0 t) (iblk m c 1 t) (iblk m c 2 t) (k0_pay2 (F := Ideal) (iblk m c 0 ⟨t.val - 1, hlt⟩)
        (iblk m c 1 ⟨t.val - 1, hlt⟩) (iblk m c 2 ⟨t.val - 1, hlt⟩) (k0_pay1 (F := Ideal))
        (iblk m c 3 ⟨t.val - 1, hlt⟩)) (iblk m c 3 t) (ix2 r j) = z m c q j := by
    intro j
    rw [pay2_apply, pay2_apply, pay1_apply, zero_add, z, Fin.sum_univ_two_halves 1408 1408 rfl]
    simp only [b0, b0', b1, b1', b2, b2', b3, b3', b4]
  rw [outsAt0_B m c t (by omega) h1]
  constructor
  · frame_out
    rw [outsAt0_A m c ⟨t.val - 1, hlt⟩ (by dsimp only; omega) (by dsimp only; omega)]
    frame_out
    simp only [read_unread_whole]
    rw [pay3_apply]
    simp only [key]
    rw [b5, b6]
    rfl
  · frame_out
    rw [outsAt0_A m c ⟨t.val - 1, hlt⟩ (by dsimp only; omega) (by dsimp only; omega)]
    frame_out
    simp only [read_unread_whole]
    show k0_pay3 (F := Ideal) _ _ _ _ (ix2 r d) = _
    rw [pay3_apply]
    simp only [key]
    rw [b5, b6]
    rfl

/-- The f32 result array after the last point. -/
theorem arr7 (c : Dev nD) : (dats m 0 c).arrAt 7 cfg0.N = Y m c := by
  refine (dats m 0 c).arrAt_eq_of_covers 7 _ (by decide +kernel) fun t hf y => ?_
  blk_simp
  rw [after0_7]
  have h1 := (flush0_7 t).1 hf
  obtain ⟨-, -, -, -, -, -, -, i7, -⟩ := idx t
  have hb : t.val < 64 := t.isLt
  idx_vars y
  have e : ((View.whole main_v0_0).slice (win0_7.rect t)).emb (ix2 y0 y1)
      = (ix2 ⟨t.val / 2 * 512 + y0.val, by omega⟩ y1 : S16384x1024.Idx) := by blk_ext [i7]
  rw [e]
  exact (out7 m c t h1 y0 y1 _ rfl).1

/-- The bf16 result array after the last point: over the extended reals the same numbers. -/
theorem arr8 (c : Dev nD) : (dats m 0 c).arrAt 8 cfg0.N = Y m c := by
  refine (dats m 0 c).arrAt_eq_of_covers 8 _ (by decide +kernel) fun t hf y => ?_
  blk_simp
  rw [after0_8]
  have h1 := (flush0_8 t).1 hf
  obtain ⟨-, -, -, -, -, -, -, -, i8⟩ := idx t
  have hb : t.val < 64 := t.isLt
  idx_vars y
  have e : ((View.whole main_v0_1).slice (win0_8.rect t)).emb (ix2 y0 y1)
      = (ix2 ⟨t.val / 2 * 512 + y0.val, by omega⟩ y1 : S16384x1024.Idx) := by blk_ext [i8]
  rw [e]
  exact (out7 m c t h1 y0 y1 _ rfl).2

end K

namespace R

open Cert.Reference2Ideal

variable (m : (ℓ : Loc nD τ sig) → Buf (Elt Ideal) ℓ)

/-- The launch's arrays, each at its type. -/
abbrev A0 (c : Dev nD) : S16384x1024.Idx → EReal := m ((c : Thread nD τ).loc main_arg0)
/-- The first weight. -/
abbrev A1 (c : Dev nD) : S1024x2816.Idx → EReal := m ((c : Thread nD τ).loc main_arg1)
/-- The second factor's weight. -/
abbrev A2 (c : Dev nD) : S1024x2816.Idx → EReal := m ((c : Thread nD τ).loc main_arg2)
/-- The weight of the way back. -/
abbrev A3 (c : Dev nD) : S2816x1024.Idx → EReal := m ((c : Thread nD τ).loc main_arg3)
/-- The residual. -/
abbrev A4 (c : Dev nD) : S16384x1024.Idx → EReal := m ((c : Thread nD τ).loc main_arg4)
/-- The norm's gain. -/
abbrev A5 (c : Dev nD) : S1x1024.Idx → EReal := m ((c : Thread nD τ).loc main_arg5)
/-- The norm's shift. -/
abbrev A6 (c : Dev nD) : S1x1024.Idx → EReal := m ((c : Thread nD τ).loc main_arg6)

/-- The row before the norm, of the launch's arrays. -/
def z (c : Dev nD) (r : Fin 16384) (d : Fin 1024) : EReal :=
  Ideal.ofBits .f32 1071072509#32 * A4 m c (ix2 r d) + ∑ f : Fin 2816,
    gated (∑ k : Fin 1024, A0 m c (ix2 r k) * A1 m c (ix2 k f)) (∑ k : Fin 1024, A0 m c (ix2 r k) * A2 m c (ix2 k f))
      * A3 m c (ix2 f d)

/-- The reference's result. -/
def Y (c : Dev nD) : S16384x1024.Idx → EReal := fun i =>
  lnAt (z m c (i 0)) (A5 m c (ix2 0 (i 1))) (A6 m c (ix2 0 (i 1))) (i 1)

/-- The reference's f32 result. -/
theorem out0 (c : Dev nD) : (Value.res_out0 m c : S16384x1024.Idx → EReal) = Y m c := by
  funext y
  idx_vars y
  unfold Value.res_out0
  pointwise [Value.res_main_v33]
  simp only [gated_eq]
  rfl

/-- The reference's bf16 result: the same numbers. -/
theorem out1 (c : Dev nD) : (Value.res_out1 m c : S16384x1024.Idx → EReal) = Y m c := by
  funext y
  idx_vars y
  unfold Value.res_out1
  pointwise [Value.res_main_v34]
  simp only [gated_eq]
  rfl

end R
end Cert.Dense
end
-- ==== Proof.MoeI.lean ====
/-
  The transfers of the grouped expert kernel: the gather of a tile of rows.

  At the first point of a live tile the kernel copies the chunks `lo … hi` (512 rows each) of the token array into
  the two slots of a buffer, one chunk ahead, and adds the selected rows of every chunk to an accumulator. Here: the
  offsets in closed form, the side conditions the kernel assumes, the loop's invariant and one trip of the loop.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.KitQuiescent
public import Idealize.ShloMosaic.Lib.Pipeline.ValueKit
public import Idealize.ShloMosaic.Lib.Pipeline.ReadBack
public import Idealize.ShloMosaic.Lib.Ring
public import Idealize.ShloMosaic.Lib.Affine
public import Idealize.ShloMosaic.Lib.Tactic

@[expose] public section

noncomputable section

namespace Cert.Moe.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

omit [FloatOps F] in
/-- Equal assertions entail each other. -/
theorem entails_of_eq {P Q : sProp 𝕄} (e : P = Q) : P ⊢ Q := e ▸ .rfl

/-! ## Names: chunk `b` of the tokens, slot `s` of the buffer, slot `s`'s cell -/

abbrev aM : Memref sig .tc .hbm S16384x1024 .bf16 := Memref.whole main_arg5
abbrev accM : Memref sig .tc .vmem S512x1024 .f32 := Memref.whole cc0_scratch0
abbrev xsM : Memref sig .tc .vmem S512x1024 .bf16 := Memref.whole cc0_scratch1
abbrev bufM : Memref sig .tc .vmem S2x512x1024 .bf16 := Memref.whole cc0_scratch2

abbrev grpOff (b : Fin 32) : Fin 2 → Nat := ![b.val * 512, 0]
/-- A chunk's rows lie in the array. -/
theorem grpOff_inb (b : Fin 32) : ∀ a, grpOff b a + S512x1024.size a ≤ S16384x1024.size a := by
  have := b.isLt; intro a; fin_cases a
  · show b.val * 512 + 512 ≤ 16384; omega
  · show 0 + 1024 ≤ 1024; omega
abbrev slotOff (s : Fin 2) : Fin 3 → Nat := ![s.val, 0, 0]
/-- A slot lies in its buffer. -/
theorem slotOff_inb (s : Fin 2) : ∀ a, slotOff s a + S1x512x1024.size a ≤ S2x512x1024.size a := by
  have := s.isLt; intro a; fin_cases a
  · show s.val + 1 ≤ 2; omega
  · show 0 + 512 ≤ 512; omega
  · show 0 + 1024 ≤ 1024; omega
abbrev semOff (s : Fin 2) : Fin 1 → Nat := ![s.val]
/-- A cell lies in its array. -/
theorem semOff_inb (s : Fin 2) : ∀ a, semOff s a + S1.size a ≤ S2.size a := by
  have := s.isLt; intro a; fin_cases a; show s.val + 1 ≤ 2; omega

/-- Chunk `b` of the tokens, as the body slices it. -/
def grp (b : Fin 32) : Memref sig .tc .hbm S512x1024 .bf16 :=
  aM.slice (Rect.unit (s := S16384x1024) (grpOff b) S512x1024.size (grpOff_inb b)) (fun _ => rfl)
/-- Slot `s` of the buffer, as the body slices and squeezes it. -/
def rslot (s : Fin 2) : Memref sig .tc .vmem S512x1024 .bf16 :=
  (bufM.slice (Rect.unit (s := S2x512x1024) (slotOff s) S1x512x1024.size (slotOff_inb s)) (fun _ => rfl)).squeeze S512x1024 squeezes_S1x512x1024_S512x1024
/-- Slot `s`'s DMA semaphore. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 32) : ClosedOff (grpOff b) := ⟨grpOff b, rfl⟩

/-! ## The words in closed form -/

/-- The words that bound a live tile's chunks: `lo ≤ hi < 32`. -/
def Rng (a b : BitVec 32) : Prop := a.toNat ≤ b.toNat ∧ b.toNat < 32

section Chain
variable {a b : BitVec 32}
open Affine

/-- The number a word is said to be. -/
theorem toInt_of_isInt {x : BitVec 32} {e : Int} (h : IsInt x e) : x.toInt = e := by
  delta Affine.IsInt at h; exact h
/-- A small word is its own number. -/
theorem isInt_toNat {x : BitVec 32} (h : x.toNat < 32) : IsInt x x.toNat := by
  have hw := word x
  have hc := BitVec.toInt_eq_toNat_cond x
  rw [if_pos (by omega)] at hc
  rwa [hc] at hw
/-- The natural number a word is said to be. -/
theorem toNat_of_isInt {x : BitVec 32} {n : Nat} (h : IsInt x n) : x.toNat = n := by
  have h1 := toInt_of_isInt h
  have hc := BitVec.toInt_eq_toNat_cond x
  split at hc <;> omega

/-- The number of chunks. -/
theorem isInt_31 (h : Rng a b) : IsInt (Scalar.subi (Scalar.addi b 1#32) a) ((b.toNat + 1 - a.toNat : Nat)) := by
  have hr := h.1; have hr2 := h.2
  have h1 : IsInt (Scalar.addi b 1#32) ((b.toNat + 1 : Nat)) :=
    addi (isInt_toNat hr2) (ofNat (e := 1) 1 ⟨rfl, by decide⟩) ⟨by push_cast; omega, by omega, by omega⟩
  exact subi h1 (isInt_toNat (by omega)) ⟨by omega, by omega, by omega⟩
/-- The bound of the first loop. -/
theorem isInt_35 (h : Rng a b) : IsInt (Scalar.addi a (Scalar.muli (Scalar.divsi (Scalar.subi (Scalar.addi b 1#32) a) 1#32) 1#32)) ((b.toNat + 1 : Nat)) := by
  have hr := h.1; have hr2 := h.2
  have h1 := divsi_one (isInt_31 h) (ofNat (e := 1) 1 ⟨rfl, by decide⟩) ⟨rfl, rfl⟩
  have h2 := muli (e := ((b.toNat + 1 - a.toNat : Nat))) h1 (ofNat (e := 1) 1 ⟨rfl, by decide⟩) ⟨by omega, by omega, by omega⟩
  exact addi (isInt_toNat (by omega)) h2 ⟨by omega, by omega, by omega⟩
/-- The bound of the second loop. -/
theorem isInt_32 (h : Rng a b) : IsInt (Scalar.addi a (Scalar.subi (Scalar.addi b 1#32) a)) ((b.toNat + 1 : Nat)) := by
  have hr := h.1; have hr2 := h.2
  exact addi (isInt_toNat (by omega)) (isInt_31 h) ⟨by omega, by omega, by omega⟩

/-- The first loop turns once for each chunk. -/
theorem trips1_eq (h : Rng a b) : (k0_t1_loop a b).trips = b.toNat + 1 - a.toNat := by
  have hr := h.1; have hr2 := h.2
  show Scf.trips a (Scalar.addi a (Scalar.muli (Scalar.divsi (Scalar.subi (Scalar.addi b 1#32) a) 1#32) 1#32)) 1#32 = _
  unfold Scf.trips; rw [toInt_of_isInt (isInt_35 h), toInt_of_isInt (isInt_toNat (x := a) (by omega))]
  have : (1#32 : BitVec 32).toInt = 1 := by decide
  rw [this]; omega
/-- The second loop does not turn. -/
theorem trips2_eq (h : Rng a b) : (k0_t2_loop a b).trips = 0 := by
  show Scf.trips (Scalar.addi a (Scalar.muli (Scalar.divsi (Scalar.subi (Scalar.addi b 1#32) a) 1#32) 1#32)) (Scalar.addi a (Scalar.subi (Scalar.addi b 1#32) a)) 1#32 = 0
  unfold Scf.trips; rw [toInt_of_isInt (isInt_35 h), toInt_of_isInt (isInt_32 h)]; simp

/-- The parity of the trip, whatever the bounds: the counter wraps at an even number. -/
theorem par_eq (k : Nat) : Scalar.andi (Scalar.subi (Scf.iv a 1#32 k) a) 1#32 = BitVec.ofNat 32 (k % 2) := by
  have e : Scf.iv a 1#32 k - a = BitVec.ofNat 32 k := by
    show a + BitVec.ofNat 32 k * 1#32 - a = BitVec.ofNat 32 k
    rw [BitVec.mul_one, BitVec.add_comm, BitVec.add_sub_cancel]
  show (Scf.iv a 1#32 k - a) &&& 1#32 = _
  rw [e]
  apply BitVec.eq_of_toNat_eq
  rw [BitVec.toNat_and, BitVec.toNat_ofNat, BitVec.toNat_ofNat, BitVec.toNat_ofNat]
  show k % 2 ^ 32 &&& 1 = k % 2 % 2 ^ 32
  rw [Nat.and_one_is_mod]; omega
/-- The slot a turn gathers from. -/
theorem off10_eq (k : Fin (k0_t1_loop a b).trips) : k0_off10 a b k = slotOff (Ring.sl 2 k.val) :=
  vec_cons (indexCast (e := ((k.val % 2 : Nat))) (by rw [par_eq]; exact ofNat _ ⟨rfl, by omega⟩)) (by simp [Ring.sl, Fin.ofNat]) rfl
instance (k : Fin (k0_t1_loop a b).trips) : ClosedOff (k0_off10 a b k) := ⟨slotOff (Ring.sl 2 k.val), off10_eq k⟩

variable (h : Rng a b) (k : Fin (k0_t1_loop a b).trips)
include h

/-- A turn's chunk is no later than the last. -/
theorem k_lt : a.toNat + k.val ≤ b.toNat := by
  have := Nat.lt_of_lt_of_eq k.isLt (trips1_eq h); have := h.1; omega
/-- A turn's chunk. -/
theorem isInt_iv : IsInt (Scf.iv a 1#32 k.val) ((a.toNat + k.val : Nat)) := by
  have hk := k_lt h k; have hr2 := h.2
  exact iv (isInt_toNat (by omega)) (ofNat (e := 1) 1 ⟨rfl, by decide⟩) k.val ⟨by push_cast; omega, by omega, by omega⟩
/-- A turn's number. -/
theorem isInt_sub : IsInt (Scalar.subi (Scf.iv a 1#32 k.val) a) k.val := by
  have hk := k_lt h k; have hr2 := h.2
  exact subi (isInt_iv h k) (isInt_toNat (by omega)) ⟨by push_cast; omega, by omega, by omega⟩
/-- The parity of a turn. -/
theorem isInt_par : IsInt (Scalar.andi (Scalar.subi (Scf.iv a 1#32 k.val) a) 1#32) ((k.val % 2 : Nat)) := by
  have h1 := toNat_of_isInt (isInt_sub h k)
  have e : Scalar.andi (Scalar.subi (Scf.iv a 1#32 k.val) a) 1#32 = BitVec.ofNat 32 (k.val % 2) := by
    apply BitVec.eq_of_toNat_eq
    show (Scalar.subi (Scf.iv a 1#32 k.val) a &&& 1#32).toNat = _
    rw [BitVec.toNat_and, h1, BitVec.toNat_ofNat, BitVec.toNat_ofNat]
    show k.val &&& 1 = k.val % 2 % 2 ^ 32
    rw [Nat.and_one_is_mod, Nat.mod_eq_of_lt (a := k.val % 2) (by omega)]
  rw [e]; exact ofNat _ ⟨rfl, by omega⟩
/-- The other parity. -/
theorem isInt_opp : IsInt (Scalar.subi 1#32 (Scalar.andi (Scalar.subi (Scf.iv a 1#32 k.val) a) 1#32)) (((k.val + 1) % 2 : Nat)) :=
  subi (ofNat (e := 1) 1 ⟨rfl, by decide⟩) (isInt_par h k) ⟨by omega, by omega, by omega⟩
/-- The first row of a turn's chunk. -/
theorem isInt_row : IsInt (Scalar.muli (Scf.iv a 1#32 k.val) 512#32) (((a.toNat + k.val) * 512 : Nat)) := by
  have hk := k_lt h k; have hr2 := h.2
  exact muli (isInt_iv h k) (ofNat (e := 512) 512 ⟨rfl, by decide⟩) ⟨by push_cast; ring, by omega, by omega⟩
/-- The first row of the next turn's chunk. -/
theorem isInt_row1 : IsInt (Scalar.muli (Scalar.addi (Scf.iv a 1#32 k.val) 1#32) 512#32) (((a.toNat + (k.val + 1)) * 512 : Nat)) := by
  have hk := k_lt h k; have hr2 := h.2
  have h1 : IsInt (Scalar.addi (Scf.iv a 1#32 k.val) 1#32) ((a.toNat + (k.val + 1) : Nat)) :=
    addi (isInt_iv h k) (ofNat (e := 1) 1 ⟨rfl, by decide⟩) ⟨by push_cast; ring, by omega, by omega⟩
  exact muli h1 (ofNat (e := 512) 512 ⟨rfl, by decide⟩) ⟨by push_cast; ring, by omega, by omega⟩

/-- The cell the next copy signals. -/
theorem off4_eq : k0_off4 a b k = semOff (Ring.sl 2 (k.val + 1)) := vec_cons (isInt_opp h k) (by simp [Ring.sl, Fin.ofNat]) vec_nil
/-- The slot the next copy fills. -/
theorem off5_eq : k0_off5 a b k = slotOff (Ring.sl 2 (k.val + 1)) := vec_cons (isInt_opp h k) (by simp [Ring.sl, Fin.ofNat]) rfl
/-- The chunk the next copy takes. -/
theorem off6_eq (hk : a.toNat + (k.val + 1) < 32) : k0_off6 a b k = grpOff (Ring.bk 32 (a.toNat + (k.val + 1))) :=
  vec_cons (isInt_row1 h k) (by rw [Ring.bk_val hk]) rfl
/-- The cell a turn waits on. -/
theorem off7_eq : k0_off7 a b k = semOff (Ring.sl 2 k.val) := vec_cons (isInt_par h k) (by simp [Ring.sl, Fin.ofNat]) vec_nil
/-- The slot a turn waits for. -/
theorem off8_eq : k0_off8 a b k = slotOff (Ring.sl 2 k.val) := vec_cons (isInt_par h k) (by simp [Ring.sl, Fin.ofNat]) rfl
/-- The chunk a turn waits for. -/
theorem off9_eq : k0_off9 a b k = grpOff (Ring.bk 32 (a.toNat + k.val)) :=
  vec_cons (isInt_row h k) (by rw [Ring.bk_val (by have := k_lt h k; have := h.2; omega)]) rfl
/-- A turn starts a copy when its chunk is not the last. -/
theorem cond2_iff : k0_cond2 a b k = 1#1 ↔ a.toNat + k.val < b.toNat := by
  have hr2 := h.2
  have hi' : Scalar.cmpi .slt (Scf.iv a 1#32 k.val) b = 1#1 ↔ a.toNat + k.val < b.toNat := by
    constructor
    · intro e; by_contra hn
      exact slt_fails (isInt_iv h k) (isInt_toNat hr2) (by omega) e
    · intro hn; exact slt_holds (isInt_iv h k) (isInt_toNat hr2) (by omega)
  rw [← hi']
  show Scalar.cmpi .ne (Scalar.extui (Scalar.cmpi .slt (Scf.iv a 1#32 k.val) b)) 0#32 = 1#1 ↔ Scalar.cmpi .slt (Scf.iv a 1#32 k.val) b = 1#1
  generalize Scalar.cmpi .slt (Scf.iv a 1#32 k.val) b = q
  revert q; decide
end Chain
/-- The chunk the first copy takes. -/
theorem off3_eq {a : BitVec 32} (h : a.toNat < 32) : k0_off3 a = grpOff (Ring.bk 32 a.toNat) :=
  Affine.vec_cons (Affine.muli (e := ((a.toNat * 512 : Nat))) (isInt_toNat h) (Affine.ofNat (e := 512) 512 ⟨rfl, by decide⟩) ⟨by push_cast; ring, by omega, by omega⟩)
    (by rw [Ring.bk_val h]) rfl

/-! ## The side conditions -/

/-- A chunk is made of whole words. -/
theorem grp_words : ∀ b : Fin 32, (Rect.unit (s := S16384x1024) (grpOff b) S512x1024.size (grpOff_inb b)).WholeWords (EltTy.packing .bf16) := by decide
/-- A slot is made of whole words. -/
theorem slot_words : ∀ s : Fin 2, (Rect.unit (s := S2x512x1024) (slotOff s) S1x512x1024.size (slotOff_inb s)).WholeWords (EltTy.packing .bf16) := by decide
/-- The same, of an offset that is a chunk's. -/
theorem grp_words_of {off : Fin 2 → Nat} {b : Fin 32} (e : off = grpOff b) (hh) : (Rect.unit (s := S16384x1024) off S512x1024.size hh).WholeWords (EltTy.packing .bf16) := by
  subst e; exact grp_words b
/-- The same, of an offset that is a slot's. -/
theorem slot_words_of {off : Fin 3 → Nat} {s : Fin 2} (e : off = slotOff s) (hh) : (Rect.unit (s := S2x512x1024) off S1x512x1024.size hh).WholeWords (EltTy.packing .bf16) := by
  subst e; exact slot_words s
/-- The first copy's checks hold. -/
theorem chk1_of (i : grid0.Coords) (v0 a : BitVec 32) (h : a.toNat < 32) : k0_chk1 i v0 a :=
  ⟨fun _ => by rw [off3_eq h]; exact grpOff_inb _, fun _ hh => grp_words_of (off3_eq h) hh⟩
/-- The loop's checks hold. -/
theorem chk2_of (i : grid0.Coords) (v0 a b : BitVec 32) (h : Rng a b) : k0_chk2 i v0 a b := by
  have hr := h.1; have hr2 := h.2
  have hlt : ∀ k : Fin (k0_t1_loop a b).trips, k0_cond2 a b k = 1#1 → a.toNat + (k.val + 1) < 32 := fun k hc => by
    have := (cond2_iff h k).1 hc; omega
  have no2 : ∀ k : Fin (k0_t2_loop a b).trips, False := fun k => Nat.not_lt_zero _ (Nat.lt_of_lt_of_eq k.isLt (trips2_eq h))
  refine ⟨fun _ => ?_, fun k _ _ => ?_, fun k _ _ => ?_, fun k _ hc => ?_, fun k _ hc hh => grp_words_of (off6_eq h k (hlt k hc)) hh,
    fun k _ _ hh => slot_words_of (off5_eq h k) hh, fun k _ => ?_, fun k _ => ?_, fun k _ => ?_, fun k _ hh => grp_words_of (off9_eq h k) hh,
    fun k _ hh => slot_words_of (off8_eq h k) hh, fun k _ => ?_, fun _ => ?_, fun k => (no2 k).elim, fun k => (no2 k).elim, fun k => (no2 k).elim,
    fun k => (no2 k).elim, fun k => (no2 k).elim, fun k => (no2 k).elim, fun k => (no2 k).elim, fun k => (no2 k).elim, fun k => (no2 k).elim,
    fun k => (no2 k).elim, fun k => (no2 k).elim⟩
  · refine ⟨(by decide : (0 : Int) < (1#32 : BitVec 32).toInt), ?_⟩
    show a.toInt + (k0_t1_loop a b).trips * (1#32 : BitVec 32).toInt < 2 ^ 31
    rw [trips1_eq h, toInt_of_isInt (isInt_toNat (x := a) (by omega)), show (1#32 : BitVec 32).toInt = 1 from by decide]; omega
  · rw [off4_eq h k]; exact semOff_inb _
  · rw [off5_eq h k]; exact slotOff_inb _
  · rw [off6_eq h k (hlt k hc)]; exact grpOff_inb _
  · rw [off7_eq h k]; exact semOff_inb _
  · rw [off8_eq h k]; exact slotOff_inb _
  · rw [off9_eq h k]; exact grpOff_inb _
  · rw [off10_eq k]; exact slotOff_inb _
  · refine ⟨(by decide : (0 : Int) < (1#32 : BitVec 32).toInt), ?_⟩
    show (Scalar.addi a (Scalar.muli (Scalar.divsi (Scalar.subi (Scalar.addi b 1#32) a) 1#32) 1#32)).toInt + (k0_t2_loop a b).trips * (1#32 : BitVec 32).toInt < 2 ^ 31
    rw [trips2_eq h, toInt_of_isInt (isInt_35 h)]; omega

/-! ### The body's slices are `csm`, `rslot`, `grp` -/

section Canon
variable {a b : BitVec 32}

/-- A cell, by its offset. -/
theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
/-- A slot, by its offset. -/
theorem rslot_congr {off : Fin 3 → Nat} {s : Fin 2} (e : off = slotOff s) (hh hs) :
    (bufM.slice (Rect.unit (s := S2x512x1024) off S1x512x1024.size hh) hs).squeeze S512x1024 squeezes_S1x512x1024_S512x1024 = rslot s :=
  congrArg (fun M : Memref sig .tc .vmem S1x512x1024 .bf16 => M.squeeze S512x1024 squeezes_S1x512x1024_S512x1024) (Memref.slice_unit_congr _ e _ _ _ _)
/-- A chunk, by its offset. -/
theorem grp_congr {off : Fin 2 → Nat} {b : Fin 32} (e : off = grpOff b) (hh hs) :
    aM.slice (Rect.unit (s := S16384x1024) off S512x1024.size hh) hs = grp b := Memref.slice_unit_congr _ e _ (grpOff_inb b) _ (fun _ => rfl)

/-- The cell of slot 0, as the first copy names it. -/
@[sl_canon] theorem semL0 (hh) : (cc0_scratch3.slice (Rect.unit (s := S2) ![0] S1.size hh)).squeeze S_ squeezes_S1_S_ = csm 0 := csm_congr (by decide) _
/-- Slot 0, as the first copy names it. -/
@[sl_canon] theorem slotL0 (hh hs) : (bufM.slice (Rect.unit (s := S2x512x1024) ![0, 0, 0] S1x512x1024.size hh) hs).squeeze S512x1024 squeezes_S1x512x1024_S512x1024 = rslot 0 := rslot_congr (by decide) _ _
/-- The first chunk, as the first copy names it. -/
@[sl_canon] theorem grpL0 (h : a.toNat < 32) (hh hs) : aM.slice (Rect.unit (s := S16384x1024) (k0_off3 a) S512x1024.size hh) hs = grp (Ring.bk 32 a.toNat) := grp_congr (off3_eq h) _ _
/-- The cell the next copy signals, by the turn's number. -/
@[sl_canon] theorem semI (h : Rng a b) (k : Fin (k0_t1_loop a b).trips) (hh) :
    (cc0_scratch3.slice (Rect.unit (s := S2) (k0_off4 a b k) S1.size hh)).squeeze S_ squeezes_S1_S_ = csm (Ring.sl 2 (k.val + 1)) := csm_congr (off4_eq h k) _
/-- The slot the next copy fills, by the turn's number. -/
@[sl_canon] theorem slotI (h : Rng a b) (k : Fin (k0_t1_loop a b).trips) (hh hs) :
    (bufM.slice (Rect.unit (s := S2x512x1024) (k0_off5 a b k) S1x512x1024.size hh) hs).squeeze S512x1024 squeezes_S1x512x1024_S512x1024 = rslot (Ring.sl 2 (k.val + 1)) := rslot_congr (off5_eq h k) _ _
/-- The chunk the next copy takes, by the turn's number. -/
@[sl_canon] theorem grpI (h : Rng a b) (k : Fin (k0_t1_loop a b).trips) (hk : a.toNat + (k.val + 1) < 32) (hh hs) :
    aM.slice (Rect.unit (s := S16384x1024) (k0_off6 a b k) S512x1024.size hh) hs = grp (Ring.bk 32 (a.toNat + (k.val + 1))) := grp_congr (off6_eq h k hk) _ _
/-- The cell a turn waits on, by its number. -/
@[sl_canon] theorem semW (h : Rng a b) (k : Fin (k0_t1_loop a b).trips) (hh) :
    (cc0_scratch3.slice (Rect.unit (s := S2) (k0_off7 a b k) S1.size hh)).squeeze S_ squeezes_S1_S_ = csm (Ring.sl 2 k.val) := csm_congr (off7_eq h k) _
/-- The slot a turn waits for, by its number. -/
@[sl_canon] theorem slotW (h : Rng a b) (k : Fin (k0_t1_loop a b).trips) (hh hs) :
    (bufM.slice (Rect.unit (s := S2x512x1024) (k0_off8 a b k) S1x512x1024.size hh) hs).squeeze S512x1024 squeezes_S1x512x1024_S512x1024 = rslot (Ring.sl 2 k.val) := rslot_congr (off8_eq h k) _ _
/-- The chunk a turn waits for, by its number. -/
@[sl_canon] theorem grpW (h : Rng a b) (k : Fin (k0_t1_loop a b).trips) (hh hs) :
    aM.slice (Rect.unit (s := S16384x1024) (k0_off9 a b k) S512x1024.size hh) hs = grp (Ring.bk 32 (a.toNat + k.val)) := grp_congr (off9_eq h k) _ _

end Canon

/-! ## The pieces: a chunk home, a slot held, a slot's cell, a slot in flight -/

section Pieces
variable (c : Dev nD) (XA : Buf (Elt F) (aM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 32) : sProp 𝕄 := (grp b).view.loc (c : Thread nD τ) ↦[(grp b).view.set]{fullShare} XA
abbrev payload (b : Fin 32) : S512x1024.Idx → Elt F .bf16 := ReadAs.same.apply ((grp b).view.read (Elt F) XA)
abbrev landed (s : Fin 2) (b : Fin 32) (f : Buf (Elt F) ((rslot s).view.loc (c : Thread nD τ))) : Buf (Elt F) ((rslot s).view.loc (c : Thread nD τ)) :=
  (rslot s).view.writes (Elt F) f [⟨Rect.whole S512x1024, payload c XA b⟩]
abbrev NN (s : Fin 2) : ℕ := 32768
abbrev flightP (s : Fin 2) (b : Fin 32) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)

abbrev homes (S : Finset (Fin 32)) : sProp 𝕄 := bigSep S (homeP c XA)

/-- Neighbouring chunks differ. -/
theorem bk_ne {n : ℕ} (hn : n + 1 < 32) : Ring.bk 32 (n + 1) ≠ Ring.bk 32 n := by
  intro e; have := congrArg Fin.val e; rw [Ring.bk_val hn, Ring.bk_val (by omega)] at this; omega
/-- With chunk `n` away, chunk `n + 1` (about to go out) beside the rest; -/
theorem homes_here (n : ℕ) (hn : n + 1 < 32) :
    homes c XA (Finset.univ.erase (Ring.bk 32 n)) = iprop(homeP c XA (Ring.bk 32 (n + 1)) ∗ homes c XA ((Finset.univ.erase (Ring.bk 32 n)).erase (Ring.bk 32 (n + 1)))) := by
  conv_lhs => rw [← Finset.insert_erase (show Ring.bk 32 (n + 1) ∈ Finset.univ.erase (Ring.bk 32 n) from Finset.mem_erase.2 ⟨bk_ne hn, Finset.mem_univ _⟩)]
  exact bigSep_insert (Finset.notMem_erase _ _)
/-- with chunk `n + 1` away, chunk `n` (just back) beside that rest; -/
theorem homes_next (n : ℕ) (hn : n + 1 < 32) :
    homes c XA (Finset.univ.erase (Ring.bk 32 (n + 1))) = iprop(homeP c XA (Ring.bk 32 n) ∗ homes c XA ((Finset.univ.erase (Ring.bk 32 n)).erase (Ring.bk 32 (n + 1)))) := by
  conv_lhs => rw [← Finset.insert_erase (show Ring.bk 32 n ∈ Finset.univ.erase (Ring.bk 32 (n + 1)) from Finset.mem_erase.2 ⟨(bk_ne hn).symm, Finset.mem_univ _⟩)]
  rw [Finset.erase_right_comm]
  exact bigSep_insert (by rw [Finset.mem_erase, Finset.mem_erase]; tauto)
/-- all home, one beside the rest. -/
theorem homes_all (b : Fin 32) : homes c XA Finset.univ = iprop(homeP c XA b ∗ homes c XA (Finset.univ.erase b)) := by
  conv_lhs => rw [← Finset.insert_erase (Finset.mem_univ b)]
  exact bigSep_insert (Finset.notMem_erase _ _)

end Pieces

/-! ## Whole loads and stores -/

/-- The zero offset. -/
theorem off00 : (![0, 0] : Fin 2 → Nat) = fun _ => 0 := by decide
/-- The zero offset. -/
theorem off000 : (![0, 0, 0] : Fin 3 → Nat) = fun _ => 0 := by decide

section Whole
variable {sp : Space} {s : Shape} {e : EltTy}
/-- A buffer read after a store of the whole of it: what was stored. -/
theorem read_stored (m : Memref sig .tc sp s e) (f : m.view.ty.Contents (Elt F)) {off : Fin s.rank → Nat} (h0 : off = fun _ => 0) (h) (x : s.Idx → Elt F e)
    (L : List (View.Piece (Elt F) s e)) :
    m.view.read (Elt F) (m.view.writes (Elt F) f (⟨Rect.unit (s := s) off s.size h, x⟩ :: L)) = x := by
  subst h0; funext y
  have := View.read_writes_cons_emb m.view f (Rect.whole s) x L y
  rwa [Rect.emb_whole_apply] at this
/-- A load of the whole of a buffer: what it holds. -/
theorem load_whole {m : Memref sig .tc sp s e} (hm : m.IsWhole) {off : Fin s.rank → Nat} (h0 : off = fun _ => 0) (h) (x : s.Idx → Elt F e) :
    m.view.readAt (Elt F) (Rect.unit (s := s) off s.size h).toLoadRect (hm.unread x) = x := by
  subst h0; funext y
  exact (congrFun (hm.read_unread x) _).trans (congrArg x (Rect.emb_whole_apply s y))
/-- So a buffer just stored whole is owned at what was stored. -/
theorem stored_owns (c : Dev nD) (m : Memref sig .tc sp s e) {off : Fin s.rank → Nat} (h0 : off = fun _ => 0) (h) (x : s.Idx → Elt F e)
    (f : Buf (Elt F) (m.view.loc (c : Thread nD τ))) (L : List (View.Piece (Elt F) s e)) :
    (m.view.loc (c : Thread nD τ) ↦[m.view.set]{fullShare} m.view.writes (Elt F) f (⟨Rect.unit (s := s) off s.size h, x⟩ :: L) : sProp 𝕄)
      ⊢ iprop(∃ g, ⌜m.view.read (Elt F) g = x⌝ ∗ m.view.loc (c : Thread nD τ) ↦[m.view.set]{fullShare} g) := by
  iintro H
  iexists (m.view.writes (Elt F) f (⟨Rect.unit (s := s) off s.size h, x⟩ :: L))
  isplitr; · ipureintro; exact read_stored m f h0 h x L
  iexact H
end Whole

/-! ## One trip of the loop -/

section Trip

variable (c : Dev nD) (XA : Buf (Elt F) (aM.view.loc (c : Thread nD τ)))
  (i : grid0.Coords) (arg2 : Memref sig .tc .smem S74 .i32) (harg2 : arg2.IsWhole) (arg3 : Memref sig .tc .smem S1 .i32) (harg3 : arg3.IsWhole) (arg4 : Memref sig .tc .smem S74 .i32) (harg4 : arg4.IsWhole) (arg5 : Memref sig .tc .smem S74 .i32) (harg5 : arg5.IsWhole)
  (arg6 : Memref sig .tc .vmem S512x1 .i32) (harg6 : arg6.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S512x1 .f32) (harg11 : arg11.IsWhole) (arg12 : Memref sig .tc .vmem S512x1024 .bf16) (harg12 : arg12.IsWhole) (arg13 : Memref sig .tc .vmem S512x1024 .bf16) (harg13 : arg13.IsWhole)
  (arg14 : Memref sig .tc .vmem S512x1024 .f32) (harg14 : arg14.IsWhole) (arg15 : Memref sig .tc .vmem S512x1024 .bf16) (harg15 : arg15.IsWhole)
  (v0 : BitVec 32) (h1 : k0_cond1 i v0 = 1#1) (a b : BitVec 32) (hw : k0_chk2 i v0 a b) (src : Vec F S512x1 .i32)

/-- A block may be given a leading axis of one. -/
theorem casts_back : S512x1024.ShapeCasts S1x512x1024 := by decide
/-- Chunk `b` of the tokens, as the slot delivers it. -/
def chunk (b : Fin 32) : Vec F S1x512x1024 .bf16 := shapeCast S1x512x1024 (payload c XA b) casts_back

/-- The load of a slot through the whole buffer reads the chunk a transfer landed there. -/
theorem read_slot {off : Fin 3 → Nat} {s : Fin 2} (e : off = slotOff s) (hh) (f : Buf (Elt F) ((rslot s).view.loc (c : Thread nD τ))) (d : Fin 32) :
    bufM.view.readAt (Elt F) (Rect.unit (s := S2x512x1024) off S1x512x1024.size hh).toLoadRect (landed c XA s d f) = chunk c XA d := by
  subst e
  have h1 : shapeCast S512x1024 (bufM.view.readAt (Elt F) (Rect.unit (s := S2x512x1024) (slotOff s) S1x512x1024.size hh).toLoadRect (landed c XA s d f))
      shapeCasts_S1x512x1024_S512x1024 = payload c XA d :=
    (Memref.read_squeeze_slice bufM (Rect.unit (s := S2x512x1024) (slotOff s) S1x512x1024.size hh) (fun _ => rfl) squeezes_S1x512x1024_S512x1024
      shapeCasts_S1x512x1024_S512x1024 (landed c XA s d f)).symm.trans (View.read_writes_whole _ _ _)
  unfold chunk
  rw [← h1, shapeCast_shapeCast]

/-- The accumulator before trip `k`. -/
def accV : ℕ → Vec F S512x1024 .f32
  | 0 => k0_pay1 (F := F)
  | k + 1 => if h : k < (k0_t1_loop a b).trips then k0_pay2 a b src ⟨k, h⟩ (accV k) (chunk c XA (Ring.bk 32 (a.toNat + k))) else accV k

/-- The resources before trip `k`, but for the accumulator: chunk `k` in flight and the other slot free before the end, all home after it. -/
def ringAt (k : ℕ) : sProp 𝕄 :=
  if k < (k0_t1_loop a b).trips then
    iprop(homes c XA (Finset.univ.erase (Ring.bk 32 (a.toNat + k))) ∗ (∃ f, flightP c XA (Ring.sl 2 k) (Ring.bk 32 (a.toNat + k)) f)
      ∗ (∃ f, slotP c (Ring.sl 2 (k + 1)) f) ∗ cellP c (Ring.sl 2 (k + 1)))
  else iprop(homes c XA Finset.univ ∗ (∃ f, slotP c (Ring.sl 2 k) f) ∗ cellP c (Ring.sl 2 k) ∗ (∃ f, slotP c (Ring.sl 2 (k + 1)) f) ∗ cellP c (Ring.sl 2 (k + 1)))
def resAt (k : ℕ) : sProp 𝕄 :=
  iprop(⌜Rng a b⌝ ∗ owns (c : Thread nD τ) arg14 fullShare (accV c XA a b src k) ∗ (∃ W, owes (c : Thread nD τ) 0 W) ∗ ringAt c XA a b k)

abbrev tripG (k : Fin (k0_t1_loop a b).trips) : Prog (TpuEff nD τ sig (Elt F) Λ₀ .tc) Unit :=
  k0_t1_body (F := F) i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src k ()

/-- Slots alternate. -/
theorem sl2_add2 (k : ℕ) : Ring.sl 2 (k + 1 + 1) = Ring.sl 2 k := by rw [show k + 1 + 1 = k + 2 from rfl, Ring.sl_add]

set_option backward.proofsInPublic true in
/-- A turn of the loop keeps the ring's invariant and adds its chunk's one-hot product. -/
theorem tripRun (k : Fin (k0_t1_loop a b).trips) :
    resAt c XA arg14 a b src k ⊢ wp frame (wpE (defs₀ (F := F)) 𝒱₀ (c : Thread nD τ) none) Set.univ
      (tripG i arg2 harg2 arg3 harg3 arg4 harg4 arg5 harg5 arg6 harg6 arg8 harg8 arg9 harg9 arg10 harg10 arg11 harg11 arg12 harg12 arg13 harg13 arg14 harg14 arg15 harg15 v0 h1 a b hw src k)
      (fun _ => resAt c XA arg14 a b src (k.val + 1)) := by
  unfold resAt
  iintro ⟨%hR, H⟩
  irevert H
  have hkl := k_lt hR k
  have hr2 := hR.2
  have ht := trips1_eq hR
  rw [show accV c XA a b src (k.val + 1) = k0_pay2 a b src k (accV c XA a b src k) (chunk c XA (Ring.bk 32 (a.toNat + k.val))) from by rw [accV, dif_pos k.isLt]]
  by_cases hk : a.toNat + k.val < b.toNat
  · have hc2 : k0_cond2 a b k = 1#1 := (cond2_iff hR k).2 hk
    have hn : a.toNat + k.val + 1 < 32 := by omega
    have hn' : a.toNat + (k.val + 1) < 32 := by omega
    unfold ringAt
    rw [if_pos k.isLt, if_pos (show k.val + 1 < (k0_t1_loop a b).trips by omega), homes_here c XA _ hn,
      show a.toNat + (k.val + 1) = a.toNat + k.val + 1 from rfl, homes_next c XA _ hn, sl2_add2]
    unfold owns
    iintro ⟨⟨%fa, %hfa, HA⟩, ⟨%W, HW⟩, ⟨Hg, Hrest⟩, ⟨%f0, HF0⟩, ⟨%f1, HS1⟩, HC1⟩
    obtain rfl := harg14.eq_unread hfa
    dsimp only [tripG]
    sl_unfold [k0_t1_body]
    sl_exec (disch := first | sl_exact hc2)
    have hv : tripRun.sl.v63 c XA i v0 h1 a b hw k = chunk c XA (Ring.bk 32 (a.toNat + k.val)) := read_slot c XA (off10_eq k) (k0_off10_inb i v0 a b hw k h1) (rslot (Ring.sl 2 k.val)).view.junk _
    rw [hv, load_whole harg14 off00]
    sl_step
    isplitr; · ipureintro; exact hR
    isplitl [HA]
    · iapply (stored_owns c arg14 off00 inb_S512x1024_S512x1024_0_0 _ (harg14.unread (accV c XA a b src k)) []); iexact HA
    isplitl [HW]; · iexists _; iexact HW
    isplitl [HF0_src Hrest]
    · isplitl [HF0_src]; · iexact HF0_src
      iexact Hrest
    isplitl [HC1]; · iexists f1; iexact HC1
    isplitl [HF0_dst]; · iexists _; iexact HF0_dst
    iexact HF0
  · have hc2 : ¬ k0_cond2 a b k = 1#1 := fun e => hk ((cond2_iff hR k).1 e)
    unfold ringAt
    rw [if_pos k.isLt, if_neg (show ¬ k.val + 1 < (k0_t1_loop a b).trips by omega), homes_all c XA (Ring.bk 32 (a.toNat + k.val)), sl2_add2]
    unfold owns
    iintro ⟨⟨%fa, %hfa, HA⟩, ⟨%W, HW⟩, Hg, ⟨%f0, HF0⟩, ⟨%f1, HS1⟩, HC1⟩
    obtain rfl := harg14.eq_unread hfa
    dsimp only [tripG]
    sl_unfold [k0_t1_body]
    sl_exec (disch := first | sl_exact hc2)
    have hv : tripRun.sl.v63_1 c XA i v0 h1 a b hw k = chunk c XA (Ring.bk 32 (a.toNat + k.val)) := read_slot c XA (off10_eq k) (k0_off10_inb i v0 a b hw k h1) (rslot (Ring.sl 2 k.val)).view.junk _
    rw [hv, load_whole harg14 off00]
    sl_step
    isplitr; · ipureintro; exact hR
    isplitl [HA]
    · iapply (stored_owns c arg14 off00 inb_S512x1024_S512x1024_0_0 _ (harg14.unread (accV c XA a b src k)) []); iexact HA
    isplitl [HW]; · iexists _; iexact HW
    isplitl [HF0_src Hg]
    · isplitl [HF0_src]; · iexact HF0_src
      iexact Hg
    isplitl [HS1]; · iexists f1; iexact HS1
    isplitl [HC1]; · iexact HC1
    isplitl [HF0_dst]; · iexists _; iexact HF0_dst
    iexact HF0

set_option warn.classDefReducibility false in
/-- The loop's invariant, each trip's step by `tripRun`. -/
def loopInv1 : LoopInvTy_k0_t1 (F := F) Unit ℕ (UU nD τ) ℕ 𝒱₀ c none Set.univ i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src where
  inv k _ := resAt c XA arg14 a b src k
  step k _ := tripRun c XA i arg2 harg2 arg3 harg3 arg4 harg4 arg5 harg5 arg6 harg6 arg8 harg8 arg9 harg9 arg10 harg10 arg11 harg11 arg12 harg12 arg13 harg13 arg14 harg14 arg15 harg15 v0 h1 a b hw src k

set_option warn.classDefReducibility false in
/-- The second loop is empty: its invariant is the first loop's at its end. -/
def loopInv2 : LoopInvTy_k0_t2 (F := F) Unit ℕ (UU nD τ) ℕ 𝒱₀ c none Set.univ i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src where
  inv _ _ := resAt c XA arg14 a b src (k0_t1_loop a b).trips
  step k _ := by
    unfold resAt
    iintro ⟨%hR, -⟩
    exact (Nat.not_lt_zero _ (Nat.lt_of_lt_of_eq k.isLt (trips2_eq hR))).elim

/-- Both loops: from the invariant before the first trip, what follows from the invariant at the end. -/
theorem loopsRun (kk : Unit → Prog (TpuEff nD τ sig (Elt F) Λ₀ .tc) PUnit) (Q : PUnit → sProp 𝕄) :
    iprop(resAt c XA arg14 a b src 0 ∗ (resAt c XA arg14 a b src (k0_t1_loop a b).trips -∗ wp frame (wpE (defs₀ (F := F)) 𝒱₀ (c : Thread nD τ) none) Set.univ (kk ⟨⟩) Q))
      ⊢ wp frame (wpE (defs₀ (F := F)) 𝒱₀ (c : Thread nD τ) none) Set.univ
        ((k0_t1_loop a b).for (k0_t1_ok i v0 a b hw h1) ⟨⟩ (k0_t1_body (F := F) i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src) >>= fun _ =>
          (k0_t2_loop a b).for (k0_t2_ok i v0 a b hw h1) ⟨⟩ (k0_t2_body (F := F) i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src) >>= kk) Q := by
  have e2 : resAt c XA arg14 a b src (k0_t1_loop a b).trips ⊢ iprop((∀ acc : Unit, resAt c XA arg14 a b src (k0_t1_loop a b).trips -∗ wp frame (wpE (defs₀ (F := F)) 𝒱₀ (c : Thread nD τ) none) Set.univ (kk acc) Q)
      -∗ wp frame (wpE (defs₀ (F := F)) 𝒱₀ (c : Thread nD τ) none) Set.univ ((k0_t2_loop a b).for (k0_t2_ok i v0 a b hw h1) ⟨⟩ (k0_t2_body (F := F) i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src) >>= kk) Q) :=
    exec_loop Idealize.ShloMosaic.frame (wpE (defs₀ (F := F)) 𝒱₀ (c : Thread nD τ) none) Set.univ _ _ _ (k0_t2_ok i v0 a b hw h1) () _ (loopInv2 c XA i arg2 harg2 arg3 harg3 arg4 harg4 arg5 harg5 arg6 harg6 arg8 harg8 arg9 harg9 arg10 harg10 arg11 harg11 arg12 harg12 arg13 harg13 arg14 harg14 arg15 harg15 v0 h1 a b hw src)
  have e1 : resAt c XA arg14 a b src 0 ⊢ iprop((∀ acc : Unit, resAt c XA arg14 a b src (k0_t1_loop a b).trips -∗ wp frame (wpE (defs₀ (F := F)) 𝒱₀ (c : Thread nD τ) none) Set.univ
        ((k0_t2_loop a b).for (k0_t2_ok i v0 a b hw h1) ⟨⟩ (k0_t2_body (F := F) i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src) >>= kk) Q)
      -∗ wp frame (wpE (defs₀ (F := F)) 𝒱₀ (c : Thread nD τ) none) Set.univ ((k0_t1_loop a b).for (k0_t1_ok i v0 a b hw h1) ⟨⟩ (k0_t1_body (F := F) i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src) >>= fun _ =>
          (k0_t2_loop a b).for (k0_t2_ok i v0 a b hw h1) ⟨⟩ (k0_t2_body (F := F) i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3 v0 h1 a b hw src) >>= kk) Q) :=
    exec_loop Idealize.ShloMosaic.frame (wpE (defs₀ (F := F)) 𝒱₀ (c : Thread nD τ) none) Set.univ _ _ _ (k0_t1_ok i v0 a b hw h1) () _ (loopInv1 c XA i arg2 harg2 arg3 harg3 arg4 harg4 arg5 harg5 arg6 harg6 arg8 harg8 arg9 harg9 arg10 harg10 arg11 harg11 arg12 harg12 arg13 harg13 arg14 harg14 arg15 harg15 v0 h1 a b hw src)
  iintro ⟨HI, Hk⟩
  ihave H := e1 $$ HI
  iapply H
  iintro %acc HI
  ihave H := e2 $$ HI
  iapply H
  iintro %acc' HI
  iapply Hk
  iexact HI

end Trip

/-! ## The body at a point -/

section Body

variable (c : Dev nD) (XA : Buf (Elt F) (aM.view.loc (c : Thread nD τ)))
  (i : grid0.Coords) (arg2 : Memref sig .tc .smem S74 .i32) (harg2 : arg2.IsWhole) (arg3 : Memref sig .tc .smem S1 .i32) (harg3 : arg3.IsWhole) (arg4 : Memref sig .tc .smem S74 .i32) (harg4 : arg4.IsWhole) (arg5 : Memref sig .tc .smem S74 .i32) (harg5 : arg5.IsWhole)
  (arg6 : Memref sig .tc .vmem S512x1 .i32) (harg6 : arg6.IsWhole) (arg8 : Memref sig .tc .vmem S1x1024x512 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S512x1 .f32) (harg11 : arg11.IsWhole) (arg12 : Memref sig .tc .vmem S512x1024 .bf16) (harg12 : arg12.IsWhole) (arg13 : Memref sig .tc .vmem S512x1024 .bf16) (harg13 : arg13.IsWhole)
  (arg14 : Memref sig .tc .vmem S512x1024 .f32) (harg14 : arg14.IsWhole) (arg15 : Memref sig .tc .vmem S512x1024 .bf16) (harg15 : arg15.IsWhole)
/-- The words the body reads: the number of live tiles, the tile's first and last chunk. -/
abbrev nvW (xt1 : Buf (Elt F) (arg3.view.loc (c : Thread nD τ))) : BitVec 32 :=
  arg3.view.readAt (Elt F) (Rect.unit (s := S1) ![0] S1.size inb_S1_S1_0).toLoadRect xt1 (Shape.Idx.first (numel1_S1.symm ▸ Nat.one_pos))
abbrev tblW (m : Memref sig .tc .smem S74 .i32) (xt : Buf (Elt F) (m.view.loc (c : Thread nD τ))) : BitVec 32 :=
  m.view.readAt (Elt F) (Rect.unit (s := S74) (k0_off2 i) S1.size (k0_off2_inb i)).toLoadRect xt (Shape.Idx.first (numel1_S1.symm ▸ Nat.one_pos))
abbrev v8c : BitVec 1 := Scalar.cmpi .ne (Scalar.extui (Scalar.cmpi .eq (BitVec.ofNat 32 (i 1).val) 0#32)) 0#32
abbrev v10c (v0 : BitVec 32) : BitVec 1 := Scalar.cmpi .ne (Scalar.extui (Scalar.cmpi .slt (BitVec.ofNat 32 (i 0).val) v0)) 0#32

abbrev tbP {S : Shape} (m : Memref sig .tc .smem S .i32) (xt : Buf (Elt F) (m.view.loc (c : Thread nD τ))) : sProp 𝕄 :=
  m.view.loc (c : Thread nD τ) ↦{fullShare.right} xt

/-- The buffer's two slots, their cells, the tokens, nothing in flight. -/
def ringP : sProp 𝕄 :=
  iprop(homes c XA Finset.univ ∗ (∃ f, slotP c 0 f) ∗ (∃ f, slotP c 1 f) ∗ cellP c 0 ∗ cellP c 1)

/-- Turn 0 has slot 0. -/
theorem sl2_0 : Ring.sl 2 0 = 0 := Fin.ext (by rfl)
/-- Turn 1 has slot 1. -/
theorem sl2_1 : Ring.sl 2 (0 + 1) = 1 := Fin.ext (by rfl)

/-- Before the first trip: chunk `lo` in flight into slot 0. -/
theorem resAt_zero (a b : BitVec 32) (hR : Rng a b) (src : Vec F S512x1 .i32) (f0 f1 W) :
    iprop(owns (c : Thread nD τ) arg14 fullShare (k0_pay1 (F := F)) ∗ owes (c : Thread nD τ) 0 W ∗ homes c XA (Finset.univ.erase (Ring.bk 32 a.toNat))
        ∗ flightP c XA 0 (Ring.bk 32 a.toNat) f0 ∗ slotP c 1 f1 ∗ cellP c 1)
      ⊢ resAt c XA arg14 a b src 0 := by
  have ht := trips1_eq hR
  have hr := hR.1
  unfold resAt ringAt
  rw [if_pos (show 0 < (k0_t1_loop a b).trips by omega), sl2_0, sl2_1]
  iintro ⟨HA, HW, Hh, HF, HS, HC⟩
  isplitr; · ipureintro; exact hR
  isplitl [HA]; · iexact HA
  isplitl [HW]; · iexists W; iexact HW
  isplitl [Hh]; · iexact Hh
  isplitl [HF]; · iexists f0; iexact HF
  isplitl [HS]; · iexists f1; iexact HS
  iexact HC

/-- Slots `n % 2` and `(n + 1) % 2` are slots 0 and 1. -/
theorem two_of_roles (P : Fin 2 → sProp 𝕄) (T : ℕ) : iprop(P (Ring.sl 2 T) ∗ P (Ring.sl 2 (T + 1))) ⊢ iprop(P 0 ∗ P 1) := by
  rcases Nat.mod_two_eq_zero_or_one T with h | h
  · have e0 : Ring.sl 2 T = 0 := Fin.ext (by simp [Ring.sl, Fin.ofNat, h])
    have e1 : Ring.sl 2 (T + 1) = 1 := Fin.ext (by simp [Ring.sl, Fin.ofNat]; omega)
    rw [e0, e1]
  · have e0 : Ring.sl 2 T = 1 := Fin.ext (by simp [Ring.sl, Fin.ofNat, h])
    have e1 : Ring.sl 2 (T + 1) = 0 := Fin.ext (by simp [Ring.sl, Fin.ofNat]; omega)
    rw [e0, e1]; iintro ⟨H1, H0⟩; isplitl [H0] <;> iassumption

/-- After the last trip nothing is in flight. -/
theorem resAt_last (a b : BitVec 32) (src : Vec F S512x1 .i32) :
    resAt c XA arg14 a b src (k0_t1_loop a b).trips
      ⊢ iprop(owns (c : Thread nD τ) arg14 fullShare (accV c XA a b src (k0_t1_loop a b).trips) ∗ (∃ W, owes (c : Thread nD τ) 0 W) ∗ ringP c XA) := by
  unfold resAt ringAt ringP
  rw [if_neg (lt_irrefl _)]
  iintro ⟨-, HA, HW, Hh, HS0, HC0, HS1, HC1⟩
  iframe HA HW Hh
  ihave Hs := (two_of_roles (fun s => iprop(∃ f, slotP c s f)) (k0_t1_loop a b).trips) $$ [HS0 HS1]
  · isplitl [HS0]; · iexact HS0
    iexact HS1
  icases Hs with ⟨Hs0, Hs1⟩
  ihave Hc := (two_of_roles (cellP c) (k0_t1_loop a b).trips) $$ [HC0 HC1]
  · isplitl [HC0]; · iexact HC0
    iexact HC1
  icases Hc with ⟨Hc0, Hc1⟩
  iframe Hs0 Hs1 Hc0 Hc1

set_option maxHeartbeats 2000000 in
/-- The body at a live tile's first point: it gathers the rows and takes the first block of channels. -/
theorem runGather (src : Vec F S512x1 .i32) (x1 : Vec F S1x1024x512 .bf16) (x2 : Vec F S1x1024x512 .bf16) (x3 : Vec F S1x512x1024 .bf16)
    (xt1 : Buf (Elt F) (arg3.view.loc (c : Thread nD τ))) (xt2 : Buf (Elt F) (arg4.view.loc (c : Thread nD τ))) (xt3 : Buf (Elt F) (arg5.view.loc (c : Thread nD τ)))
    (hc1 : k0_cond1 i (nvW c arg3 xt1) = 1#1) (hc4 : v8c i = 1#1) (hc5 : v10c i (nvW c arg3 xt1) = 1#1) (hc6 : ¬ k0_cond6 i = 1#1)
    (hR : Rng (tblW c i arg4 xt2) (tblW c i arg5 xt3)) (K : PUnit → sProp 𝕄) :
    iprop(owns (c : Thread nD τ) arg6 fullShare src ∗ owns (c : Thread nD τ) arg8 fullShare x1 ∗ owns (c : Thread nD τ) arg9 fullShare x2 ∗ owns (c : Thread nD τ) arg10 fullShare x3
        ∗ tbP c arg3 xt1 ∗ tbP c arg4 xt2 ∗ tbP c arg5 xt3 ∗ (∃ A, owns (c : Thread nD τ) arg14 fullShare A) ∗ (∃ X, owns (c : Thread nD τ) arg15 fullShare X) ∗ ringP c XA
        ∗ (∃ W, owes (c : Thread nD τ) 0 W)
        ∗ (iprop(owns (c : Thread nD τ) arg6 fullShare src ∗ owns (c : Thread nD τ) arg8 fullShare x1 ∗ owns (c : Thread nD τ) arg9 fullShare x2 ∗ owns (c : Thread nD τ) arg10 fullShare x3
        ∗ tbP c arg3 xt1 ∗ tbP c arg4 xt2 ∗ tbP c arg5 xt3
        ∗ owns (c : Thread nD τ) arg14 fullShare (k0_pay6 (k0_pay4 (accV c XA (tblW c i arg4 xt2) (tblW c i arg5 xt3) src (k0_t1_loop (tblW c i arg4 xt2) (tblW c i arg5 xt3)).trips)) x1 x2 (k0_pay5 (F := F)) x3)
        ∗ owns (c : Thread nD τ) arg15 fullShare (k0_pay4 (accV c XA (tblW c i arg4 xt2) (tblW c i arg5 xt3) src (k0_t1_loop (tblW c i arg4 xt2) (tblW c i arg5 xt3)).trips)) ∗ ringP c XA
        ∗ (∃ W, owes (c : Thread nD τ) 0 W)) -∗ K ⟨⟩))
      ⊢ wp frame (wpE (defs₀ (F := F)) 𝒱₀ (c : Thread nD τ) none) Set.univ (cc0_moe_grouped_swiglu i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3) K := by
  have hra := hR.1
  have hrb := hR.2
  have hchk1 := chk1_of i (nvW c arg3 xt1) (tblW c i arg4 xt2) (by omega)
  have hchk2 := chk2_of i (nvW c arg3 xt1) _ _ hR
  have ha32 : (tblW c i arg4 xt2).toNat < 32 := by omega
  simp only [cc0_moe_grouped_swiglu_eq_skeleton]; unfold cc0_moe_grouped_swiglu_skel
  unfold ringP
  unfold owns
  iintro ⟨⟨%f0, %hf0, H0⟩, ⟨%f1, %hf1, H1⟩, ⟨%f2, %hf2, H2⟩, ⟨%f3, %hf3, H3⟩, HT1, HT2, HT3, ⟨%A, %fa, -, HA⟩, ⟨%X, %fx, -, HX⟩, ⟨Hall, ⟨%g0, Hs0⟩, ⟨%g1, Hs1⟩, Hc0, Hc1⟩, ⟨%W, HW⟩, Hk⟩
  obtain rfl := harg6.eq_unread hf0; obtain rfl := harg8.eq_unread hf1; obtain rfl := harg9.eq_unread hf2; obtain rfl := harg10.eq_unread hf3
  sl_exec (disch := first | sl_exact hc1 | sl_exact hc4 | sl_exact hc5 | sl_exact hc6 | sl_exact hchk1 | sl_exact hchk2)
  have hR' : Rng (runGather.sl.r_1 c i arg4 xt2) (runGather.sl.r_2 c i arg5 xt3) := hR
  have ha32' : (runGather.sl.r_1 c i arg4 xt2).toNat < 32 := ha32
  ihave Hall := (entails_of_eq (homes_all c XA (Ring.bk 32 (runGather.sl.r_1 c i arg4 xt2).toNat))) $$ Hall
  icases Hall with ⟨Hg, Hrest⟩
  sl_exec
  rw [load_whole harg6 off00]
  iapply (loopsRun c XA i arg2 harg2 arg3 harg3 arg4 harg4 arg5 harg5 arg6 harg6 arg8 harg8 arg9 harg9 arg10 harg10 arg11 harg11 arg12 harg12 arg13 harg13 arg14 harg14 arg15 harg15 _ hc1 _ _ _ src _ _)
  isplitl [HA HW Hrest Hc0 Hs1 Hc1]
  · iapply (resAt_zero c XA arg14 _ _ hR src g0 g1 W)
    isplitl [HA]
    · unfold owns
      iapply (stored_owns c arg14 off00 inb_S512x1024_S512x1024_0_0 _ arg14.view.junk []); iexact HA
    iframe HW Hrest Hc0 Hs1 Hc1
  iintro HI
  ihave HI := (resAt_last c XA arg14 _ _ src) $$ HI
  unfold owns
  icases HI with ⟨⟨%fa', %hfa', HA⟩, HW, HR⟩
  obtain rfl := harg14.eq_unread hfa'
  sl_exec (disch := first | sl_exact hc4 | sl_exact hc5 | sl_exact hc6)
  have eX : runGather.sl.HX_1 c XA i arg4 arg5 arg14 harg14 src xt2 xt3
      = [⟨Rect.unit (s := S512x1024) ![0, 0] S512x1024.size inb_S512x1024_S512x1024_0_0,
          k0_pay4 (accV c XA (tblW c i arg4 xt2) (tblW c i arg5 xt3) src (k0_t1_loop (tblW c i arg4 xt2) (tblW c i arg5 xt3)).trips)⟩] := by
    unfold runGather.sl.HX_1
    rw [load_whole harg14 off00]; rfl
  have e14 : runGather.sl.v14 c XA i arg4 arg5 arg14 harg14 arg15 src xt2 xt3
      = k0_pay4 (accV c XA (tblW c i arg4 xt2) (tblW c i arg5 xt3) src (k0_t1_loop (tblW c i arg4 xt2) (tblW c i arg5 xt3)).trips) := by
    unfold runGather.sl.v14
    rw [eX]; exact View.readCov_unit_zero _ off00 _ _
  have e29 : runGather.sl.v29 c arg14 = k0_pay5 (F := F) := by
    unfold runGather.sl.v29
    exact View.readCov_unit_zero _ off00 _ _
  rw [eX, e14, e29, load_whole harg8 off000, load_whole harg9 off000, load_whole harg10 off000]
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iframe HT1 HT2 HT3
  isplitl [HA]
  · iapply (stored_owns c arg14 off00 inb_S512x1024_S512x1024_0_0 _ (harg14.unread (accV c XA (runGather.sl.r_1 c i arg4 xt2) (runGather.sl.r_2 c i arg5 xt3) src
          (k0_t1_loop (runGather.sl.r_1 c i arg4 xt2) (runGather.sl.r_2 c i arg5 xt3)).trips)) [_]); iexact HA
  isplitl [HX]
  · iapply (stored_owns c arg15 off00 inb_S512x1024_S512x1024_0_0 _ fx []); iexact HX
  isplitl [HR]; · unfold ringP; iexact HR
  iexact HW

set_option maxHeartbeats 2000000 in
/-- A dead tile's first point zeroes the accumulator. -/
theorem runDead0 (x1 : Vec F S1x1024x512 .bf16) (x2 : Vec F S1x1024x512 .bf16) (x3 : Vec F S1x512x1024 .bf16) (g : Vec F S512x1 .f32)
    (A : Vec F S512x1024 .f32) (X : Vec F S512x1024 .bf16) (xt1 : Buf (Elt F) (arg3.view.loc (c : Thread nD τ)))
    (hc1 : ¬ k0_cond1 i (nvW c arg3 xt1) = 1#1) (hc4 : v8c i = 1#1) (hc5 : ¬ v10c i (nvW c arg3 xt1) = 1#1) (hc6 : ¬ k0_cond6 i = 1#1) (K : PUnit → sProp 𝕄) :
    iprop(tbP c arg3 xt1 ∗ owns (c : Thread nD τ) arg14 fullShare A
        ∗ (iprop(tbP c arg3 xt1 ∗ owns (c : Thread nD τ) arg14 fullShare (k0_pay5 (F := F))) -∗ K ⟨⟩))
      ⊢ wp frame (wpE (defs₀ (F := F)) 𝒱₀ (c : Thread nD τ) none) Set.univ (cc0_moe_grouped_swiglu i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3) K := by
  simp only [cc0_moe_grouped_swiglu_eq_skeleton]; unfold cc0_moe_grouped_swiglu_skel
  unfold owns
  iintro ⟨HT1, ⟨%fa, %hfa, HA⟩, Hk⟩
  obtain rfl := harg14.eq_unread hfa
  sl_exec (disch := first | sl_exact hc1 | sl_exact hc4 | sl_exact hc5 | sl_exact hc6)
  sl_step
  iapply Hk
  isplitl [HT1]; · iexact HT1
  iapply (stored_owns c arg14 off00 inb_S512x1024_S512x1024_0_0 _ (harg14.unread A) []); iexact HA

set_option maxHeartbeats 2000000 in
/-- A dead tile's middle points do nothing. -/
theorem runDead (x1 : Vec F S1x1024x512 .bf16) (x2 : Vec F S1x1024x512 .bf16) (x3 : Vec F S1x512x1024 .bf16) (g : Vec F S512x1 .f32)
    (A : Vec F S512x1024 .f32) (X : Vec F S512x1024 .bf16) (xt1 : Buf (Elt F) (arg3.view.loc (c : Thread nD τ)))
    (hc1 : ¬ k0_cond1 i (nvW c arg3 xt1) = 1#1) (hc4 : ¬ v8c i = 1#1) (hc5 : ¬ v10c i (nvW c arg3 xt1) = 1#1) (hc6 : ¬ k0_cond6 i = 1#1) (K : PUnit → sProp 𝕄) :
    iprop(tbP c arg3 xt1 ∗ owns (c : Thread nD τ) arg14 fullShare A
        ∗ (iprop(tbP c arg3 xt1 ∗ owns (c : Thread nD τ) arg14 fullShare A) -∗ K ⟨⟩))
      ⊢ wp frame (wpE (defs₀ (F := F)) 𝒱₀ (c : Thread nD τ) none) Set.univ (cc0_moe_grouped_swiglu i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3) K := by
  simp only [cc0_moe_grouped_swiglu_eq_skeleton]; unfold cc0_moe_grouped_swiglu_skel
  unfold owns
  iintro ⟨HT1, ⟨%fa, %hfa, HA⟩, Hk⟩
  obtain rfl := harg14.eq_unread hfa
  sl_exec (disch := first | sl_exact hc1 | sl_exact hc4 | sl_exact hc5 | sl_exact hc6)
  sl_step
  iapply Hk
  isplitl [HT1]; · iexact HT1
  iexists _; isplitr; · ipureintro; exact hfa
  iexact HA

set_option maxHeartbeats 2000000 in
/-- A dead tile's last point writes the outputs. -/
theorem runDeadLast (x1 : Vec F S1x1024x512 .bf16) (x2 : Vec F S1x1024x512 .bf16) (x3 : Vec F S1x512x1024 .bf16) (g : Vec F S512x1 .f32)
    (A : Vec F S512x1024 .f32) (X : Vec F S512x1024 .bf16) (xt1 : Buf (Elt F) (arg3.view.loc (c : Thread nD τ)))
    (hc1 : ¬ k0_cond1 i (nvW c arg3 xt1) = 1#1) (hc4 : ¬ v8c i = 1#1) (hc5 : ¬ v10c i (nvW c arg3 xt1) = 1#1) (hc6 : k0_cond6 i = 1#1) (K : PUnit → sProp 𝕄) :
    iprop(owns (c : Thread nD τ) arg11 fullShare g ∗ tbP c arg3 xt1 ∗ owns (c : Thread nD τ) arg14 fullShare A ∗ (∃ d, owns (c : Thread nD τ) arg12 fullShare d) ∗ (∃ d, owns (c : Thread nD τ) arg13 fullShare d)
        ∗ (iprop(owns (c : Thread nD τ) arg11 fullShare g ∗ tbP c arg3 xt1 ∗ owns (c : Thread nD τ) arg14 fullShare A ∗ owns (c : Thread nD τ) arg12 fullShare (k0_pay8 A g) ∗ owns (c : Thread nD τ) arg13 fullShare (k0_pay9 A g)) -∗ K ⟨⟩))
      ⊢ wp frame (wpE (defs₀ (F := F)) 𝒱₀ (c : Thread nD τ) none) Set.univ (cc0_moe_grouped_swiglu i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3) K := by
  simp only [cc0_moe_grouped_swiglu_eq_skeleton]; unfold cc0_moe_grouped_swiglu_skel
  unfold owns
  iintro ⟨⟨%fH4, %hfH4, H4⟩, HT1, ⟨%fa, %hfa, HA⟩, ⟨%d5, %f5, -, H5⟩, ⟨%d6, %f6, -, H6⟩, Hk⟩
  obtain rfl := harg11.eq_unread hfH4
  obtain rfl := harg14.eq_unread hfa
  sl_exec (disch := first | sl_exact hc1 | sl_exact hc4 | sl_exact hc5 | sl_exact hc6)
  rw [load_whole harg14 off00, load_whole harg11 off00]
  sl_step
  iapply Hk
  isplitl [H4]
  · iexists _; isplitr; · ipureintro; exact hfH4
    iexact H4
  isplitl [HT1]; · iexact HT1
  isplitl [HA]
  · iexists _; isplitr; · ipureintro; exact hfa
    iexact HA
  isplitl [H5]
  · iapply (stored_owns c arg12 off00 inb_S512x1024_S512x1024_0_0 _ f5 []); iexact H5
  iapply (stored_owns c arg13 off00 inb_S512x1024_S512x1024_0_0 _ f6 []); iexact H6

set_option maxHeartbeats 2000000 in
/-- A live tile's middle points add a block of the hidden axis. -/
theorem runLive (x1 : Vec F S1x1024x512 .bf16) (x2 : Vec F S1x1024x512 .bf16) (x3 : Vec F S1x512x1024 .bf16) (g : Vec F S512x1 .f32)
    (A : Vec F S512x1024 .f32) (X : Vec F S512x1024 .bf16) (xt1 : Buf (Elt F) (arg3.view.loc (c : Thread nD τ)))
    (hc1 : ¬ k0_cond1 i (nvW c arg3 xt1) = 1#1) (hc4 : ¬ v8c i = 1#1) (hc5 : v10c i (nvW c arg3 xt1) = 1#1) (hc6 : ¬ k0_cond6 i = 1#1) (K : PUnit → sProp 𝕄) :
    iprop(owns (c : Thread nD τ) arg8 fullShare x1 ∗ owns (c : Thread nD τ) arg9 fullShare x2 ∗ owns (c : Thread nD τ) arg10 fullShare x3 ∗ tbP c arg3 xt1 ∗ owns (c : Thread nD τ) arg14 fullShare A ∗ owns (c : Thread nD τ) arg15 fullShare X
        ∗ (iprop(owns (c : Thread nD τ) arg8 fullShare x1 ∗ owns (c : Thread nD τ) arg9 fullShare x2 ∗ owns (c : Thread nD τ) arg10 fullShare x3 ∗ tbP c arg3 xt1 ∗ owns (c : Thread nD τ) arg14 fullShare (k0_pay6 X x1 x2 A x3) ∗ owns (c : Thread nD τ) arg15 fullShare X) -∗ K ⟨⟩))
      ⊢ wp frame (wpE (defs₀ (F := F)) 𝒱₀ (c : Thread nD τ) none) Set.univ (cc0_moe_grouped_swiglu i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3) K := by
  simp only [cc0_moe_grouped_swiglu_eq_skeleton]; unfold cc0_moe_grouped_swiglu_skel
  unfold owns
  iintro ⟨⟨%fH1, %hfH1, H1⟩, ⟨%fH2, %hfH2, H2⟩, ⟨%fH3, %hfH3, H3⟩, HT1, ⟨%fa, %hfa, HA⟩, ⟨%fx, %hfx, HX⟩, Hk⟩
  obtain rfl := harg8.eq_unread hfH1
  obtain rfl := harg9.eq_unread hfH2
  obtain rfl := harg10.eq_unread hfH3
  obtain rfl := harg14.eq_unread hfa
  obtain rfl := harg15.eq_unread hfx
  sl_exec (disch := first | sl_exact hc1 | sl_exact hc4 | sl_exact hc5 | sl_exact hc6)
  rw [load_whole harg14 off00, load_whole harg15 off00, load_whole harg8 off000, load_whole harg9 off000, load_whole harg10 off000]
  sl_step
  iapply Hk
  isplitl [H1]
  · iexists _; isplitr; · ipureintro; exact hfH1
    iexact H1
  isplitl [H2]
  · iexists _; isplitr; · ipureintro; exact hfH2
    iexact H2
  isplitl [H3]
  · iexists _; isplitr; · ipureintro; exact hfH3
    iexact H3
  isplitl [HT1]; · iexact HT1
  isplitl [HA]
  · iapply (stored_owns c arg14 off00 inb_S512x1024_S512x1024_0_0 _ (harg14.unread A) []); iexact HA
  iexists _; isplitr; · ipureintro; exact hfx
  iexact HX

set_option maxHeartbeats 2000000 in
/-- A live tile's last point adds its block and writes the outputs. -/
theorem runLiveLast (x1 : Vec F S1x1024x512 .bf16) (x2 : Vec F S1x1024x512 .bf16) (x3 : Vec F S1x512x1024 .bf16) (g : Vec F S512x1 .f32)
    (A : Vec F S512x1024 .f32) (X : Vec F S512x1024 .bf16) (xt1 : Buf (Elt F) (arg3.view.loc (c : Thread nD τ)))
    (hc1 : ¬ k0_cond1 i (nvW c arg3 xt1) = 1#1) (hc4 : ¬ v8c i = 1#1) (hc5 : v10c i (nvW c arg3 xt1) = 1#1) (hc6 : k0_cond6 i = 1#1) (K : PUnit → sProp 𝕄) :
    iprop(owns (c : Thread nD τ) arg8 fullShare x1 ∗ owns (c : Thread nD τ) arg9 fullShare x2 ∗ owns (c : Thread nD τ) arg10 fullShare x3 ∗ owns (c : Thread nD τ) arg11 fullShare g ∗ tbP c arg3 xt1 ∗ owns (c : Thread nD τ) arg14 fullShare A ∗ owns (c : Thread nD τ) arg15 fullShare X ∗ (∃ d, owns (c : Thread nD τ) arg12 fullShare d) ∗ (∃ d, owns (c : Thread nD τ) arg13 fullShare d)
        ∗ (iprop(owns (c : Thread nD τ) arg8 fullShare x1 ∗ owns (c : Thread nD τ) arg9 fullShare x2 ∗ owns (c : Thread nD τ) arg10 fullShare x3 ∗ owns (c : Thread nD τ) arg11 fullShare g ∗ tbP c arg3 xt1 ∗ owns (c : Thread nD τ) arg14 fullShare (k0_pay6 X x1 x2 A x3) ∗ owns (c : Thread nD τ) arg15 fullShare X ∗ owns (c : Thread nD τ) arg12 fullShare (k0_pay8 (k0_pay6 X x1 x2 A x3) g) ∗ owns (c : Thread nD τ) arg13 fullShare (k0_pay9 (k0_pay6 X x1 x2 A x3) g)) -∗ K ⟨⟩))
      ⊢ wp frame (wpE (defs₀ (F := F)) 𝒱₀ (c : Thread nD τ) none) Set.univ (cc0_moe_grouped_swiglu i arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) cc0_scratch3) K := by
  simp only [cc0_moe_grouped_swiglu_eq_skeleton]; unfold cc0_moe_grouped_swiglu_skel
  unfold owns
  iintro ⟨⟨%fH1, %hfH1, H1⟩, ⟨%fH2, %hfH2, H2⟩, ⟨%fH3, %hfH3, H3⟩, ⟨%fH4, %hfH4, H4⟩, HT1, ⟨%fa, %hfa, HA⟩, ⟨%fx, %hfx, HX⟩, ⟨%d5, %f5, -, H5⟩, ⟨%d6, %f6, -, H6⟩, Hk⟩
  obtain rfl := harg8.eq_unread hfH1
  obtain rfl := harg9.eq_unread hfH2
  obtain rfl := harg10.eq_unread hfH3
  obtain rfl := harg11.eq_unread hfH4
  obtain rfl := harg14.eq_unread hfa
  obtain rfl := harg15.eq_unread hfx
  sl_exec (disch := first | sl_exact hc1 | sl_exact hc4 | sl_exact hc5 | sl_exact hc6)
  have e14 : runLiveLast.sl.HA_1 c arg8 harg8 arg9 harg9 arg10 harg10 arg14 harg14 arg15 harg15 x1 x2 x3 A X = [⟨Rect.unit (s := S512x1024) ![0, 0] S512x1024.size inb_S512x1024_S512x1024_0_0, (k0_pay6 X x1 x2 A x3)⟩] := by
    unfold runLiveLast.sl.HA_1
    rw [load_whole harg14 off00, load_whole harg15 off00, load_whole harg8 off000, load_whole harg9 off000, load_whole harg10 off000]
  have e15 : runLiveLast.sl.v14 c arg8 harg8 arg9 harg9 arg10 harg10 arg14 harg14 arg15 harg15 x1 x2 x3 A X = (k0_pay6 X x1 x2 A x3) := by
    unfold runLiveLast.sl.v14
    rw [e14]; exact View.readCov_unit_zero _ off00 _ _
  rw [e14, e15, load_whole harg11 off00]
  sl_step
  iapply Hk
  isplitl [H1]
  · iexists _; isplitr; · ipureintro; exact hfH1
    iexact H1
  isplitl [H2]
  · iexists _; isplitr; · ipureintro; exact hfH2
    iexact H2
  isplitl [H3]
  · iexists _; isplitr; · ipureintro; exact hfH3
    iexact H3
  isplitl [H4]
  · iexists _; isplitr; · ipureintro; exact hfH4
    iexact H4
  isplitl [HT1]; · iexact HT1
  isplitl [HA]
  · iapply (stored_owns c arg14 off00 inb_S512x1024_S512x1024_0_0 _ (harg14.unread A) []); iexact HA
  isplitl [HX]
  · iexists _; isplitr; · ipureintro; exact hfx
    iexact HX
  isplitl [H5]
  · iapply (stored_owns c arg12 off00 inb_S512x1024_S512x1024_0_0 _ f5 []); iexact H5
  iapply (stored_owns c arg13 off00 inb_S512x1024_S512x1024_0_0 _ f6 []); iexact H6

end Body

end Cert.Moe.KernelIdeal

end
-- ==== Proof.MoeLI.lean ====
/-
  The grouped expert kernel's run: its launch, and what every final state holds.

  The kernel visits the points (tile, block of the hidden axis) in order. `outs` gives, point by point, what the
  accumulator and the gathered rows hold after it; the region invariant keeps them, the two slots of the buffer and
  their cells, and the tokens. Here: the invariant, the body at every point, the launch, the frame, and the result
  arrays as the pipeline leaves them.
-/
module

public import proofs.«01_k».proof.Proof.MoeI
public import Idealize.ShloMosaic.Lib.Pipeline.FrameBody
public import Idealize.ShloMosaic.Lib.WordCmp

@[expose] public section

set_option maxRecDepth 16384

noncomputable section

namespace Cert.Moe.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores, its chunks and slots -/

abbrev osem : Fin 2 → SemLoc sig := fun s => .dma (csm s).sem
/-- The kernel's cells are its own. -/
theorem ownSemFacts : Pipeline.OwnSemFacts spec0 osem := by decide

abbrev G32 (b : Fin 32) : Finset S16384x1024.Idx := (Rect.unit (s := S16384x1024) (grpOff b) S512x1024.size (grpOff_inb b)).set
abbrev S2s (s : Fin 2) : Finset S2x512x1024.Idx := (Rect.unit (s := S2x512x1024) (slotOff s) S1x512x1024.size (slotOff_inb s)).set

/-- A chunk's entries in the array. -/
theorem grp_set (b : Fin 32) : (grp b : Memref sig .tc .hbm _ _).view.set = G32 b := View.set_slice_whole _ _
/-- A slot's entries in its buffer. -/
theorem rslot_set (s : Fin 2) : (rslot s : Memref sig .tc .vmem _ _).view.set = S2s s := (View.set_reshape _ _).trans (View.set_slice_whole _ _)

/-- An entry is in the chunk of its row. -/
theorem mem_G32 (b : Fin 32) (y : S16384x1024.Idx) : y ∈ G32 b ↔ (y 0).val / 512 = b.val := by
  rw [Rect.mem_set_unit]
  have h1 : (y 1).val < 1024 := (y 1).isLt
  constructor
  · intro H; have a0 : b.val * 512 ≤ (y 0).val ∧ (y 0).val < b.val * 512 + 512 := H 0; omega
  · intro H i; fin_cases i
    · show b.val * 512 ≤ (y 0).val ∧ (y 0).val < b.val * 512 + 512; omega
    · show 0 ≤ (y 1).val ∧ (y 1).val < 0 + 1024; omega
/-- An entry is in the slot of its leading number. -/
theorem mem_S2s (s : Fin 2) (y : S2x512x1024.Idx) : y ∈ S2s s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
/-- Chunks do not meet. -/
theorem G32_disjoint : ∀ b b' : Fin 32, b ≠ b' → Disjoint (G32 b) (G32 b') := by
  intro b b' hne; rw [Finset.disjoint_left]; intro y hy hy'; rw [mem_G32] at hy hy'; exact hne (Fin.ext (hy.symm.trans hy'))
/-- The chunks cover the array. -/
theorem G32_cover : (Finset.univ : Finset (Fin 32)).biUnion G32 = Finset.univ := by
  ext y; simp only [Finset.mem_biUnion, Finset.mem_univ, true_and, iff_true]
  have h : (y 0).val < 16384 := (y 0).isLt
  exact ⟨⟨(y 0).val / 512, by omega⟩, by rw [mem_G32]⟩
/-- Slots do not meet. -/
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
/-- The slots cover the buffer. -/
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

omit [FloatOps F] in
/-- A conjunction over two. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The tokens whole are their 32 chunks. -/
theorem a_eq (c : Dev nD) (f : Buf (Elt F) ((c : Thread nD τ).loc main_arg5)) :
    (((c : Thread nD τ).loc main_arg5) ↦{fullShare} f : sProp 𝕄) = homes c f Finset.univ := by
  rw [Ring.pointsTo_blocks (ℓ := (c : Thread nD τ).loc main_arg5) G32 G32_disjoint G32_cover]
  exact bigSep_congr fun b _ => by rw [← grp_set]; rfl

omit [FloatOps F] in
/-- A slot held is its part of the buffer held. -/
theorem slotP_eq (c : Dev nD) (s : Fin 2) (f) : slotP c s f = (((c : Thread nD τ).loc cc0_scratch2) ↦[S2s s]{fullShare} f : sProp 𝕄) :=
  congrArg (fun S => (_ ↦[S]{fullShare} f : sProp 𝕄)) (rslot_set s)
/-- The buffer whole is its two slots, and back. -/
theorem buf_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) S2s S2s_disjoint S2s_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
/-- The two slots make the buffer. -/
theorem buf_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) S2s S2s_disjoint S2s_cover f0)
  irw [bigSep_fin2]
  isplitl [H0]
  · iexists f0; iapply (entails_of_eq (slotP_eq c 0 f0)); iexact H0
  · iexists f1; iapply (entails_of_eq (slotP_eq c 1 f1)); iexact H1

omit [FloatOps F] in
/-- The kernel's own cells at zero are the two slots' cells. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_fin2]

/-! ## The launch memory -/

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
/-- The program is this launch alone. -/
theorem hmain (𝒱₀ : Variants) : Pipeline.HMainP (Ix := Unit) (Name := ℕ) (U := UU nD τ) (Lvl := ℕ) pcfgs 0 defs₀ 𝒱₀ m (main (F := F)) (V m) :=
  Pipeline.hmainP_region pcfgs 0 defs₀ 𝒱₀ m main fun c => (main_chain c).trans rfl

/-- The tables' contents when the region is entered (the program runs on one device). -/
def tbl : pre0.Contents (Elt F) := fun j => V m (0 : Dev nD) (pre0.ref j)
/-- A table's contents at the launch. -/
theorem V_pre (c : Dev nD) (j : Fin 4) : V m c (pre0.ref j) = tbl m j := by
  obtain rfl : c = 0 := Subsingleton.elim _ _; rfl
/-- The pipeline's side condition of the tables' contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S74 .i32 := Memref.whole main_arg0
abbrev tbM0_1 : Memref sig .tc .smem S1 .i32 := Memref.whole main_arg1
abbrev tbM0_2 : Memref sig .tc .smem S74 .i32 := Memref.whole main_arg2
abbrev tbM0_3 : Memref sig .tc .smem S74 .i32 := Memref.whole main_arg3

/-- The tables held through the launch, one by one. -/
theorem PhiT0_eq (c : Dev nD) : (Pipeline.ΦT pre0 (tbl m) c : sProp 𝕄) = iprop(tbP c tbM0_0 (tbl m 0) ∗ tbP c tbM0_1 (tbl m 1) ∗ tbP c tbM0_2 (tbl m 2) ∗ tbP c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- Window `w`'s block at point `t`, read off its array at launch. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The conditions, at a point -/

/-- A point's tile. -/
theorem coords0 (t : Fin grid0.N) : (grid0.coords t 0).val = t.val / 7 := by
  have ht : t.val < 518 := Nat.lt_of_lt_of_eq t.isLt N_0
  have e0 : (grid0.coords t 0).val = t.val / 7 % 74 := Pipeline.Grid.coords_val t 0 (by decide) rfl
  omega
/-- A point's block of channels. -/
theorem coords1 (t : Fin grid0.N) : (grid0.coords t 1).val = t.val % 7 := by
  have e1 : (grid0.coords t 1).val = t.val / 1 % 7 := Pipeline.Grid.coords_val t 1 (by decide) rfl
  omega
/-- The first block of a tile. -/
theorem hv8c : ∀ t : Fin grid0.N, v8c (grid0.coords t) = 1#1 ↔ t.val % 7 = 0 :=
  (fun t => by
    have ht : t.val < 518 := Nat.lt_of_lt_of_eq t.isLt N_0
    have e1 : (grid0.coords t 1).val = t.val / 1 % 7 := Pipeline.Grid.coords_val t 1 (by decide) rfl
    simp only [v8c, e1]
    word_cmp
   : ∀ t : Fin grid0.N, v8c (grid0.coords t) = 1#1 ↔ t.val % 7 = 0)
/-- The last block of a tile. -/
theorem hcond6 : ∀ t : Fin grid0.N, k0_cond6 (grid0.coords t) = 1#1 ↔ t.val % 7 = 6 :=
  (fun t => by
    have ht : t.val < 518 := Nat.lt_of_lt_of_eq t.isLt N_0
    have e1 : (grid0.coords t 1).val = t.val / 1 % 7 := Pipeline.Grid.coords_val t 1 (by decide) rfl
    simp only [k0_cond6, e1]
    word_cmp
   : ∀ t : Fin grid0.N, k0_cond6 (grid0.coords t) = 1#1 ↔ t.val % 7 = 6)
/-- The gather runs at the first block of a live tile. -/
theorem cond1_iff (i : grid0.Coords) (v0 : BitVec 32) : k0_cond1 i v0 = 1#1 ↔ v10c i v0 = 1#1 ∧ v8c i = 1#1 := by
  have h : ∀ p q : BitVec 1, Scalar.cmpi .ne (Scalar.extui (Scalar.andi p q) : BitVec 32) 0#32 = 1#1
      ↔ Scalar.cmpi .ne (Scalar.extui p : BitVec 32) 0#32 = 1#1 ∧ Scalar.cmpi .ne (Scalar.extui q : BitVec 32) 0#32 = 1#1 := by decide
  exact h _ _

/-- The tile of point `t` is live: it is one of the first `nv`. -/
def live (c : Dev nD) (t : Fin grid0.N) : Prop := v10c (grid0.coords t) (nvW c tbM0_1 (tbl m 1)) = 1#1
instance (c : Dev nD) (t : Fin grid0.N) : Decidable (live m c t) := by unfold live; infer_instance
/-- Points of one tile are live together. -/
theorem live_congr (c : Dev nD) (t t' : Fin grid0.N) (h : t.val / 7 = t'.val / 7) : live m c t ↔ live m c t' := by
  unfold live v10c; rw [coords0, coords0, h]

/-- The live tiles' chunk bounds are in range. -/
def RngAll : Prop := ∀ (c : Dev nD) (t : Fin grid0.N), live m c t → Rng (tblW c (grid0.coords t) tbM0_2 (tbl m 2)) (tblW c (grid0.coords t) tbM0_3 (tbl m 3))

/-! ## What the kernel holds after each point -/

/-- The rows gathered for the tile of point `t`. -/
def gath (hO : Ok m) (c : Dev nD) (t : Fin (cfgM m hO).N) : Vec F S512x1024 .bf16 :=
  k0_pay4 (accV c (V m c main_arg5) (tblW c (grid0.coords t) tbM0_2 (tbl m 2)) (tblW c (grid0.coords t) tbM0_3 (tbl m 3)) (iblk m hO c 0 t)
    (k0_t1_loop (tblW c (grid0.coords t) tbM0_2 (tbl m 2)) (tblW c (grid0.coords t) tbM0_3 (tbl m 3))).trips)

/-- One point: the accumulator and the gathered rows after it, from those before it. -/
def step (hO : Ok m) (c : Dev nD) (t : Fin (cfgM m hO).N) (p : Vec F S512x1024 .f32 × Vec F S512x1024 .bf16) : Vec F S512x1024 .f32 × Vec F S512x1024 .bf16 :=
  if t.val % 7 = 0 then
    if live m c t then (k0_pay6 (gath m hO c t) (iblk m hO c 1 t) (iblk m hO c 2 t) (k0_pay5 (F := F)) (iblk m hO c 3 t), gath m hO c t)
    else (k0_pay5 (F := F), p.2)
  else if live m c t then (k0_pay6 p.2 (iblk m hO c 1 t) (iblk m hO c 2 t) p.1 (iblk m hO c 3 t), p.2)
  else p
/-- The accumulator and the gathered rows after point `n`. -/
def outs (hO : Ok m) (c : Dev nD) : (n : ℕ) → n < (cfgM m hO).N → Vec F S512x1024 .f32 × Vec F S512x1024 .bf16
  | 0, h => step m hO c ⟨0, h⟩ (k0_pay1 (F := F), k0_pay4 (k0_pay1 (F := F)))
  | n + 1, h => step m hO c ⟨n + 1, h⟩ (outs hO c n (Nat.lt_of_succ_lt h))
/-- What a point leaves, from what the one before it left. -/
theorem outs_pos (hO : Ok m) (c : Dev nD) (n : ℕ) (h : n < (cfgM m hO).N) (hz : n ≠ 0) :
    outs m hO c n h = step m hO c ⟨n, h⟩ (outs m hO c (n - 1) (Nat.lt_of_le_of_lt (Nat.sub_le _ _) h)) := by
  cases n with
  | zero => exact absurd rfl hz
  | succ n => rfl

/-- What the invariant says of the accumulator and the gathered rows before position `n`. -/
def Inv (hO : Ok m) (c : Dev nD) (n : ℕ) (h : n ≤ (cfgM m hO).N) (A : Vec F S512x1024 .f32) (X : Vec F S512x1024 .bf16) : Prop :=
  ∀ hz : n ≠ 0, A = (outs m hO c (n - 1) (by omega)).1 ∧ (live m c ⟨n - 1, by change n - 1 < (cfgM m hO).N; omega⟩ → X = (outs m hO c (n - 1) (by omega)).2)

/-- The region invariant before position `n`. -/
def PhiS (hO : Ok m) (c : Dev nD) (n : ℕ) (h : n ≤ (cfgM m hO).N) : sProp 𝕄 :=
  iprop((∃ A X, ⌜Inv m hO c n h A X⌝ ∗ owns (c : Thread nD τ) accM fullShare A ∗ owns (c : Thread nD τ) xsM fullShare X)
    ∗ ringP c (V m c main_arg5) ∗ (∃ r, prngReg c r) ∗ Pipeline.ΦT pre0 (tbl m) c)

/-- The proof data of the pipeline. -/
def dats (hO : Ok m) (_ : Fin 1) (c : Dev nD) : Dat τ (Elt F) Unit ℕ (UU nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => k0_pay8 (outs m hO c t.val t.isLt).1 (iblk m hO c 4 t)
    | ⟨6, _⟩ => k0_pay9 (outs m hO c t.val t.isLt).1 (iblk m hO c 4 t)
  Φ t := PhiS m hO c t.val (Nat.le_of_lt_succ t.isLt)
  q _ := fullShare
  owed _ := 0

/-- An array's contents before the launch. -/
theorem A_eq (hO : Ok m) (c : Dev nD) (w : Fin (cfgM m hO).W) : (dats m hO 0 c).A w = V m c (Pipeline.arrRef spec0 w) := by
  dsimp only [dats]
/-- The invariant before a point. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t
/-- Window 0 after a point. -/
theorem after0_0 (hO : Ok m) (c : Dev nD) (t : Fin (cfgM m hO).N) : (dats m hO 0 c).after 0 t = iblk m hO c 0 t := by dsimp only [dats]; try rfl
/-- Window 0 before a point. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 0 is live at every point. -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 after a point. -/
theorem after0_1 (hO : Ok m) (c : Dev nD) (t : Fin (cfgM m hO).N) : (dats m hO 0 c).after 1 t = iblk m hO c 1 t := by dsimp only [dats]; try rfl
/-- Window 1 before a point. -/
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 1 is live at every point. -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 after a point. -/
theorem after0_2 (hO : Ok m) (c : Dev nD) (t : Fin (cfgM m hO).N) : (dats m hO 0 c).after 2 t = iblk m hO c 2 t := by dsimp only [dats]; try rfl
/-- Window 2 before a point. -/
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 2 is live at every point. -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 after a point. -/
theorem after0_3 (hO : Ok m) (c : Dev nD) (t : Fin (cfgM m hO).N) : (dats m hO 0 c).after 3 t = iblk m hO c 3 t := by dsimp only [dats]; try rfl
/-- Window 3 before a point. -/
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Window 3 is live at every point. -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 after a point. -/
theorem after0_4 (hO : Ok m) (c : Dev nD) (t : Fin (cfgM m hO).N) : (dats m hO 0 c).after 4 t = iblk m hO c 4 t := by dsimp only [dats]; try rfl
/-- Window 4 before a point. -/
theorem before0_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Window 4 is live at every point. -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 after a point. -/
theorem after0_5 (hO : Ok m) (c : Dev nD) (t : Fin (cfgM m hO).N) : (dats m hO 0 c).after 5 t = k0_pay8 (outs m hO c t.val t.isLt).1 (iblk m hO c 4 t) := by dsimp only [dats]; try rfl
/-- Window 6 after a point. -/
theorem after0_6 (hO : Ok m) (c : Dev nD) (t : Fin (cfgM m hO).N) : (dats m hO 0 c).after 6 t = k0_pay9 (outs m hO c t.val t.isLt).1 (iblk m hO c 4 t) := by dsimp only [dats]; try rfl

/-- Each window's current staging memref at point `t`, and its wholeness. -/
abbrev ms0_0 (hO : Ok m) (t : Fin (cfgM m hO).N) : Memref sig .tc .vmem S512x1 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x1024 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The kernel body at point `t`, on what the pipeline calls it with. -/
abbrev bodyAt0 (hO : Ok m) (t : Fin (cfgM m hO).N) : Prog (TpuEff nD τ sig (Elt F) Λ₀ .tc) PUnit :=
  cc0_moe_grouped_swiglu (grid0.coords t) tbM0_0 (Memref.isWhole_whole _) tbM0_1 (Memref.isWhole_whole _) tbM0_2 (Memref.isWhole_whole _) tbM0_3 (Memref.isWhole_whole _) (ms0_0 m hO t) (hs0_0 m hO t) aM (Memref.isWhole_whole _) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) accM (Memref.isWhole_whole _) xsM (Memref.isWhole_whole _) bufM (Memref.isWhole_whole _) cc0_scratch3
/-- The body the launch calls at a point. -/
theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

/-! ## Where the outputs are idle -/

/-- Before a tile's last point the outputs are idle. -/
theorem idle_of (hO : Ok m) (t : Fin (cfgM m hO).N) (h : ¬ t.val % 7 = 6) (w : Fin (cfgM m hO).W) (hw : w = 5 ∨ w = 6) :
    (cfgM m hO).idle w (grid0.coords t) = true := by
  have h' := (hcond6 t).not.mpr h
  have e : (!(k0_cond6 (grid0.coords t) == 1#1)) = true := by simpa using h'
  rcases hw with rfl | rfl
  · exact e
  · exact e
/-- At a tile's last point the outputs are written. -/
theorem busy_of (hO : Ok m) (t : Fin (cfgM m hO).N) (h : t.val % 7 = 6) (w : Fin (cfgM m hO).W) (hw : w = 5 ∨ w = 6) :
    (cfgM m hO).idle w (grid0.coords t) = false := by
  have h' := (hcond6 t).mpr h
  have e : (!(k0_cond6 (grid0.coords t) == 1#1)) = false := by simpa using h'
  rcases hw with rfl | rfl
  · exact e
  · exact e
/-- An output goes out at a tile's last point. -/
theorem flush0_5 (a : (pcfg0 (F := F)).Adm) : ∀ t : Fin (cfg0 a).N, ((cfg0 a).win 5).flush t = true ↔ t.val % 7 = 6 :=
  (fun t => Pipeline.Window.flushOf_reads cc0_transform_6 reads0_5 hreads0_5 0 (by decide) (by decide) (Pipeline.Window.sep_of_coord cc0_transform_6 0 0 (fun _ => rfl) (by decide)) (P := 7) (m := 6) (by decide) rfl t : ∀ t : Fin grid0.N, Pipeline.Window.flushOf grid0 true cc0_transform_6 t = true ↔ t.val % 7 = 6)
/-- An output does not go out before a tile's last point. -/
theorem noflush0_5 (hO : Ok m) (t : Fin (cfgM m hO).N) (h : ¬ t.val % 7 = 6) : ((cfgM m hO).win 5).flush t = false :=
  Bool.eq_false_iff.mpr fun e => h ((flush0_5 (adm m hO) t).mp e)
/-- An output goes out at a tile's last point. -/
theorem flush0_6 (a : (pcfg0 (F := F)).Adm) : ∀ t : Fin (cfg0 a).N, ((cfg0 a).win 6).flush t = true ↔ t.val % 7 = 6 :=
  (fun t => Pipeline.Window.flushOf_reads cc0_transform_7 reads0_6 hreads0_6 0 (by decide) (by decide) (Pipeline.Window.sep_of_coord cc0_transform_7 0 0 (fun _ => rfl) (by decide)) (P := 7) (m := 6) (by decide) rfl t : ∀ t : Fin grid0.N, Pipeline.Window.flushOf grid0 true cc0_transform_7 t = true ↔ t.val % 7 = 6)
/-- An output does not go out before a tile's last point. -/
theorem noflush0_6 (hO : Ok m) (t : Fin (cfgM m hO).N) (h : ¬ t.val % 7 = 6) : ((cfgM m hO).win 6).flush t = false :=
  Bool.eq_false_iff.mpr fun e => h ((flush0_6 (adm m hO) t).mp e)

/-! ## The body at every point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

/-- The point's step, by case. -/
theorem inv_next (hO : Ok m) (c : Dev nD) (t : Fin (cfgM m hO).N) (A X A' X') (hI : Inv m hO c t.val (Nat.le_of_lt t.isLt) A X)
    (h : ∀ p : Vec F S512x1024 .f32 × Vec F S512x1024 .bf16, (t.val % 7 ≠ 0 → p.1 = A) → (t.val % 7 ≠ 0 → live m c t → p.2 = X) →
      A' = (step m hO c t p).1 ∧ (live m c t → X' = (step m hO c t p).2)) :
    A' = (outs m hO c t.val t.isLt).1 ∧ (live m c t → X' = (outs m hO c t.val t.isLt).2) := by
  obtain ⟨n, hn⟩ := t
  cases n with
  | zero => exact h _ (fun hz => absurd (Nat.zero_mod _) hz) (fun hz => absurd (Nat.zero_mod _) hz)
  | succ n =>
    have hI' := hI (Nat.succ_ne_zero n)
    refine h (outs m hO c n (Nat.lt_of_succ_lt hn)) (fun _ => hI'.1.symm) (fun hz hl => (hI'.2 ((live_congr m c _ _ ?_).mp hl)).symm)
    change (n + 1) % 7 ≠ 0 at hz
    change (n + 1) / 7 = (n + 1 - 1) / 7
    omega
/-- The invariant after a point. -/
theorem inv_succ (hO : Ok m) (c : Dev nD) (t : Fin (cfgM m hO).N) (A' X')
    (h : A' = (outs m hO c t.val t.isLt).1 ∧ (live m c t → X' = (outs m hO c t.val t.isLt).2)) : Inv m hO c (t.val + 1) t.isLt A' X' :=
  fun _ => h

set_option backward.isDefEq.respectTransparency.types false in
/-- An input window that is live keeps its block. -/
theorem leaves0 (hO : Ok m) (c : Dev nD) (t : Fin (cfgM m hO).N) :
    (dats m hO 0 c).leavesExact 0 t = owns (c : Thread nD τ) (ms0_0 m hO t) fullShare ((dats m hO 0 c).after 0 t) := by
  unfold Dat.leavesExact; rw [liveAt0_0 m hO t]; try rfl

set_option backward.isDefEq.respectTransparency.types false in
/-- An input window that is live keeps its block. -/
theorem leaves1 (hO : Ok m) (c : Dev nD) (t : Fin (cfgM m hO).N) :
    (dats m hO 0 c).leavesExact 1 t = owns (c : Thread nD τ) (ms0_1 m hO t) fullShare ((dats m hO 0 c).after 1 t) := by
  unfold Dat.leavesExact; rw [liveAt0_1 m hO t]; try rfl

set_option backward.isDefEq.respectTransparency.types false in
/-- An input window that is live keeps its block. -/
theorem leaves2 (hO : Ok m) (c : Dev nD) (t : Fin (cfgM m hO).N) :
    (dats m hO 0 c).leavesExact 2 t = owns (c : Thread nD τ) (ms0_2 m hO t) fullShare ((dats m hO 0 c).after 2 t) := by
  unfold Dat.leavesExact; rw [liveAt0_2 m hO t]; try rfl

set_option backward.isDefEq.respectTransparency.types false in
/-- An input window that is live keeps its block. -/
theorem leaves3 (hO : Ok m) (c : Dev nD) (t : Fin (cfgM m hO).N) :
    (dats m hO 0 c).leavesExact 3 t = owns (c : Thread nD τ) (ms0_3 m hO t) fullShare ((dats m hO 0 c).after 3 t) := by
  unfold Dat.leavesExact; rw [liveAt0_3 m hO t]; try rfl

set_option backward.isDefEq.respectTransparency.types false in
/-- An input window that is live keeps its block. -/
theorem leaves4 (hO : Ok m) (c : Dev nD) (t : Fin (cfgM m hO).N) :
    (dats m hO 0 c).leavesExact 4 t = owns (c : Thread nD τ) (ms0_4 m hO t) fullShare ((dats m hO 0 c).after 4 t) := by
  unfold Dat.leavesExact; rw [liveAt0_4 m hO t]; try rfl

set_option maxHeartbeats 8000000 in
set_option backward.isDefEq.respectTransparency.types false in
/-- The body is sound at a live tile's first point. -/
theorem sound_gather (hO : Ok m) (hR : RngAll m) (c : Dev nD) (t : Fin (cfgM m hO).N) (hl : live m c t) (h0 : t.val % 7 = 0) (h6 : ¬ t.val % 7 = 6) :
    bodyPre m hO c t ⊢ wp frame (wpE (defs₀ (F := F)) 𝒱₀ (c : Thread nD τ) none) Set.univ (bodyAt0 m hO t) (fun _ => bodyPost m hO c t) := by
  unfold bodyPre bodyPost bodyAt0
  simp only [before0_0, before0_1, before0_2, before0_3, before0_4]
  rw [show (dats m hO 0 c).Φ t.succ = PhiS m hO c (t.val + 1) t.isLt from rfl, PhiS_castSucc m hO c t]
  rw [leaves0, after0_0, leaves1, after0_1, leaves2, after0_2, leaves3, after0_3, leaves4, after0_4]
  rw [Dat.leavesExact_idle _ 5 t (idle_of m hO t h6 5 (.inl rfl)) (noflush0_5 m hO t h6)]
  rw [Dat.leavesExact_idle _ 6 t (idle_of m hO t h6 6 (.inr rfl)) (noflush0_6 m hO t h6)]
  unfold Dat.owesAt Pipeline.owesWithin
  rw [show (dats m hO 0 c).owed t.castSucc = 0 from rfl, show (dats m hO 0 c).owed t.succ = 0 from rfl]
  unfold PhiS; rw [PhiT0_eq]
  iintro ⟨⟨⟨%A, %X, %hI, HA, HX⟩, Hring, Hg, ⟨HT0, HT1, HT2, HT3⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (runGather c (V m c main_arg5) (grid0.coords t) tbM0_0 _ tbM0_1 _ tbM0_2 _ tbM0_3 _ _ _ _ _ _ _ _ _ _ _ _ _ _ _ accM _ xsM _ (iblk m hO c 0 t) (iblk m hO c 1 t) (iblk m hO c 2 t) (iblk m hO c 3 t) (tbl m 1) (tbl m 2) (tbl m 3) ((cond1_iff _ _).mpr ⟨hl, (hv8c t).mpr h0⟩) ((hv8c t).mpr h0) hl (mt (hcond6 t).mp h6) (hR c t hl) _)
  iframe H0 H1 H2 H3 HT1 HT2 HT3
  isplitl [HA]; · iexists _; iexact HA
  isplitl [HX]; · iexists _; iexact HX
  isplitl [Hring]; · iexact Hring
  isplitl [HW]; · iexists _; iexact HW
  iintro ⟨H0, H1, H2, H3, HT1, HT2, HT3, HA, HX, Hring, ⟨%W', HW⟩⟩
  have hN := inv_next m hO c t A X (k0_pay6 (gath m hO c t) (iblk m hO c 1 t) (iblk m hO c 2 t) (k0_pay5 (F := F)) (iblk m hO c 3 t)) (gath m hO c t) hI (fun p hpA hpX => by unfold step; rw [if_pos h0, if_pos hl]; exact ⟨rfl, fun _ => rfl⟩)
  isplitl [HA HX Hring Hg HT0 HT1 HT2 HT3]
  · isplitl [HA HX]
    · iexists (k0_pay6 (gath m hO c t) (iblk m hO c 1 t) (iblk m hO c 2 t) (k0_pay5 (F := F)) (iblk m hO c 3 t)); iexists (gath m hO c t); isplitr; · ipureintro; exact inv_succ m hO c t _ _ hN
      iframe HA HX
    iframe Hring Hg HT0 HT1 HT2 HT3
  isplitl [HW]
  · iexists W'; isplitr; · ipureintro; exact fun _ _ => Or.inl trivial
    iexact HW
  iframe H0 H1 H2 H3 H4
  isplitl [H5]; · iexists d5; iexact H5
  iexists d6; iexact H6

set_option maxHeartbeats 8000000 in
set_option backward.isDefEq.respectTransparency.types false in
/-- The body is sound at a dead tile's first point. -/
theorem sound_dead0 (hO : Ok m) (hR : RngAll m) (c : Dev nD) (t : Fin (cfgM m hO).N) (hl : ¬ live m c t) (h0 : t.val % 7 = 0) (h6 : ¬ t.val % 7 = 6) :
    bodyPre m hO c t ⊢ wp frame (wpE (defs₀ (F := F)) 𝒱₀ (c : Thread nD τ) none) Set.univ (bodyAt0 m hO t) (fun _ => bodyPost m hO c t) := by
  unfold bodyPre bodyPost bodyAt0
  simp only [before0_0, before0_1, before0_2, before0_3, before0_4]
  rw [show (dats m hO 0 c).Φ t.succ = PhiS m hO c (t.val + 1) t.isLt from rfl, PhiS_castSucc m hO c t]
  rw [leaves0, after0_0, leaves1, after0_1, leaves2, after0_2, leaves3, after0_3, leaves4, after0_4]
  rw [Dat.leavesExact_idle _ 5 t (idle_of m hO t h6 5 (.inl rfl)) (noflush0_5 m hO t h6)]
  rw [Dat.leavesExact_idle _ 6 t (idle_of m hO t h6 6 (.inr rfl)) (noflush0_6 m hO t h6)]
  rw [show (dats m hO 0 c).owesAt () t.succ = (dats m hO 0 c).owesAt () t.castSucc from rfl]
  unfold PhiS; rw [PhiT0_eq]
  iintro ⟨⟨⟨%A, %X, %hI, HA, HX⟩, Hring, Hg, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply (runDead0 c (grid0.coords t) tbM0_0 _ tbM0_1 _ tbM0_2 _ tbM0_3 _ _ _ _ _ _ _ _ _ _ _ _ _ _ _ accM _ xsM _ (iblk m hO c 1 t) (iblk m hO c 2 t) (iblk m hO c 3 t) (iblk m hO c 4 t) A X (tbl m 1) (fun h => hl ((cond1_iff _ _).mp h).1) ((hv8c t).mpr h0) hl (mt (hcond6 t).mp h6) _)
  iframe HT1 HA
  iintro ⟨HT1, HA⟩
  have hN := inv_next m hO c t A X (k0_pay5 (F := F)) X hI (fun p hpA hpX => by unfold step; rw [if_pos h0, if_neg hl]; exact ⟨rfl, fun hl' => absurd hl' hl⟩)
  isplitl [HA HX Hring Hg HT0 HT1 HT2 HT3]
  · isplitl [HA HX]
    · iexists (k0_pay5 (F := F)); iexists X; isplitr; · ipureintro; exact inv_succ m hO c t _ _ hN
      iframe HA HX
    iframe Hring Hg HT0 HT1 HT2 HT3
  iframe Ho H0 H1 H2 H3 H4
  isplitl [H5]; · iexists d5; iexact H5
  iexists d6; iexact H6

set_option maxHeartbeats 8000000 in
set_option backward.isDefEq.respectTransparency.types false in
/-- The body is sound at a dead tile's middle points. -/
theorem sound_dead (hO : Ok m) (hR : RngAll m) (c : Dev nD) (t : Fin (cfgM m hO).N) (hl : ¬ live m c t) (h0 : ¬ t.val % 7 = 0) (h6 : ¬ t.val % 7 = 6) :
    bodyPre m hO c t ⊢ wp frame (wpE (defs₀ (F := F)) 𝒱₀ (c : Thread nD τ) none) Set.univ (bodyAt0 m hO t) (fun _ => bodyPost m hO c t) := by
  unfold bodyPre bodyPost bodyAt0
  simp only [before0_0, before0_1, before0_2, before0_3, before0_4]
  rw [show (dats m hO 0 c).Φ t.succ = PhiS m hO c (t.val + 1) t.isLt from rfl, PhiS_castSucc m hO c t]
  rw [leaves0, after0_0, leaves1, after0_1, leaves2, after0_2, leaves3, after0_3, leaves4, after0_4]
  rw [Dat.leavesExact_idle _ 5 t (idle_of m hO t h6 5 (.inl rfl)) (noflush0_5 m hO t h6)]
  rw [Dat.leavesExact_idle _ 6 t (idle_of m hO t h6 6 (.inr rfl)) (noflush0_6 m hO t h6)]
  rw [show (dats m hO 0 c).owesAt () t.succ = (dats m hO 0 c).owesAt () t.castSucc from rfl]
  unfold PhiS; rw [PhiT0_eq]
  iintro ⟨⟨⟨%A, %X, %hI, HA, HX⟩, Hring, Hg, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply (runDead c (grid0.coords t) tbM0_0 _ tbM0_1 _ tbM0_2 _ tbM0_3 _ _ _ _ _ _ _ _ _ _ _ _ _ _ _ accM _ xsM _ (iblk m hO c 1 t) (iblk m hO c 2 t) (iblk m hO c 3 t) (iblk m hO c 4 t) A X (tbl m 1) (fun h => hl ((cond1_iff _ _).mp h).1) (mt (hv8c t).mp h0) hl (mt (hcond6 t).mp h6) _)
  iframe HT1 HA
  iintro ⟨HT1, HA⟩
  have hN := inv_next m hO c t A X A X hI (fun p hpA hpX => by unfold step; rw [if_neg h0, if_neg hl]; exact ⟨(hpA h0).symm, fun hl' => absurd hl' hl⟩)
  isplitl [HA HX Hring Hg HT0 HT1 HT2 HT3]
  · isplitl [HA HX]
    · iexists A; iexists X; isplitr; · ipureintro; exact inv_succ m hO c t _ _ hN
      iframe HA HX
    iframe Hring Hg HT0 HT1 HT2 HT3
  iframe Ho H0 H1 H2 H3 H4
  isplitl [H5]; · iexists d5; iexact H5
  iexists d6; iexact H6

set_option maxHeartbeats 8000000 in
set_option backward.isDefEq.respectTransparency.types false in
/-- The body is sound at a dead tile's last point. -/
theorem sound_deadLast (hO : Ok m) (hR : RngAll m) (c : Dev nD) (t : Fin (cfgM m hO).N) (hl : ¬ live m c t) (h0 : ¬ t.val % 7 = 0) (h6 : t.val % 7 = 6) :
    bodyPre m hO c t ⊢ wp frame (wpE (defs₀ (F := F)) 𝒱₀ (c : Thread nD τ) none) Set.univ (bodyAt0 m hO t) (fun _ => bodyPost m hO c t) := by
  unfold bodyPre bodyPost bodyAt0
  simp only [before0_0, before0_1, before0_2, before0_3, before0_4]
  rw [show (dats m hO 0 c).Φ t.succ = PhiS m hO c (t.val + 1) t.isLt from rfl, PhiS_castSucc m hO c t]
  rw [leaves0, after0_0, leaves1, after0_1, leaves2, after0_2, leaves3, after0_3, leaves4, after0_4]
  rw [show (dats m hO 0 c).leavesExact 5 t = owns (c : Thread nD τ) (ms0_5 m hO t) fullShare ((dats m hO 0 c).after 5 t) from by
      unfold Dat.leavesExact; rw [busy_of m hO t h6 5 (.inl rfl)]; try rfl, after0_5]
  rw [show (dats m hO 0 c).leavesExact 6 t = owns (c : Thread nD τ) (ms0_6 m hO t) fullShare ((dats m hO 0 c).after 6 t) from by
      unfold Dat.leavesExact; rw [busy_of m hO t h6 6 (.inr rfl)]; try rfl, after0_6]
  rw [show (dats m hO 0 c).owesAt () t.succ = (dats m hO 0 c).owesAt () t.castSucc from rfl]
  unfold PhiS; rw [PhiT0_eq]
  iintro ⟨⟨⟨%A, %X, %hI, HA, HX⟩, Hring, Hg, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply (runDeadLast c (grid0.coords t) tbM0_0 _ tbM0_1 _ tbM0_2 _ tbM0_3 _ _ _ _ _ _ _ _ _ _ _ _ _ _ _ accM _ xsM _ (iblk m hO c 1 t) (iblk m hO c 2 t) (iblk m hO c 3 t) (iblk m hO c 4 t) A X (tbl m 1) (fun h => hl ((cond1_iff _ _).mp h).1) (mt (hv8c t).mp h0) hl ((hcond6 t).mpr h6) _)
  iframe H4 HT1 HA
  isplitl [H5]; · iexists _; iexact H5
  isplitl [H6]; · iexists _; iexact H6
  iintro ⟨H4, HT1, HA, H5, H6⟩
  have hN := inv_next m hO c t A X A X hI (fun p hpA hpX => by unfold step; rw [if_neg h0, if_neg hl]; exact ⟨(hpA h0).symm, fun hl' => absurd hl' hl⟩)
  isplitl [HA HX Hring Hg HT0 HT1 HT2 HT3]
  · isplitl [HA HX]
    · iexists A; iexists X; isplitr; · ipureintro; exact inv_succ m hO c t _ _ hN
      iframe HA HX
    iframe Hring Hg HT0 HT1 HT2 HT3
  iframe Ho H0 H1 H2 H3 H4
  rw [← hN.1]
  iframe H5 H6

set_option maxHeartbeats 8000000 in
set_option backward.isDefEq.respectTransparency.types false in
/-- The body is sound at a live tile's middle points. -/
theorem sound_live (hO : Ok m) (hR : RngAll m) (c : Dev nD) (t : Fin (cfgM m hO).N) (hl : live m c t) (h0 : ¬ t.val % 7 = 0) (h6 : ¬ t.val % 7 = 6) :
    bodyPre m hO c t ⊢ wp frame (wpE (defs₀ (F := F)) 𝒱₀ (c : Thread nD τ) none) Set.univ (bodyAt0 m hO t) (fun _ => bodyPost m hO c t) := by
  unfold bodyPre bodyPost bodyAt0
  simp only [before0_0, before0_1, before0_2, before0_3, before0_4]
  rw [show (dats m hO 0 c).Φ t.succ = PhiS m hO c (t.val + 1) t.isLt from rfl, PhiS_castSucc m hO c t]
  rw [leaves0, after0_0, leaves1, after0_1, leaves2, after0_2, leaves3, after0_3, leaves4, after0_4]
  rw [Dat.leavesExact_idle _ 5 t (idle_of m hO t h6 5 (.inl rfl)) (noflush0_5 m hO t h6)]
  rw [Dat.leavesExact_idle _ 6 t (idle_of m hO t h6 6 (.inr rfl)) (noflush0_6 m hO t h6)]
  rw [show (dats m hO 0 c).owesAt () t.succ = (dats m hO 0 c).owesAt () t.castSucc from rfl]
  unfold PhiS; rw [PhiT0_eq]
  iintro ⟨⟨⟨%A, %X, %hI, HA, HX⟩, Hring, Hg, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply (runLive c (grid0.coords t) tbM0_0 _ tbM0_1 _ tbM0_2 _ tbM0_3 _ _ _ _ _ _ _ _ _ _ _ _ _ _ _ accM _ xsM _ (iblk m hO c 1 t) (iblk m hO c 2 t) (iblk m hO c 3 t) (iblk m hO c 4 t) A X (tbl m 1) (fun h => h0 ((hv8c t).mp ((cond1_iff _ _).mp h).2)) (mt (hv8c t).mp h0) hl (mt (hcond6 t).mp h6) _)
  iframe H1 H2 H3 HT1 HA HX
  iintro ⟨H1, H2, H3, HT1, HA, HX⟩
  have hN := inv_next m hO c t A X (k0_pay6 X (iblk m hO c 1 t) (iblk m hO c 2 t) A (iblk m hO c 3 t)) X hI (fun p hpA hpX => by unfold step; rw [if_neg h0, if_pos hl]; dsimp only; rw [hpA h0, hpX h0 hl]; exact ⟨rfl, fun _ => rfl⟩)
  isplitl [HA HX Hring Hg HT0 HT1 HT2 HT3]
  · isplitl [HA HX]
    · iexists (k0_pay6 X (iblk m hO c 1 t) (iblk m hO c 2 t) A (iblk m hO c 3 t)); iexists X; isplitr; · ipureintro; exact inv_succ m hO c t _ _ hN
      iframe HA HX
    iframe Hring Hg HT0 HT1 HT2 HT3
  iframe Ho H0 H1 H2 H3 H4
  isplitl [H5]; · iexists d5; iexact H5
  iexists d6; iexact H6

set_option maxHeartbeats 8000000 in
set_option backward.isDefEq.respectTransparency.types false in
/-- The body is sound at a live tile's last point. -/
theorem sound_liveLast (hO : Ok m) (hR : RngAll m) (c : Dev nD) (t : Fin (cfgM m hO).N) (hl : live m c t) (h0 : ¬ t.val % 7 = 0) (h6 : t.val % 7 = 6) :
    bodyPre m hO c t ⊢ wp frame (wpE (defs₀ (F := F)) 𝒱₀ (c : Thread nD τ) none) Set.univ (bodyAt0 m hO t) (fun _ => bodyPost m hO c t) := by
  unfold bodyPre bodyPost bodyAt0
  simp only [before0_0, before0_1, before0_2, before0_3, before0_4]
  rw [show (dats m hO 0 c).Φ t.succ = PhiS m hO c (t.val + 1) t.isLt from rfl, PhiS_castSucc m hO c t]
  rw [leaves0, after0_0, leaves1, after0_1, leaves2, after0_2, leaves3, after0_3, leaves4, after0_4]
  rw [show (dats m hO 0 c).leavesExact 5 t = owns (c : Thread nD τ) (ms0_5 m hO t) fullShare ((dats m hO 0 c).after 5 t) from by
      unfold Dat.leavesExact; rw [busy_of m hO t h6 5 (.inl rfl)]; try rfl, after0_5]
  rw [show (dats m hO 0 c).leavesExact 6 t = owns (c : Thread nD τ) (ms0_6 m hO t) fullShare ((dats m hO 0 c).after 6 t) from by
      unfold Dat.leavesExact; rw [busy_of m hO t h6 6 (.inr rfl)]; try rfl, after0_6]
  rw [show (dats m hO 0 c).owesAt () t.succ = (dats m hO 0 c).owesAt () t.castSucc from rfl]
  unfold PhiS; rw [PhiT0_eq]
  iintro ⟨⟨⟨%A, %X, %hI, HA, HX⟩, Hring, Hg, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply (runLiveLast c (grid0.coords t) tbM0_0 _ tbM0_1 _ tbM0_2 _ tbM0_3 _ _ _ _ _ _ _ _ _ _ _ _ _ _ _ accM _ xsM _ (iblk m hO c 1 t) (iblk m hO c 2 t) (iblk m hO c 3 t) (iblk m hO c 4 t) A X (tbl m 1) (fun h => h0 ((hv8c t).mp ((cond1_iff _ _).mp h).2)) (mt (hv8c t).mp h0) hl ((hcond6 t).mpr h6) _)
  iframe H1 H2 H3 H4 HT1 HA HX
  isplitl [H5]; · iexists _; iexact H5
  isplitl [H6]; · iexists _; iexact H6
  iintro ⟨H1, H2, H3, H4, HT1, HA, HX, H5, H6⟩
  have hN := inv_next m hO c t A X (k0_pay6 X (iblk m hO c 1 t) (iblk m hO c 2 t) A (iblk m hO c 3 t)) X hI (fun p hpA hpX => by unfold step; rw [if_neg h0, if_pos hl]; dsimp only; rw [hpA h0, hpX h0 hl]; exact ⟨rfl, fun _ => rfl⟩)
  isplitl [HA HX Hring Hg HT0 HT1 HT2 HT3]
  · isplitl [HA HX]
    · iexists (k0_pay6 X (iblk m hO c 1 t) (iblk m hO c 2 t) A (iblk m hO c 3 t)); iexists X; isplitr; · ipureintro; exact inv_succ m hO c t _ _ hN
      iframe HA HX
    iframe Hring Hg HT0 HT1 HT2 HT3
  iframe Ho H0 H1 H2 H3 H4
  rw [← hN.1]
  iframe H5 H6

/-- The body is sound at every point. -/
theorem sound_body (hO : Ok m) (hR : RngAll m) (c : Dev nD) (t : Fin (cfgM m hO).N) :
    bodyPre m hO c t ⊢ wp frame (wpE (defs₀ (F := F)) 𝒱₀ (c : Thread nD τ) none) Set.univ (bodyAt0 m hO t) (fun _ => bodyPost m hO c t) := by
  by_cases hl : live m c t
  · by_cases h0 : t.val % 7 = 0
    · exact sound_gather m hO hR c t hl h0 (by omega)
    · by_cases h6 : t.val % 7 = 6
      · exact sound_liveLast m hO hR c t hl h0 h6
      · exact sound_live m hO hR c t hl h0 h6
  · by_cases h0 : t.val % 7 = 0
    · exact sound_dead0 m hO hR c t hl h0 (by omega)
    · by_cases h6 : t.val % 7 = 6
      · exact sound_deadLast m hO hR c t hl h0 h6
      · exact sound_dead m hO hR c t hl h0 h6

/-- The body meets what the launch asks of it at every point. -/
theorem body_obligation (hO : Ok m) (hR : RngAll m) (c : Dev nD) : BodyObligation (dats (F := F) m hO 0 c) (defs₀ (F := F)) 𝒱₀ () Set.univ := fun t => by
  rw [bigSep_W0, bigSep_W0, defs₀_row m hO]
  exact triple_restated (sound_body m hO hR c t) rfl .rfl fun _ => .rfl

/-! ## The launch -/

/-- The arrays left in HBM are among those with no window. -/
theorem Hsub : ({main_arg5} : Finset (Ref sig .tc)) ⊆ Pipeline.restRefsP sig pre0 spec0 := by decide

/-- The launch's scratch memory, one by one. -/
theorem scoped_open (c : Dev nD) : (Pipeline.scopedRest (Ix := Unit) (Name := ℕ) (U := UU nD τ) (Lvl := ℕ) (Val := Elt F) spec0 c : sProp 𝕄)
    = iprop((∃ d, owns (c : Thread nD τ) accM fullShare d) ∗ (∃ d, owns (c : Thread nD τ) xsM fullShare d) ∗ (∃ f : Buf (Elt F) ((c : Thread nD τ).loc cc0_scratch2), ((c : Thread nD τ).loc cc0_scratch2) ↦{fullShare} f)) := by
  rw [scopedRest0_eq]; simp only [accM, xsM, owns_whole]; try rfl
/-- The arrays left in HBM, one by one. -/
theorem held_open (c : Dev nD) : (bigSep {main_arg5} (fun b : Ref sig .tc => (((c : Thread nD τ).loc b) ↦{fullShare} V m c b : sProp 𝕄)))
    = homes c (V m c main_arg5) Finset.univ := by
  rw [bigSep_singleton]; exact a_eq c _
/-- What the launch holds besides its windows, one by one. -/
theorem ΦD_open (c : Dev nD) : (Pipeline.ΦD (Val := Elt F) osem spec0 {main_arg5} (V m) c : sProp 𝕄)
    = iprop(((∃ d, owns (c : Thread nD τ) accM fullShare d) ∗ (∃ d, owns (c : Thread nD τ) xsM fullShare d) ∗ (∃ f : Buf (Elt F) ((c : Thread nD τ).loc cc0_scratch2), ((c : Thread nD τ).loc cc0_scratch2) ↦{fullShare} f))
      ∗ (∃ r, prngReg c r) ∗ (cellP c 0 ∗ cellP c 1) ∗ homes c (V m c main_arg5) Finset.univ) := by
  rw [← held_open, ← ownSems0_eq, ← scoped_open]; rfl

/-- What the launch starts with gives the first point's invariant. -/
theorem hin_aux (hO : Ok m) (c : Dev nD) : iprop(Pipeline.ΦD (Val := Elt F) osem spec0 {main_arg5} (V m) c ∗ Pipeline.ΦT pre0 (tbl m) c) ⊢ (PhiS m hO c 0 (Nat.zero_le _) : sProp 𝕄) := by
  rw [ΦD_open]
  unfold PhiS ringP
  iintro ⟨⟨⟨⟨%d0, H0⟩, ⟨%d1, H1⟩, H2⟩, Hg, ⟨Hc0, Hc1⟩, Hh⟩, HT⟩
  ihave Hs := (buf_split c) $$ H2
  icases Hs with ⟨Hs0, Hs1⟩
  have hI : Inv m hO c 0 (Nat.zero_le _) d0 d1 := fun hz => absurd rfl hz
  isplitl [H0 H1]
  · iexists d0; iexists d1
    isplitr; · ipureintro; exact hI
    iframe H0 H1
  isplitl [Hh Hs0 Hs1 Hc0 Hc1]
  · isplitl [Hh]; · iexact Hh
    iframe Hs0 Hs1 Hc0 Hc1
  iframe Hg HT
/-- What the launch starts with gives the first point's invariant. -/
theorem hin (hO : Ok m) (c : Dev nD) : iprop(Pipeline.ΦD (Val := Elt F) osem spec0 {main_arg5} (V m) c ∗ Pipeline.ΦT pre0 (tbl m) c) ⊢ ((dats m hO 0 c).Φ 0 : sProp 𝕄) := hin_aux m hO c

/-- The last point's invariant gives back what the launch started with. -/
theorem hout_aux (hO : Ok m) (c : Dev nD) (n : ℕ) (hn) : (PhiS m hO c n hn : sProp 𝕄) ⊢ Pipeline.ΦD (Val := Elt F) osem spec0 {main_arg5} (V m) c := by
  rw [ΦD_open]
  unfold PhiS ringP
  iintro ⟨⟨%A, %X, -, H0, H1⟩, ⟨Hh, Hs0, Hs1, Hc0, Hc1⟩, Hg, -⟩
  isplitl [H0 H1 Hs0 Hs1]
  · isplitl [H0]; · iexists A; iexact H0
    isplitl [H1]; · iexists X; iexact H1
    iapply (buf_join c)
    iframe Hs0 Hs1
  isplitl [Hg]; · iexact Hg
  isplitl [Hc0 Hc1]
  · isplitl [Hc0]; · iexact Hc0
    iexact Hc1
  iexact Hh
/-- The last point's invariant gives back what the launch started with. -/
theorem hout (hO : Ok m) (c : Dev nD) : ((dats m hO 0 c).Φ (Fin.last (cfgM m hO).N) : sProp 𝕄) ⊢ Pipeline.ΦD (Val := Elt F) osem spec0 {main_arg5} (V m) c := hout_aux m hO c _ _

set_option backward.isDefEq.respectTransparency.types false in
/-- Every weakly fair execution terminates, the arrays at what the pipeline computes of the proof data, every other
    unscoped buffer as launched, every semaphore counter at zero. -/
theorem run_main (hO : Ok m) (hR : RngAll m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_dma (Q' := _) pcfgs (fun _ => adm m hO) (dats m hO) (0 : Fin 1) launch0 osem defs₀ 𝒱₀ ownSemFacts {main_arg5} Hsub m ρ main
    (hbody := fun c => (body_obligation m hO hR c).loose) (hshare := fun c => (dats m hO 0 c).share_full fun _ => rfl)
    (howed := fun _ _ => rfl) (V := V m) (hmain := hmain m 𝒱₀) (hA := A_eq m hO) (hpf := V_pre m) (hin := hin m hO) (hout := hout m hO)

/-- The run, result arrays first: the two outputs at what the pipeline leaves, the arguments as launched. -/
theorem run_all (hO : Ok m) (hR : RngAll m) : θ_run defs (onTc (τ := τ) (main (F := F))) ⟨m, fun _ => 0, ρ⟩ (fun r => (∀ c : Dev nD,
      r.2.mem ((c.tc : Thread nD τ).loc main_v0_0) = (dats m hO 0 c).arrAt 5 (cfgM m hO).N
      ∧ r.2.mem ((c.tc : Thread nD τ).loc main_v0_1) = (dats m hO 0 c).arrAt 6 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c).1 5, (h.1 c).1 6,
    (h.1 c).2 main_arg0 (by decide : main_arg0 ∈ Pipeline.restRefs sig spec0),
    (h.1 c).2 main_arg1 (by decide : main_arg1 ∈ Pipeline.restRefs sig spec0),
    (h.1 c).2 main_arg2 (by decide : main_arg2 ∈ Pipeline.restRefs sig spec0),
    (h.1 c).2 main_arg3 (by decide : main_arg3 ∈ Pipeline.restRefs sig spec0),
    ((h.1 c).1 0).trans ((dats m hO 0 c).arrAt_in 0 rfl _),
    (h.1 c).2 main_arg5 (by decide : main_arg5 ∈ Pipeline.restRefs sig spec0),
    ((h.1 c).1 1).trans ((dats m hO 0 c).arrAt_in 1 rfl _),
    ((h.1 c).1 2).trans ((dats m hO 0 c).arrAt_in 2 rfl _),
    ((h.1 c).1 3).trans ((dats m hO 0 c).arrAt_in 3 rfl _),
    ((h.1 c).1 4).trans ((dats m hO 0 c).arrAt_in 4 rfl _)⟩, h.2⟩) (run_main m ρ hO hR)

end Cert.Moe.KernelIdeal

end
-- ==== Proof.MoeRoute.lean ====
/-
  What the precondition on the routing tables says, tile by tile and row by row.
-/
module

public import proofs.«01_k».proof.Proof.Gen.Pre_routed
public import Idealize.ShloMosaic.Lib.Pipeline.ValueKit
public import Idealize.ShloMosaic.Lib.Pointwise

@[expose] public section

namespace Cert.Moe

open Idealize.ShloMosaic Cert.Pre_routed Cert.Pre_routed.Gen

variable {F : FTy → Type} [FloatOps F]

/-- Row `r` of tile `n`, as a row of the padded token list. -/
abbrev prow (n : Fin 74) (r : Fin 512) : Fin 37888 := ⟨n.val * 512 + r.val, by omega⟩

/-- The routing tables: every tile's expert exists; a live tile's chunks are a range within the tokens, and each of its
    rows is either padding or a token of one of those chunks. -/
structure Routed (te : IVec S74 32) (nv : IVec S1 32) (clo chi : IVec S74 32) (src : IVec S37888x1 32) : Prop where
  expert : ∀ n : Fin 74, (te (ix1 n)).toNat < 8
  chunks : ∀ n : Fin 74, (BitVec.ofNat 32 n.val).slt (nv (ix1 0)) = true →
    (clo (ix1 n)).toNat ≤ (chi (ix1 n)).toNat ∧ (chi (ix1 n)).toNat < 32
  rows : ∀ (n : Fin 74) (r : Fin 512), (BitVec.ofNat 32 n.val).slt (nv (ix1 0)) = true →
    src (ix2 (prow n r) 0) = 4294967295#32 ∨
      ((clo (ix1 n)).toNat * 512 ≤ (src (ix2 (prow n r) 0)).toNat
        ∧ (src (ix2 (prow n r) 0)).toNat < (chi (ix1 n)).toNat * 512 + 512)

/-- The precondition at an entry. -/
theorem fn_apply (te : IVec S74 32) (nv : IVec S1 32) (clo chi : IVec S74 32) (src : IVec S37888x1 32) (x w1 w3 w2 gate) (n : Fin 74) (r : Fin 512) :
    fn (F := F) te nv clo chi src x w1 w3 w2 gate (ix2 n r)
      = IntOp.andi (IntOp.andi (IntOp.cmpi .sge (te (ix1 n)) 0#32) (IntOp.cmpi .slt (te (ix1 n)) 8#32))
          (IntOp.ori
            (IntOp.andi
              (IntOp.andi (IntOp.andi (IntOp.cmpi .sge (clo (ix1 n)) 0#32) (IntOp.cmpi .sle (clo (ix1 n)) (chi (ix1 n)))) (IntOp.cmpi .slt (chi (ix1 n)) 32#32))
              (IntOp.ori (IntOp.cmpi .eq (src (ix2 (prow n r) 0)) 4294967295#32)
                (IntOp.andi (IntOp.cmpi .sge (src (ix2 (prow n r) 0)) (IntOp.muli (clo (ix1 n)) 512#32))
                  (IntOp.cmpi .slt (src (ix2 (prow n r) 0)) (IntOp.addi (IntOp.muli (chi (ix1 n)) 512#32) 512#32)))))
            (~~~IntOp.cmpi .slt (BitVec.ofNat 32 n.val) (nv (ix1 0)))) := by
  unfold fn fn_part1 fn_part2
  pointwise []

/-- The precondition, decoded. -/
theorem routed_of_pre (te : IVec S74 32) (nv : IVec S1 32) (clo chi : IVec S74 32) (src : IVec S37888x1 32) (x w1 w3 w2 gate)
    (h : fn (F := F) te nv clo chi src x w1 w3 w2 gate = fun _ => 1#1) : Routed te nv clo chi src := by
  have ha : ∀ p q : Bool, IntOp.andi (BitVec.ofBool p) (BitVec.ofBool q) = BitVec.ofBool (p && q) := by decide
  have hoo : ∀ p q : Bool, IntOp.ori (BitVec.ofBool p) (BitVec.ofBool q) = BitVec.ofBool (p || q) := by decide
  have hn : ∀ p : Bool, ~~~(BitVec.ofBool p) = BitVec.ofBool (!p) := by decide
  have ho : ∀ p : Bool, BitVec.ofBool p = 1#1 ↔ p = true := by decide
  have key : ∀ (n : Fin 74) (r : Fin 512), ((0 ≤ (te (ix1 n)).toInt ∧ (te (ix1 n)).toInt < 8) ∧
      ((((0 ≤ (clo (ix1 n)).toInt ∧ (clo (ix1 n)).toInt ≤ (chi (ix1 n)).toInt) ∧ (chi (ix1 n)).toInt < 32) ∧
        (src (ix2 (prow n r) 0) = 4294967295#32 ∨ (((clo (ix1 n)) * 512#32).toInt ≤ (src (ix2 (prow n r) 0)).toInt ∧ (src (ix2 (prow n r) 0)).toInt < (chi (ix1 n) * 512#32 + 512#32).toInt)))
        ∨ (BitVec.ofNat 32 n.val).slt (nv (ix1 0)) = false)) := fun n r => by
    have e := congrFun h (ix2 n r)
    rw [fn_apply] at e
    simp only [IntOp.cmpi, IntOp.muli, IntOp.addi, ha, hoo, hn, ho, Bool.and_eq_true, Bool.or_eq_true, Bool.not_eq_true', beq_iff_eq, BitVec.sle_eq_decide, decide_eq_true_eq] at e
    obtain ⟨⟨e1, e2⟩, e3⟩ := e
    refine ⟨⟨e1, by simpa [BitVec.slt_eq_decide] using e2⟩, ?_⟩
    rcases e3 with ⟨⟨⟨e4, e5⟩, e6⟩, e7⟩ | e8
    · refine .inl ⟨⟨⟨e4, e5⟩, by simpa [BitVec.slt_eq_decide] using e6⟩, ?_⟩
      rcases e7 with e7 | ⟨e7, e8⟩
      · exact .inl e7
      · exact .inr ⟨e7, by simpa [BitVec.slt_eq_decide] using e8⟩
    · exact .inr e8
  have small : ∀ w : BitVec 32, 0 ≤ w.toInt → w.toInt < 32 → w.toInt = w.toNat ∧ w.toNat < 32 := fun w h0 h1 => by
    have hlt := w.isLt
    rw [BitVec.toInt_eq_toNat_cond] at h0 h1 ⊢
    by_cases hc : 2 * w.toNat < 2 ^ 32
    · rw [if_pos hc] at h0 h1 ⊢; omega
    · rw [if_neg hc] at h0 h1 ⊢; omega
  have chunk : ∀ (n : Fin 74) (r : Fin 512), (BitVec.ofNat 32 n.val).slt (nv (ix1 0)) = true →
    ((clo (ix1 n)).toNat ≤ (chi (ix1 n)).toNat ∧ (chi (ix1 n)).toNat < 32) ∧
    (src (ix2 (prow n r) 0) = 4294967295#32 ∨
      ((clo (ix1 n)).toNat * 512 ≤ (src (ix2 (prow n r) 0)).toNat
        ∧ (src (ix2 (prow n r) 0)).toNat < (chi (ix1 n)).toNat * 512 + 512)) := fun n r hl => by
    obtain ⟨-, hk⟩ := key n r
    rcases hk with ⟨⟨⟨h1, h2⟩, h3⟩, h4⟩ | hk
    · obtain ⟨ec, hc⟩ := small _ h1 (by omega)
      obtain ⟨ed, hd⟩ := small _ (by omega) h3
      refine ⟨⟨by omega, hd⟩, h4.imp id fun h5 => ?_⟩
      generalize hs : src (ix2 (prow n r) 0) = s at h5 ⊢
      generalize hcl : clo (ix1 n) = a at *
      generalize hch : chi (ix1 n) = b at *
      obtain ⟨h5, h6⟩ := h5
      have ea : (a * 512#32).toNat = a.toNat * 512 := by rw [BitVec.toNat_mul]; simp; omega
      have eb : (b * 512#32 + 512#32).toNat = b.toNat * 512 + 512 := by rw [BitVec.toNat_add, BitVec.toNat_mul]; simp; omega
      have hlt := s.isLt
      rw [BitVec.toInt_eq_toNat_cond, ea, BitVec.toInt_eq_toNat_cond] at h5
      rw [BitVec.toInt_eq_toNat_cond, BitVec.toInt_eq_toNat_cond, eb] at h6
      rw [if_pos (by omega)] at h5
      rw [if_pos (show 2 * (b.toNat * 512 + 512) < 2 ^ 32 by omega)] at h6
      split at h5 <;> rename_i hcc <;> simp only [hcc, if_true, if_false] at h6 <;> omega
    · rw [hk] at hl; exact absurd hl (by decide)
  refine ⟨fun n => ?_, fun n hl => (chunk n 0 hl).1, fun n r hl => (chunk n r hl).2⟩
  obtain ⟨⟨h1, h2⟩, -⟩ := key n 0
  obtain ⟨e, h⟩ := small _ h1 (by omega)
  omega

end Cert.Moe
-- ==== Proof.MoeFI.lean ====
/-
  The grouped expert kernel's frame: the routing tables the precondition admits keep every block inside its array and
  every chunk inside the tokens, so every execution terminates, with the arguments as launched and the counters at zero.
-/
module

public import proofs.«01_k».proof.Proof.MoeLI
public import proofs.«01_k».proof.Proof.MoeRoute

@[expose] public section

set_option maxRecDepth 16384

noncomputable section

namespace Cert.Moe.KernelIdeal

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The launch memory's tables, rows and arrays, typed. -/
abbrev teA (c : Dev nD) : IVec S74 32 := m ((c : Thread nD τ).loc main_arg0)
abbrev nvA (c : Dev nD) : IVec S1 32 := m ((c : Thread nD τ).loc main_arg1)
abbrev cloA (c : Dev nD) : IVec S74 32 := m ((c : Thread nD τ).loc main_arg2)
abbrev chiA (c : Dev nD) : IVec S74 32 := m ((c : Thread nD τ).loc main_arg3)
abbrev srcA (c : Dev nD) : IVec S37888x1 32 := m ((c : Thread nD τ).loc main_arg4)

/-- The tables are a routing. -/
abbrev RoutedM : Prop := ∀ c : Dev nD, Routed (teA m c) (nvA m c) (cloA m c) (chiA m c) (srcA m c)

abbrev tileOf (i : grid0.Coords) : Fin 74 := i 0

/-- The place the kernel reads the last chunk at. -/
theorem off2_val (i : grid0.Coords) : (k0_off2 i) 0 = (i 0).val := by
  have h : (i 0).val < 74 := (i 0).isLt
  show (BitVec.ofNat 32 (i 0).val).toNat = _
  rw [BitVec.toNat_ofNat]; omega

/-- A table's word of a tile. -/
theorem tblW2_eq (c : Dev nD) (i : grid0.Coords) (xt : IVec S74 32) : tblW (F := F) c i tbM0_2 xt = xt (ix1 (i 0)) := by
  show xt _ = xt _
  congr 1
  funext a; fin_cases a
  apply Fin.ext
  show (k0_off2 i) 0 + 0 = (i 0).val
  rw [off2_val]; rfl
/-- The word read of the last table. -/
theorem tblW3_eq (c : Dev nD) (i : grid0.Coords) (xt : IVec S74 32) : tblW (F := F) c i tbM0_3 xt = xt (ix1 (i 0)) := tblW2_eq (F := F) c i xt
/-- The word read of the number of live tiles. -/
theorem nvW_eq (c : Dev nD) (xt : IVec S1 32) : nvW (F := F) c tbM0_1 xt = xt (ix1 0) := by
  show xt _ = xt _
  congr 1
  funext a; fin_cases a
  exact Subsingleton.elim (α := Fin 1) _ _

/-- The kernel's test that a tile is live. -/
theorem v10c_iff (i : grid0.Coords) (w : BitVec 32) : v10c i w = 1#1 ↔ (BitVec.ofNat 32 (i 0).val).slt w = true := by
  have h : ∀ p : Bool, Scalar.cmpi .ne (Scalar.extui (BitVec.ofBool p) : BitVec 32) 0#32 = 1#1 ↔ p = true := by decide
  exact h _
/-- A tile is live when its number is below the count. -/
theorem live_iff (c : Dev nD) (t : Fin grid0.N) : live m c t ↔ (BitVec.ofNat 32 (grid0.coords t 0).val).slt (nvA m c (ix1 0)) = true := by
  obtain rfl : c = 0 := Subsingleton.elim _ _
  unfold live; rw [v10c_iff]; exact iff_of_eq (congrArg (fun w => (BitVec.ofNat 32 (grid0.coords t 0).val).slt w = true) (nvW_eq (F := F) 0 (nvA m 0)))

/-- The word read for a tile's first chunk. -/
theorem lo_eq (c : Dev nD) (t : Fin grid0.N) : tblW c (grid0.coords t) tbM0_2 (tbl m 2) = cloA m c (ix1 (tileOf (grid0.coords t))) := by
  obtain rfl : c = 0 := Subsingleton.elim _ _
  exact tblW2_eq (F := F) 0 _ (cloA m 0)
/-- The word read for a tile's last chunk. -/
theorem hi_eq (c : Dev nD) (t : Fin grid0.N) : tblW c (grid0.coords t) tbM0_3 (tbl m 3) = chiA m c (ix1 (tileOf (grid0.coords t))) := by
  obtain rfl : c = 0 := Subsingleton.elim _ _
  exact tblW3_eq (F := F) 0 _ (chiA m 0)

/-- A live tile's chunks are in order and in range, by the precondition. -/
theorem rngAll (hR : RoutedM m) : RngAll m := fun c t hl => by
  rw [lo_eq, hi_eq]
  exact (hR c).chunks (tileOf (grid0.coords t)) ((live_iff m c t).mp hl)

/-- The block of the hidden axis the weights' windows show at a point: the point's own at a live tile, else the last. -/
def fsel (i : grid0.Coords) : Fin 7 := if (BitVec.ofNat 32 (i 0).val).slt (nvA m 0 (ix1 0)) = true then i 1 else 6

/-- The block of channels a point shows. -/
theorem sel_toNat (i : grid0.Coords) (w : BitVec 32) (h : w = nvA m 0 (ix1 0)) :
    (Scalar.select (Scalar.cmpi .slt (BitVec.ofNat 32 (i 0).val) w) (BitVec.ofNat 32 (i 1).val) 6#32 : BitVec 32).toNat = (fsel m i).val := by
  subst h
  have hi : (i 1).val < 7 := (i 1).isLt
  unfold fsel
  show (if BitVec.ofBool ((BitVec.ofNat 32 (i 0).val).slt (nvA m 0 (ix1 0))) = 1#1 then _ else _ : BitVec 32).toNat = _
  cases hb : (BitVec.ofNat 32 (i 0).val).slt (nvA m 0 (ix1 0))
  · rfl
  · show (BitVec.ofNat 32 (i 1).val).toNat = (i 1).val
    rw [BitVec.toNat_ofNat]; omega

/-- The expert's number, as the index maps read it. -/
theorem at0_eq (i : grid0.Coords) : (tbl m).at 0 (Rect.unit (s := S74) ![(Scalar.indexCast (BitVec.ofNat 32 (i 0).val) : Index).toNat] S1.size (k0_off1_inb i)) numel1_S1 = teA m 0 (ix1 (i 0)) := by
  show teA m 0 _ = teA m 0 _
  congr 1
  funext a; fin_cases a
  apply Fin.ext
  have h : (i 0).val < 74 := (i 0).isLt
  show (BitVec.ofNat 32 (i 0).val).toNat + 0 = (i 0).val
  rw [BitVec.toNat_ofNat]; omega
/-- The number of live tiles, as the index maps read it. -/
theorem at1_eq : (tbl m).at 1 (Rect.unit (s := S1) ![0] S1.size inb_S1_S1_0) numel1_S1 = nvA m 0 (ix1 0) := by
  show nvA m 0 _ = nvA m 0 _
  congr 1
  funext a; fin_cases a
  exact Subsingleton.elim (α := Fin 1) _ _

/-- The weights' index maps, at the launch memory's tables. -/
theorem tr2_eq (i : grid0.Coords) : cc0_transform_2 k0_off1_inb numel1_S1 inb_S1_S1_0 (tbl m) i = ![(teA m 0 (ix1 (i 0))).toNat, 0, (fsel m i).val] := by
  rw [← sel_toNat m i _ (at1_eq m), ← at0_eq m i]; rfl
/-- The block the index map of the projections to the hidden channels names. -/
theorem tr3_eq (i : grid0.Coords) : cc0_transform_3 k0_off1_inb numel1_S1 inb_S1_S1_0 (tbl m) i = ![(teA m 0 (ix1 (i 0))).toNat, 0, (fsel m i).val] := by
  rw [← sel_toNat m i _ (at1_eq m), ← at0_eq m i]; rfl
/-- The block the index map of the projection back names. -/
theorem tr4_eq (i : grid0.Coords) : cc0_transform_4 k0_off1_inb numel1_S1 inb_S1_S1_0 (tbl m) i = ![(teA m 0 (ix1 (i 0))).toNat, (fsel m i).val, 0] := by
  rw [← sel_toNat m i _ (at1_eq m), ← at0_eq m i]; rfl

/-- The blocks shown lie in their arrays, by the precondition. -/
theorem ok_of (hR : RoutedM m) : Ok m := by
  have he : ∀ i : grid0.Coords, (teA m 0 (ix1 (i 0))).toNat < 8 := fun i => (hR 0).expert (i 0)
  refine ⟨fun i => ?_, fun i => ?_, fun i => ?_⟩
  · refine ⟨fun a => ?_, .inr (Affine.block_words_dvd (of_decide_eq_true rfl) (by decide))⟩
    have := he i; have hf := (fsel m i).isLt
    rw [tr2_eq]
    fin_cases a
    · show ((teA m 0 (ix1 (i 0))).toNat + 1) * 1 ≤ 8; omega
    · show (0 + 1) * 1024 ≤ 1024; omega
    · show ((fsel m i).val + 1) * 512 ≤ 3584; omega
  · refine ⟨fun a => ?_, .inr (Affine.block_words_dvd (of_decide_eq_true rfl) (by decide))⟩
    have := he i; have hf := (fsel m i).isLt
    rw [tr3_eq]
    fin_cases a
    · show ((teA m 0 (ix1 (i 0))).toNat + 1) * 1 ≤ 8; omega
    · show (0 + 1) * 1024 ≤ 1024; omega
    · show ((fsel m i).val + 1) * 512 ≤ 3584; omega
  · refine ⟨fun a => ?_, .inr (Affine.block_words_dvd (of_decide_eq_true rfl) (by decide))⟩
    have := he i; have hf := (fsel m i).isLt
    rw [tr4_eq]
    fin_cases a
    · show ((teA m 0 (ix1 (i 0))).toNat + 1) * 1 ≤ 8; omega
    · show ((fsel m i).val + 1) * 512 ≤ 3584; omega
    · show (0 + 1) * 1024 ≤ 1024; omega

end Cert.Moe.KernelIdeal

namespace Cert.Moe

open Idealize.ShloMosaic Idealize.SL Idealize.SL.Sem

/-- The frame: under the precondition every execution terminates, the arguments as launched, the counters at zero. -/
theorem frame_KernelIdeal : quiescent_KernelIdeal := fun m ρ hP => by
  have hR : KernelIdeal.RoutedM m := fun c => routed_of_pre _ _ _ _ _ _ _ _ _ _ (hP c)
  exact (θ_run _ _ _).mono (fun _ h => ⟨fun c => (h.1 c).2.2, h.2⟩) (KernelIdeal.run_all m ρ (KernelIdeal.ok_of m hR) (KernelIdeal.rngAll m hR))

end Cert.Moe

end
-- ==== Proof.MoeV.lean ====
/-
  The grouped expert kernel's values over the extended reals: what each payload computes at an index, the rows the
  gather brings, the accumulator after each point, and the two results.
-/
module

public import proofs.«01_k».proof.Proof.MoeFI
public import proofs.«01_k».proof.Proof.Dense
public import Idealize.ShloMosaic.Lib.Pointwise
public import Idealize.ShloMosaic.Lib.IdealHost

@[expose] public section

set_option maxRecDepth 16384

noncomputable section

namespace Cert.Moe.KernelIdeal

open Cert.KernelIdeal Cert.KernelIdeal.Gen Cert.Dense
open Idealize.ShloMosaic
open Idealize.ShloMosaic.TcCoe
open Idealize.SL Idealize.SL.Sem

/-! ## The payloads at an index -/

/-- The rows started from are zero. -/
theorem pay1_apply (r : Fin 512) (h : Fin 1024) : (k0_pay1 (F := Ideal)) (ix2 r h) = 0 := by
  pointwise [k0_pay1]
/-- The sum started from is zero. -/
theorem pay5_apply (r : Fin 512) (h : Fin 1024) : (k0_pay5 (F := Ideal)) (ix2 r h) = 0 := by
  pointwise [k0_pay5]
/-- The rows stored, at an entry. -/
theorem pay4_apply (a : Vec Ideal S512x1024 .f32) (r : Fin 512) (h : Fin 1024) : k0_pay4 (F := Ideal) a (ix2 r h) = a (ix2 r h) := by
  pointwise [k0_pay4]
/-- A choice by an equality. -/
theorem select_eq_ite (u v : BitVec 32) (x y : EReal) : Scalar.select (IntOp.cmpi .eq u v) x y = if u = v then x else y := by
  show (if BitVec.ofBool (u == v) = 1#1 then x else y) = _
  by_cases h : u = v
  · subst h; simp
  · rw [if_neg h, beq_eq_false_iff_ne.mpr h]; rfl
/-- A chunk's one-hot product added, at an entry. -/
theorem pay2_apply (a b : BitVec 32) (src : Vec Ideal S512x1 .i32) (k : Fin (k0_t1_loop a b).trips) (acc : Vec Ideal S512x1024 .f32) (ch : Vec Ideal S1x512x1024 .bf16)
    (r : Fin 512) (h : Fin 1024) :
    k0_pay2 (F := Ideal) a b src k acc ch (ix2 r h)
      = acc (ix2 r h) + ∑ j : Fin 512, (if src (ix2 r 0) = BitVec.ofNat 32 j.val + Scf.iv a 1#32 k * 512#32 then ch (ix3 0 j h) else 0 : EReal) := by
  pointwise [k0_pay2]
  refine congrArg₂ _ rfl (Finset.sum_congr rfl fun j _ => ?_)
  exact select_eq_ite _ _ _ _
/-- A block of channels added, at an entry. -/
theorem pay6_apply (xs : Vec Ideal S512x1024 .bf16) (w1 w3 : Vec Ideal S1x1024x512 .bf16) (acc : Vec Ideal S512x1024 .f32) (w2 : Vec Ideal S1x512x1024 .bf16)
    (r : Fin 512) (h : Fin 1024) :
    k0_pay6 (F := Ideal) xs w1 w3 acc w2 (ix2 r h)
      = acc (ix2 r h) + ∑ f : Fin 512, gated (∑ k : Fin 1024, xs (ix2 r k) * w1 (ix3 0 k f)) (∑ k : Fin 1024, xs (ix2 r k) * w3 (ix3 0 k f)) * w2 (ix3 0 f h) := by
  pointwise [k0_pay6, gated]
/-- The high half stored, at an entry. -/
theorem pay8_apply (acc : Vec Ideal S512x1024 .f32) (g : Vec Ideal S512x1 .f32) (r : Fin 512) (h : Fin 1024) :
    k0_pay8 (F := Ideal) acc g (ix2 r h) = acc (ix2 r h) * g (ix2 r 0) := by
  pointwise [k0_pay8, k0_pay7]
/-- The low half stored, at an entry. -/
theorem pay9_apply (acc : Vec Ideal S512x1024 .f32) (g : Vec Ideal S512x1 .f32) (r : Fin 512) (h : Fin 1024) :
    k0_pay9 (F := Ideal) acc g (ix2 r h) = acc (ix2 r h) * g (ix2 r 0) - acc (ix2 r h) * g (ix2 r 0) := by
  pointwise [k0_pay9, k0_pay8, k0_pay7]

/-- A chunk of the tokens, as the loop's loads read it. -/
theorem chunk_apply (c : Dev nD) (XA : S16384x1024.Idx → EReal) (b : Fin 32) (j : Fin 512) (h : Fin 1024) :
    (chunk (F := Ideal) c XA b : S1x512x1024.Idx → EReal) (ix3 0 j h) = XA (ix2 ⟨b.val * 512 + j.val, by omega⟩ h) := by
  unfold chunk
  pointwise []
  show XA _ = XA _
  refine congrArg XA ?_
  show ((View.whole main_arg5).slice (Rect.unit (s := S16384x1024) (grpOff b) S512x1024.size (grpOff_inb b))).emb (ix2 j h) = _
  funext a; apply Fin.ext
  refine (ValueKit.view_emb_slice_whole_unit_val main_arg5 (grpOff b) S512x1024.size (grpOff_inb b) (ix2 j h) a).trans ?_
  fin_cases a
  · rfl
  · exact Nat.zero_add _

/-! ## The gather -/

/-- The token a word names, zero if it names none. -/
def tok (XA : S16384x1024.Idx → EReal) (s : BitVec 32) (h : Fin 1024) : EReal :=
  if hs : s.toNat < 16384 then XA (ix2 ⟨s.toNat, hs⟩ h) else 0

/-- One chunk's product with the indicator of the row's word: the token, if the word names one of the chunk. -/
theorem pick (XA : S16384x1024.Idx → EReal) (s : BitVec 32) (n : ℕ) (hn : n < 32) (w : BitVec 32) (hw : w.toNat = n) (h : Fin 1024) :
    (∑ j : Fin 512, (if s = BitVec.ofNat 32 j.val + w * 512#32 then XA (ix2 ⟨n * 512 + j.val, by omega⟩ h) else 0 : EReal))
      = if s.toNat / 512 = n then tok XA s h else 0 := by
  have hv : ∀ j : Fin 512, (BitVec.ofNat 32 j.val + w * 512#32).toNat = n * 512 + j.val := fun j => by
    have := j.isLt
    rw [BitVec.toNat_add, BitVec.toNat_mul, hw, BitVec.toNat_ofNat, BitVec.toNat_ofNat]; omega
  have hc : ∀ j : Fin 512, s = BitVec.ofNat 32 j.val + w * 512#32 ↔ s.toNat = n * 512 + j.val := fun j => by
    rw [← BitVec.toNat_inj, hv]
  simp only [hc]
  by_cases h1 : s.toNat / 512 = n
  · rw [if_pos h1, Finset.sum_eq_single (⟨s.toNat % 512, Nat.mod_lt _ (by decide)⟩ : Fin 512)]
    · have e : s.toNat = n * 512 + s.toNat % 512 := by omega
      rw [if_pos e]
      unfold tok
      rw [dif_pos (show s.toNat < 16384 by omega)]
      congr 2
      exact Fin.ext e.symm
    · intro j _ hj
      rw [if_neg]
      intro e
      exact hj (Fin.ext (by show j.val = s.toNat % 512; have := j.isLt; omega))
    · intro hj; exact absurd (Finset.mem_univ _) hj
  · rw [if_neg h1]
    refine Finset.sum_eq_zero fun j _ => if_neg fun e => h1 ?_
    have := j.isLt; omega

/-- The accumulator of the gather after `k` chunks: the rows whose word names a token of those chunks, zero elsewhere. -/
theorem accV_apply (c : Dev nD) (XA : S16384x1024.Idx → EReal) (a b : BitVec 32) (hR : Rng a b) (src : Vec Ideal S512x1 .i32) (r : Fin 512) (h : Fin 1024) :
    ∀ k, k ≤ (k0_t1_loop a b).trips → (accV (F := Ideal) c XA a b src k : S512x1024.Idx → EReal) (ix2 r h)
      = if a.toNat ≤ (src (ix2 r 0)).toNat / 512 ∧ (src (ix2 r 0)).toNat / 512 < a.toNat + k then tok XA (src (ix2 r 0)) h else 0 := by
  intro k
  induction k with
  | zero => intro _; rw [if_neg (by omega)]; exact pay1_apply r h
  | succ k ih =>
    intro hk
    have hlt : k < (k0_t1_loop a b).trips := hk
    have ht := trips1_eq hR
    have hn : a.toNat + k < 32 := by have := hR.2; have := hR.1; omega
    have hiv : (Scf.iv a 1#32 k).toNat = a.toNat + k := (by
      exact toNat_of_isInt (isInt_iv hR ⟨k, hlt⟩))
    unfold accV
    rw [dif_pos hlt, pay2_apply, ih (by omega)]
    have e : ∀ j : Fin 512, (chunk (F := Ideal) c XA (Ring.bk 32 (a.toNat + k)) : S1x512x1024.Idx → EReal) (ix3 0 j h) = XA (ix2 ⟨(a.toNat + k) * 512 + j.val, by omega⟩ h) := fun j => by
      rw [chunk_apply]; congr 2; apply Fin.ext; show (Ring.bk 32 (a.toNat + k)).val * 512 + j.val = _; rw [Ring.bk_val hn]
    simp only [e]
    rw [pick XA _ (a.toNat + k) hn _ hiv h]
    by_cases h1 : (src (ix2 r 0)).toNat / 512 = a.toNat + k
    · rw [if_neg (by omega), if_pos h1, if_pos (by omega), zero_add]
    · rw [if_neg h1, add_zero]
      by_cases h2 : a.toNat ≤ (src (ix2 r 0)).toNat / 512 ∧ (src (ix2 r 0)).toNat / 512 < a.toNat + k
      · rw [if_pos h2, if_pos (by omega)]
      · rw [if_neg h2, if_neg (by omega)]

/-- The rows gathered: a row whose word is padding, or a token of the chunks gone through, is that token (zero for padding). -/
theorem gather_apply (c : Dev nD) (XA : S16384x1024.Idx → EReal) (a b : BitVec 32) (hR : Rng a b) (src : Vec Ideal S512x1 .i32) (r : Fin 512) (h : Fin 1024)
    (hs : src (ix2 r 0) = 4294967295#32 ∨ (a.toNat * 512 ≤ (src (ix2 r 0)).toNat ∧ (src (ix2 r 0)).toNat < b.toNat * 512 + 512)) :
    k0_pay4 (F := Ideal) (accV (F := Ideal) c XA a b src (k0_t1_loop a b).trips) (ix2 r h) = tok XA (src (ix2 r 0)) h := by
  rw [pay4_apply, accV_apply c XA a b hR src r h _ le_rfl, trips1_eq hR]
  obtain ⟨h1, h2⟩ := hR
  rcases hs with hs | ⟨h3, h4⟩
  · rw [hs]
    have e : (4294967295#32).toNat = 4294967295 := rfl
    rw [e, if_neg (by omega)]
    unfold tok
    rw [dif_neg (by rw [e]; decide)]
  · rw [if_pos (by omega)]

/-! ## The blocks the windows show -/

variable (m : (ℓ : Loc nD τ sig) → Buf (Elt Ideal) ℓ)

abbrev xA (c : Dev nD) : S16384x1024.Idx → EReal := m ((c : Thread nD τ).loc main_arg5)
abbrev w1A (c : Dev nD) : S8x1024x3584.Idx → EReal := m ((c : Thread nD τ).loc main_arg6)
abbrev w3A (c : Dev nD) : S8x1024x3584.Idx → EReal := m ((c : Thread nD τ).loc main_arg7)
abbrev w2A (c : Dev nD) : S8x3584x1024.Idx → EReal := m ((c : Thread nD τ).loc main_arg8)
abbrev gA (c : Dev nD) : S37888x1.Idx → EReal := m ((c : Thread nD τ).loc main_arg9)

/-- A tile's number as a word. -/
theorem tile_word (i : grid0.Coords) : (BitVec.ofNat 32 (i 0).val).toNat = (i 0).val := by
  have h : (i 0).val < 74 := (i 0).isLt
  rw [BitVec.toNat_ofNat, Nat.mod_eq_of_lt (by omega)]
/-- Window 0's index map. -/
theorem i0 (hO : Ok m) (t : Fin (cfgM m hO).N) : (pcfg0.win (adm m hO) 0).index t = ![(grid0.coords t 0).val, 0] := by
  rw [← tile_word (grid0.coords t)]; rfl
/-- Window 1's index map. -/
theorem i1 (hO : Ok m) (t : Fin (cfgM m hO).N) : (pcfg0.win (adm m hO) 1).index t = ![(teA m 0 (ix1 (grid0.coords t 0))).toNat, 0, (fsel m (grid0.coords t)).val] :=
  tr2_eq m (grid0.coords t)
/-- Window 2's index map. -/
theorem i2 (hO : Ok m) (t : Fin (cfgM m hO).N) : (pcfg0.win (adm m hO) 2).index t = ![(teA m 0 (ix1 (grid0.coords t 0))).toNat, 0, (fsel m (grid0.coords t)).val] :=
  tr3_eq m (grid0.coords t)
/-- Window 3's index map. -/
theorem i3 (hO : Ok m) (t : Fin (cfgM m hO).N) : (pcfg0.win (adm m hO) 3).index t = ![(teA m 0 (ix1 (grid0.coords t 0))).toNat, (fsel m (grid0.coords t)).val, 0] :=
  tr4_eq m (grid0.coords t)
/-- Window 4's index map. -/
theorem i4 (hO : Ok m) (t : Fin (cfgM m hO).N) : (pcfg0.win (adm m hO) 4).index t = ![(grid0.coords t 0).val, 0] := by
  rw [← tile_word (grid0.coords t)]; rfl
/-- Window 5's index map. -/
theorem i5 (hO : Ok m) (t : Fin (cfgM m hO).N) : (pcfg0.win (adm m hO) 5).index t = ![(grid0.coords t 0).val, 0] := by
  rw [← tile_word (grid0.coords t)]; rfl
/-- Window 6's index map. -/
theorem i6 (hO : Ok m) (t : Fin (cfgM m hO).N) : (pcfg0.win (adm m hO) 6).index t = ![(grid0.coords t 0).val, 0] := by
  rw [← tile_word (grid0.coords t)]; rfl

section Blocks
variable (hO : Ok m) (c : Dev nD) (t : Fin (cfgM m hO).N)

/-- Window 0's block at a point. -/
theorem b0 (r : Fin 512) : (iblk m hO c 0 t : Vec Ideal S512x1 .i32) (ix2 r 0) = srcA m c (ix2 (prow (grid0.coords t 0) r) 0) := by
  have j := i0 m hO t
  blk_ext [iblk, V]
  case «0» => exact congrArg (· * 512 + r.val) (congrFun j 0)
  case «1» => exact congrFun j 1
/-- Window 4's block at a point. -/
theorem b4 (r : Fin 512) : (iblk m hO c 4 t : Vec Ideal S512x1 .f32) (ix2 r 0) = gA m c (ix2 (prow (grid0.coords t 0) r) 0) := by
  have j := i4 m hO t
  blk_ext [iblk, V]
  case «0» => exact congrArg (· * 512 + r.val) (congrFun j 0)
  case «1» => exact congrFun j 1
variable (e : Fin 8) (he : (teA m 0 (ix1 (grid0.coords t 0))).toNat = e.val) (b : Fin 7) (hb : fsel m (grid0.coords t) = b)
include he hb
/-- Window 1's block at a point. -/
theorem b1 (k : Fin 1024) (f : Fin 512) :
    (iblk m hO c 1 t : Vec Ideal S1x1024x512 .bf16) (ix3 0 k f) = w1A m c (ix3 e k ⟨b.val * 512 + f.val, by omega⟩) := by
  have j := i1 m hO t
  rw [he, hb] at j
  blk_ext [iblk, V]
  case «0» => exact congrFun j 0
  case «1» => exact (congrArg (· * 1024 + k.val) (congrFun j 1)).trans (by simp)
  case «2» => exact congrArg (· * 512 + f.val) (congrFun j 2)
/-- Window 2's block at a point. -/
theorem b2 (k : Fin 1024) (f : Fin 512) :
    (iblk m hO c 2 t : Vec Ideal S1x1024x512 .bf16) (ix3 0 k f) = w3A m c (ix3 e k ⟨b.val * 512 + f.val, by omega⟩) := by
  have j := i2 m hO t
  rw [he, hb] at j
  blk_ext [iblk, V]
  case «0» => exact congrFun j 0
  case «1» => exact (congrArg (· * 1024 + k.val) (congrFun j 1)).trans (by simp)
  case «2» => exact congrArg (· * 512 + f.val) (congrFun j 2)
/-- Window 3's block at a point. -/
theorem b3 (f : Fin 512) (h : Fin 1024) :
    (iblk m hO c 3 t : Vec Ideal S1x512x1024 .bf16) (ix3 0 f h) = w2A m c (ix3 e ⟨b.val * 512 + f.val, by omega⟩ h) := by
  have j := i3 m hO t
  rw [he, hb] at j
  blk_ext [iblk, V]
  case «0» => exact congrFun j 0
  case «1» => exact congrArg (· * 512 + f.val) (congrFun j 1)
  case «2» => exact (congrArg (· * 1024 + h.val) (congrFun j 2)).trans (by simp)
end Blocks

/-! ## The accumulator after each point -/

/-- The expert network's hidden entry `f` of a row's word `s`, and its product with the way back. -/
def hidw (c : Dev nD) (s : BitVec 32) (e : Fin 8) (h : Fin 1024) (f : Fin 3584) : EReal :=
  gated (∑ k : Fin 1024, tok (xA m c) s k * w1A m c (ix3 e k f)) (∑ k : Fin 1024, tok (xA m c) s k * w3A m c (ix3 e k f)) * w2A m c (ix3 e f h)
/-- Their sum over block `b` of the hidden axis. -/
def part (c : Dev nD) (s : BitVec 32) (e : Fin 8) (h : Fin 1024) (b : ℕ) : EReal :=
  if hb : b < 7 then ∑ f : Fin 512, hidw m c s e h ⟨b * 512 + f.val, by omega⟩ else 0
/-- The blocks of channels make all channels. -/
theorem sum_part (c : Dev nD) (s : BitVec 32) (e : Fin 8) (h : Fin 1024) : ∑ b ∈ Finset.range 7, part m c s e h b = ∑ f : Fin 3584, hidw m c s e h f := by
  rw [Finset.sum_range, Fin.sum_univ_tiles 7 512 rfl]
  refine Finset.sum_congr rfl fun b _ => ?_
  unfold part
  rw [dif_pos b.isLt]

/-- What the accumulator and the rows are after point `t`. -/
def After (hO : Ok m) (c : Dev nD) (t : Fin (cfgM m hO).N) (p : Vec Ideal S512x1024 .f32 × Vec Ideal S512x1024 .bf16) : Prop :=
  (live m c t → (∀ r h (e : Fin 8), (teA m 0 (ix1 (grid0.coords t 0))).toNat = e.val →
      p.1 (ix2 r h) = ∑ b ∈ Finset.range (t.val % 7 + 1), part m c (srcA m c (ix2 (prow (grid0.coords t 0) r) 0)) e h b)
    ∧ ∀ r k, p.2 (ix2 r k) = tok (xA m c) (srcA m c (ix2 (prow (grid0.coords t 0) r) 0)) k)
  ∧ (¬ live m c t → ∀ r h, p.1 (ix2 r h) = 0)

/-- A live tile's points show their own block of channels. -/
theorem fsel_live (c : Dev nD) (t : Fin grid0.N) (hl : live m c t) : (fsel m (grid0.coords t)).val = t.val % 7 := by
  obtain rfl : c = 0 := Subsingleton.elim _ _
  exact (congrArg Fin.val (if_pos ((live_iff m 0 t).mp hl))).trans (coords1 t)

/-- One point's update of the accumulator: its block's products, added. -/
theorem update_aux (c : Dev nD) (s : BitVec 32) (e : Fin 8) (b : Fin 7) (xs : Vec Ideal S512x1024 .bf16) (w1 w3 : Vec Ideal S1x1024x512 .bf16)
    (acc : Vec Ideal S512x1024 .f32) (w2 : Vec Ideal S1x512x1024 .bf16) (r : Fin 512) (h : Fin 1024)
    (hxs : ∀ k, xs (ix2 r k) = tok (xA m c) s k) (h1 : ∀ k f, w1 (ix3 0 k f) = w1A m c (ix3 e k ⟨b.val * 512 + f.val, by omega⟩))
    (h3 : ∀ k f, w3 (ix3 0 k f) = w3A m c (ix3 e k ⟨b.val * 512 + f.val, by omega⟩))
    (h2 : ∀ f h, w2 (ix3 0 f h) = w2A m c (ix3 e ⟨b.val * 512 + f.val, by omega⟩ h)) :
    k0_pay6 (F := Ideal) xs w1 w3 acc w2 (ix2 r h) = acc (ix2 r h) + part m c s e h b.val := by
  rw [pay6_apply]
  unfold part hidw
  rw [dif_pos b.isLt]
  simp only [hxs, h1, h2, h3]

/-- A live point adds its block of channels. -/
theorem update (hO : Ok m) (c : Dev nD) (t : Fin (cfgM m hO).N) (hl : live m c t) (xs : Vec Ideal S512x1024 .bf16) (acc : Vec Ideal S512x1024 .f32)
    (r : Fin 512) (h : Fin 1024) (e : Fin 8) (he : (teA m 0 (ix1 (grid0.coords t 0))).toNat = e.val)
    (hxs : ∀ k, xs (ix2 r k) = tok (xA m c) (srcA m c (ix2 (prow (grid0.coords t 0) r) 0)) k) :
    k0_pay6 (F := Ideal) xs (iblk m hO c 1 t) (iblk m hO c 2 t) acc (iblk m hO c 3 t) (ix2 r h)
      = acc (ix2 r h) + part m c (srcA m c (ix2 (prow (grid0.coords t 0) r) 0)) e h (t.val % 7) :=
  have h7 : t.val % 7 < 7 := Nat.mod_lt _ (by decide)
  have hb : fsel m (grid0.coords t) = ⟨t.val % 7, h7⟩ := Fin.ext (fsel_live m c t hl)
  update_aux m c _ e ⟨t.val % 7, h7⟩ xs _ _ acc _ r h hxs (b1 m hO c t e he _ hb) (b2 m hO c t e he _ hb) (b3 m hO c t e he _ hb)

/-- Points of one tile have its number. -/
theorem coords0_eq (t t' : Fin grid0.N) (h : t.val / 7 = t'.val / 7) : grid0.coords t 0 = grid0.coords t' 0 :=
  Fin.ext (by rw [coords0, coords0, h])

/-- A tile's first point. -/
theorem after_first (hO : Ok m) (hR : RoutedM m) (c : Dev nD) (t : Fin (cfgM m hO).N) (h0 : t.val % 7 = 0) (p) : After m hO c t (step m hO c t p) := by
  refine ⟨fun hl => ?_, fun hl r h => ?_⟩
  · have hg : ∀ r k, gath m hO c t (ix2 r k) = tok (xA m c) (srcA m c (ix2 (prow (grid0.coords t 0) r) 0)) k := fun r k => by
      unfold gath
      rw [gather_apply c (xA m c) _ _ (rngAll m hR c t hl) (iblk m hO c 0 t) r k, b0]
      rw [lo_eq, hi_eq, b0]
      exact (hR c).rows (grid0.coords t 0) r ((live_iff m c t).mp hl)
    unfold step
    rw [if_pos h0, if_pos hl]
    refine ⟨fun r h e he => ?_, hg⟩
    dsimp only
    rw [update m hO c t hl _ _ r h e he (hg r), pay5_apply, zero_add, h0, Finset.sum_range_one]
  · unfold step
    rw [if_pos h0, if_neg hl]
    exact pay5_apply r h

/-- The points after it. -/
theorem after_next (hO : Ok m) (c : Dev nD) (t t' : Fin (cfgM m hO).N) (ht : t.val = t'.val + 1) (h0 : ¬ t.val % 7 = 0) (p) (hp : After m hO c t' p) :
    After m hO c t (step m hO c t p) := by
  have hd : t.val / 7 = t'.val / 7 := by omega
  have hl' : live m c t ↔ live m c t' := live_congr m c t t' hd
  have hc := coords0_eq t t' hd
  refine ⟨fun hl => ?_, fun hl r h => ?_⟩
  · obtain ⟨hp1, hp2⟩ := hp.1 (hl'.mp hl)
    rw [← hc] at hp1 hp2
    unfold step
    rw [if_neg h0, if_pos hl]
    refine ⟨fun r h e he => ?_, hp2⟩
    dsimp only
    rw [update m hO c t hl _ _ r h e he (hp2 r), hp1 r h e he, show t.val % 7 = t'.val % 7 + 1 by omega]
    exact (Finset.sum_range_succ _ _).symm
  · unfold step
    rw [if_neg h0, if_neg hl]
    exact hp.2 (fun h' => hl (hl'.mpr h')) r h

/-- What a point leaves in the scratch memory. -/
theorem after_outs (hO : Ok m) (hR : RoutedM m) (c : Dev nD) : ∀ (n : ℕ) (h : n < (cfgM m hO).N), After m hO c ⟨n, h⟩ (outs m hO c n h) := by
  intro n
  induction n with
  | zero => intro h; exact after_first m hO hR c ⟨0, h⟩ rfl _
  | succ n ih =>
    intro h
    by_cases h0 : (n + 1) % 7 = 0
    · exact after_first m hO hR c ⟨n + 1, h⟩ h0 _
    · exact after_next m hO c ⟨n + 1, h⟩ ⟨n, Nat.lt_of_succ_lt h⟩ rfl h0 _ (ih _)

/-! ## The results -/

/-- The tile of a row, its expert, whether it is live, and its output before the gate. -/
abbrev tileR (q : Fin 37888) : Fin 74 := ⟨q.val / 512, by omega⟩
/-- One entry of the layer's result: of a live tile the expert's network of the row, gated; of the others zero. -/
def yOf (hR : RoutedM m) (q : Fin 37888) (h : Fin 1024) : EReal :=
  if (BitVec.ofNat 32 (q.val / 512)).slt (nvA m 0 (ix1 0)) = true then
    (∑ f : Fin 3584, hidw m 0 (srcA m 0 (ix2 q 0)) ⟨(teA m 0 (ix1 (tileR q))).toNat, (hR 0).expert _⟩ h f) * gA m 0 (ix2 q 0)
  else 0

/-- The scaled sum at a tile's last point is the result's entry. -/
theorem out_apply (hO : Ok m) (hR : RoutedM m) (t : Fin (cfgM m hO).N) (h6 : t.val % 7 = 6) (r : Fin 512) (h : Fin 1024) :
    (outs m hO 0 t.val t.isLt).1 (ix2 r h) * gA m 0 (ix2 (prow (grid0.coords t 0) r) 0) = yOf m hR (prow (grid0.coords t 0) r) h := by
  have hA := after_outs m hO hR 0 t.val t.isLt
  have hr : (prow (grid0.coords t 0) r).val / 512 = (grid0.coords t 0).val := by
    show ((grid0.coords t 0).val * 512 + r.val) / 512 = _
    have := r.isLt; omega
  have hr' : tileR (prow (grid0.coords t 0) r) = grid0.coords t 0 := Fin.ext hr
  unfold yOf
  rw [hr]
  by_cases hl : live m 0 t
  · rw [if_pos ((live_iff m 0 t).mp hl)]
    obtain ⟨h1, -⟩ := hA.1 hl
    rw [h1 r h ⟨(teA m 0 (ix1 (tileR (prow (grid0.coords t 0) r)))).toNat, (hR 0).expert _⟩ (by rw [hr'])]
    show (∑ b ∈ Finset.range (t.val % 7 + 1), _) * _ = _
    rw [h6, sum_part]
  · rw [if_neg (fun h' => hl ((live_iff m 0 t).mpr h')), hA.2 hl r h, zero_mul]

/-- The two result arrays. -/
def hiY (hR : RoutedM m) : S37888x1024.Idx → EReal := fun i => yOf m hR (i 0) (i 1)
def loY (hR : RoutedM m) : S37888x1024.Idx → EReal := fun i => yOf m hR (i 0) (i 1) - yOf m hR (i 0) (i 1)

/-- The first output's blocks cover it. -/
theorem covers5 (hO : Ok m) : ((cfgM m hO).win 5).Covers := by
  refine ⟨(by decide : ∀ a : Fin 2, 0 < S512x1024.size a), fun β => ?_⟩
  have hb : (β (0 : Fin 2)).val < 74 := lt_of_lt_of_eq (β (0 : Fin 2)).isLt (by show (37888 + 512 - 1) / 512 = 74; rfl)
  have hb1 : (β (1 : Fin 2)).val < 1 := lt_of_lt_of_eq (β (1 : Fin 2)).isLt (by show (1024 + 1024 - 1) / 1024 = 1; rfl)
  have hN : (β (0 : Fin 2)).val * 7 + 6 < (cfgM m hO).N := by show _ < 518; omega
  refine ⟨⟨(β (0 : Fin 2)).val * 7 + 6, hN⟩, (flush0_5 (adm m hO) _).2 (by show ((β (0 : Fin 2)).val * 7 + 6) % 7 = 6; omega), fun a => ⟨?_, Or.inl rfl⟩⟩
  refine (congrFun (i5 m hO ⟨_, hN⟩) a).trans ?_
  revert a
  refine fun (a : Fin 2) => ?_
  fin_cases a
  · exact (coords0 ⟨_, hN⟩).trans (by show ((β (0 : Fin 2)).val * 7 + 6) / 7 = (β (0 : Fin 2)).val; omega)
  · show 0 = (β (1 : Fin 2)).val; omega
/-- The second output's blocks cover it. -/
theorem covers6 (hO : Ok m) : ((cfgM m hO).win 6).Covers := by
  refine ⟨(by decide : ∀ a : Fin 2, 0 < S512x1024.size a), fun β => ?_⟩
  have hb : (β (0 : Fin 2)).val < 74 := lt_of_lt_of_eq (β (0 : Fin 2)).isLt (by show (37888 + 512 - 1) / 512 = 74; rfl)
  have hb1 : (β (1 : Fin 2)).val < 1 := lt_of_lt_of_eq (β (1 : Fin 2)).isLt (by show (1024 + 1024 - 1) / 1024 = 1; rfl)
  have hN : (β (0 : Fin 2)).val * 7 + 6 < (cfgM m hO).N := by show _ < 518; omega
  refine ⟨⟨(β (0 : Fin 2)).val * 7 + 6, hN⟩, (flush0_6 (adm m hO) _).2 (by show ((β (0 : Fin 2)).val * 7 + 6) % 7 = 6; omega), fun a => ⟨?_, Or.inl rfl⟩⟩
  refine (congrFun (i6 m hO ⟨_, hN⟩) a).trans ?_
  revert a
  refine fun (a : Fin 2) => ?_
  fin_cases a
  · exact (coords0 ⟨_, hN⟩).trans (by show ((β (0 : Fin 2)).val * 7 + 6) / 7 = (β (0 : Fin 2)).val; omega)
  · show 0 = (β (1 : Fin 2)).val; omega

/-- An entry of the high half. -/
theorem out5_aux (hR : RoutedM m) (acc : Vec Ideal S512x1024 .f32) (g : Vec Ideal S512x1 .f32) (r : Fin 512) (h : Fin 1024) (q : Fin 37888) (gv : EReal)
    (hg : g (ix2 r 0) = gv) (hy : acc (ix2 r h) * gv = yOf m hR q h) : k0_pay8 (F := Ideal) acc g (ix2 r h) = yOf m hR q h := by
  rw [pay8_apply, hg, hy]
/-- An entry of the low half. -/
theorem out6_aux (hR : RoutedM m) (acc : Vec Ideal S512x1024 .f32) (g : Vec Ideal S512x1 .f32) (r : Fin 512) (h : Fin 1024) (q : Fin 37888) (gv : EReal)
    (hg : g (ix2 r 0) = gv) (hy : acc (ix2 r h) * gv = yOf m hR q h) : k0_pay9 (F := Ideal) acc g (ix2 r h) = yOf m hR q h - yOf m hR q h := by
  rw [pay9_apply, hg, hy]

/-- The high halves after the last point. -/
theorem arr5 (hO : Ok m) (hR : RoutedM m) : (dats m hO 0 0).arrAt 5 (cfgM m hO).N = hiY m hR := by
  refine (dats m hO 0 0).arrAt_eq_of_covers 5 _ (covers5 m hO) fun t hf y => ?_
  have h6 := (flush0_5 (adm m hO) t).1 hf
  blk_simp
  rw [after0_5]
  revert y
  refine fun (y : S512x1024.Idx) => ?_
  idx_vars y
  have j := i5 m hO t
  have e : ((View.whole main_v0_0).slice ((pcfg0.win (adm m hO) 5).rect t)).emb (ix2 y0 y1) = (ix2 (prow (grid0.coords t 0) y0) y1 : S37888x1024.Idx) := by
    blk_ext []
    case «0» => exact congrArg (· * 512 + y0.val) (congrFun j 0)
    case «1» => exact (congrArg (· * 1024 + y1.val) (congrFun j 1)).trans (by simp)
  refine Eq.trans ?_ (congrArg (hiY m hR) e).symm
  exact out5_aux m hR _ _ y0 y1 _ _ (b4 m hO 0 t y0) (out_apply m hO hR t h6 y0 y1)

/-- The low halves after the last point. -/
theorem arr6 (hO : Ok m) (hR : RoutedM m) : (dats m hO 0 0).arrAt 6 (cfgM m hO).N = loY m hR := by
  refine (dats m hO 0 0).arrAt_eq_of_covers 6 _ (covers6 m hO) fun t hf y => ?_
  have h6 := (flush0_6 (adm m hO) t).1 hf
  blk_simp
  rw [after0_6]
  revert y
  refine fun (y : S512x1024.Idx) => ?_
  idx_vars y
  have j := i6 m hO t
  have e : ((View.whole main_v0_1).slice ((pcfg0.win (adm m hO) 6).rect t)).emb (ix2 y0 y1) = (ix2 (prow (grid0.coords t 0) y0) y1 : S37888x1024.Idx) := by
    blk_ext []
    case «0» => exact congrArg (· * 512 + y0.val) (congrFun j 0)
    case «1» => exact (congrArg (· * 1024 + y1.val) (congrFun j 1)).trans (by simp)
  refine Eq.trans ?_ (congrArg (loY m hR) e).symm
  exact out6_aux m hR _ _ y0 y1 _ _ (b4 m hO 0 t y0) (out_apply m hO hR t h6 y0 y1)

end Cert.Moe.KernelIdeal

end
-- ==== Proof.MoeR.lean ====
/- The routed experts' reference over the extended reals: its rows, and the one entry of its result that the sum over the
   eight experts leaves. -/
module

public import proofs.«01_k».proof.Proof.MoeV
public import proofs.«01_k».proof.Proof.Gen.ReferenceIdeal.Run
public import Idealize.ShloMosaic.Lib.Routing.Ops

@[expose] public section

set_option maxRecDepth 16384

noncomputable section

namespace Cert.Moe.R

open Idealize.ShloMosaic Idealize.ShloMosaic.TcCoe Idealize.SL.Sem
open Cert.ReferenceIdeal Cert.Dense

variable (V0 : Valuation τ sig (Elt Ideal))

abbrev te : S74.Idx → BitVec 32 := V0 (Proc.devRef .tc main_arg0)
abbrev nv : S1.Idx → BitVec 32 := V0 (Proc.devRef .tc main_arg1)
abbrev src : S37888x1.Idx → BitVec 32 := V0 (Proc.devRef .tc main_arg4)
abbrev xR : S16384x1024.Idx → EReal := V0 (Proc.devRef .tc main_arg5)
abbrev w1R : S8x1024x3584.Idx → EReal := V0 (Proc.devRef .tc main_arg6)
abbrev w3R : S8x1024x3584.Idx → EReal := V0 (Proc.devRef .tc main_arg7)
abbrev w2R : S8x3584x1024.Idx → EReal := V0 (Proc.devRef .tc main_arg8)
abbrev gR : S37888x1.Idx → EReal := V0 (Proc.devRef .tc main_arg9)
/-- The gathered rows. -/
abbrev rows : S37888x1024.Idx → EReal := Value.res_main_v20 V0
/-- The expert number of each row, -1 of a tile past the last. -/
abbrev eid : S37888x1.Idx → BitVec 32 := Value.res_main_v6 V0
/-- The result before it is split in two halves. -/
abbrev res : S37888x1024.Idx → EReal := Value.res_main_v181 V0

/-- A row's product with one expert's first weight. -/
def aDot (q : Fin 37888) (e : Fin 8) (f : Fin 3584) : EReal := ∑ k : Fin 1024, rows V0 (ix2 q k) * w1R V0 (ix3 e k f)
/-- A step of the reference, at an entry. -/
theorem v31 (q : Fin 37888) (f : Fin 3584) : (Value.res_main_v31 V0 : S37888x3584.Idx → EReal) (ix2 q f) = aDot V0 q 0 f := by
  unfold aDot
  pointwise [Value.res_main_v31]
/-- A step of the reference, at an entry. -/
theorem v51 (q : Fin 37888) (f : Fin 3584) : (Value.res_main_v51 V0 : S37888x3584.Idx → EReal) (ix2 q f) = aDot V0 q 1 f := by
  unfold aDot
  pointwise [Value.res_main_v51]
/-- A step of the reference, at an entry. -/
theorem v71 (q : Fin 37888) (f : Fin 3584) : (Value.res_main_v71 V0 : S37888x3584.Idx → EReal) (ix2 q f) = aDot V0 q 2 f := by
  unfold aDot
  pointwise [Value.res_main_v71]
/-- A step of the reference, at an entry. -/
theorem v91 (q : Fin 37888) (f : Fin 3584) : (Value.res_main_v91 V0 : S37888x3584.Idx → EReal) (ix2 q f) = aDot V0 q 3 f := by
  unfold aDot
  pointwise [Value.res_main_v91]
/-- A step of the reference, at an entry. -/
theorem v111 (q : Fin 37888) (f : Fin 3584) : (Value.res_main_v111 V0 : S37888x3584.Idx → EReal) (ix2 q f) = aDot V0 q 4 f := by
  unfold aDot
  pointwise [Value.res_main_v111]
/-- A step of the reference, at an entry. -/
theorem v131 (q : Fin 37888) (f : Fin 3584) : (Value.res_main_v131 V0 : S37888x3584.Idx → EReal) (ix2 q f) = aDot V0 q 5 f := by
  unfold aDot
  pointwise [Value.res_main_v131]
/-- A step of the reference, at an entry. -/
theorem v151 (q : Fin 37888) (f : Fin 3584) : (Value.res_main_v151 V0 : S37888x3584.Idx → EReal) (ix2 q f) = aDot V0 q 6 f := by
  unfold aDot
  pointwise [Value.res_main_v151]
/-- A step of the reference, at an entry. -/
theorem v171 (q : Fin 37888) (f : Fin 3584) : (Value.res_main_v171 V0 : S37888x3584.Idx → EReal) (ix2 q f) = aDot V0 q 7 f := by
  unfold aDot
  pointwise [Value.res_main_v171]

/-- One expert's network of one row. -/
def net (q : Fin 37888) (h : Fin 1024) (e : Fin 8) : EReal :=
  ∑ f : Fin 3584, gated (aDot V0 q e f) (∑ k : Fin 1024, rows V0 (ix2 q k) * w3R V0 (ix3 e k f)) * w2R V0 (ix3 e f h)
/-- One expert's term of one row: its network, gated if the row is that expert's. -/
def term (q : Fin 37888) (h : Fin 1024) (e : Fin 8) (w : BitVec 32) : EReal :=
  net V0 q h e * Scalar.select (IntOp.cmpi .eq (eid V0 (ix2 q 0)) w) (gR V0 (ix2 q 0)) (id (constant (F := Ideal) S_ .f32 0#32) ix0)

/-- A step of the reference, at an entry. -/
theorem v101 (q : Fin 37888) (h : Fin 1024) : (Value.res_main_v101 V0 : S37888x1024.Idx → EReal) (ix2 q h)
    = term V0 q h 0 0#32 + term V0 q h 1 1#32 + term V0 q h 2 2#32 + term V0 q h 3 3#32 := by
  pointwise [Value.res_main_v101]
  simp only [v31, v51, v71, v91, gated_eq]
  rfl
/-- A step of the reference, at an entry. -/
theorem v181 (q : Fin 37888) (h : Fin 1024) : res V0 (ix2 q h)
    = term V0 q h 0 0#32 + term V0 q h 1 1#32 + term V0 q h 2 2#32 + term V0 q h 3 3#32
      + term V0 q h 4 4#32 + term V0 q h 5 5#32 + term V0 q h 6 6#32 + term V0 q h 7 7#32 := by
  rw [← v101]
  pointwise [Value.res_main_v181]
  simp only [v111, v131, v151, v171, gated_eq]
  rfl

/-- The reference's zero. -/
theorem zero0 : id (constant (F := Ideal) S_ .f32 0#32) ix0 = (0 : EReal) := by
  pointwise [id]
/-- An expert's term of a row. -/
theorem term_eq (q : Fin 37888) (h : Fin 1024) (e : Fin 8) (w : BitVec 32) :
    term V0 q h e w = net V0 q h e * if eid V0 (ix2 q 0) = w then gR V0 (ix2 q 0) else 0 := by
  unfold term
  rw [zero0, KernelIdeal.select_eq_ite]

/-- Of the eight terms the row's own expert's survives. -/
theorem own_term (u : BitVec 32) (e : Fin 8) (hu : u = BitVec.ofNat 32 e.val) (T : Fin 8 → EReal) (g : EReal) :
    T 0 * (if u = 0#32 then g else 0) + T 1 * (if u = 1#32 then g else 0) + T 2 * (if u = 2#32 then g else 0) + T 3 * (if u = 3#32 then g else 0)
      + T 4 * (if u = 4#32 then g else 0) + T 5 * (if u = 5#32 then g else 0) + T 6 * (if u = 6#32 then g else 0) + T 7 * (if u = 7#32 then g else 0)
      = T e * g := by
  subst hu
  fin_cases e <;> simp
/-- Of a row of a tile past the last none does. -/
theorem no_term (T : Fin 8 → EReal) (g : EReal) (u : BitVec 32) (hu : u = 4294967295#32) :
    T 0 * (if u = 0#32 then g else 0) + T 1 * (if u = 1#32 then g else 0) + T 2 * (if u = 2#32 then g else 0) + T 3 * (if u = 3#32 then g else 0)
      + T 4 * (if u = 4#32 then g else 0) + T 5 * (if u = 5#32 then g else 0) + T 6 * (if u = 6#32 then g else 0) + T 7 * (if u = 7#32 then g else 0)
      = 0 := by
  subst hu
  simp

/-- The expert of a row's tile. -/
theorem eid_apply (q : Fin 37888) : eid V0 (ix2 q 0)
    = if (BitVec.ofNat 32 (q.val / 512)).slt (nv V0 (ix1 0)) = true then te V0 (ix1 ⟨q.val / 512, by omega⟩) else 4294967295#32 := by
  pointwise [Value.res_main_v6]
  show (if BitVec.ofBool _ = 1#1 then _ else _) = _
  by_cases h : (BitVec.ofNat 32 (q.val / 512)).slt (nv V0 (ix1 0)) = true
  · rw [if_pos h]
    refine if_pos ?_
    exact congrArg BitVec.ofBool h
  · rw [if_neg h]
    refine (if_neg ?_).trans rfl
    intro h'
    exact h (by cases hb : (BitVec.ofNat 32 (q.val / 512)).slt (nv V0 (ix1 0)) with
      | true => rfl
      | false => exact absurd ((congrArg BitVec.ofBool hb).symm.trans h') (by decide))

/-- A word is its number's word. -/
theorem ofNat_toNat32 (s : BitVec 32) : BitVec.ofNat 32 s.toNat = s := BitVec.eq_of_toNat_eq (by rw [BitVec.toNat_ofNat, Nat.mod_eq_of_lt s.isLt])
/-- A token's number as an integer. -/
theorem toInt_small (s : BitVec 32) (hs : s.toNat < 16384) : s.toInt = s.toNat := by
  rw [BitVec.toInt_eq_toNat_cond, if_pos (by omega)]
/-- A token's number is not below zero. -/
theorem max_small (s : BitVec 32) (hs : s.toNat < 16384) : IntOp.maxsi s 0#32 = s := by
  show (if _ then _ else _) = _
  simp only [BitVec.slt, BitVec.sle, toInt_small s hs, BitVec.toInt_zero, decide_eq_true_eq]
  split
  · first | rfl | (apply BitVec.eq_of_toNat_eq; show 0 = s.toNat; omega)
  · first | rfl | (apply BitVec.eq_of_toNat_eq; show 0 = s.toNat; omega)
/-- A row's number is not negative. -/
theorem slt_small (s : BitVec 32) (hs : s.toNat < 16384) : IntOp.cmpi .slt s 0#32 = 0#1 := by
  show BitVec.ofBool (s.slt 0#32) = 0#1
  rw [show s.slt 0#32 = false from ?_]
  · rfl
  · simp only [BitVec.slt, toInt_small s hs, BitVec.toInt_zero, decide_eq_false_iff_not]
    omega
/-- A token's number is at least zero. -/
theorem sge_small (s : BitVec 32) (hs : s.toNat < 16384) : IntOp.cmpi .sge s 0#32 = 1#1 := by
  show BitVec.ofBool ((0#32).sle s) = 1#1
  rw [show (0#32).sle s = true from ?_]
  · rfl
  · simp only [BitVec.sle, toInt_small s hs, BitVec.toInt_zero, decide_eq_true_eq]
    omega

/-- A gather of whole rows, read at an index. -/
theorem gather_at (x : S16384x1024.Idx → EReal) (idx : IVec S37888x1 32) (q : Fin 37888) (h : Fin 1024) (b : Fin 16384)
    (hb : idx (ix2 q 0) = BitVec.ofNat 32 b.val) :
    Host.gather gather_S16384x1024_S37888x1_S37888x1024_1_0_n_n_0_1_11024 x idx (ix2 q h) = x (ix2 b h) := by
  have e0 : (ValueIdx.ix2 q (0 : Fin 1) : S37888x1.Idx) = ix2 q 0 := by funext a; fin_cases a <;> rfl
  have e1 : (ValueIdx.ix2 q h : S37888x1024.Idx) = ix2 q h := by funext a; fin_cases a <;> rfl
  have e2 : (ValueIdx.ix2 b h : S16384x1024.Idx) = ix2 b h := by funext a; fin_cases a <;> rfl
  have g := Routing.gather_row gather_S16384x1024_S37888x1_S37888x1024_1_0_n_n_0_1_11024 rfl rfl rfl rfl rfl x idx q h b
    ((congrArg idx e0).trans hb) (by decide)
  exact ((congrArg _ e1).symm.trans g).trans (congrArg x e2)

/-- The row number each row is read at. -/
def rowIdx : IVec S37888x1 32 :=
  broadcastInDim S37888x1 ![0] Gen.bcast_S37888_S37888x1_0
    (select (cmpi .slt (Value.res_main_v12 V0) (broadcastInDim S37888 ![] Gen.bcast_S_S37888 (constantI S_ 32 0#32)))
      (addi (Value.res_main_v12 V0) (broadcastInDim S37888 ![] Gen.bcast_S_S37888 (constantI S_ 32 16384#32))) (Value.res_main_v12 V0))

/-- The row's token. -/
theorem rowIdx_apply (q : Fin 37888) (hs : (src V0 (ix2 q 0)).toNat < 16384) : rowIdx V0 (ix2 q 0) = src V0 (ix2 q 0) := by
  unfold rowIdx
  pointwise [Value.res_main_v12]
  show Scalar.select (IntOp.cmpi .slt (IntOp.maxsi (src V0 (ix2 q 0)) 0#32) 0#32) _ (IntOp.maxsi (src V0 (ix2 q 0)) 0#32) = _
  rw [max_small _ hs, slt_small _ hs]
  rfl

/-- A row the reference takes, at an entry. -/
theorem rows_apply (q : Fin 37888) (h : Fin 1024) (hs : src V0 (ix2 q 0) = 4294967295#32 ∨ (src V0 (ix2 q 0)).toNat < 16384) :
    rows V0 (ix2 q h) = KernelIdeal.tok (xR V0) (src V0 (ix2 q 0)) h := by
  have e : rows V0 (ix2 q h) = Scalar.select (IntOp.cmpi .sge (src V0 (ix2 q 0)) 0#32)
      (Host.gather gather_S16384x1024_S37888x1_S37888x1024_1_0_n_n_0_1_11024 (xR V0) (rowIdx V0) (ix2 q h))
      (id (constant (F := Ideal) S_ .f32 0#32) ix0) := by
    pointwise [Value.res_main_v20]
    rfl
  rw [e, zero0]
  unfold KernelIdeal.tok
  rcases hs with hs | hs
  · rw [hs]
    rfl
  · rw [dif_pos hs, sge_small _ hs, gather_at (xR V0) (rowIdx V0) q h ⟨_, hs⟩ ((rowIdx_apply V0 q hs).trans (ofNat_toNat32 _).symm)]
    rfl

/-- One entry of the reference's result. -/
theorem res_apply (clo chi : IVec S74 32) (hR : Routed (te V0) (nv V0) clo chi (src V0)) (q : Fin 37888) (h : Fin 1024) :
    res V0 (ix2 q h) =
      if (BitVec.ofNat 32 (q.val / 512)).slt (nv V0 (ix1 0)) = true then
        net V0 q h ⟨(te V0 (ix1 ⟨q.val / 512, by omega⟩)).toNat, hR.expert _⟩ * gR V0 (ix2 q 0)
      else 0 := by
  rw [v181]
  simp only [term_eq]
  have he := eid_apply V0 q
  by_cases hl : (BitVec.ofNat 32 (q.val / 512)).slt (nv V0 (ix1 0)) = true
  · rw [if_pos hl] at he ⊢
    exact own_term _ ⟨(te V0 (ix1 ⟨q.val / 512, by omega⟩)).toNat, hR.expert _⟩ (by rw [he]; exact (ofNat_toNat32 _).symm) (net V0 q h) _
  · rw [if_neg hl] at he ⊢
    exact no_term (net V0 q h) _ _ he

end Cert.Moe.R
end
-- ==== Proof.MoeE.lean ====
/- The routed experts' two programs compared: on the same arguments under the precondition the kernel's two results are the
   reference's. -/
module

public import proofs.«01_k».proof.Defs
public import proofs.«01_k».proof.Proof.MoeR

@[expose] public section

set_option maxRecDepth 16384

noncomputable section

namespace Cert.Moe

open Cert.KernelIdeal (S74)
open Idealize.ShloMosaic Idealize.ShloMosaic.TcCoe Idealize.SL.Sem

/-- The reference runs over the extended reals and leaves its arguments; it declares no semaphore. -/
theorem moe_frame_r : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

section Same
variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (hR : KernelIdeal.RoutedM m)
  (h0 : R.te V0 = KernelIdeal.teA m 0) (h1 : R.nv V0 = KernelIdeal.nvA m 0) (h4 : R.src V0 = KernelIdeal.srcA m 0)
  (h5 : R.xR V0 = KernelIdeal.xA m 0) (h6 : R.w1R V0 = KernelIdeal.w1A m 0) (h7 : R.w3R V0 = KernelIdeal.w3A m 0)
  (h8 : R.w2R V0 = KernelIdeal.w2A m 0) (h9 : R.gR V0 = KernelIdeal.gA m 0)
include h4 h5 h6 h7 h8 in
/-- A row's network is the same sum on both sides. -/
theorem net_eq (q : Fin 37888) (h : Fin 1024) (e : Fin 8)
    (hs : KernelIdeal.srcA m 0 (ix2 q 0) = 4294967295#32 ∨ (KernelIdeal.srcA m 0 (ix2 q 0)).toNat < 16384) :
    R.net V0 q h e = ∑ f : Fin 3584, KernelIdeal.hidw m 0 (KernelIdeal.srcA m 0 (ix2 q 0)) e h f := by
  rw [← h4] at hs
  unfold R.net KernelIdeal.hidw R.aDot
  simp only [R.rows_apply V0 q _ hs, h4, h5, h6, h7, h8]

include hR in
/-- A live tile's row names no token or one of the array's. -/
theorem src_range (q : Fin 37888) (hl : (BitVec.ofNat 32 (q.val / 512)).slt (KernelIdeal.nvA m 0 (ix1 0)) = true) :
    KernelIdeal.srcA m 0 (ix2 q 0) = 4294967295#32 ∨ (KernelIdeal.srcA m 0 (ix2 q 0)).toNat < 16384 := by
  have hq : prow ⟨q.val / 512, by omega⟩ ⟨q.val % 512, Nat.mod_lt _ (by decide)⟩ = q := Fin.ext (by
    show q.val / 512 * 512 + q.val % 512 = q.val; omega)
  have hc := ((hR 0).chunks ⟨q.val / 512, by omega⟩ hl).2
  have hr := (hR 0).rows ⟨q.val / 512, by omega⟩ ⟨q.val % 512, Nat.mod_lt _ (by decide)⟩ hl
  rw [hq] at hr
  exact hr.imp id fun h => by omega

include h0 h1 h4 h5 h6 h7 h8 h9 in
/-- One entry of the two results. -/
theorem res_eq (q : Fin 37888) (h : Fin 1024) : R.res V0 (ix2 q h) = KernelIdeal.yOf m hR q h := by
  have hR' : Routed (R.te V0) (R.nv V0) (KernelIdeal.cloA m 0) (KernelIdeal.chiA m 0) (R.src V0) := by rw [h0, h1, h4]; exact hR 0
  rw [R.res_apply V0 _ _ hR' q h]
  unfold KernelIdeal.yOf
  by_cases hl : (BitVec.ofNat 32 (q.val / 512)).slt (KernelIdeal.nvA m 0 (ix1 0)) = true
  · have hl' : (BitVec.ofNat 32 (q.val / 512)).slt (R.nv V0 (ix1 0)) = true := by rw [h1]; exact hl
    rw [if_pos hl, if_pos hl', h9]
    have he : (⟨(R.te V0 (ix1 ⟨q.val / 512, by omega⟩)).toNat, hR'.expert _⟩ : Fin 8)
        = ⟨(KernelIdeal.teA m 0 (ix1 (KernelIdeal.tileR q))).toNat, (hR 0).expert _⟩ := Fin.ext (congrArg (fun X : IVec S74 32 => (X (ix1 ⟨q.val / 512, by omega⟩)).toNat) h0)
    rw [he, net_eq m V0 h4 h5 h6 h7 h8 q h _ (src_range m hR q hl)]
  · have hl' : ¬ (BitVec.ofNat 32 (q.val / 512)).slt (R.nv V0 (ix1 0)) = true := by rw [h1]; exact hl
    rw [if_neg hl, if_neg hl']
end Same

/-- The reference's first result, the high halves. -/
theorem out_hi (X : Cert.ReferenceIdeal.S37888x1024.Idx → EReal) :
    (truncf (F := Ideal) .bf16 (X : FVec Ideal Cert.ReferenceIdeal.S37888x1024 .f32) Cert.ReferenceIdeal.Gen.bitsLt_bf16_f32 : Cert.ReferenceIdeal.S37888x1024.Idx → EReal) = X := by
  funext y
  pointwise []
/-- Its second, the low halves. -/
theorem out_lo (X : Cert.ReferenceIdeal.S37888x1024.Idx → EReal) :
    (truncf (F := Ideal) .bf16 (subf (X : FVec Ideal Cert.ReferenceIdeal.S37888x1024 .f32)
      (extf .f32 (truncf (F := Ideal) .bf16 (X : FVec Ideal Cert.ReferenceIdeal.S37888x1024 .f32) Cert.ReferenceIdeal.Gen.bitsLt_bf16_f32) Cert.ReferenceIdeal.Gen.bitsLt_bf16_f32))
      Cert.ReferenceIdeal.Gen.bitsLt_bf16_f32 : Cert.ReferenceIdeal.S37888x1024.Idx → EReal) = fun y => X y - X y := by
  funext y
  pointwise []

/-- The kernel and its reference have the same two results on the same arguments. -/
theorem moe_algebraic : Cert.algebraic_KernelIdeal_ReferenceIdeal := by
  intro m g m' g' hP ha
  have hR : KernelIdeal.RoutedM m := fun c => routed_of_pre _ _ _ _ _ _ _ _ _ _ (hP c)
  refine ⟨fun c => (KernelIdeal.dats m (KernelIdeal.ok_of m hR) 0 c).arrAt 5 (KernelIdeal.cfgM m (KernelIdeal.ok_of m hR)).N,
    fun c => (KernelIdeal.dats m (KernelIdeal.ok_of m hR) 0 c).arrAt 6 (KernelIdeal.cfgM m (KernelIdeal.ok_of m hR)).N,
    (θ_run _ _ _).mono (fun _ h => h.1) (KernelIdeal.run_all m g (KernelIdeal.ok_of m hR) (KernelIdeal.rngAll m hR)), ?_⟩
  have hY : ∀ q h, R.res (StableHlo.launchContents m' 0) (ix2 q h) = KernelIdeal.yOf m hR q h := fun q h => by
    obtain ⟨h0, h1, -, -, h4, h5, h6, h7, h8, h9⟩ := ha 0
    exact res_eq m (StableHlo.launchContents m' 0) hR h0 h1 h4 h5 h6 h7 h8 h9 q h
  have hE : R.res (StableHlo.launchContents m' 0) = KernelIdeal.hiY m hR := by
    funext y; idx_vars y; exact hY y0 y1
  refine (θ_run Cert.ReferenceIdeal.defs _ _).mono (fun r h c => ?_) (Cert.ReferenceIdeal.Value.run (F := Ideal) m' g')
  obtain rfl : c = 0 := Subsingleton.elim _ _
  refine ⟨?_, ?_, (h 0).2.2⟩
  · exact ((h 0).1.trans (out_hi (R.res (StableHlo.launchContents m' 0)))).trans (hE.trans (KernelIdeal.arr5 m (KernelIdeal.ok_of m hR) hR).symm)
  · refine ((h 0).2.1.trans (out_lo (R.res (StableHlo.launchContents m' 0)))).trans (Eq.trans ?_ (KernelIdeal.arr6 m (KernelIdeal.ok_of m hR) hR).symm)
    rw [hE]
    rfl

end Cert.Moe

end
-- ==== Proof.Proj3.lean ====
/- The value of the main projection of the blocks A and B: over the extended reals, the tiled product is the reference's product, entry by entry. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Quiescent

@[expose] public section

set_option maxRecDepth 16384

noncomputable section

namespace Cert.Proj3

open Idealize.ShloMosaic Idealize.ShloMosaic.TcCoe Idealize.SL.Sem
open Idealize.ShloMosaic.Pipeline (Dat)

namespace K

open Cert.Kernel3Ideal Cert.Kernel3Ideal.Gen

variable (m : (ℓ : Loc nD τ sig) → Buf (Elt Ideal) ℓ)

/-- One tile's product, at an entry. -/
theorem pay1_apply (x : Vec Ideal S512x1024 .bf16) (w : Vec Ideal S1024x3584 .bf16) (r : Fin 512) (d : Fin 3584) :
    k0_pay1 (F := Ideal) x w (ix2 r d) = ∑ k : Fin 1024, x (ix2 r k) * w (ix2 k d) := by
  pointwise [k0_pay1]

/-- The index maps of the grid's windows. -/
theorem idx : ∀ t : Fin cfg0.N, win0_0.index t = ![t.val, 0] ∧ win0_1.index t = ![0, 0] ∧ win0_2.index t = ![t.val, 0] :=
  (by decide +kernel : ∀ t : Fin grid0.N, _)

/-- The launch's rows. -/
abbrev A0 (c : Dev nD) : S16384x1024.Idx → EReal := m ((c : Thread nD τ).loc main_arg0)
/-- The launch's weight. -/
abbrev A1 (c : Dev nD) : S1024x3584.Idx → EReal := m ((c : Thread nD τ).loc main_arg1)

/-- The product, of the launch's arrays. -/
def Y (c : Dev nD) : S16384x3584.Idx → EReal := fun i => ∑ k : Fin 1024, A0 m c (ix2 (i 0) k) * A1 m c (ix2 k (i 1))

/-- The result array after the last point. -/
theorem arr2 (c : Dev nD) : (dats m 0 c).arrAt 2 cfg0.N = Y m c := by
  refine (dats m 0 c).arrAt_eq_of_covers 2 _ (by decide +kernel) fun t hf y => ?_
  blk_simp
  rw [after0_2]
  obtain ⟨i0, i1, i2⟩ := idx t
  have hb : t.val < 32 := t.isLt
  idx_vars y
  have e : ((View.whole main_v0).slice (win0_2.rect t)).emb (ix2 y0 y1)
      = (ix2 ⟨t.val * 512 + y0.val, by omega⟩ y1 : S16384x3584.Idx) := by blk_ext [i2]
  rw [e]
  have b0 : ∀ k, (iblk m c 0 t : Vec Ideal S512x1024 .bf16) (ix2 y0 k)
      = A0 m c (ix2 ⟨t.val * 512 + y0.val, by omega⟩ k) := fun k => by blk_ext [iblk, V, i0]
  have b1 : ∀ k d, (iblk m c 1 t : Vec Ideal S1024x3584 .bf16) (ix2 k d) = A1 m c (ix2 k d) := fun k d => by
    blk_ext [iblk, V, i1]
  unfold out0_2
  frame_out
  rw [pay1_apply]
  simp only [b0, b1]
  rfl

end K

namespace R

open Cert.Reference3Ideal Cert.Reference3Ideal.Gen

variable (m : (ℓ : Loc nD τ sig) → Buf (Elt Ideal) ℓ)

/-- The launch's rows. -/
abbrev A0 (c : Dev nD) : S16384x1024.Idx → EReal := m ((c : Thread nD τ).loc main_arg0)
/-- The launch's weight. -/
abbrev A1 (c : Dev nD) : S1024x3584.Idx → EReal := m ((c : Thread nD τ).loc main_arg1)

/-- The reference's product. -/
def Y (c : Dev nD) : S16384x3584.Idx → EReal := fun i => ∑ k : Fin 1024, A0 m c (ix2 (i 0) k) * A1 m c (ix2 k (i 1))

/-- The reference's result. -/
theorem out0 (c : Dev nD) :
    (truncf .bf16 (Host.dotGeneral (F := Ideal) dot_S16384x1024_S1024x3584_S16384x3584_1_0_0_1_n_n none
      (extf .f32 (A0 m c : FVec Ideal S16384x1024 .bf16) bitsLt_bf16_f32)
      (extf .f32 (A1 m c : FVec Ideal S1024x3584 .bf16) bitsLt_bf16_f32)) bitsLt_bf16_f32 : S16384x3584.Idx → EReal)
      = Y m c := by
  funext y
  idx_vars y
  pointwise []
  rfl

end R

/-- The reference runs over the extended reals and leaves its arguments; it declares no semaphore. -/
theorem frame_r : Cert.quiescent_Reference3Ideal := fun m ρ _ =>
  (θ_run Cert.Reference3Ideal.defs _ _).mono
    (fun r h => ⟨fun c => ⟨(h c).2.1, (h c).2.2⟩, sem_eq_zero_of_no_sems (by decide) r.2⟩)
    (Cert.Reference3Ideal.Value.run (F := Ideal) m ρ)

/-- The call and its reference have the same product of the same arguments. -/
theorem algebraic : Cert.algebraic_Kernel3Ideal_Reference3Ideal := by
  intro m g m' g' _ ha
  refine ⟨fun c => (Cert.Kernel3Ideal.Gen.dats m 0 c).arrAt 2 Cert.Kernel3Ideal.cfg0.N,
    Cert.Kernel3Ideal.Value.run_blocks m g, ?_⟩
  have hY : ∀ c, R.Y m' c = K.Y m c := fun c => by
    obtain ⟨h0, h1⟩ := ha c
    unfold R.Y K.Y
    simp only [R.A0, R.A1, K.A0, K.A1, h0, h1]
  refine (θ_run Cert.Reference3Ideal.defs _ _).mono (fun r h c => ⟨?_, (h c).2⟩)
    (Cert.Reference3Ideal.Value.run (F := Ideal) m' g')
  exact ((h c).1.trans (R.out0 m' c)).trans ((hY c).trans (K.arr2 m c).symm)

end Cert.Proj3
end
-- ==== Proof.Proj4.lean ====
/- The value of the main projection of the blocks C and D: over the extended reals, the tiled product is the reference's product, entry by entry. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Quiescent

@[expose] public section

set_option maxRecDepth 16384

noncomputable section

namespace Cert.Proj4

open Idealize.ShloMosaic Idealize.ShloMosaic.TcCoe Idealize.SL.Sem
open Idealize.ShloMosaic.Pipeline (Dat)

namespace K

open Cert.Kernel4Ideal Cert.Kernel4Ideal.Gen

variable (m : (ℓ : Loc nD τ sig) → Buf (Elt Ideal) ℓ)

/-- One tile's product, at an entry. -/
theorem pay1_apply (x : Vec Ideal S512x1024 .bf16) (w : Vec Ideal S1024x3072 .bf16) (r : Fin 512) (d : Fin 3072) :
    k0_pay1 (F := Ideal) x w (ix2 r d) = ∑ k : Fin 1024, x (ix2 r k) * w (ix2 k d) := by
  pointwise [k0_pay1]

/-- The index maps of the grid's windows. -/
theorem idx : ∀ t : Fin cfg0.N, win0_0.index t = ![t.val, 0] ∧ win0_1.index t = ![0, 0] ∧ win0_2.index t = ![t.val, 0] :=
  (by decide +kernel : ∀ t : Fin grid0.N, _)

/-- The launch's rows. -/
abbrev A0 (c : Dev nD) : S16384x1024.Idx → EReal := m ((c : Thread nD τ).loc main_arg0)
/-- The launch's weight. -/
abbrev A1 (c : Dev nD) : S1024x3072.Idx → EReal := m ((c : Thread nD τ).loc main_arg1)

/-- The product, of the launch's arrays. -/
def Y (c : Dev nD) : S16384x3072.Idx → EReal := fun i => ∑ k : Fin 1024, A0 m c (ix2 (i 0) k) * A1 m c (ix2 k (i 1))

/-- The result array after the last point. -/
theorem arr2 (c : Dev nD) : (dats m 0 c).arrAt 2 cfg0.N = Y m c := by
  refine (dats m 0 c).arrAt_eq_of_covers 2 _ (by decide +kernel) fun t hf y => ?_
  blk_simp
  rw [after0_2]
  obtain ⟨i0, i1, i2⟩ := idx t
  have hb : t.val < 32 := t.isLt
  idx_vars y
  have e : ((View.whole main_v0).slice (win0_2.rect t)).emb (ix2 y0 y1)
      = (ix2 ⟨t.val * 512 + y0.val, by omega⟩ y1 : S16384x3072.Idx) := by blk_ext [i2]
  rw [e]
  have b0 : ∀ k, (iblk m c 0 t : Vec Ideal S512x1024 .bf16) (ix2 y0 k)
      = A0 m c (ix2 ⟨t.val * 512 + y0.val, by omega⟩ k) := fun k => by blk_ext [iblk, V, i0]
  have b1 : ∀ k d, (iblk m c 1 t : Vec Ideal S1024x3072 .bf16) (ix2 k d) = A1 m c (ix2 k d) := fun k d => by
    blk_ext [iblk, V, i1]
  unfold out0_2
  frame_out
  rw [pay1_apply]
  simp only [b0, b1]
  rfl

end K

namespace R

open Cert.Reference4Ideal Cert.Reference4Ideal.Gen

variable (m : (ℓ : Loc nD τ sig) → Buf (Elt Ideal) ℓ)

/-- The launch's rows. -/
abbrev A0 (c : Dev nD) : S16384x1024.Idx → EReal := m ((c : Thread nD τ).loc main_arg0)
/-- The launch's weight. -/
abbrev A1 (c : Dev nD) : S1024x3072.Idx → EReal := m ((c : Thread nD τ).loc main_arg1)

/-- The reference's product. -/
def Y (c : Dev nD) : S16384x3072.Idx → EReal := fun i => ∑ k : Fin 1024, A0 m c (ix2 (i 0) k) * A1 m c (ix2 k (i 1))

/-- The reference's result. -/
theorem out0 (c : Dev nD) :
    (truncf .bf16 (Host.dotGeneral (F := Ideal) dot_S16384x1024_S1024x3072_S16384x3072_1_0_0_1_n_n none
      (extf .f32 (A0 m c : FVec Ideal S16384x1024 .bf16) bitsLt_bf16_f32)
      (extf .f32 (A1 m c : FVec Ideal S1024x3072 .bf16) bitsLt_bf16_f32)) bitsLt_bf16_f32 : S16384x3072.Idx → EReal)
      = Y m c := by
  funext y
  idx_vars y
  pointwise []
  rfl

end R

/-- The reference runs over the extended reals and leaves its arguments; it declares no semaphore. -/
theorem frame_r : Cert.quiescent_Reference4Ideal := fun m ρ _ =>
  (θ_run Cert.Reference4Ideal.defs _ _).mono
    (fun r h => ⟨fun c => ⟨(h c).2.1, (h c).2.2⟩, sem_eq_zero_of_no_sems (by decide) r.2⟩)
    (Cert.Reference4Ideal.Value.run (F := Ideal) m ρ)

/-- The call and its reference have the same product of the same arguments. -/
theorem algebraic : Cert.algebraic_Kernel4Ideal_Reference4Ideal := by
  intro m g m' g' _ ha
  refine ⟨fun c => (Cert.Kernel4Ideal.Gen.dats m 0 c).arrAt 2 Cert.Kernel4Ideal.cfg0.N,
    Cert.Kernel4Ideal.Value.run_blocks m g, ?_⟩
  have hY : ∀ c, R.Y m' c = K.Y m c := fun c => by
    obtain ⟨h0, h1⟩ := ha c
    unfold R.Y K.Y
    simp only [R.A0, R.A1, K.A0, K.A1, h0, h1]
  refine (θ_run Cert.Reference4Ideal.defs _ _).mono (fun r h c => ⟨?_, (h c).2⟩)
    (Cert.Reference4Ideal.Value.run (F := Ideal) m' g')
  exact ((h c).1.trans (R.out0 m' c)).trans ((hY c).trans (K.arr2 m c).symm)

end Cert.Proj4
end
-- ==== Proof.OutProj.lean ====
/- The value of the out-projection call: over the extended reals, the two results of the kernel are those of the reference —
   the same layer norm of `ALPHA·x + [oa, ob]·w`, the sum over 1024 channels taken in the two halves `oa` and `ob`. -/
module

public import proofs.«01_k».proof.Proof.Dense
public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Quiescent

@[expose] public section

set_option maxRecDepth 16384

noncomputable section

namespace Cert.OutProj

open Idealize.ShloMosaic Idealize.ShloMosaic.TcCoe Idealize.SL.Sem
open Idealize.ShloMosaic.Pipeline (Dat)
open Cert.Dense (lnAt)

namespace K

open Cert.Kernel5Ideal Cert.Kernel5Ideal.Gen

variable (m : (ℓ : Loc nD τ sig) → Buf (Elt Ideal) ℓ)

/-- The stored result, at an entry. -/
theorem pay2_apply (oa : Vec Ideal S512x512 .bf16) (wa : Vec Ideal S512x1024 .bf16) (ob : Vec Ideal S512x512 .bf16)
    (wb : Vec Ideal S512x1024 .bf16) (x : Vec Ideal S512x1024 .f32) (g b : Vec Ideal S1x1024 .f32) (r : Fin 512) (d : Fin 1024) :
    k0_pay2 (F := Ideal) oa wa ob wb x g b (ix2 r d) = lnAt (fun j => Ideal.ofBits .f32 1071072509#32 * x (ix2 r j) +
      ((∑ k : Fin 512, oa (ix2 r k) * wa (ix2 k j)) + ∑ k : Fin 512, ob (ix2 r k) * wb (ix2 k j)))
      (g (ix2 0 d)) (b (ix2 0 d)) d := by
  pointwise [k0_pay2, lnAt]

/-- The index maps of the grid's windows. -/
theorem idx : ∀ t : Fin cfg0.N, win0_0.index t = ![t.val, 0] ∧ win0_1.index t = ![t.val, 0]
    ∧ win0_2.index t = ![0, 0] ∧ win0_3.index t = ![t.val, 0] ∧ win0_4.index t = ![0, 0]
    ∧ win0_5.index t = ![0, 0] ∧ win0_6.index t = ![t.val, 0] ∧ win0_7.index t = ![t.val, 0] :=
  (by decide +kernel : ∀ t : Fin grid0.N, _)

/-- The launch's arrays, each at its type. -/
abbrev A0 (c : Dev nD) : S16384x512.Idx → EReal := m ((c : Thread nD τ).loc main_arg0)
/-- The second block's output. -/
abbrev A1 (c : Dev nD) : S16384x512.Idx → EReal := m ((c : Thread nD τ).loc main_arg1)
/-- The weight. -/
abbrev A2 (c : Dev nD) : S1024x1024.Idx → EReal := m ((c : Thread nD τ).loc main_arg2)
/-- The residual. -/
abbrev A3 (c : Dev nD) : S16384x1024.Idx → EReal := m ((c : Thread nD τ).loc main_arg3)
/-- The norm's gain. -/
abbrev A4 (c : Dev nD) : S1x1024.Idx → EReal := m ((c : Thread nD τ).loc main_arg4)
/-- The norm's shift. -/
abbrev A5 (c : Dev nD) : S1x1024.Idx → EReal := m ((c : Thread nD τ).loc main_arg5)

/-- The row before the norm, of the launch's arrays. -/
def z (c : Dev nD) (r : Fin 16384) (d : Fin 1024) : EReal :=
  Ideal.ofBits .f32 1071072509#32 * A3 m c (ix2 r d) +
    ((∑ k : Fin 512, A0 m c (ix2 r k) * A2 m c (ix2 ⟨k.val, by omega⟩ d))
      + ∑ k : Fin 512, A1 m c (ix2 r k) * A2 m c (ix2 ⟨512 + k.val, by omega⟩ d))

/-- The result, of the launch's arrays. -/
def Y (c : Dev nD) : S16384x1024.Idx → EReal := fun i =>
  lnAt (z m c (i 0)) (A4 m c (ix2 0 (i 1))) (A5 m c (ix2 0 (i 1))) (i 1)

/-- The stored block of a point, at an entry. -/
theorem out (c : Dev nD) (t : Fin cfg0.N) (r : Fin 512) (d : Fin 1024) (q : Fin 16384) (hq : q.val = t.val * 512 + r.val) :
    k0_pay2 (F := Ideal) (iblk m c 0 t) (View.ld (iblk m c 2 t) r0_1) (iblk m c 1 t) (View.ld (iblk m c 2 t) r0_2)
      (iblk m c 3 t) (iblk m c 4 t) (iblk m c 5 t) (ix2 r d) = Y m c (ix2 q d) := by
  obtain ⟨i0, i1, i2, i3, i4, i5, -, -⟩ := idx t
  have b0 : ∀ k, (iblk m c 0 t : Vec Ideal S512x512 .bf16) (ix2 r k) = A0 m c (ix2 q k) := fun k => by
    blk_ext [iblk, V, i0]
  have b1 : ∀ k, (iblk m c 1 t : Vec Ideal S512x512 .bf16) (ix2 r k) = A1 m c (ix2 q k) := fun k => by
    blk_ext [iblk, V, i1]
  have b2 : ∀ (k : Fin 512) j, (View.ld (iblk m c 2 t) r0_1 : Vec Ideal S512x1024 .bf16) (ix2 k j)
      = A2 m c (ix2 ⟨k.val, by omega⟩ j) := fun k j => by
    blk_ext [iblk, V, i2, View.ld]
    · exact (show 0 + 1 * k.val = k.val by omega)
    · exact (show 0 + 1 * j.val = j.val by omega)
  have b2' : ∀ (k : Fin 512) j, (View.ld (iblk m c 2 t) r0_2 : Vec Ideal S512x1024 .bf16) (ix2 k j)
      = A2 m c (ix2 ⟨512 + k.val, by omega⟩ j) := fun k j => by
    blk_ext [iblk, V, i2, View.ld]
    · exact (show 512 + 1 * k.val = 512 + k.val by omega)
    · exact (show 0 + 1 * j.val = j.val by omega)
  have b3 : ∀ j, (iblk m c 3 t : Vec Ideal S512x1024 .f32) (ix2 r j) = A3 m c (ix2 q j) := fun j => by
    blk_ext [iblk, V, i3]
  have b4 : (iblk m c 4 t : Vec Ideal S1x1024 .f32) (ix2 0 d) = A4 m c (ix2 0 d) := by blk_ext [iblk, V, i4]
  have b5 : (iblk m c 5 t : Vec Ideal S1x1024 .f32) (ix2 0 d) = A5 m c (ix2 0 d) := by blk_ext [iblk, V, i5]
  rw [pay2_apply]
  simp only [b0, b1, b2, b2', b3]
  rw [b4, b5]
  rfl

/-- The f32 result array after the last point. -/
theorem arr6 (c : Dev nD) : (dats m 0 c).arrAt 6 cfg0.N = Y m c := by
  refine (dats m 0 c).arrAt_eq_of_covers 6 _ (by decide +kernel) fun t hf y => ?_
  blk_simp
  rw [after0_6]
  obtain ⟨-, -, -, -, -, -, i6, -⟩ := idx t
  have hb : t.val < 32 := t.isLt
  idx_vars y
  have e : ((View.whole main_v0_0).slice (win0_6.rect t)).emb (ix2 y0 y1)
      = (ix2 ⟨t.val * 512 + y0.val, by omega⟩ y1 : S16384x1024.Idx) := by blk_ext [i6]
  rw [e]
  unfold out0_6
  frame_out
  exact out m c t y0 y1 _ rfl

/-- The bf16 result array after the last point: over the extended reals the same numbers. -/
theorem arr7 (c : Dev nD) : (dats m 0 c).arrAt 7 cfg0.N = Y m c := by
  refine (dats m 0 c).arrAt_eq_of_covers 7 _ (by decide +kernel) fun t hf y => ?_
  blk_simp
  rw [after0_7]
  obtain ⟨-, -, -, -, -, -, -, i7⟩ := idx t
  have hb : t.val < 32 := t.isLt
  idx_vars y
  have e : ((View.whole main_v0_1).slice (win0_7.rect t)).emb (ix2 y0 y1)
      = (ix2 ⟨t.val * 512 + y0.val, by omega⟩ y1 : S16384x1024.Idx) := by blk_ext [i7]
  rw [e]
  unfold out0_7
  frame_out
  exact out m c t y0 y1 _ rfl

end K

namespace R

open Cert.Reference5Ideal

variable (m : (ℓ : Loc nD τ sig) → Buf (Elt Ideal) ℓ)

/-- The launch's arrays, each at its type. -/
abbrev A0 (c : Dev nD) : S16384x512.Idx → EReal := m ((c : Thread nD τ).loc main_arg0)
/-- The second block's output. -/
abbrev A1 (c : Dev nD) : S16384x512.Idx → EReal := m ((c : Thread nD τ).loc main_arg1)
/-- The weight. -/
abbrev A2 (c : Dev nD) : S1024x1024.Idx → EReal := m ((c : Thread nD τ).loc main_arg2)
/-- The residual. -/
abbrev A3 (c : Dev nD) : S16384x1024.Idx → EReal := m ((c : Thread nD τ).loc main_arg3)
/-- The norm's gain. -/
abbrev A4 (c : Dev nD) : S1x1024.Idx → EReal := m ((c : Thread nD τ).loc main_arg4)
/-- The norm's shift. -/
abbrev A5 (c : Dev nD) : S1x1024.Idx → EReal := m ((c : Thread nD τ).loc main_arg5)

/-- The row before the norm, of the launch's arrays. -/
def z (c : Dev nD) (r : Fin 16384) (d : Fin 1024) : EReal :=
  Ideal.ofBits .f32 1071072509#32 * A3 m c (ix2 r d) +
    ((∑ k : Fin 512, A0 m c (ix2 r k) * A2 m c (ix2 ⟨k.val, by omega⟩ d))
      + ∑ k : Fin 512, A1 m c (ix2 r k) * A2 m c (ix2 ⟨512 + k.val, by omega⟩ d))

/-- The reference's result. -/
def Y (c : Dev nD) : S16384x1024.Idx → EReal := fun i =>
  lnAt (z m c (i 0)) (A4 m c (ix2 0 (i 1))) (A5 m c (ix2 0 (i 1))) (i 1)

/-- The reference's f32 result. -/
theorem out0 (c : Dev nD) : (Value.res_out0 m c : S16384x1024.Idx → EReal) = Y m c := by
  funext y
  idx_vars y
  unfold Value.res_out0
  pointwise [Value.res_main_v29]
  rfl

/-- The reference's bf16 result: the same numbers. -/
theorem out1 (c : Dev nD) : (Value.res_out1 m c : S16384x1024.Idx → EReal) = Y m c := by
  funext y
  idx_vars y
  unfold Value.res_out1
  pointwise [Value.res_main_v30]
  rfl

end R

/-- The reference runs over the extended reals and leaves its arguments; it declares no semaphore. -/
theorem frame_r : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- The call and its reference have the same two results on the same arguments. -/
theorem algebraic : Cert.algebraic_Kernel5Ideal_Reference5Ideal := by
  intro m g m' g' _ ha
  refine ⟨fun c => (Cert.Kernel5Ideal.Gen.dats m 0 c).arrAt 6 Cert.Kernel5Ideal.cfg0.N,
    fun c => (Cert.Kernel5Ideal.Gen.dats m 0 c).arrAt 7 Cert.Kernel5Ideal.cfg0.N,
    Cert.Kernel5Ideal.Value.run_blocks m g, ?_⟩
  have hY : ∀ c, R.Y m' c = K.Y m c := fun c => by
    obtain ⟨h0, h1, h2, h3, h4, h5⟩ := ha c
    unfold R.Y K.Y R.z K.z
    simp only [R.A0, R.A1, R.A2, R.A3, R.A4, R.A5, K.A0, K.A1, K.A2, K.A3, K.A4, K.A5, h0, h1, h2, h3, h4, h5]
  refine (θ_run Cert.Reference5Ideal.defs _ _).mono (fun r h c => ⟨?_, ?_, (h c).2.2⟩)
    (Cert.Reference5Ideal.Value.run (F := Ideal) m' g')
  · exact ((h c).1.trans (R.out0 m' c)).trans ((hY c).trans (K.arr6 m c).symm)
  · exact ((h c).2.1.trans (R.out1 m' c)).trans ((hY c).trans (K.arr7 m c).symm)

end Cert.OutProj
end
-- ==== Proof.Forget.lean ====
/- The value of the running sum of the forget gates: over the extended reals, the kernel's doubling sums within blocks of
   256 rows and the sum carried from block to block are the reference's running sum of the log-sigmoids. -/
module

public import proofs.«01_k».proof.Defs
public import proofs.«01_k».proof.Proof.Dense
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Quiescent

@[expose] public section

set_option maxRecDepth 16384

noncomputable section

namespace Cert.Forget

open Idealize.ShloMosaic Idealize.ShloMosaic.TcCoe Idealize.SL.Sem
open Idealize.ShloMosaic.Pipeline (Dat)

/-- The logarithm of the sigmoid, in the kernel's spelling. -/
def ls (z : EReal) : EReal := min z 0 - Ideal.log (1 + Ideal.exp (0 - max z (-z)))

/-- The sum of the last `n` terms up to and with term `r`. -/
def wsum (f : ℕ → EReal) (n r : ℕ) : EReal := ∑ k ∈ Finset.range n, if k ≤ r then f (r - k) else 0

/-- Twice as many terms: the same, and the same of `n` terms before. -/
theorem wsum_double (f : ℕ → EReal) (n r : ℕ) :
    wsum f n r + (if n ≤ r then wsum f n (r - n) else 0) = wsum f (n + n) r := by
  rw [wsum, wsum, wsum, Finset.sum_range_add]
  congr 1
  split
  · refine Finset.sum_congr rfl fun k _ => ?_
    rw [show r - n - k = r - (n + k) by omega]
    exact if_congr (by omega) rfl rfl
  · exact (Finset.sum_eq_zero fun k _ => if_neg (by omega)).symm

/-- With enough terms it is the sum of all terms up to `r`. -/
theorem wsum_all (f : ℕ → EReal) (n r : ℕ) (h : r < n) : wsum f n r = ∑ k ∈ Finset.range (r + 1), f k := by
  obtain ⟨q, rfl⟩ : ∃ q, n = (r + 1) + q := ⟨n - (r + 1), by omega⟩
  rw [wsum, Finset.sum_range_add, Finset.sum_eq_zero (s := Finset.range q) fun k _ => if_neg (by omega), add_zero,
    ← Finset.sum_range_reflect]
  refine Finset.sum_congr rfl fun k hk => ?_
  have := Finset.mem_range.1 hk
  rw [if_pos (by omega)]
  exact congrArg f (by omega)

namespace K

open Cert.Kernel9Ideal Cert.Kernel9Ideal.Gen

variable (m : (ℓ : Loc nD τ sig) → Buf (Elt Ideal) ℓ)

/-- The rows' numbers. -/
def rows : IVec S256x128 32 := iota .tc S256x128 32 [0] iota_S256x128_d0_w32

/-- One doubling: the block plus itself moved down by `sh` rows, nothing in the first `sh`. -/
def step (sh : BitVec 32) (x : FVec Ideal S256x128 .f32) : FVec Ideal S256x128 .f32 :=
  addf x (select (cmpi .sge rows (broadcast S256x128 sh)) (dynamicRotate 0 sh none x rotates_S256x128_d0)
    (broadcast S256x128 (Scalar.ofBits (F := Ideal) .f32 0x00000000#32)))

/-- The block's log-sigmoids. -/
def gates (x : Vec Ideal S256x128 .f32) (b : Vec Ideal S1x128 .f32) : FVec Ideal S256x128 .f32 :=
  have z := addf x (broadcastTo S256x128 b broadcasts_S1x128_S256x128)
  subf (minimumf z (broadcast S256x128 (Scalar.ofBits (F := Ideal) .f32 0x00000000#32)))
    (log (addf (broadcast S256x128 (Scalar.ofBits (F := Ideal) .f32 0x3F800000#32))
      (exp (subf (broadcast S256x128 (Scalar.ofBits (F := Ideal) .f32 0x00000000#32)) (absf z)))))

/-- A gate, at an entry. -/
theorem gates_apply (x : Vec Ideal S256x128 .f32) (b : Vec Ideal S1x128 .f32) (r : Fin 256) (d : Fin 128) :
    gates x b (ix2 r d) = ls (x (ix2 r d) + b (ix2 0 d)) := by
  pointwise [gates, ls]
  rfl

/-- The printed block is the eight doublings of the gates, and the carried row. -/
theorem pay1_eq (x : Vec Ideal S256x128 .f32) (b c : Vec Ideal S1x128 .f32) :
    k0_pay1 (F := Ideal) rows (k0_pay4 x b) k0_pay5 c
      = addf (step 128#32 (step 64#32 (step 32#32 (step 16#32 (step 8#32 (step 4#32 (step 2#32 (step 1#32 (gates x b)))))))))
          (broadcastTo S256x128 c broadcasts_S1x128_S256x128) := rfl

/-- One doubling, at an entry. -/
theorem step_apply (sh : ℕ) (h0 : 0 < sh) (h : sh ≤ 128) (x : FVec Ideal S256x128 .f32) (f : ℕ → EReal) (d : Fin 128)
    (hx : ∀ r : Fin 256, x (ix2 r d) = wsum f sh r.val) (r : Fin 256) :
    step (BitVec.ofNat 32 sh) x (ix2 r d) = wsum f (sh + sh) r.val := by
  have hs : (BitVec.ofNat 32 sh).toNat = sh := by rw [BitVec.toNat_ofNat]; exact Nat.mod_eq_of_lt (by omega)
  rw [← wsum_double, ← hx r]
  have e : step (BitVec.ofNat 32 sh) x (ix2 r d) = x (ix2 r d) + (if sh ≤ r.val then x (ix2 ⟨(r.val + 256 - sh % 256) % 256, Nat.mod_lt _ (by decide)⟩ d) else 0) := by
    pointwise [step, rows]
    rw [hs, WordCmp.cmpi_sge_ofNat (by omega) (by omega)]
    by_cases hr : sh ≤ r.val <;> simp [Scalar.select, hr]
  rw [e]
  congr 1
  split
  · rw [hx]
    exact congrArg (wsum f sh) (show (r.val + 256 - sh % 256) % 256 = r.val - sh by omega)
  · rfl

/-- The block's entry: the sum of the gates up to its row, and the carried entry. -/
theorem pay1_apply (x : Vec Ideal S256x128 .f32) (b c : Vec Ideal S1x128 .f32) (f : ℕ → EReal) (d : Fin 128)
    (hf : ∀ r : Fin 256, ls (x (ix2 r d) + b (ix2 0 d)) = f r.val) (r : Fin 256) :
    k0_pay1 (F := Ideal) rows (k0_pay4 x b) k0_pay5 c (ix2 r d) = (∑ k ∈ Finset.range (r.val + 1), f k) + c (ix2 0 d) := by
  have h1 : ∀ r : Fin 256, gates x b (ix2 r d) = wsum f 1 r.val := fun r => by
    rw [gates_apply, hf r]
    simp [wsum]
  have h2 := step_apply 1 (by decide) (by decide) _ f d h1
  have h3 := step_apply 2 (by decide) (by decide) _ f d h2
  have h4 := step_apply 4 (by decide) (by decide) _ f d h3
  have h5 := step_apply 8 (by decide) (by decide) _ f d h4
  have h6 := step_apply 16 (by decide) (by decide) _ f d h5
  have h7 := step_apply 32 (by decide) (by decide) _ f d h6
  have h8 := step_apply 64 (by decide) (by decide) _ f d h7
  have h9 := step_apply 128 (by decide) (by decide) _ f d h8
  rw [pay1_eq, ← wsum_all f 256 r.val r.isLt]
  exact congrArg₂ (· + ·) (h9 r) (by pointwise [])

/-- The carried row is the block's last. -/
theorem pay2_apply (x : Vec Ideal S256x128 .f32) (b c : Vec Ideal S1x128 .f32) (d : Fin 128) :
    k0_pay2 (F := Ideal) rows (k0_pay4 x b) k0_pay5 c (ix2 0 d)
      = k0_pay1 (F := Ideal) rows (k0_pay4 x b) k0_pay5 c (ix2 255 d) := by
  generalize hy : k0_pay1 (F := Ideal) rows (k0_pay4 x b) k0_pay5 c = y
  have e : k0_pay2 (F := Ideal) rows (k0_pay4 x b) k0_pay5 c
      = shapeCast S1x128 (extractStridedSlice S1x128 ![255, 0] y slices_S256x128_o255_0_S1x128) shapeCasts_S1x128_S1x128 :=
    hy ▸ rfl
  rw [e]
  pointwise []

/-- The first carried row is zero. -/
theorem pay3_apply (d : Fin 128) : k0_pay3 (F := Ideal) (ix2 0 d) = 0 := by
  pointwise [k0_pay3]

/-- The index maps of the grid's windows. -/
theorem idx : ∀ t : Fin cfg0.N, win0_0.index t = ![t.val, 0] ∧ win0_1.index t = ![0, 0] ∧ win0_2.index t = ![t.val, 0] :=
  (by decide +kernel : ∀ t : Fin grid0.N, _)

/-- The launch's rows. -/
abbrev A0 (c : Dev nD) : S16384x128.Idx → EReal := m ((c : Thread nD τ).loc main_arg0)
/-- The launch's shift. -/
abbrev A1 (c : Dev nD) : S1x128.Idx → EReal := m ((c : Thread nD τ).loc main_arg1)

/-- One gate, of the launch's arrays; nothing past their end. -/
def g (c : Dev nD) (d : Fin 128) (n : ℕ) : EReal :=
  if h : n < 16384 then ls (A0 m c (ix2 ⟨n, h⟩ d) + A1 m c (ix2 0 d)) else 0

/-- The sum of the first `n` gates of sequence `b`. -/
def S (c : Dev nD) (d : Fin 128) (b n : ℕ) : EReal := ∑ l ∈ Finset.range n, g m c d (b * 8192 + l)

/-- The running sum, of the launch's arrays. -/
def Y (c : Dev nD) : S16384x128.Idx → EReal := fun i => S m c (i 1) ((i 0).val / 8192) ((i 0).val % 8192 + 1)

/-- A point's gates, summed on top of what was carried. -/
theorem point (c : Dev nD) (t : Fin cfg0.N) (d : Fin 128) (v : Vec Ideal S1x128 .f32)
    (hv : v (ix2 0 d) = S m c d (t.val / 32) (t.val % 32 * 256)) (r : Fin 256) :
    k0_pay1 (F := Ideal) rows (k0_pay4 (iblk m c 0 t) (iblk m c 1 t)) k0_pay5 v (ix2 r d)
      = S m c d (t.val / 32) (t.val % 32 * 256 + (r.val + 1)) := by
  obtain ⟨i0, i1, -⟩ := idx t
  have hb : t.val < 64 := t.isLt
  have b0 : ∀ r : Fin 256, (iblk m c 0 t : Vec Ideal S256x128 .f32) (ix2 r d)
      = A0 m c (ix2 ⟨t.val * 256 + r.val, by omega⟩ d) := fun r => by blk_ext [iblk, V, i0]
  have b1 : (iblk m c 1 t : Vec Ideal S1x128 .f32) (ix2 0 d) = A1 m c (ix2 0 d) := by blk_ext [iblk, V, i1]
  rw [pay1_apply _ _ _ (fun k => g m c d (t.val / 32 * 8192 + (t.val % 32 * 256 + k))) d, hv, S, S,
    Finset.sum_range_add _ (t.val % 32 * 256) (r.val + 1), add_comm]
  intro r
  rw [b0, b1, g, dif_pos (by omega)]
  have e : (⟨t.val * 256 + r.val, by omega⟩ : Fin 16384)
      = ⟨t.val / 32 * 8192 + (t.val % 32 * 256 + r.val), by omega⟩ := Fin.ext (by dsimp only; omega)
  rw [e]

/-- What a sequence's first point leaves: the sums of its rows, and the last of them. -/
theorem outs_first (c : Dev nD) (d : Fin 128) (t : Fin cfg0.N) (h0 : t.val % 32 = 0) :
    (∀ r : Fin 256, (outsAt0 m c t.val t.isLt).1 (ix2 r d) = S m c d (t.val / 32) (t.val % 32 * 256 + (r.val + 1)))
    ∧ (outsAt0 m c t.val t.isLt).2 (ix2 0 d) = S m c d (t.val / 32) (t.val % 32 * 256 + 256) := by
  have hv : k0_pay3 (F := Ideal) (ix2 0 d) = S m c d (t.val / 32) (t.val % 32 * 256) := by
    rw [pay3_apply, h0]
    simp [S]
  have key := point m c t d (k0_pay3 (F := Ideal)) hv
  rw [outsAt0_A m c t h0]
  constructor
  · intro r
    frame_out
    exact key r
  · frame_out
    exact (pay2_apply _ _ _ d).trans (key 255)

/-- What a point leaves: the sums of its rows, and the last of them. -/
theorem outs (c : Dev nD) (d : Fin 128) : ∀ (n : ℕ) (hn : n < cfg0.N),
    (∀ r : Fin 256, (outsAt0 m c n hn).1 (ix2 r d) = S m c d (n / 32) (n % 32 * 256 + (r.val + 1)))
    ∧ (outsAt0 m c n hn).2 (ix2 0 d) = S m c d (n / 32) (n % 32 * 256 + 256) := by
  intro n
  induction n with
  | zero => exact fun hn => outs_first m c d ⟨0, hn⟩ rfl
  | succ n ih =>
    intro hn
    by_cases h0 : (n + 1) % 32 = 0
    · exact outs_first m c d ⟨n + 1, hn⟩ h0
    · have hv := (ih (Nat.lt_of_succ_lt hn)).2
      rw [show n / 32 = (n + 1) / 32 by omega, show n % 32 * 256 + 256 = (n + 1) % 32 * 256 by omega] at hv
      have key := point m c ⟨n + 1, hn⟩ d _ hv
      rw [outsAt0_B m c ⟨n + 1, hn⟩ h0]
      constructor
      · intro r
        frame_out
        simp only [read_unread_whole]
        exact key r
      · frame_out
        simp only [read_unread_whole]
        exact (pay2_apply _ _ _ d).trans (key 255)

/-- The result array after the last point. -/
theorem arr2 (c : Dev nD) : (dats m 0 c).arrAt 2 cfg0.N = Y m c := by
  refine (dats m 0 c).arrAt_eq_of_covers 2 _ (by decide +kernel) fun t hf y => ?_
  blk_simp
  rw [after0_2]
  obtain ⟨-, -, i2⟩ := idx t
  have hb : t.val < 64 := t.isLt
  idx_vars y
  have e : ((View.whole main_v0).slice (win0_2.rect t)).emb (ix2 y0 y1)
      = (ix2 ⟨t.val * 256 + y0.val, by omega⟩ y1 : S16384x128.Idx) := by blk_ext [i2]
  rw [e]
  refine ((outs m c y1 t.val t.isLt).1 y0).trans ?_
  show _ = S m c y1 ((t.val * 256 + y0.val) / 8192) ((t.val * 256 + y0.val) % 8192 + 1)
  congr 1 <;> omega

end K

/-! ## The reference -/

/-- The logarithm of one plus an exponential is not negative. -/
theorem log_nonneg (x : EReal) : 0 ≤ Ideal.log (1 + Ideal.exp x) := by
  have h : (1 : EReal) ≤ 1 + Ideal.exp x := le_add_of_nonneg_right (Dense.exp_nonneg x)
  generalize 1 + Ideal.exp x = y at h
  induction y with
  | bot => exact absurd h (by decide)
  | top => exact le_top
  | coe r =>
    have hr : (1 : ℝ) ≤ r := by exact_mod_cast h
    show (0 : EReal) ≤ if r ≤ 0 then ⊥ else ((Real.log r : ℝ) : EReal)
    rw [if_neg (by linarith)]
    exact_mod_cast Real.log_nonneg hr

/-- The reference's logarithm of the sigmoid is the kernel's. -/
theorem ls_eq (z : EReal) :
    -(max (-z) 0 + Ideal.log1p (Ideal.exp (-max (-z - 0) (-(-z - 0))))) = ls z := by
  have e : max (-z - 0) (-(-z - 0)) = max z (-z) := by rw [sub_zero, neg_neg, max_comm]
  have hl : Ideal.log1p (Ideal.exp (-max z (-z))) = Ideal.log (1 + Ideal.exp (-max z (-z))) := rfl
  rw [e, hl, ls, zero_sub]
  have h0 := log_nonneg (-max z (-z))
  have h1 : (0 : EReal) ≤ max (-z) 0 := le_max_right _ _
  rw [EReal.neg_add (.inl (ne_of_gt (lt_of_lt_of_le EReal.bot_lt_zero h1))) (.inr (ne_of_gt (lt_of_lt_of_le EReal.bot_lt_zero h0)))]
  congr 1
  rcases le_total z 0 with h | h
  · rw [max_eq_left (by simpa using EReal.neg_le_neg_iff.2 h), neg_neg, min_eq_left h]
  · rw [max_eq_right (by simpa using EReal.neg_le_neg_iff.2 h), neg_zero, min_eq_right h]

namespace R

open Cert.Reference9Ideal Cert.Reference9Ideal.Gen

variable (m : (ℓ : Loc nD τ sig) → Buf (Elt Ideal) ℓ)

/-- The launch's rows. -/
abbrev A0 (c : Dev nD) : S16384x128.Idx → EReal := m ((c : Thread nD τ).loc main_arg0)
/-- The launch's shift. -/
abbrev A1 (c : Dev nD) : S1x128.Idx → EReal := m ((c : Thread nD τ).loc main_arg1)

/-- One gate, of the launch's arrays; nothing past their end. -/
def g (c : Dev nD) (d : Fin 128) (n : ℕ) : EReal :=
  if h : n < 16384 then ls (A0 m c (ix2 ⟨n, h⟩ d) + A1 m c (ix2 0 d)) else 0

/-- The sum of the first `n` gates of sequence `b`. -/
def S (c : Dev nD) (d : Fin 128) (b n : ℕ) : EReal := ∑ l ∈ Finset.range n, g m c d (b * 8192 + l)

/-- The running sum, of the launch's arrays. -/
def Y (c : Dev nD) : S16384x128.Idx → EReal := fun i => S m c (i 1) ((i 0).val / 8192) ((i 0).val % 8192 + 1)

/-- The reference's gates. -/
def gates (x : FVec Ideal S16384x128 .f32) (b : FVec Ideal S1x128 .f32) : FVec Ideal S16384x128 .f32 :=
  have y : FVec Ideal S16384x128 .f32 := Host.negf (addf x (broadcastInDim S16384x128 ![0, 1] bcast_S1x128_S16384x128_0_1 b))
  have o : FVec Ideal S16384x128 .f32 := broadcastInDim S16384x128 ![] bcast_S_S16384x128 (constant S_ .f32 0x00000000#32)
  Host.negf (select (cmpf .une (subf y o) (subf y o)) (addf y o)
    (addf (maximumf y o) (Host.log1p (Host.exp (Host.negf (Host.absf (subf y o)))))))

/-- A gate of the reference, at an entry. -/
theorem gates_apply (x : FVec Ideal S16384x128 .f32) (b : FVec Ideal S1x128 .f32) (r : Fin 16384) (d : Fin 128) :
    gates x b (ix2 r d) = ls (x (ix2 r d) + b (ix2 0 d)) := by
  rw [← ls_eq]
  pointwise [gates]
  rw [if_neg (fun h => h rfl)]
  rfl

/-- Adding up a list from the left, starting with `v`. -/
theorem foldl_add {ι : Type} (a : ι → EReal) (l : List ι) : ∀ v : EReal, l.foldl (fun r n => r + a n) v = v + (l.map a).sum := by
  induction l with
  | nil => exact fun v => (add_zero v).symm
  | cons n l ih => exact fun v => by rw [List.foldl_cons, ih, List.map_cons, List.sum_cons, add_assoc]

/-- A running sum along the middle of three axes, as a window of the whole length padded below: its entry. -/
theorem window_apply {B L M D : ℕ} (hL : M + 1 = L) (x : (⟨3, ![B, L, D]⟩ : Shape).Idx → EReal) {u : Shape} (o : u.Idx → EReal)
    (hu : 0 < u.numel) (ho : o (Shape.Idx.first hu) = 0)
    (h : (⟨3, ![B, L, D]⟩ : Shape).ReduceWindows (![1, L, 1] : Fin 3 → ℕ) ![1, 1, 1] ![0, M, 0] ![0, 0, 0] ⟨3, ![B, L, D]⟩)
    (f : ℕ → EReal) (b : Fin B) (d : Fin D) (hx : ∀ l : Fin L, x (ix3 b l d) = f l.val) (l : Fin L) :
    Host.reduceWindow (fun r s : EReal => r + s) (![1, L, 1] : Fin 3 → ℕ) ![1, 1, 1] ![0, M, 0] ![0, 0, 0] x o h hu (ix3 b l d)
      = ∑ k ∈ Finset.range (l.val + 1), f k := by
  have hl := l.isLt
  let W : Shape := ⟨3, ![1, L, 1]⟩
  let a : W.Idx → EReal := fun w => if M ≤ l.val + (w 1).val then f (l.val + (w 1).val - M) else 0
  have e1 : ∀ (w : W.Idx) (_ : Decidable (∀ k : Fin 3, (![0, M, 0] : Fin 3 → ℕ) k
        ≤ ((ix3 b l d : (⟨3, ![B, L, D]⟩ : Shape).Idx) k).val * (![1, 1, 1] : Fin 3 → ℕ) k + (w k).val
      ∧ ((ix3 b l d : (⟨3, ![B, L, D]⟩ : Shape).Idx) k).val * (![1, 1, 1] : Fin 3 → ℕ) k + (w k).val - (![0, M, 0] : Fin 3 → ℕ) k
        < (![B, L, D] : Fin 3 → ℕ) k)),
      (if hin : ∀ k : Fin 3, (![0, M, 0] : Fin 3 → ℕ) k
        ≤ ((ix3 b l d : (⟨3, ![B, L, D]⟩ : Shape).Idx) k).val * (![1, 1, 1] : Fin 3 → ℕ) k + (w k).val
      ∧ ((ix3 b l d : (⟨3, ![B, L, D]⟩ : Shape).Idx) k).val * (![1, 1, 1] : Fin 3 → ℕ) k + (w k).val - (![0, M, 0] : Fin 3 → ℕ) k
        < (![B, L, D] : Fin 3 → ℕ) k
      then x (fun k => ⟨_, (hin k).2⟩) else o (Shape.Idx.first hu)) = a w := by
    intro w _
    have w0 : (w 0).val = 0 := Nat.lt_one_iff.1 (w 0).isLt
    have w1 : (w 1).val < L := (w 1).isLt
    have w2 : (w 2).val = 0 := Nat.lt_one_iff.1 (w 2).isLt
    split
    · next hin =>
      have h1 : M ≤ l.val * 1 + (w 1).val ∧ l.val * 1 + (w 1).val - M < L := hin 1
      have hm : M ≤ l.val + (w 1).val := by omega
      refine ((congrArg x (funext fun k => Fin.ext ?_)).trans (hx ⟨l.val + (w 1).val - M, by omega⟩)).trans (if_pos hm).symm
      match k with
      | ⟨0, _⟩ =>
        show b.val * 1 + (w 0).val - 0 = b.val
        omega
      | ⟨1, _⟩ =>
        show l.val * 1 + (w 1).val - M = l.val + (w 1).val - M
        omega
      | ⟨2, _⟩ =>
        show d.val * 1 + (w 2).val - 0 = d.val
        omega
    · next hin =>
      refine ho.trans (if_neg fun hm => hin fun k => ?_).symm
      match k with
      | ⟨0, _⟩ =>
        show 0 ≤ b.val * 1 + (w 0).val ∧ b.val * 1 + (w 0).val - 0 < B
        omega
      | ⟨1, _⟩ =>
        show M ≤ l.val * 1 + (w 1).val ∧ l.val * 1 + (w 1).val - M < L
        omega
      | ⟨2, _⟩ =>
        show 0 ≤ d.val * 1 + (w 2).val ∧ d.val * 1 + (w 2).val - 0 < D
        omega
  have e : Host.reduceWindow (fun r s : EReal => r + s) (![1, L, 1] : Fin 3 → ℕ) ![1, 1, 1] ![0, M, 0] ![0, 0, 0] x o h hu (ix3 b l d)
      = (List.finRange W.numel).foldl (fun r n => r + a (W.rowMajor.symm n)) (o (Shape.Idx.first hu)) := by
    refine congrArg (fun q => List.foldl q (o (Shape.Idx.first hu)) (List.finRange W.numel)) (funext fun r => funext fun n => ?_)
    exact congrArg (r + ·) (e1 (W.rowMajor.symm n) _)
  have e2 : ∑ w : W.Idx, a w = ∑ n : Fin L, if M ≤ l.val + n.val then f (l.val + n.val - M) else 0 := by
    refine Fintype.sum_bijective (fun w : W.Idx => (w 1 : Fin L)) ⟨fun v w h => ?_, fun n => ⟨(ix3 0 n 0 : W.Idx), rfl⟩⟩ _ _ fun w => rfl
    funext k
    match k with
    | ⟨0, _⟩ => exact Subsingleton.elim (α := Fin 1) _ _
    | ⟨1, _⟩ => exact h
    | ⟨2, _⟩ => exact Subsingleton.elim (α := Fin 1) _ _
  rw [e, foldl_add, ho, zero_add, ← Fin.sum_univ_def, Equiv.sum_comp W.rowMajor.symm a, e2,
    Fin.sum_univ_eq_sum_range (fun n => if M ≤ l.val + n then f (l.val + n - M) else 0) L]
  obtain ⟨q, hq⟩ : ∃ q, L = q + (l.val + 1) := ⟨L - (l.val + 1), by omega⟩
  refine (congrArg (fun N => ∑ n ∈ Finset.range N, if M ≤ l.val + n then f (l.val + n - M) else 0) hq).trans ?_
  rw [Finset.sum_range_add,
    Finset.sum_eq_zero (s := Finset.range q) fun k hk => if_neg (by have := Finset.mem_range.1 hk; omega), zero_add]
  refine Finset.sum_congr rfl fun k hk => ?_
  have := Finset.mem_range.1 hk
  rw [if_pos (by omega)]
  exact congrArg f (by omega)

/-- The same, of the float sum along the window. -/
theorem cumsum_apply {B L M D : ℕ} (hL : M + 1 = L) (x : FVec Ideal ⟨3, ![B, L, D]⟩ .f32) {u : Shape} (o : FVec Ideal u .f32)
    (hu : 0 < u.numel) (ho : o (Shape.Idx.first hu) = 0)
    (h : (⟨3, ![B, L, D]⟩ : Shape).ReduceWindows (![1, L, 1] : Fin 3 → ℕ) ![1, 1, 1] ![0, M, 0] ![0, 0, 0] ⟨3, ![B, L, D]⟩)
    (f : ℕ → EReal) (b : Fin B) (d : Fin D) (hx : ∀ l : Fin L, x (ix3 b l d) = f l.val) (l : Fin L) :
    Host.reduceWindowAdd (F := Ideal) (![1, L, 1] : Fin 3 → ℕ) ![1, 1, 1] ![0, M, 0] ![0, 0, 0] x o h hu (ix3 b l d)
      = ∑ k ∈ Finset.range (l.val + 1), f k :=
  window_apply hL x (fun _ : (⟨0, ![]⟩ : Shape).Idx => o (Shape.Idx.first hu)) (by decide) ho h f b d hx l

/-- The reference's result. -/
theorem out0 (c : Dev nD) :
    (shapeCast _ (Host.reduceWindowAdd (F := Ideal) ![1, 8192, 1] ![1, 1, 1] ![0, 8191, 0] ![0, 0, 0]
      (shapeCast _ (gates (A0 m c) (A1 m c)) shapeCasts_S16384x128_S2x8192x128)
      (broadcastInDim S_ ![] bcast_S_S_ (constant S_ .f32 0x00000000#32))
      reduceWindows_S2x8192x128_S2x8192x128_w1s1p0_0_w8192s1p8191_0_w1s1p0_0 h_S_) shapeCasts_S2x8192x128_S16384x128
      : S16384x128.Idx → EReal) = Y m c := by
  funext y
  idx_vars y
  pointwise []
  have hy := y0.isLt
  refine (cumsum_apply (B := 2) (L := 8192) (M := 8191) (D := 128) (by norm_num) _ _ _ ?_ _
    (fun k => g m c y1 (y0.val / 8192 * 8192 + k)) _ _ (fun l => ?_) _).trans ?_
  · pointwise []
  · pointwise []
    rw [gates_apply, g, dif_pos (by omega)]
  · rfl

end R

/-- The reference runs over the extended reals and leaves its arguments; it declares no semaphore. -/
theorem frame_r : Cert.quiescent_Reference9Ideal := fun m ρ _ =>
  (θ_run Cert.Reference9Ideal.defs _ _).mono
    (fun r h => ⟨fun c => ⟨(h c).2.1, (h c).2.2⟩, sem_eq_zero_of_no_sems (by decide) r.2⟩)
    (Cert.Reference9Ideal.Value.run (F := Ideal) m ρ)

/-- The call and its reference have the same running sums of the same arguments. -/
theorem algebraic : Cert.algebraic_Kernel9Ideal_Reference9Ideal := by
  intro m g m' g' _ ha
  refine ⟨fun c => (Cert.Kernel9Ideal.Gen.dats m 0 c).arrAt 2 Cert.Kernel9Ideal.cfg0.N,
    Cert.Kernel9Ideal.Value.run_blocks m g, ?_⟩
  have hY : ∀ c, R.Y m' c = K.Y m c := fun c => by
    obtain ⟨h0, h1⟩ := ha c
    have hg : R.g m' c = K.g m c := by
      funext d n
      simp only [R.g, K.g, R.A0, R.A1, K.A0, K.A1, h0, h1]
    funext i
    simp only [R.Y, K.Y, R.S, K.S, hg]
  refine (θ_run Cert.Reference9Ideal.defs _ _).mono (fun r h c => ⟨?_, (h c).2⟩)
    (Cert.Reference9Ideal.Value.run (F := Ideal) m' g')
  exact ((h c).1.trans (R.out0 m' c)).trans ((hY c).trans (K.arr2 m c).symm)
end Cert.Forget
end
-- ==== Proof.Merge.lean ====
/- The value of the merge of the three dilated patterns: over the extended reals, the kernel's entries are the reference's. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Quiescent

@[expose] public section

set_option maxRecDepth 16384

noncomputable section

namespace Cert.Merge

open Idealize.ShloMosaic Idealize.ShloMosaic.TcCoe Idealize.SL.Sem
open Idealize.ShloMosaic.Pipeline (Dat)

/-- Three numbers merged with weights proportional to the exponentials of `l0`, `l1`, `l2`. -/
def merge (o0 l0 o1 l1 o2 l2 : EReal) : EReal :=
  Ideal.div (Ideal.exp (l0 - max (max l0 l1) l2) * o0 + Ideal.exp (l1 - max (max l0 l1) l2) * o1
      + Ideal.exp (l2 - max (max l0 l1) l2) * o2)
    (Ideal.exp (l0 - max (max l0 l1) l2) + Ideal.exp (l1 - max (max l0 l1) l2) + Ideal.exp (l2 - max (max l0 l1) l2))

/-- The greatest of three numbers, as the reference takes it: starting from the least. -/
theorem fold_max3 (f : Fin 3 → EReal) :
    Finset.fold max (Ideal.ofBits FTy.f32 4286578688#32) f Finset.univ = max (max (f 0) (f 1)) (f 2) := by
  have hb : Ideal.ofBits FTy.f32 4286578688#32 = ⊥ := by simp [Ideal.ofBits, Ideal.ieee]
  rw [show (Finset.univ : Finset (Fin 3)) = {0, 1, 2} from rfl, Finset.fold_insert (by decide), Finset.fold_insert (by decide),
    Finset.fold_singleton, hb, max_bot_right, max_assoc]

namespace K

open Cert.Kernel10Ideal Cert.Kernel10Ideal.Gen

variable (m : (ℓ : Loc nD τ sig) → Buf (Elt Ideal) ℓ)

/-- One block's merge, at an entry. -/
theorem pay1_apply (l0 l1 l2 o0 o1 o2 : Vec Ideal S512x512 .f32) (r d : Fin 512) :
    k0_pay1 (F := Ideal) l0 l1 l2 o0 o1 o2 (ix2 r d) = merge (o0 (ix2 r d)) (l0 (ix2 r d)) (o1 (ix2 r d)) (l1 (ix2 r d))
      (o2 (ix2 r d)) (l2 (ix2 r d)) := by
  pointwise [k0_pay1, merge]

/-- The index maps of the grid's windows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- An array of the launch. -/
abbrev A0 (c : Dev nD) : S16384x512.Idx → EReal := m ((c : Thread nD τ).loc main_arg0)
/-- An array of the launch. -/
abbrev A1 (c : Dev nD) : S16384x512.Idx → EReal := m ((c : Thread nD τ).loc main_arg1)
/-- An array of the launch. -/
abbrev A2 (c : Dev nD) : S16384x512.Idx → EReal := m ((c : Thread nD τ).loc main_arg2)
/-- An array of the launch. -/
abbrev A3 (c : Dev nD) : S16384x512.Idx → EReal := m ((c : Thread nD τ).loc main_arg3)
/-- An array of the launch. -/
abbrev A4 (c : Dev nD) : S16384x512.Idx → EReal := m ((c : Thread nD τ).loc main_arg4)
/-- An array of the launch. -/
abbrev A5 (c : Dev nD) : S16384x512.Idx → EReal := m ((c : Thread nD τ).loc main_arg5)

/-- The merged entries, of the launch's arrays. -/
def Y (c : Dev nD) : S16384x512.Idx → EReal := fun i =>
  merge (A0 m c i) (A1 m c i) (A2 m c i) (A3 m c i) (A4 m c i) (A5 m c i)

/-- The result array after the last point. -/
theorem arr6 (c : Dev nD) : (dats m 0 c).arrAt 6 cfg0.N = Y m c := by
  refine (dats m 0 c).arrAt_eq_of_covers 6 _ (by decide +kernel) fun t hf y => ?_
  blk_simp
  rw [after0_6]
  obtain ⟨i0, i1, i2, i3, i4, i5, i6⟩ := idx t
  have hb : t.val < 32 := t.isLt
  idx_vars y
  have e : ((View.whole main_v0).slice (win0_6.rect t)).emb (ix2 y0 y1)
      = (ix2 ⟨t.val * 512 + y0.val, by omega⟩ y1 : S16384x512.Idx) := by blk_ext [i6]
  rw [e]
  have b0 : (iblk m c 0 t : Vec Ideal S512x512 .f32) (ix2 y0 y1)
      = A0 m c (ix2 ⟨t.val * 512 + y0.val, by omega⟩ y1) := by blk_ext [iblk, V, i0]
  have b1 : (iblk m c 1 t : Vec Ideal S512x512 .f32) (ix2 y0 y1)
      = A1 m c (ix2 ⟨t.val * 512 + y0.val, by omega⟩ y1) := by blk_ext [iblk, V, i1]
  have b2 : (iblk m c 2 t : Vec Ideal S512x512 .f32) (ix2 y0 y1)
      = A2 m c (ix2 ⟨t.val * 512 + y0.val, by omega⟩ y1) := by blk_ext [iblk, V, i2]
  have b3 : (iblk m c 3 t : Vec Ideal S512x512 .f32) (ix2 y0 y1)
      = A3 m c (ix2 ⟨t.val * 512 + y0.val, by omega⟩ y1) := by blk_ext [iblk, V, i3]
  have b4 : (iblk m c 4 t : Vec Ideal S512x512 .f32) (ix2 y0 y1)
      = A4 m c (ix2 ⟨t.val * 512 + y0.val, by omega⟩ y1) := by blk_ext [iblk, V, i4]
  have b5 : (iblk m c 5 t : Vec Ideal S512x512 .f32) (ix2 y0 y1)
      = A5 m c (ix2 ⟨t.val * 512 + y0.val, by omega⟩ y1) := by blk_ext [iblk, V, i5]
  unfold out0_6
  frame_out
  rw [pay1_apply]
  simp only [b0, b1, b2, b3, b4, b5]
  rfl

end K

namespace R

open Cert.Reference10Ideal

variable (m : (ℓ : Loc nD τ sig) → Buf (Elt Ideal) ℓ)

/-- An array of the launch. -/
abbrev A0 (c : Dev nD) : S16384x512.Idx → EReal := m ((c : Thread nD τ).loc main_arg0)
/-- An array of the launch. -/
abbrev A1 (c : Dev nD) : S16384x512.Idx → EReal := m ((c : Thread nD τ).loc main_arg1)
/-- An array of the launch. -/
abbrev A2 (c : Dev nD) : S16384x512.Idx → EReal := m ((c : Thread nD τ).loc main_arg2)
/-- An array of the launch. -/
abbrev A3 (c : Dev nD) : S16384x512.Idx → EReal := m ((c : Thread nD τ).loc main_arg3)
/-- An array of the launch. -/
abbrev A4 (c : Dev nD) : S16384x512.Idx → EReal := m ((c : Thread nD τ).loc main_arg4)
/-- An array of the launch. -/
abbrev A5 (c : Dev nD) : S16384x512.Idx → EReal := m ((c : Thread nD τ).loc main_arg5)

/-- The merged entries, of the launch's arrays. -/
def Y (c : Dev nD) : S16384x512.Idx → EReal := fun i =>
  merge (A0 m c i) (A1 m c i) (A2 m c i) (A3 m c i) (A4 m c i) (A5 m c i)

/-- The reference's result. -/
theorem out0 (c : Dev nD) : (Value.res_main_v17 m c : S16384x512.Idx → EReal) = Y m c := by
  funext y
  idx_vars y
  pointwise [Value.res_main_v17]
  rw [fold_max3, Fin.sum_univ_three, Fin.sum_univ_three]
  rfl

end R

/-- The reference runs over the extended reals and leaves its arguments; it declares no semaphore. -/
theorem frame_r : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- The call and its reference have the same merged entries of the same arguments. -/
theorem algebraic : Cert.algebraic_Kernel10Ideal_Reference10Ideal := by
  intro m g m' g' _ ha
  refine ⟨fun c => (Cert.Kernel10Ideal.Gen.dats m 0 c).arrAt 6 Cert.Kernel10Ideal.cfg0.N,
    Cert.Kernel10Ideal.Value.run_blocks m g, ?_⟩
  have hY : ∀ c, R.Y m' c = K.Y m c := fun c => by
    obtain ⟨h0, h1, h2, h3, h4, h5⟩ := ha c
    unfold R.Y K.Y
    simp only [R.A0, R.A1, R.A2, R.A3, R.A4, R.A5, K.A0, K.A1, K.A2, K.A3, K.A4, K.A5, h0, h1, h2, h3, h4, h5]
  refine (θ_run Cert.Reference10Ideal.defs _ _).mono (fun r h c => ⟨?_, (h c).2⟩)
    (Cert.Reference10Ideal.Value.run (F := Ideal) m' g')
  exact ((h c).1.trans (R.out0 m' c)).trans ((hY c).trans (K.arr6 m c).symm)

end Cert.Merge
end
-- ==== Proof.Dilated.lean ====
/- The value of the first dilated pattern: over the extended reals, the kernel's entries are the reference's. -/
module

public import proofs.«01_k».proof.Proof.Gen.Kernel11Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Dilated

open Idealize.ShloMosaic Idealize.ShloMosaic.TcCoe Idealize.SL.Sem
open Idealize.ShloMosaic.Pipeline (Dat)

/-- The greatest of a row of 256 logits. -/
def top (lg : Fin 256 → EReal) : EReal := Finset.fold max (Ideal.ofBits FTy.f32 4286578688#32) lg Finset.univ
/-- The sum of a row's exponentials, taken off the greatest. -/
def den (lg : Fin 256 → EReal) : EReal := ∑ k, Ideal.exp (lg k - top lg)
/-- The softmax of a row of logits, times a column of values. -/
def attn (lg v : Fin 256 → EReal) : EReal := Ideal.div (∑ k, Ideal.exp (lg k - top lg) * v k) (den lg)
/-- The logarithm of the softmax's denominator. -/
def logden (lg : Fin 256 → EReal) : EReal := top lg + Ideal.log (den lg)

/-- An eighth, the scale of the queries. -/
def c8 : EReal := Ideal.ofBits FTy.bf16 15872#16

/-- It is the same number read as an f32. -/
theorem c8_f32 : Ideal.ofBits FTy.f32 1040187392#32 = c8 := by
  unfold c8
  simp [Ideal.ofBits, Ideal.ieee]
  norm_num
  rw [← EReal.coe_mul, ← EReal.coe_mul]
  norm_num

/-- The least number, read as an f32. -/
theorem bot_f32 : Ideal.ofBits FTy.f32 4286578688#32 = ⊥ := by simp [Ideal.ofBits, Ideal.ieee]

/-- Of a query's row, the row of its `k`-th key: those of the block before, then those of its own. -/
def row (y : Fin 16384) (k : Fin 256) : Fin 16384 :=
  if h : k.val < 128 then ⟨y.val / 8192 * 8192 + (y.val / 128 % 64 - 1) * 128 + k.val, by omega⟩
  else ⟨y.val / 8192 * 8192 + y.val / 128 % 64 * 128 + (k.val - 128), by omega⟩

variable (A : (⟨2, ![16384, 3072]⟩ : Shape).Idx → EReal) (B : (⟨3, ![8, 128, 256]⟩ : Shape).Idx → EReal)

/-- A query's logits with one head: those of the missing block before a sequence's first are the least number. -/
def lg (y : Fin 16384) (h : Fin 8) (k : Fin 256) : EReal :=
  if y.val / 128 % 64 = 0 ∧ k.val < 128 then ⊥
  else ∑ d : Fin 64, A (ix2 y ⟨1536 + (h.val * 64 + d.val), by omega⟩) * c8 * A (ix2 (row y k) ⟨2048 + (h.val * 64 + d.val), by omega⟩)
    + B (ix3 h ⟨y.val % 128, by omega⟩ k)
/-- A column of the values of a query's keys. -/
def vals (y : Fin 16384) (x : Fin 512) (k : Fin 256) : EReal := A (ix2 (row y k) ⟨2560 + x.val, by omega⟩)
/-- The output at an entry. -/
def YO (y : Fin 16384) (x : Fin 512) : EReal := attn (lg A B y ⟨x.val / 64, by omega⟩) (vals A y x)
/-- The logarithm of the denominator at an entry. -/
def YL (y : Fin 16384) (x : Fin 512) : EReal := logden (lg A B y ⟨x.val / 64, by omega⟩)

/-- Values of keys whose logit is the least number do not matter. -/
theorem attn_congr {l v w : Fin 256 → EReal} (h : ∀ k, l k = ⊥ ∨ v k = w k) : attn l v = attn l w := by
  unfold attn
  congr 1
  refine Finset.sum_congr rfl fun k _ => ?_
  rcases h k with h | h
  · have e : Ideal.exp (l k - top l) = 0 := by rw [h, EReal.bot_sub]; rfl
    rw [e, zero_mul, zero_mul]
  · rw [h]

/-- A sum over 128 lanes of which the first half count. -/
theorem sum_lo (f : Fin 128 → EReal) : ∑ x : Fin 128, (if x.val < 64 then f x else 0) = ∑ d : Fin 64, f ⟨d.val, by omega⟩ := by
  rw [Fin.sum_univ_add (a := 64) (b := 64) (f := fun x : Fin (64 + 64) => if x.val < 64 then f x else 0)]
  have h : ∀ d : Fin 64, ¬ 64 + d.val < 64 := by omega
  simp [h]
  rfl

/-- A sum over 128 lanes of which the second half count. -/
theorem sum_hi (f : Fin 128 → EReal) : ∑ x : Fin 128, (if 64 ≤ x.val then f x else 0) = ∑ d : Fin 64, f ⟨64 + d.val, by omega⟩ := by
  rw [Fin.sum_univ_add (a := 64) (b := 64) (f := fun x : Fin (64 + 64) => if 64 ≤ x.val then f x else 0)]
  have h : ∀ d : Fin 64, ¬ 64 ≤ d.val := by omega
  simp [h]
  rfl

namespace K

open Cert.Kernel11Ideal Cert.Kernel11Ideal.Gen

variable (m : (ℓ : Loc nD τ sig) → Buf (Elt Ideal) ℓ)

/-- The logits of a pair's first head. -/
def lgA (i : grid0.Coords) (q kp kc : Vec Ideal S128x128 .bf16) (b : Vec Ideal S1x128x256 .f32) : FVec Ideal S128x256 .f32 :=
  k0_pay7 i q kp kc b
/-- The logits of a pair's second head. -/
def lgB (i : grid0.Coords) (q kp kc : Vec Ideal S128x128 .bf16) (b : Vec Ideal S1x128x256 .f32) : FVec Ideal S128x256 .f32 :=
  k0_pay12 (k0_pay4 i) q (k0_pay5 kp kc) b
/-- A head's output of its logits and the pair's values. -/
def outH (V : FVec Ideal S256x128 .bf16) (L : FVec Ideal S128x256 .f32) : FVec Ideal S128x128 .f32 :=
  divf (matmul dot_S128x256_S256x128_S128x128_1_0_0_1_n_n none (truncf .bf16 (k0_pay45 L) bitsLt_bf16_f32) V
    (constant S128x128 .f32 0x00000000#32)) (broadcastTo S128x128 (k0_pay46 L) broadcasts_S128x1_S128x128)
/-- A head's logarithm of the denominator. -/
def ldH (L : FVec Ideal S128x256 .f32) : FVec Ideal S128x128 .f32 :=
  broadcastTo S128x128 (shapeCast S128x1 (addf (k0_pay44 L) (log (k0_pay46 L))) shapeCasts_S128x1_S128x1) broadcasts_S128x1_S128x128
/-- A pair of heads' output. -/
def pairO (i : grid0.Coords) (q kp kc vp vc : Vec Ideal S128x128 .bf16) (b0 b1 : Vec Ideal S1x128x256 .f32) : FVec Ideal S128x128 .f32 :=
  select k0_pay16 (outH (k0_pay6 vp vc) (lgA i q kp kc b0)) (outH (k0_pay6 vp vc) (lgB i q kp kc b1))
/-- A pair of heads' logarithms of the denominators. -/
def pairL (i : grid0.Coords) (q kp kc : Vec Ideal S128x128 .bf16) (b0 b1 : Vec Ideal S1x128x256 .f32) : FVec Ideal S128x128 .f32 :=
  select k0_pay16 (ldH (lgA i q kp kc b0)) (ldH (lgB i q kp kc b1))

/-- The pieces of the output's block, one to a pair of heads. -/
theorem out6_eq (i : grid0.Coords) (x0 x1 x2 x3 x4 : Vec Ideal S128x512 .bf16) (x5 : Vec Ideal S8x128x256 .f32) :
    out0_6 (F := Ideal) i x0 x1 x2 x3 x4 x5 = View.canon [
      ⟨r0_9, pairO i (View.ld x0 r0_9) (View.ld x1 r0_9) (View.ld x2 r0_9) (View.ld x3 r0_9) (View.ld x4 r0_9) (View.ld x5 r0_10) (View.ld x5 r0_11)⟩,
      ⟨r0_6, pairO i (View.ld x0 r0_6) (View.ld x1 r0_6) (View.ld x2 r0_6) (View.ld x3 r0_6) (View.ld x4 r0_6) (View.ld x5 r0_7) (View.ld x5 r0_8)⟩,
      ⟨r0_3, pairO i (View.ld x0 r0_3) (View.ld x1 r0_3) (View.ld x2 r0_3) (View.ld x3 r0_3) (View.ld x4 r0_3) (View.ld x5 r0_4) (View.ld x5 r0_5)⟩,
      ⟨r0_0, pairO i (View.ld x0 r0_0) (View.ld x1 r0_0) (View.ld x2 r0_0) (View.ld x3 r0_0) (View.ld x4 r0_0) (View.ld x5 r0_1) (View.ld x5 r0_2)⟩] := rfl

/-- The pieces of the logarithms' block, one to a pair of heads. -/
theorem out7_eq (i : grid0.Coords) (x0 x1 x2 x3 x4 : Vec Ideal S128x512 .bf16) (x5 : Vec Ideal S8x128x256 .f32) :
    out0_7 (F := Ideal) i x0 x1 x2 x3 x4 x5 = View.canon [
      ⟨r0_9, pairL i (View.ld x0 r0_9) (View.ld x1 r0_9) (View.ld x2 r0_9) (View.ld x5 r0_10) (View.ld x5 r0_11)⟩,
      ⟨r0_6, pairL i (View.ld x0 r0_6) (View.ld x1 r0_6) (View.ld x2 r0_6) (View.ld x5 r0_7) (View.ld x5 r0_8)⟩,
      ⟨r0_3, pairL i (View.ld x0 r0_3) (View.ld x1 r0_3) (View.ld x2 r0_3) (View.ld x5 r0_4) (View.ld x5 r0_5)⟩,
      ⟨r0_0, pairL i (View.ld x0 r0_0) (View.ld x1 r0_0) (View.ld x2 r0_0) (View.ld x5 r0_1) (View.ld x5 r0_2)⟩] := rfl

/-- The pair's output at an entry. -/
theorem outH_apply (V : FVec Ideal S256x128 .bf16) (L : FVec Ideal S128x256 .f32) (t d : Fin 128) :
    outH V L (ix2 t d) = attn (fun k => L (ix2 t k)) (fun k => V (ix2 k d)) := by
  pointwise [outH, k0_pay45, k0_pay46, k0_pay44, attn, den, top]

/-- The pair's logarithm at an entry. -/
theorem ldH_apply (L : FVec Ideal S128x256 .f32) (t d : Fin 128) :
    ldH L (ix2 t d) = logden (fun k => L (ix2 t k)) := by
  pointwise [ldH, k0_pay45, k0_pay46, k0_pay44, logden, den, top]

/-- The mask is the least number. -/
theorem mask_eq : (Named.named (F := Ideal) (φ := .f32) κ "mask" 4048155338#32 : EReal) = ⊥ :=
  IdealRules.named_const.ideal_named_scalar κ "mask" (φ := .f32) _ ⊥ rfl

/-- The mask of a point, at an entry. -/
theorem mask_apply (i2 : ℕ) (hi : i2 < 64) (k : Fin 256) : (Scalar.select
        (IntOp.andi (Scalar.cmpi CmpIPredicate.eq (BitVec.ofNat 32 i2) 0#32)
          (IntOp.cmpi CmpIPredicate.slt (BitVec.ofNat 32 k.val) 128#32))
        (Named.named (F := Ideal) (φ := .f32) κ "mask" 4048155338#32) 0 : EReal) = if i2 = 0 ∧ k.val < 128 then ⊥ else 0 := by
  have e1 : Scalar.cmpi CmpIPredicate.eq (BitVec.ofNat 32 i2) 0#32 = BitVec.ofBool (decide (i2 = 0)) :=
    WordCmp.cmpi_eq_ofNat (w := 32) (a := i2) (b := 0) (by omega) (by omega)
  have e2 : IntOp.cmpi CmpIPredicate.slt (BitVec.ofNat 32 k.val) 128#32 = BitVec.ofBool (decide (k.val < 128)) :=
    WordCmp.cmpi_slt_ofNat (w := 32) (a := k.val) (b := 128) (by omega) (by omega)
  rw [mask_eq, e1, e2, WordCmp.andi_ofBool]
  by_cases h1 : i2 = 0 <;> by_cases h2 : k.val < 128 <;> simp [Scalar.select, h1, h2]

/-- The first head's logit at an entry. -/
theorem lgA_apply (i : grid0.Coords) (q kp kc : Vec Ideal S128x128 .bf16) (b : Vec Ideal S1x128x256 .f32) (t : Fin 128) (k : Fin 256) :
    lgA i q kp kc b (ix2 t k) = ∑ d : Fin 64, q (ix2 t ⟨d.val, by omega⟩) * c8
        * (if h : k.val < 128 then kp (ix2 ⟨k.val, h⟩ ⟨d.val, by omega⟩) else kc (ix2 ⟨k.val - 128, by omega⟩ ⟨d.val, by omega⟩))
      + b (ix3 0 t k) + (if (i 2).val = 0 ∧ k.val < 128 then ⊥ else 0) := by
  rw [← mask_apply _ (i 2).isLt]
  pointwise [lgA, k0_pay7, k0_pay4, k0_pay5]
  congr 2
  refine Eq.trans ?_ (sum_lo (fun x => q (ix2 t x) * c8 * (if h : k.val < 128 then kp (ix2 ⟨k.val, h⟩ x) else kc (ix2 ⟨k.val - 128, by omega⟩ x))))
  refine Finset.sum_congr rfl fun x _ => ?_
  rw [WordCmp.cmpi_slt_ofNat (w := 32) (a := x.val) (b := 64) (by omega) (by omega)]
  by_cases h : x.val < 64 <;> simp [Scalar.select, h, c8]

/-- The second head's logit at an entry. -/
theorem lgB_apply (i : grid0.Coords) (q kp kc : Vec Ideal S128x128 .bf16) (b : Vec Ideal S1x128x256 .f32) (t : Fin 128) (k : Fin 256) :
    lgB i q kp kc b (ix2 t k) = ∑ d : Fin 64, q (ix2 t ⟨64 + d.val, by omega⟩) * c8
        * (if h : k.val < 128 then kp (ix2 ⟨k.val, h⟩ ⟨64 + d.val, by omega⟩) else kc (ix2 ⟨k.val - 128, by omega⟩ ⟨64 + d.val, by omega⟩))
      + b (ix3 0 t k) + (if (i 2).val = 0 ∧ k.val < 128 then ⊥ else 0) := by
  rw [← mask_apply _ (i 2).isLt]
  pointwise [lgB, k0_pay12, k0_pay4, k0_pay5]
  congr 2
  refine Eq.trans ?_ (sum_hi (fun x => q (ix2 t x) * c8 * (if h : k.val < 128 then kp (ix2 ⟨k.val, h⟩ x) else kc (ix2 ⟨k.val - 128, by omega⟩ x))))
  refine Finset.sum_congr rfl fun x _ => ?_
  rw [WordCmp.cmpi_sge_ofNat (w := 32) (a := x.val) (b := 64) (by omega) (by omega)]
  by_cases h : 64 ≤ x.val <;> simp [Scalar.select, h, c8]

/-- The pair's values at an entry. -/
theorem vals_apply (vp vc : Vec Ideal S128x128 .bf16) (k : Fin 256) (d : Fin 128) :
    k0_pay6 (F := Ideal) vp vc (ix2 k d) = if h : k.val < 128 then vp (ix2 ⟨k.val, h⟩ d) else vc (ix2 ⟨k.val - 128, by omega⟩ d) := by
  pointwise [k0_pay6]

/-- A choice between a pair's heads, at an entry. -/
theorem sel_apply (X Y : FVec Ideal S128x128 .f32) (t d : Fin 128) :
    select k0_pay16 X Y (ix2 t d) = if d.val < 64 then X (ix2 t d) else Y (ix2 t d) := by
  pointwise [k0_pay16]
  rw [WordCmp.cmpi_slt_ofNat (w := 32) (a := d.val) (b := 64) (by omega) (by omega)]
  by_cases h : d.val < 64 <;> simp [Scalar.select, h]

/-- What a pair's windows hold at a point: of the array of projections and of the biases, the pair's slices. -/
structure Holds (A : S16384x3072.Idx → EReal) (B : S8x128x256.Idx → EReal) (t : Fin 128) (p : Fin 4)
    (q kp kc vp vc : Vec Ideal S128x128 .bf16) (b0 b1 : Vec Ideal S1x128x256 .f32) : Prop where
  hq : ∀ r x : Fin 128, q (ix2 r x) = A (ix2 ⟨t.val * 128 + r.val, by omega⟩ ⟨1536 + (p.val * 128 + x.val), by omega⟩)
  hkp : ∀ r x : Fin 128, kp (ix2 r x) = A (ix2 ⟨(t.val / 64 * 64 + (t.val % 64 - 1)) * 128 + r.val, by omega⟩ ⟨2048 + (p.val * 128 + x.val), by omega⟩)
  hkc : ∀ r x : Fin 128, kc (ix2 r x) = A (ix2 ⟨t.val * 128 + r.val, by omega⟩ ⟨2048 + (p.val * 128 + x.val), by omega⟩)
  hvp : ∀ r x : Fin 128, vp (ix2 r x) = A (ix2 ⟨(t.val / 64 * 64 + (t.val % 64 - 1)) * 128 + r.val, by omega⟩ ⟨2560 + (p.val * 128 + x.val), by omega⟩)
  hvc : ∀ r x : Fin 128, vc (ix2 r x) = A (ix2 ⟨t.val * 128 + r.val, by omega⟩ ⟨2560 + (p.val * 128 + x.val), by omega⟩)
  hb0 : ∀ (r : Fin 128) (k : Fin 256), b0 (ix3 0 r k) = B (ix3 ⟨2 * p.val, by omega⟩ r k)
  hb1 : ∀ (r : Fin 128) (k : Fin 256), b1 (ix3 0 r k) = B (ix3 ⟨2 * p.val + 1, by omega⟩ r k)

variable {A : S16384x3072.Idx → EReal} {B : S8x128x256.Idx → EReal} {t : Fin 128} {p : Fin 4}
  {q kp kc vp vc : Vec Ideal S128x128 .bf16} {b0 b1 : Vec Ideal S1x128x256 .f32}

/-- The two spellings of a masked logit. -/
theorem mask_add (P : Prop) [Decidable P] (x y : EReal) (h : x = y) : x + (if P then ⊥ else 0) = if P then ⊥ else y := by
  by_cases hp : P <;> simp [hp, h]

/-- Of the two key blocks at a point, the row of the key. -/
theorem two_rows (H : Fin 128 → Fin 128 → EReal) (H' : Fin 128 → Fin 128 → EReal) (o : ℕ) (ho : o ≤ 2560)
    (hp : ∀ r x : Fin 128, H r x = A (ix2 ⟨(t.val / 64 * 64 + (t.val % 64 - 1)) * 128 + r.val, by omega⟩ ⟨o + (p.val * 128 + x.val), by omega⟩))
    (hc : ∀ r x : Fin 128, H' r x = A (ix2 ⟨t.val * 128 + r.val, by omega⟩ ⟨o + (p.val * 128 + x.val), by omega⟩))
    (r : Fin 128) (k : Fin 256) (x : Fin 128) :
    (if h : k.val < 128 then H ⟨k.val, h⟩ x else H' ⟨k.val - 128, by omega⟩ x)
      = A (ix2 (row ⟨t.val * 128 + r.val, by omega⟩ k) ⟨o + (p.val * 128 + x.val), by omega⟩) := by
  unfold row
  by_cases h : k.val < 128
  · rw [dif_pos h, dif_pos h, hp]
    congr 2
    apply Fin.ext
    show (t.val / 64 * 64 + (t.val % 64 - 1)) * 128 + k.val
      = (t.val * 128 + r.val) / 8192 * 8192 + ((t.val * 128 + r.val) / 128 % 64 - 1) * 128 + k.val
    have e1 : (t.val * 128 + r.val) / 8192 = t.val / 64 := by omega
    have e2 : (t.val * 128 + r.val) / 128 = t.val := by omega
    rw [e1, e2]; omega
  · rw [dif_neg h, dif_neg h, hc]
    congr 2
    apply Fin.ext
    show t.val * 128 + (k.val - 128)
      = (t.val * 128 + r.val) / 8192 * 8192 + (t.val * 128 + r.val) / 128 % 64 * 128 + (k.val - 128)
    have e1 : (t.val * 128 + r.val) / 8192 = t.val / 64 := by omega
    have e2 : (t.val * 128 + r.val) / 128 = t.val := by omega
    rw [e1, e2]; omega

section

variable (H : Holds A B t p q kp kc vp vc b0 b1) (i : grid0.Coords) (hi : (i 2).val = t.val % 64)
include H hi

/-- The first head's logits are the array's. -/
theorem lgA_eq (r : Fin 128) :
    (fun k => lgA i q kp kc b0 (ix2 r k)) = lg A B ⟨t.val * 128 + r.val, by omega⟩ ⟨2 * p.val, by omega⟩ := by
  funext k
  rw [lgA_apply]
  have e2 : (t.val * 128 + r.val) / 128 = t.val := by omega
  have e3 : (t.val * 128 + r.val) % 128 = r.val := by omega
  unfold lg
  simp only [hi, e2, e3]
  apply mask_add
  rw [H.hb0]
  congr 1
  refine Finset.sum_congr rfl fun d _ => ?_
  rw [two_rows (fun a b => kp (ix2 a b)) (fun a b => kc (ix2 a b)) 2048 (by omega) H.hkp H.hkc r k, H.hq]
  have e4 : 2 * p.val * 64 + d.val = p.val * 128 + d.val := by omega
  simp only [e4]

/-- The second head's logits are the array's. -/
theorem lgB_eq (r : Fin 128) :
    (fun k => lgB i q kp kc b1 (ix2 r k)) = lg A B ⟨t.val * 128 + r.val, by omega⟩ ⟨2 * p.val + 1, by omega⟩ := by
  funext k
  rw [lgB_apply]
  have e2 : (t.val * 128 + r.val) / 128 = t.val := by omega
  have e3 : (t.val * 128 + r.val) % 128 = r.val := by omega
  unfold lg
  simp only [hi, e2, e3]
  apply mask_add
  rw [H.hb1]
  congr 1
  refine Finset.sum_congr rfl fun d _ => ?_
  rw [two_rows (fun a b => kp (ix2 a b)) (fun a b => kc (ix2 a b)) 2048 (by omega) H.hkp H.hkc r k, H.hq]
  have e4 : (2 * p.val + 1) * 64 + d.val = p.val * 128 + (64 + d.val) := by omega
  simp only [e4]

/-- A pair's output is the array's. -/
theorem pairO_eq (r d : Fin 128) :
    pairO i q kp kc vp vc b0 b1 (ix2 r d) = YO A B ⟨t.val * 128 + r.val, by omega⟩ ⟨p.val * 128 + d.val, by omega⟩ := by
  have hv : (fun k => k0_pay6 (F := Ideal) vp vc (ix2 k d)) = vals A ⟨t.val * 128 + r.val, by omega⟩ ⟨p.val * 128 + d.val, by omega⟩ := by
    funext k
    rw [vals_apply]
    exact two_rows (fun a b => vp (ix2 a b)) (fun a b => vc (ix2 a b)) 2560 (by omega) H.hvp H.hvc r k d
  unfold pairO YO
  rw [sel_apply, outH_apply, outH_apply, hv, lgA_eq H i hi, lgB_eq H i hi]
  by_cases h : d.val < 64
  · have e : (p.val * 128 + d.val) / 64 = 2 * p.val := by omega
    simp only [h, if_true, e]
  · have e : (p.val * 128 + d.val) / 64 = 2 * p.val + 1 := by omega
    simp only [h, if_false, e]

/-- A pair's logarithm is the array's. -/
theorem pairL_eq (r d : Fin 128) :
    pairL i q kp kc b0 b1 (ix2 r d) = YL A B ⟨t.val * 128 + r.val, by omega⟩ ⟨p.val * 128 + d.val, by omega⟩ := by
  unfold pairL YL
  rw [sel_apply, ldH_apply, ldH_apply, lgA_eq H i hi, lgB_eq H i hi]
  by_cases h : d.val < 64
  · have e : (p.val * 128 + d.val) / 64 = 2 * p.val := by omega
    simp only [h, if_true, e]
  · have e : (p.val * 128 + d.val) / 64 = 2 * p.val + 1 := by omega
    simp only [h, if_false, e]

end

/-- The grid's points in order: which block of which sequence, and the windows' index maps. -/
theorem idx : ∀ t : Fin cfg0.N, win0_0.index t = ![t.val, 3] ∧ win0_1.index t = ![t.val / 64 * 64 + (t.val % 64 - 1), 4]
    ∧ win0_2.index t = ![t.val, 4] ∧ win0_3.index t = ![t.val / 64 * 64 + (t.val % 64 - 1), 5] ∧ win0_4.index t = ![t.val, 5]
    ∧ win0_5.index t = ![0, 0, 0] ∧ win0_6.index t = ![t.val, 0] ∧ win0_7.index t = ![t.val, 0]
    ∧ (grid0.coords t 2).val = t.val % 64 :=
  (by decide +kernel : ∀ t : Fin grid0.N, _)

/-- The array of projections. -/
abbrev A0 (c : Dev nD) : S16384x3072.Idx → EReal := m ((c : Thread nD τ).loc main_arg0)
/-- The array of biases. -/
abbrev A1 (c : Dev nD) : S8x128x256.Idx → EReal := m ((c : Thread nD τ).loc main_arg1)

/-- What the windows' blocks hold at a point. -/
structure Blk (A : S16384x3072.Idx → EReal) (B : S8x128x256.Idx → EReal) (t : Fin 128) (x0 x1 x2 x3 x4 : Vec Ideal S128x512 .bf16)
    (x5 : Vec Ideal S8x128x256 .f32) : Prop where
  h0 : ∀ (r : Fin 128) (x : Fin 512), x0 (ix2 r x) = A (ix2 ⟨t.val * 128 + r.val, by omega⟩ ⟨1536 + x.val, by omega⟩)
  h1 : ∀ (r : Fin 128) (x : Fin 512), x1 (ix2 r x) = A (ix2 ⟨(t.val / 64 * 64 + (t.val % 64 - 1)) * 128 + r.val, by omega⟩ ⟨2048 + x.val, by omega⟩)
  h2 : ∀ (r : Fin 128) (x : Fin 512), x2 (ix2 r x) = A (ix2 ⟨t.val * 128 + r.val, by omega⟩ ⟨2048 + x.val, by omega⟩)
  h3 : ∀ (r : Fin 128) (x : Fin 512), x3 (ix2 r x) = A (ix2 ⟨(t.val / 64 * 64 + (t.val % 64 - 1)) * 128 + r.val, by omega⟩ ⟨2560 + x.val, by omega⟩)
  h4 : ∀ (r : Fin 128) (x : Fin 512), x4 (ix2 r x) = A (ix2 ⟨t.val * 128 + r.val, by omega⟩ ⟨2560 + x.val, by omega⟩)
  h5 : ∀ (h : Fin 8) (r : Fin 128) (k : Fin 256), x5 (ix3 h r k) = B (ix3 h r k)

/-- The blocks at a point are the arrays' slices. -/
theorem blk (c : Dev nD) (t : Fin cfg0.N) : Blk (A0 m c) (A1 m c) ⟨t.val, t.isLt⟩ (iblk m c 0 t) (iblk m c 1 t) (iblk m c 2 t)
    (iblk m c 3 t) (iblk m c 4 t) (iblk m c 5 t) := by
  obtain ⟨i0, i1, i2, i3, i4, i5, -, -, -⟩ := idx t
  have hb : t.val < 128 := t.isLt
  exact ⟨fun r x => by blk_ext [iblk, V, i0], fun r x => by blk_ext [iblk, V, i1], fun r x => by blk_ext [iblk, V, i2],
    fun r x => by blk_ext [iblk, V, i3], fun r x => by blk_ext [iblk, V, i4], fun h r k => by blk_ext [iblk, V, i5]⟩

variable {x0 x1 x2 x3 x4 : Vec Ideal S128x512 .bf16} {x5 : Vec Ideal S8x128x256 .f32}

/-- A pair's slice of a block, at an entry. -/
theorem ld_col (x : Vec Ideal S128x512 .bf16) (o : ℕ) (hr) (r d : Fin 128) (ho : o + 128 ≤ 512) :
    View.ld x (Rect.unit (s := S128x512) ![0, o] S128x128.size hr) (ix2 r d) = x (ix2 r ⟨o + d.val, by omega⟩) := by
  rw [View.ld_apply]
  congr 1
  funext a
  fin_cases a <;> apply Fin.ext <;> simp

/-- A head's slice of the biases, at an entry. -/
theorem ld_head (x : Vec Ideal S8x128x256 .f32) (o : ℕ) (hr) (r : Fin 128) (k : Fin 256) (ho : o < 8) :
    View.ld x (Rect.unit (s := S8x128x256) ![o, 0, 0] S1x128x256.size hr) (ix3 0 r k) = x (ix3 ⟨o, ho⟩ r k) := by
  rw [View.ld_apply]
  congr 1
  funext a
  fin_cases a <;> apply Fin.ext <;> simp

/-- A pair's slices of the blocks. -/
theorem Blk.holds (H : Blk A B t x0 x1 x2 x3 x4 x5) (p : Fin 4) (o u v : ℕ) (ho : o = p.val * 128) (hu : u = 2 * p.val)
    (hv : v = 2 * p.val + 1) (e e1 e2) :
    Holds A B t p (View.ld x0 (Rect.unit (s := S128x512) ![0, o] S128x128.size e)) (View.ld x1 (Rect.unit (s := S128x512) ![0, o] S128x128.size e))
      (View.ld x2 (Rect.unit (s := S128x512) ![0, o] S128x128.size e)) (View.ld x3 (Rect.unit (s := S128x512) ![0, o] S128x128.size e))
      (View.ld x4 (Rect.unit (s := S128x512) ![0, o] S128x128.size e)) (View.ld x5 (Rect.unit (s := S8x128x256) ![u, 0, 0] S1x128x256.size e1))
      (View.ld x5 (Rect.unit (s := S8x128x256) ![v, 0, 0] S1x128x256.size e2)) := by
  subst ho hu hv
  have hp := p.isLt
  exact ⟨fun r d => (ld_col _ _ _ _ _ (by omega)).trans (H.h0 _ _), fun r d => (ld_col _ _ _ _ _ (by omega)).trans (H.h1 _ _),
    fun r d => (ld_col _ _ _ _ _ (by omega)).trans (H.h2 _ _), fun r d => (ld_col _ _ _ _ _ (by omega)).trans (H.h3 _ _),
    fun r d => (ld_col _ _ _ _ _ (by omega)).trans (H.h4 _ _), fun r k => (ld_head _ _ _ _ _ (by omega)).trans (H.h5 _ _ _),
    fun r k => (ld_head _ _ _ _ _ (by omega)).trans (H.h5 _ _ _)⟩

/-- A block of the output is the array's. -/
theorem out6_val (H : Blk A B t x0 x1 x2 x3 x4 x5) (i : grid0.Coords) (hi : (i 2).val = t.val % 64) (r : Fin 128) (d : Fin 512) :
    Eq (α := Elt Ideal .f32) (out0_6 (F := Ideal) i x0 x1 x2 x3 x4 x5 (ix2 r d)) (YO A B ⟨t.val * 128 + r.val, by omega⟩ d) := by
  rw [out6_eq]
  canon_tiles y h
  all_goals idx_vars y
  all_goals obtain rfl : r = y0 := Fin.ext h0
  · have e : d = ⟨3 * 128 + y1.val, by omega⟩ := Fin.ext h1
    rw [e]
    exact pairO_eq (H.holds 3 384 6 7 rfl rfl rfl _ _ _) i hi _ _
  · have e : d = ⟨2 * 128 + y1.val, by omega⟩ := Fin.ext h1
    rw [e]
    exact pairO_eq (H.holds 2 256 4 5 rfl rfl rfl _ _ _) i hi _ _
  · have e : d = ⟨1 * 128 + y1.val, by omega⟩ := Fin.ext h1
    rw [e]
    exact pairO_eq (H.holds 1 128 2 3 rfl rfl rfl _ _ _) i hi _ _
  · have e : d = ⟨0 * 128 + y1.val, by omega⟩ := Fin.ext (by simpa using h1)
    rw [e]
    exact pairO_eq (H.holds 0 0 0 1 rfl rfl rfl _ _ _) i hi _ _

/-- A block of the logarithms is the array's. -/
theorem out7_val (H : Blk A B t x0 x1 x2 x3 x4 x5) (i : grid0.Coords) (hi : (i 2).val = t.val % 64) (r : Fin 128) (d : Fin 512) :
    Eq (α := Elt Ideal .f32) (out0_7 (F := Ideal) i x0 x1 x2 x3 x4 x5 (ix2 r d)) (YL A B ⟨t.val * 128 + r.val, by omega⟩ d) := by
  rw [out7_eq]
  canon_tiles y h
  all_goals idx_vars y
  all_goals obtain rfl : r = y0 := Fin.ext h0
  · have e : d = ⟨3 * 128 + y1.val, by omega⟩ := Fin.ext h1
    rw [e]
    exact pairL_eq (H.holds 3 384 6 7 rfl rfl rfl _ _ _) i hi _ _
  · have e : d = ⟨2 * 128 + y1.val, by omega⟩ := Fin.ext h1
    rw [e]
    exact pairL_eq (H.holds 2 256 4 5 rfl rfl rfl _ _ _) i hi _ _
  · have e : d = ⟨1 * 128 + y1.val, by omega⟩ := Fin.ext h1
    rw [e]
    exact pairL_eq (H.holds 1 128 2 3 rfl rfl rfl _ _ _) i hi _ _
  · have e : d = ⟨0 * 128 + y1.val, by omega⟩ := Fin.ext (by simpa using h1)
    rw [e]
    exact pairL_eq (H.holds 0 0 0 1 rfl rfl rfl _ _ _) i hi _ _

/-- The output after the last point. -/
theorem arr6 (c : Dev nD) : (dats m 0 c).arrAt 6 cfg0.N = fun y : S16384x512.Idx => YO (A0 m c) (A1 m c) (y 0) (y 1) := by
  refine (dats m 0 c).arrAt_eq_of_covers 6 _ (by decide +kernel) fun t hf y => ?_
  blk_simp
  rw [after0_6]
  obtain ⟨-, -, -, -, -, -, i6, i7, ic⟩ := idx t
  have hb : t.val < 128 := t.isLt
  idx_vars y
  have e : ((View.whole main_v0_0).slice (win0_6.rect t)).emb (ix2 y0 y1)
      = (ix2 ⟨t.val * 128 + y0.val, by omega⟩ y1 : S16384x512.Idx) := by blk_ext [i6]
  rw [e]
  exact out6_val (blk m c t) _ ic y0 y1

/-- The logarithms after the last point. -/
theorem arr7 (c : Dev nD) : (dats m 0 c).arrAt 7 cfg0.N = fun y : S16384x512.Idx => YL (A0 m c) (A1 m c) (y 0) (y 1) := by
  refine (dats m 0 c).arrAt_eq_of_covers 7 _ (by decide +kernel) fun t hf y => ?_
  blk_simp
  rw [after0_7]
  obtain ⟨-, -, -, -, -, -, i6, i7, ic⟩ := idx t
  have hb : t.val < 128 := t.isLt
  idx_vars y
  have e : ((View.whole main_v0_1).slice (win0_7.rect t)).emb (ix2 y0 y1)
      = (ix2 ⟨t.val * 128 + y0.val, by omega⟩ y1 : S16384x512.Idx) := by blk_ext [i7]
  rw [e]
  exact out7_val (blk m c t) _ ic y0 y1

end K

end Cert.Dilated
end
-- ==== Proof.DilatedRef.lean ====
/- The value of the first dilated pattern, continued: the reference's entries, and the two together. -/
module

public import proofs.«01_k».proof.Defs
public import proofs.«01_k».proof.Proof.Dilated
public import proofs.«01_k».proof.Proof.Gen.Reference11Ideal.Run
public import Idealize.ShloMosaic.Lib.Pointwise
public import Idealize.ShloMosaic.Lib.IdealHost
public import Idealize.ShloMosaic.Lib.Quiescent

@[expose] public section

set_option maxRecDepth 16384

noncomputable section

namespace Cert.Dilated

open Idealize.ShloMosaic Idealize.ShloMosaic.TcCoe Idealize.SL.Sem

namespace R

open Cert.Reference11Ideal Cert.Reference11Ideal.Gen

variable (m : (ℓ : Loc nD τ sig) → Buf (Elt Ideal) ℓ)

/-- The array of projections. -/
abbrev A0 (c : Dev nD) : S16384x3072.Idx → EReal := m ((c : Thread nD τ).loc main_arg0)
/-- The array of biases. -/
abbrev A1 (c : Dev nD) : S8x128x256.Idx → EReal := m ((c : Thread nD τ).loc main_arg1)

/-- Queries, keys or values by sequence, block, position, head and channel. -/
abbrev QV := FVec Ideal S2x64x128x8x64 .f32
/-- Keys or values of two blocks. -/
abbrev KV := FVec Ideal S2x64x256x8x64 .f32
/-- Logits. -/
abbrev LV := FVec Ideal S2x64x8x128x256 .f32
/-- A number to a row of logits. -/
abbrev TV := FVec Ideal S2x64x8x128x1 .f32
/-- Outputs by head. -/
abbrev OV := FVec Ideal S2x64x8x128x64 .f32

/-- A column block of the projections, by sequence, block, position, head and channel. -/
def part (A : FVec Ideal S16384x3072 .bf16) (o : ℕ) (hs : Shape.Slices S16384x3072 ![0, o] S16384x512) : QV :=
  shapeCast _ (extf .f32 (extractStridedSlice S16384x512 ![0, o] A hs) bitsLt_bf16_f32) shapeCasts_S16384x512_S2x64x128x8x64

/-- Each block with the one before it. -/
def both (x : QV) : KV :=
  concatenate S2x64x256x8x64 2 [⟨S2x64x128x8x64, (concatenate S2x64x128x8x64 1 [⟨S2x1x128x8x64, (broadcastInDim S2x1x128x8x64 ![] bcast_S_S2x1x128x8x64 (constant S_ .f32 0x00000000#32))⟩, ⟨S2x63x128x8x64, (extractStridedSlice S2x63x128x8x64 ![0, 0, 0, 0, 0] x slices_S2x64x128x8x64_S2x63x128x8x64_0_0_0_0_0)⟩] concatenates_S2x1x128x8x64_S2x63x128x8x64_S2x64x128x8x64_d1)⟩, ⟨S2x64x128x8x64, x⟩] concatenates_S2x64x128x8x64_S2x64x128x8x64_S2x64x256x8x64_d2

/-- The masked logits. -/
def logits (q k : QV) (B : FVec Ideal S8x128x256 .f32) : LV :=
  select (ori (cmpi .sgt (iotaInDim S2x64x8x128x256 32 1) (broadcastInDim S2x64x8x128x256 ![] bcast_S_S2x64x8x128x256 (constantI S_ 32 0#32))) (cmpi .sge (iotaInDim S2x64x8x128x256 32 4) (broadcastInDim S2x64x8x128x256 ![] bcast_S_S2x64x8x128x256 (constantI S_ 32 128#32)))) (addf (Host.dotGeneral dot_S2x64x128x8x64_S2x64x256x8x64_S2x64x8x128x256_4_4_2_2_013_013 none (mulf q (broadcastInDim S2x64x128x8x64 ![] bcast_S_S2x64x128x8x64 (constant S_ .f32 0x3E000000#32))) (both k)) (broadcastInDim S2x64x8x128x256 ![0, 1, 2, 3, 4] bcast_S1x1x8x128x256_S2x64x8x128x256_0_1_2_3_4 (broadcastInDim S1x1x8x128x256 ![2, 3, 4] bcast_S8x128x256_S1x1x8x128x256_2_3_4 B))) (broadcastInDim S2x64x8x128x256 ![] bcast_S_S2x64x8x128x256 (id (constant S_ .f32 0xFF800000#32)))

/-- The rows' greatest logits. -/
def tops (L : LV) : TV :=
  broadcastInDim S2x64x8x128x1 ![0, 1, 2, 3] bcast_S2x64x8x128_S2x64x8x128x1_0_1_2_3 (Host.reduce FloatOps.maximumf L (constant S_ .f32 0xFF800000#32) reducesTo_S2x64x8x128x256_S2x64x8x128_d4 h_S_)
/-- The exponentials. -/
def exps (L : LV) : LV :=
  Host.exp (subf L (broadcastInDim S2x64x8x128x256 ![0, 1, 2, 3, 4] bcast_S2x64x8x128x1_S2x64x8x128x256_0_1_2_3_4 (tops L)))
/-- The denominators. -/
def dens (L : LV) : TV :=
  broadcastInDim S2x64x8x128x1 ![0, 1, 2, 3] bcast_S2x64x8x128_S2x64x8x128x1_0_1_2_3 (Host.reduceAdd (exps L) (constant S_ .f32 0x00000000#32) reducesTo_S2x64x8x128x256_S2x64x8x128_d4 h_S_)
/-- The output of the logits and the values. -/
def outs (L : LV) (V : KV) : FVec Ideal S16384x512 .f32 :=
  shapeCast _ (transpose S2x64x128x8x64 [0, 1, 3, 2, 4] (Host.divf (Host.dotGeneral dot_S2x64x8x128x256_S2x64x256x8x64_S2x64x8x128x64_4_2_3_4_012_013 none (exps L) V) (broadcastInDim S2x64x8x128x64 ![0, 1, 2, 3, 4] bcast_S2x64x8x128x1_S2x64x8x128x64_0_1_2_3_4 (dens L))) transposes_S2x64x8x128x64_S2x64x128x8x64_0_1_3_2_4) shapeCasts_S2x64x128x8x64_S16384x512
/-- The logarithms of the denominators. -/
def lds (L : LV) : FVec Ideal S16384x512 .f32 :=
  shapeCast _ (transpose S2x64x128x8x64 [0, 1, 3, 2, 4] (broadcastInDim S2x64x8x128x64 ![0, 1, 2, 3, 4] bcast_S2x64x8x128x1_S2x64x8x128x64_0_1_2_3_4 (addf (tops L) (Host.log (dens L)))) transposes_S2x64x8x128x64_S2x64x128x8x64_0_1_3_2_4) shapeCasts_S2x64x128x8x64_S16384x512

/-- The reference's first result, by its parts. -/
theorem v47_eq (c : Dev nD) : Value.res_main_v47 m c = outs (logits (part (A0 m c) 1536 slices_S16384x3072_S16384x512_0_1536) (part (A0 m c) 2048 slices_S16384x3072_S16384x512_0_2048) (A1 m c))
    (both (part (A0 m c) 2560 slices_S16384x3072_S16384x512_0_2560)) := rfl
/-- The reference's second result, by its parts. -/
theorem v49_eq (c : Dev nD) : Value.res_main_v49 m c = lds (logits (part (A0 m c) 1536 slices_S16384x3072_S16384x512_0_1536) (part (A0 m c) 2048 slices_S16384x3072_S16384x512_0_2048) (A1 m c)) := rfl

/-- A column block's entry. -/
theorem part_apply (A : FVec Ideal S16384x3072 .bf16) (o : ℕ) (hs) (ho : o + 512 ≤ 3072) (b : Fin 2) (n : Fin 64) (t : Fin 128) (h : Fin 8) (d : Fin 64) :
    part A o hs (ix5 b n t h d) = A (ix2 ⟨b.val * 8192 + n.val * 128 + t.val, by omega⟩ ⟨o + (h.val * 64 + d.val), by omega⟩) := by
  pointwise [part]

/-- A key's entry. -/
theorem both_apply (x : QV) (b : Fin 2) (n : Fin 64) (k : Fin 256) (h : Fin 8) (d : Fin 64) :
    both x (ix5 b n k h d) = if hk : k.val < 128 then (if hn : n.val < 1 then 0 else x (ix5 b ⟨n.val - 1, by omega⟩ ⟨k.val, hk⟩ h d))
      else x (ix5 b n ⟨k.val - 128, by omega⟩ h d) := by
  pointwise [both]

variable (b : Fin 2) (n : Fin 64) (h : Fin 8) (t : Fin 128)

/-- A logit's entry. -/
theorem logits_apply (q k : QV) (B : FVec Ideal S8x128x256 .f32) (j : Fin 256) :
    logits q k B (ix5 b n h t j) = if n.val = 0 ∧ j.val < 128 then ⊥ else ∑ d : Fin 64, q (ix5 b n t h d) * c8 * both k (ix5 b n j h d) + B (ix3 h t j) := by
  generalize hk : both k = K
  unfold logits
  rw [hk]
  pointwise []
  have e1 : IntOp.cmpi CmpIPredicate.sgt (BitVec.ofNat 32 n.val) 0#32 = BitVec.ofBool (decide (0 < n.val)) :=
    WordCmp.cmpi_sgt_ofNat (w := 32) (a := n.val) (b := 0) (by omega) (by omega)
  have e2 : IntOp.cmpi CmpIPredicate.sge (BitVec.ofNat 32 j.val) 128#32 = BitVec.ofBool (decide (128 ≤ j.val)) :=
    WordCmp.cmpi_sge_ofNat (w := 32) (a := j.val) (b := 128) (by omega) (by omega)
  have e3 : (id (constant (F := Ideal) S_ FTy.f32 4286578688#32) ix0 : EReal) = ⊥ := bot_f32
  rw [e1, e2, e3, WordCmp.ori_ofBool, c8_f32]
  by_cases h : n.val = 0 ∧ j.val < 128
  · have h1 : ¬ (0 < n.val) := by omega
    have h2 : ¬ (128 ≤ j.val) := by omega
    rw [if_pos h]
    simp only [h1, h2]
    rfl
  · rw [if_neg h]
    have hb : (decide (0 < n.val) || decide (128 ≤ j.val)) = true := by
      rw [Bool.or_eq_true, decide_eq_true_iff, decide_eq_true_iff]
      omega
    rw [hb]
    rfl

/-- The greatest logit's entry. -/
theorem tops_apply (L : LV) :
    tops L (ix5 b n h t 0) = top (fun k => L (ix5 b n h t k)) := by
  pointwise [tops, top]

/-- An exponential's entry. -/
theorem exps_apply (L : LV) (k : Fin 256) :
    exps L (ix5 b n h t k) = Ideal.exp (L (ix5 b n h t k) - top (fun k => L (ix5 b n h t k))) := by
  rw [← tops_apply]
  unfold exps
  generalize tops L = T
  pointwise []

/-- A denominator's entry. -/
theorem dens_apply (L : LV) :
    dens L (ix5 b n h t 0) = den (fun k => L (ix5 b n h t k)) := by
  unfold den
  simp only [← exps_apply]
  unfold dens
  generalize exps L = T
  pointwise []

/-- The rows of the results, by sequence, block, position, head and channel. -/
theorem flat_apply (X : OV) (y : Fin 16384) (x : Fin 512) :
    (shapeCast S16384x512 (transpose S2x64x128x8x64 [0, 1, 3, 2, 4] X transposes_S2x64x8x128x64_S2x64x128x8x64_0_1_3_2_4) shapeCasts_S2x64x128x8x64_S16384x512 : FVec Ideal S16384x512 .f32) (ix2 y x)
      = X (ix5 ⟨y.val / 8192, by omega⟩ ⟨y.val / 128 % 64, by omega⟩ ⟨x.val / 64, by omega⟩ ⟨y.val % 128, by omega⟩ ⟨x.val % 64, by omega⟩) := by
  pointwise []

/-- A quotient's entry. -/
theorem quot_apply (E : LV) (V : KV) (D : TV)
    (d : Fin 64) :
    (Host.divf (Host.dotGeneral dot_S2x64x8x128x256_S2x64x256x8x64_S2x64x8x128x64_4_2_3_4_012_013 none E V) (broadcastInDim S2x64x8x128x64 ![0, 1, 2, 3, 4] bcast_S2x64x8x128x1_S2x64x8x128x64_0_1_2_3_4 D) : OV) (ix5 b n h t d)
      = Ideal.div (∑ k, E (ix5 b n h t k) * V (ix5 b n k h d)) (D (ix5 b n h t 0)) := by
  pointwise []

/-- A logarithm's entry. -/
theorem sum_apply (T D : TV) (d : Fin 64) :
    (broadcastInDim S2x64x8x128x64 ![0, 1, 2, 3, 4] bcast_S2x64x8x128x1_S2x64x8x128x64_0_1_2_3_4 (addf T (Host.log D)) : OV) (ix5 b n h t d)
      = T (ix5 b n h t 0) + Ideal.log (D (ix5 b n h t 0)) := by
  pointwise []

/-- The output's entry. -/
theorem outs_apply (L : LV) (V : KV) (y : Fin 16384) (x : Fin 512) :
    outs L V (ix2 y x) = attn (fun k => L (ix5 ⟨y.val / 8192, by omega⟩ ⟨y.val / 128 % 64, by omega⟩ ⟨x.val / 64, by omega⟩ ⟨y.val % 128, by omega⟩ k))
      (fun k => V (ix5 ⟨y.val / 8192, by omega⟩ ⟨y.val / 128 % 64, by omega⟩ k ⟨x.val / 64, by omega⟩ ⟨x.val % 64, by omega⟩)) := by
  unfold outs attn
  refine (flat_apply _ y x).trans ((quot_apply _ _ _ _ _ _ _ _).trans ?_)
  rw [dens_apply]
  simp only [exps_apply]

/-- The logarithm's entry. -/
theorem lds_apply (L : LV) (y : Fin 16384) (x : Fin 512) :
    lds L (ix2 y x) = logden (fun k => L (ix5 ⟨y.val / 8192, by omega⟩ ⟨y.val / 128 % 64, by omega⟩ ⟨x.val / 64, by omega⟩ ⟨y.val % 128, by omega⟩ k)) := by
  unfold lds logden
  refine (flat_apply _ y x).trans ((sum_apply _ _ _ _ _ _ _).trans ?_)
  rw [dens_apply, tops_apply]

/-- The logits of a query's row are its logits. -/
theorem logits_eq (A : S16384x3072.Idx → EReal) (B : S8x128x256.Idx → EReal) (hq hk) (y : Fin 16384) (h : Fin 8) (k : Fin 256) :
    logits (part A 1536 hq) (part A 2048 hk) B (ix5 ⟨y.val / 8192, by omega⟩ ⟨y.val / 128 % 64, by omega⟩ h ⟨y.val % 128, by omega⟩ k)
      = lg A B y h k := by
  rw [logits_apply]
  unfold lg
  by_cases hm : y.val / 128 % 64 = 0 ∧ k.val < 128
  · rw [if_pos hm, if_pos hm]
  rw [if_neg hm, if_neg hm]
  congr 1
  refine Finset.sum_congr rfl fun d _ => ?_
  have e1 : (⟨y.val / 8192 * 8192 + y.val / 128 % 64 * 128 + y.val % 128, by omega⟩ : Fin 16384) = y := Fin.ext (by
    show y.val / 8192 * 8192 + y.val / 128 % 64 * 128 + y.val % 128 = y.val
    omega)
  rw [part_apply _ _ _ (by omega), both_apply, e1]
  congr 1
  by_cases h1 : k.val < 128
  · have h2 : ¬ y.val / 128 % 64 < 1 := by omega
    rw [dif_pos h1, dif_neg h2, part_apply _ _ _ (by omega)]
    unfold row
    rw [dif_pos h1]
  · rw [dif_neg h1, part_apply _ _ _ (by omega)]
    unfold row
    rw [dif_neg h1]

/-- The values of a query's keys are the array's, but for the missing block's. -/
theorem vals_eq (A : S16384x3072.Idx → EReal) (hv) (y : Fin 16384) (x : Fin 512) (k : Fin 256) (hm : ¬ (y.val / 128 % 64 = 0 ∧ k.val < 128)) :
    both (part A 2560 hv) (ix5 ⟨y.val / 8192, by omega⟩ ⟨y.val / 128 % 64, by omega⟩ k ⟨x.val / 64, by omega⟩ ⟨x.val % 64, by omega⟩) = vals A y x k := by
  rw [both_apply]
  unfold vals
  have e2 : (⟨2560 + (x.val / 64 * 64 + x.val % 64), by omega⟩ : Fin 3072) = ⟨2560 + x.val, by omega⟩ := Fin.ext (by
    show 2560 + (x.val / 64 * 64 + x.val % 64) = 2560 + x.val
    omega)
  by_cases h1 : k.val < 128
  · have h2 : ¬ y.val / 128 % 64 < 1 := by omega
    rw [dif_pos h1, dif_neg h2, part_apply _ _ _ (by omega), e2]
    unfold row
    rw [dif_pos h1]
  · rw [dif_neg h1, part_apply _ _ _ (by omega), e2]
    unfold row
    rw [dif_neg h1]

/-- The reference's first result. -/
theorem out0 (c : Dev nD) : (Value.res_main_v47 m c : S16384x512.Idx → EReal) = fun y => YO (A0 m c) (A1 m c) (y 0) (y 1) := by
  funext y
  idx_vars y
  rw [v47_eq]
  refine (outs_apply _ _ y0 y1).trans ?_
  simp only [logits_eq]
  unfold YO
  refine attn_congr fun k => ?_
  by_cases hm : y0.val / 128 % 64 = 0 ∧ k.val < 128
  · exact Or.inl (if_pos hm)
  · exact Or.inr (vals_eq _ _ y0 y1 k hm)

/-- The reference's second result. -/
theorem out1 (c : Dev nD) : (Value.res_main_v49 m c : S16384x512.Idx → EReal) = fun y => YL (A0 m c) (A1 m c) (y 0) (y 1) := by
  funext y
  idx_vars y
  rw [v49_eq]
  refine (lds_apply _ y0 y1).trans ?_
  simp only [logits_eq]
  rfl

end R

/-- The reference runs over the extended reals and leaves its arguments; it declares no semaphore. -/
theorem frame_r : Cert.quiescent_Reference11Ideal := fun m ρ _ =>
  (θ_run Cert.Reference11Ideal.defs _ _).mono
    (fun r h => ⟨fun c => (h c).2.2, sem_eq_zero_of_no_sems (by decide) r.2⟩)
    (Cert.Reference11Ideal.Value.run (F := Ideal) m ρ)

/-- The number the kernel masks with, read as the least of the extended reals. -/
theorem preserves : Cert.preserves_Kernel11_Kernel11Ideal :=
  ⟨rfl, fun _ => IdealRules.named_const.ideal_named Cert.Kernel11Ideal.κ "mask" _ ⊥ rfl,
    IdealRules.named_const.ideal_named_scalar Cert.Kernel11Ideal.κ "mask" _ ⊥ rfl⟩

/-- The call and its reference have the same outputs and the same logarithms of the same arguments. -/
theorem algebraic : Cert.algebraic_Kernel11Ideal_Reference11Ideal := by
  intro m g m' g' _ ha
  refine ⟨fun c => (Cert.Kernel11Ideal.Gen.dats m 0 c).arrAt 6 Cert.Kernel11Ideal.cfg0.N,
    fun c => (Cert.Kernel11Ideal.Gen.dats m 0 c).arrAt 7 Cert.Kernel11Ideal.cfg0.N,
    Cert.Kernel11Ideal.Value.run_blocks m g, ?_⟩
  have h0 : ∀ c, R.A0 m' c = K.A0 m c := fun c => (ha c).1
  have h1 : ∀ c, R.A1 m' c = K.A1 m c := fun c => (ha c).2
  refine (θ_run Cert.Reference11Ideal.defs _ _).mono (fun r h c => ⟨?_, ?_, (h c).2.2⟩)
    (Cert.Reference11Ideal.Value.run (F := Ideal) m' g')
  · refine ((h c).1.trans (R.out0 m' c)).trans (Eq.trans ?_ (K.arr6 m c).symm)
    rw [h0, h1]
    rfl
  · refine ((h c).2.1.trans (R.out1 m' c)).trans (Eq.trans ?_ (K.arr7 m c).symm)
    rw [h0, h1]
    rfl

end Cert.Dilated
end
-- ==== Proof.Proj8.lean ====
/- The value of the small extra projection of the blocks C and D: over the extended reals, the tiled product is the reference's product, entry by entry. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Quiescent

@[expose] public section

set_option maxRecDepth 16384

noncomputable section

namespace Cert.Proj8

open Idealize.ShloMosaic Idealize.ShloMosaic.TcCoe Idealize.SL.Sem
open Idealize.ShloMosaic.Pipeline (Dat)

namespace K

open Cert.Kernel8Ideal Cert.Kernel8Ideal.Gen

variable (m : (ℓ : Loc nD τ sig) → Buf (Elt Ideal) ℓ)

/-- One tile's product, at an entry. -/
theorem pay1_apply (x : Vec Ideal S512x1024 .bf16) (w : Vec Ideal S1024x128 .bf16) (r : Fin 512) (d : Fin 128) :
    k0_pay1 (F := Ideal) x w (ix2 r d) = ∑ k : Fin 1024, x (ix2 r k) * w (ix2 k d) := by
  pointwise [k0_pay1]

/-- The index maps of the grid's windows. -/
theorem idx : ∀ t : Fin cfg0.N, win0_0.index t = ![t.val, 0] ∧ win0_1.index t = ![0, 0] ∧ win0_2.index t = ![t.val, 0] :=
  (by decide +kernel : ∀ t : Fin grid0.N, _)

/-- The launch's rows. -/
abbrev A0 (c : Dev nD) : S16384x1024.Idx → EReal := m ((c : Thread nD τ).loc main_arg0)
/-- The launch's weight. -/
abbrev A1 (c : Dev nD) : S1024x128.Idx → EReal := m ((c : Thread nD τ).loc main_arg1)

/-- The product, of the launch's arrays. -/
def Y (c : Dev nD) : S16384x128.Idx → EReal := fun i => ∑ k : Fin 1024, A0 m c (ix2 (i 0) k) * A1 m c (ix2 k (i 1))

/-- The result array after the last point. -/
theorem arr2 (c : Dev nD) : (dats m 0 c).arrAt 2 cfg0.N = Y m c := by
  refine (dats m 0 c).arrAt_eq_of_covers 2 _ (by decide +kernel) fun t hf y => ?_
  blk_simp
  rw [after0_2]
  obtain ⟨i0, i1, i2⟩ := idx t
  have hb : t.val < 32 := t.isLt
  idx_vars y
  have e : ((View.whole main_v0).slice (win0_2.rect t)).emb (ix2 y0 y1)
      = (ix2 ⟨t.val * 512 + y0.val, by omega⟩ y1 : S16384x128.Idx) := by blk_ext [i2]
  rw [e]
  have b0 : ∀ k, (iblk m c 0 t : Vec Ideal S512x1024 .bf16) (ix2 y0 k)
      = A0 m c (ix2 ⟨t.val * 512 + y0.val, by omega⟩ k) := fun k => by blk_ext [iblk, V, i0]
  have b1 : ∀ k d, (iblk m c 1 t : Vec Ideal S1024x128 .bf16) (ix2 k d) = A1 m c (ix2 k d) := fun k d => by
    blk_ext [iblk, V, i1]
  unfold out0_2
  frame_out
  rw [pay1_apply]
  simp only [b0, b1]
  rfl

end K

namespace R

open Cert.Reference8Ideal Cert.Reference8Ideal.Gen

variable (m : (ℓ : Loc nD τ sig) → Buf (Elt Ideal) ℓ)

/-- The launch's rows. -/
abbrev A0 (c : Dev nD) : S16384x1024.Idx → EReal := m ((c : Thread nD τ).loc main_arg0)
/-- The launch's weight. -/
abbrev A1 (c : Dev nD) : S1024x128.Idx → EReal := m ((c : Thread nD τ).loc main_arg1)

/-- The reference's product. -/
def Y (c : Dev nD) : S16384x128.Idx → EReal := fun i => ∑ k : Fin 1024, A0 m c (ix2 (i 0) k) * A1 m c (ix2 k (i 1))

/-- The reference's result. -/
theorem out0 (c : Dev nD) :
    (Host.dotGeneral (F := Ideal) dot_S16384x1024_S1024x128_S16384x128_1_0_0_1_n_n none
      (extf .f32 (A0 m c : FVec Ideal S16384x1024 .bf16) bitsLt_bf16_f32)
      (extf .f32 (A1 m c : FVec Ideal S1024x128 .bf16) bitsLt_bf16_f32) : S16384x128.Idx → EReal)
      = Y m c := by
  funext y
  idx_vars y
  pointwise []
  rfl

end R

/-- The reference runs over the extended reals and leaves its arguments; it declares no semaphore. -/
theorem frame_r : Cert.quiescent_Reference8Ideal := fun m ρ _ =>
  (θ_run Cert.Reference8Ideal.defs _ _).mono
    (fun r h => ⟨fun c => ⟨(h c).2.1, (h c).2.2⟩, sem_eq_zero_of_no_sems (by decide) r.2⟩)
    (Cert.Reference8Ideal.Value.run (F := Ideal) m ρ)

/-- The call and its reference have the same product of the same arguments. -/
theorem algebraic : Cert.algebraic_Kernel8Ideal_Reference8Ideal := by
  intro m g m' g' _ ha
  refine ⟨fun c => (Cert.Kernel8Ideal.Gen.dats m 0 c).arrAt 2 Cert.Kernel8Ideal.cfg0.N,
    Cert.Kernel8Ideal.Value.run_blocks m g, ?_⟩
  have hY : ∀ c, R.Y m' c = K.Y m c := fun c => by
    obtain ⟨h0, h1⟩ := ha c
    unfold R.Y K.Y
    simp only [R.A0, R.A1, K.A0, K.A1, h0, h1]
  refine (θ_run Cert.Reference8Ideal.defs _ _).mono (fun r h c => ⟨?_, (h c).2⟩)
    (Cert.Reference8Ideal.Value.run (F := Ideal) m' g')
  exact ((h c).1.trans (R.out0 m' c)).trans ((hY c).trans (K.arr2 m c).symm)

end Cert.Proj8
end
-- ==== Proof.Proj7.lean ====
/- The value of the small extra projection of the blocks A and B: over the extended reals, the tiled product is the reference's product, entry by entry. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Quiescent

@[expose] public section

set_option maxRecDepth 16384

noncomputable section

namespace Cert.Proj7

open Idealize.ShloMosaic Idealize.ShloMosaic.TcCoe Idealize.SL.Sem
open Idealize.ShloMosaic.Pipeline (Dat)

namespace K

open Cert.Kernel7Ideal Cert.Kernel7Ideal.Gen

variable (m : (ℓ : Loc nD τ sig) → Buf (Elt Ideal) ℓ)

/-- One tile's product, at an entry. -/
theorem pay1_apply (x : Vec Ideal S512x1024 .bf16) (w : Vec Ideal S1024x256 .bf16) (r : Fin 512) (d : Fin 256) :
    k0_pay1 (F := Ideal) x w (ix2 r d) = ∑ k : Fin 1024, x (ix2 r k) * w (ix2 k d) := by
  pointwise [k0_pay1]

/-- The index maps of the grid's windows. -/
theorem idx : ∀ t : Fin cfg0.N, win0_0.index t = ![t.val, 0] ∧ win0_1.index t = ![0, 0] ∧ win0_2.index t = ![t.val, 0] :=
  (by decide +kernel : ∀ t : Fin grid0.N, _)

/-- The launch's rows. -/
abbrev A0 (c : Dev nD) : S16384x1024.Idx → EReal := m ((c : Thread nD τ).loc main_arg0)
/-- The launch's weight. -/
abbrev A1 (c : Dev nD) : S1024x256.Idx → EReal := m ((c : Thread nD τ).loc main_arg1)

/-- The product, of the launch's arrays. -/
def Y (c : Dev nD) : S16384x256.Idx → EReal := fun i => ∑ k : Fin 1024, A0 m c (ix2 (i 0) k) * A1 m c (ix2 k (i 1))

/-- The result array after the last point. -/
theorem arr2 (c : Dev nD) : (dats m 0 c).arrAt 2 cfg0.N = Y m c := by
  refine (dats m 0 c).arrAt_eq_of_covers 2 _ (by decide +kernel) fun t hf y => ?_
  blk_simp
  rw [after0_2]
  obtain ⟨i0, i1, i2⟩ := idx t
  have hb : t.val < 32 := t.isLt
  idx_vars y
  have e : ((View.whole main_v0).slice (win0_2.rect t)).emb (ix2 y0 y1)
      = (ix2 ⟨t.val * 512 + y0.val, by omega⟩ y1 : S16384x256.Idx) := by blk_ext [i2]
  rw [e]
  have b0 : ∀ k, (iblk m c 0 t : Vec Ideal S512x1024 .bf16) (ix2 y0 k)
      = A0 m c (ix2 ⟨t.val * 512 + y0.val, by omega⟩ k) := fun k => by blk_ext [iblk, V, i0]
  have b1 : ∀ k d, (iblk m c 1 t : Vec Ideal S1024x256 .bf16) (ix2 k d) = A1 m c (ix2 k d) := fun k d => by
    blk_ext [iblk, V, i1]
  unfold out0_2
  frame_out
  rw [pay1_apply]
  simp only [b0, b1]
  rfl

end K

namespace R

open Cert.Reference7Ideal Cert.Reference7Ideal.Gen

variable (m : (ℓ : Loc nD τ sig) → Buf (Elt Ideal) ℓ)

/-- The launch's rows. -/
abbrev A0 (c : Dev nD) : S16384x1024.Idx → EReal := m ((c : Thread nD τ).loc main_arg0)
/-- The launch's weight. -/
abbrev A1 (c : Dev nD) : S1024x256.Idx → EReal := m ((c : Thread nD τ).loc main_arg1)

/-- The reference's product. -/
def Y (c : Dev nD) : S16384x256.Idx → EReal := fun i => ∑ k : Fin 1024, A0 m c (ix2 (i 0) k) * A1 m c (ix2 k (i 1))

/-- The reference's result. -/
theorem out0 (c : Dev nD) :
    (Host.dotGeneral (F := Ideal) dot_S16384x1024_S1024x256_S16384x256_1_0_0_1_n_n none
      (extf .f32 (A0 m c : FVec Ideal S16384x1024 .bf16) bitsLt_bf16_f32)
      (extf .f32 (A1 m c : FVec Ideal S1024x256 .bf16) bitsLt_bf16_f32) : S16384x256.Idx → EReal)
      = Y m c := by
  funext y
  idx_vars y
  pointwise []
  rfl

end R

/-- The reference runs over the extended reals and leaves its arguments; it declares no semaphore. -/
theorem frame_r : Cert.quiescent_Reference7Ideal := fun m ρ _ =>
  (θ_run Cert.Reference7Ideal.defs _ _).mono
    (fun r h => ⟨fun c => ⟨(h c).2.1, (h c).2.2⟩, sem_eq_zero_of_no_sems (by decide) r.2⟩)
    (Cert.Reference7Ideal.Value.run (F := Ideal) m ρ)

/-- The call and its reference have the same product of the same arguments. -/
theorem algebraic : Cert.algebraic_Kernel7Ideal_Reference7Ideal := by
  intro m g m' g' _ ha
  refine ⟨fun c => (Cert.Kernel7Ideal.Gen.dats m 0 c).arrAt 2 Cert.Kernel7Ideal.cfg0.N,
    Cert.Kernel7Ideal.Value.run_blocks m g, ?_⟩
  have hY : ∀ c, R.Y m' c = K.Y m c := fun c => by
    obtain ⟨h0, h1⟩ := ha c
    unfold R.Y K.Y
    simp only [R.A0, R.A1, K.A0, K.A1, h0, h1]
  refine (θ_run Cert.Reference7Ideal.defs _ _).mono (fun r h c => ⟨?_, (h c).2⟩)
    (Cert.Reference7Ideal.Value.run (F := Ideal) m' g')
  exact ((h c).1.trans (R.out0 m' c)).trans ((hY c).trans (K.arr2 m c).symm)

end Cert.Proj7
end
-- ==== Proof.CombineD.lean ====
/-
  The combining kernel's parts: its buffers, their slots and cells, the rows of a window, the indicator of the rows a
  token names, and what the accumulator holds after each window.
-/
module

public import proofs.«01_k».proof.Defs
public import proofs.«01_k».proof.Proof.Gen.Kernel6Ideal.Launch
public import proofs.«01_k».proof.Proof.Gen.Kernel6Ideal.Skeleton
public import Idealize.ShloMosaic.Lib.Pipeline.KitQuiescent
public import Idealize.ShloMosaic.Lib.Pipeline.ValueKit
public import Idealize.ShloMosaic.Lib.Pipeline.ReadBack
public import Idealize.ShloMosaic.Lib.Ring
public import Idealize.ShloMosaic.Lib.Affine
public import Idealize.ShloMosaic.Lib.Tactic
public import Idealize.ShloMosaic.Lib.Pointwise

@[expose] public section

noncomputable section

namespace Cert.Combine.KernelIdeal

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

omit [FloatOps F] in
/-- Equal assertions entail each other. -/
theorem entails_of_eq {P Q : sProp 𝕄} (e : P = Q) : P ⊢ Q := e ▸ .rfl

/-! ## Names: the two row arrays, the two buffers, their slots and cells -/

abbrev hiM : Memref sig .tc .hbm S37888x1024 .bf16 := Memref.whole main_arg3
abbrev loM : Memref sig .tc .hbm S37888x1024 .bf16 := Memref.whole main_arg4
abbrev hbM : Memref sig .tc .vmem S2x640x1024 .bf16 := Memref.whole cc0_scratch1
abbrev lbM : Memref sig .tc .vmem S2x640x1024 .bf16 := Memref.whole cc0_scratch2

abbrev winOff (v : BitVec 32) : Fin 2 → Nat := ![v.toNat, 0]
/-- A word that may start a window: a multiple of 16, the window inside the array. -/
def Good (v : BitVec 32) : Prop := 16 ∣ v.toNat ∧ v.toNat ≤ 37248
/-- A window's rows lie in the array. -/
theorem winOff_inb {v : BitVec 32} (h : Good v) : ∀ a, winOff v a + S640x1024.size a ≤ S37888x1024.size a := by
  have := h.2; intro a; fin_cases a
  · show v.toNat + 640 ≤ 37888; omega
  · show 0 + 1024 ≤ 1024; omega
abbrev slotOff (s : Fin 2) : Fin 3 → Nat := ![s.val, 0, 0]
/-- A slot lies in its buffer. -/
theorem slotOff_inb (s : Fin 2) : ∀ a, slotOff s a + S1x640x1024.size a ≤ S2x640x1024.size a := by
  have := s.isLt; intro a; fin_cases a
  · show s.val + 1 ≤ 2; omega
  · show 0 + 640 ≤ 640; omega
  · show 0 + 1024 ≤ 1024; omega
abbrev semOff (a s : Fin 2) : Fin 2 → Nat := ![a.val, s.val]
/-- A cell lies in its array. -/
theorem semOff_inb (b s : Fin 2) : ∀ a, semOff b s a + S1x1.size a ≤ S2x2.size a := by
  have := s.isLt; have := b.isLt; intro a; fin_cases a
  · show b.val + 1 ≤ 2; omega
  · show s.val + 1 ≤ 2; omega

/-- Slot `s` of the buffer of the high halves, as the body slices and squeezes it. -/
def hslot (s : Fin 2) : Memref sig .tc .vmem S640x1024 .bf16 :=
  (hbM.slice (Rect.unit (s := S2x640x1024) (slotOff s) S1x640x1024.size (slotOff_inb s)) (fun _ => rfl)).squeeze S640x1024 squeezes_S1x640x1024_S640x1024
/-- Slot `s` of the buffer of the low halves. -/
def lslot (s : Fin 2) : Memref sig .tc .vmem S640x1024 .bf16 :=
  (lbM.slice (Rect.unit (s := S2x640x1024) (slotOff s) S1x640x1024.size (slotOff_inb s)) (fun _ => rfl)).squeeze S640x1024 squeezes_S1x640x1024_S640x1024
/-- The semaphore of slot `s` of buffer `b` (0 the high halves, 1 the low halves). -/
def csm (b s : Fin 2) : DmaSems sig S_ := (cc0_scratch3.slice (Rect.unit (s := S2x2) (semOff b s) S1x1.size (semOff_inb b s))).squeeze S_ squeezes_S1x1_S_
instance (s : Fin 2) : ClosedOff (slotOff s) := ⟨slotOff s, rfl⟩

/-! ## The words of a point -/

abbrev tOff (i : grid0.Coords) (e : Nat) : Fin 1 → Nat := ![(i 0).val * 8 + e]
/-- A point's entry lies in the table. -/
theorem tOff_inb (i : grid0.Coords) (e : Fin 8) : ∀ a, tOff i e.val a + S1.size a ≤ S256.size a := by
  have h1 : (i 0).val < 32 := (i 0).isLt; have := e.isLt
  intro a; fin_cases a
  show (i 0).val * 8 + e.val + 1 ≤ 256; omega
/-- The place the kernel reads the table at. -/
theorem tOff_of (i : grid0.Coords) (e : Nat) (he : e < 8) {off : Fin 1 → Nat}
    (h : off = ![(Scalar.addi (Scalar.muli (BitVec.ofNat 32 (i 0).val) 8#32) (BitVec.ofNat 32 e)).toNat]) : off = tOff i e := by
  have h1 : (i 0).val < 32 := (i 0).isLt
  rw [h]
  funext a; fin_cases a
  show (BitVec.ofNat 32 (i 0).val * 8#32 + BitVec.ofNat 32 e).toNat = (i 0).val * 8 + e
  rw [BitVec.toNat_add, BitVec.toNat_mul, BitVec.toNat_ofNat, BitVec.toNat_ofNat]
  show ((i 0).val % 2 ^ 32 * 8 % 2 ^ 32 + e % 2 ^ 32) % 2 ^ 32 = _
  omega
instance (i : grid0.Coords) : ClosedOff (k0_off1 i) := ⟨tOff i 0, tOff_of i 0 (by decide) rfl⟩
instance (i : grid0.Coords) : ClosedOff (k0_off3 i) := ⟨tOff i 1, tOff_of i 1 (by decide) rfl⟩
instance (i : grid0.Coords) : ClosedOff (k0_off5 i) := ⟨tOff i 0, tOff_of i 0 (by decide) rfl⟩
instance (i : grid0.Coords) : ClosedOff (k0_off7 i 0#32) := ⟨tOff i 0, tOff_of i 0 (by decide) rfl⟩
instance (i : grid0.Coords) : ClosedOff (k0_off7 i 2#32) := ⟨tOff i 2, tOff_of i 2 (by decide) rfl⟩
instance (i : grid0.Coords) : ClosedOff (k0_off9 i) := ⟨tOff i 1, tOff_of i 1 (by decide) rfl⟩
instance (i : grid0.Coords) : ClosedOff (k0_off11 i 1#32) := ⟨tOff i 1, tOff_of i 1 (by decide) rfl⟩
instance (i : grid0.Coords) : ClosedOff (k0_off11 i 3#32) := ⟨tOff i 3, tOff_of i 3 (by decide) rfl⟩
instance (i : grid0.Coords) : ClosedOff (k0_off13 i) := ⟨tOff i 2, tOff_of i 2 (by decide) rfl⟩
instance (i : grid0.Coords) : ClosedOff (k0_off15 i 2#32) := ⟨tOff i 2, tOff_of i 2 (by decide) rfl⟩
instance (i : grid0.Coords) : ClosedOff (k0_off15 i 4#32) := ⟨tOff i 4, tOff_of i 4 (by decide) rfl⟩
instance (i : grid0.Coords) : ClosedOff (k0_off17 i) := ⟨tOff i 3, tOff_of i 3 (by decide) rfl⟩
instance (i : grid0.Coords) : ClosedOff (k0_off19 i 3#32) := ⟨tOff i 3, tOff_of i 3 (by decide) rfl⟩
instance (i : grid0.Coords) : ClosedOff (k0_off19 i 5#32) := ⟨tOff i 5, tOff_of i 5 (by decide) rfl⟩
instance (i : grid0.Coords) : ClosedOff (k0_off21 i) := ⟨tOff i 4, tOff_of i 4 (by decide) rfl⟩
instance (i : grid0.Coords) : ClosedOff (k0_off23 i 4#32) := ⟨tOff i 4, tOff_of i 4 (by decide) rfl⟩
instance (i : grid0.Coords) : ClosedOff (k0_off23 i 6#32) := ⟨tOff i 6, tOff_of i 6 (by decide) rfl⟩
instance (i : grid0.Coords) : ClosedOff (k0_off25 i) := ⟨tOff i 5, tOff_of i 5 (by decide) rfl⟩
instance (i : grid0.Coords) : ClosedOff (k0_off27 i 5#32) := ⟨tOff i 5, tOff_of i 5 (by decide) rfl⟩
instance (i : grid0.Coords) : ClosedOff (k0_off27 i 7#32) := ⟨tOff i 7, tOff_of i 7 (by decide) rfl⟩
instance (i : grid0.Coords) : ClosedOff (k0_off29 i) := ⟨tOff i 6, tOff_of i 6 (by decide) rfl⟩
instance (i : grid0.Coords) : ClosedOff (k0_off31 i 6#32) := ⟨tOff i 6, tOff_of i 6 (by decide) rfl⟩
instance (i : grid0.Coords) : ClosedOff (k0_off31 i 7#32) := ⟨tOff i 7, tOff_of i 7 (by decide) rfl⟩
instance (i : grid0.Coords) : ClosedOff (k0_off33 i) := ⟨tOff i 7, tOff_of i 7 (by decide) rfl⟩
instance (v : BitVec 32) : ClosedOff (k0_off2 v) := ⟨winOff v, rfl⟩
instance (v : BitVec 32) : ClosedOff (k0_off4 v) := ⟨winOff v, rfl⟩
instance (v : BitVec 32) : ClosedOff (k0_off6 v) := ⟨winOff v, rfl⟩
instance (v : BitVec 32) : ClosedOff (k0_off8 v) := ⟨winOff v, rfl⟩
instance (v : BitVec 32) : ClosedOff (k0_off10 v) := ⟨winOff v, rfl⟩
instance (v : BitVec 32) : ClosedOff (k0_off12 v) := ⟨winOff v, rfl⟩
instance (v : BitVec 32) : ClosedOff (k0_off14 v) := ⟨winOff v, rfl⟩
instance (v : BitVec 32) : ClosedOff (k0_off16 v) := ⟨winOff v, rfl⟩
instance (v : BitVec 32) : ClosedOff (k0_off18 v) := ⟨winOff v, rfl⟩
instance (v : BitVec 32) : ClosedOff (k0_off20 v) := ⟨winOff v, rfl⟩
instance (v : BitVec 32) : ClosedOff (k0_off22 v) := ⟨winOff v, rfl⟩
instance (v : BitVec 32) : ClosedOff (k0_off24 v) := ⟨winOff v, rfl⟩
instance (v : BitVec 32) : ClosedOff (k0_off26 v) := ⟨winOff v, rfl⟩
instance (v : BitVec 32) : ClosedOff (k0_off28 v) := ⟨winOff v, rfl⟩
instance (v : BitVec 32) : ClosedOff (k0_off30 v) := ⟨winOff v, rfl⟩
instance (v : BitVec 32) : ClosedOff (k0_off32 v) := ⟨winOff v, rfl⟩

/-! ## The side conditions -/

/-- A window at a multiple of 16 is made of whole words. -/
theorem words_of (v : BitVec 32) (h : 16 ∣ v.toNat) (hh) : (Rect.unit (s := S37888x1024) (winOff v) S640x1024.size hh).WholeWords (EltTy.packing .bf16) :=
   by
  have h2 : 2 ∣ v.toNat := Nat.dvd_trans (by decide) h
  have h3 : 2 ∣ 640 := by decide
  have hp : EltTy.packing .bf16 = 2 := by decide
  rw [hp]
  refine .inl (.inr ⟨show 2 ≤ 2 by decide, rfl, .inl ⟨?_, ?_⟩⟩)
  · exact h2
  · exact h3
/-- A good window's offset meets the kernel's checks. -/
theorem chk_of {v : BitVec 32} (h : Good v) : (16 ∣ v.toNat) ∧ (∀ a, winOff v a + S640x1024.size a ≤ S37888x1024.size a) ∧
    ∀ hh : ∀ a, winOff v a + S640x1024.size a ≤ S37888x1024.size a, (Rect.unit (s := S37888x1024) (winOff v) S640x1024.size hh).WholeWords (EltTy.packing .bf16) :=
  ⟨h.1, winOff_inb h, words_of v h.1⟩

/-! ### The body's slices are `csm`, `hslot`, `lslot` -/

/-- The first buffer's first cell. -/
@[sl_canon] theorem sem00 (hh) : (cc0_scratch3.slice (Rect.unit (s := S2x2) ![0, 0] S1x1.size hh)).squeeze S_ squeezes_S1x1_S_ = csm 0 0 := rfl
/-- The first buffer's second cell. -/
@[sl_canon] theorem sem01 (hh) : (cc0_scratch3.slice (Rect.unit (s := S2x2) ![0, 1] S1x1.size hh)).squeeze S_ squeezes_S1x1_S_ = csm 0 1 := rfl
/-- The second buffer's first cell. -/
@[sl_canon] theorem sem10 (hh) : (cc0_scratch3.slice (Rect.unit (s := S2x2) ![1, 0] S1x1.size hh)).squeeze S_ squeezes_S1x1_S_ = csm 1 0 := rfl
/-- The second buffer's second cell. -/
@[sl_canon] theorem sem11 (hh) : (cc0_scratch3.slice (Rect.unit (s := S2x2) ![1, 1] S1x1.size hh)).squeeze S_ squeezes_S1x1_S_ = csm 1 1 := rfl
/-- The first slot of the high halves, as the kernel names it. -/
@[sl_canon] theorem hslot0 (hh hs) : (hbM.slice (Rect.unit (s := S2x640x1024) ![0, 0, 0] S1x640x1024.size hh) hs).squeeze S640x1024 squeezes_S1x640x1024_S640x1024 = hslot 0 := rfl
/-- The second slot of the high halves, as the kernel names it. -/
@[sl_canon] theorem hslot1 (hh hs) : (hbM.slice (Rect.unit (s := S2x640x1024) ![1, 0, 0] S1x640x1024.size hh) hs).squeeze S640x1024 squeezes_S1x640x1024_S640x1024 = hslot 1 := rfl
/-- The first slot of the low halves, as the kernel names it. -/
@[sl_canon] theorem lslot0 (hh hs) : (lbM.slice (Rect.unit (s := S2x640x1024) ![0, 0, 0] S1x640x1024.size hh) hs).squeeze S640x1024 squeezes_S1x640x1024_S640x1024 = lslot 0 := rfl
/-- The second slot of the low halves, as the kernel names it. -/
@[sl_canon] theorem lslot1 (hh hs) : (lbM.slice (Rect.unit (s := S2x640x1024) ![1, 0, 0] S1x640x1024.size hh) hs).squeeze S640x1024 squeezes_S1x640x1024_S640x1024 = lslot 1 := rfl

/-! ## The pieces -/

section Pieces
variable (c : Dev nD)

abbrev cellP (b s : Fin 2) : sProp 𝕄 := semVal ((c : Thread nD τ), SemLoc.dma (csm b s).sem) 0
abbrev hslotP (s : Fin 2) (f : Buf (Elt F) ((hslot s).view.loc (c : Thread nD τ))) : sProp 𝕄 :=
  (hslot s).view.loc (c : Thread nD τ) ↦[(hslot s).view.set]{fullShare} f
abbrev lslotP (s : Fin 2) (f : Buf (Elt F) ((lslot s).view.loc (c : Thread nD τ))) : sProp 𝕄 :=
  (lslot s).view.loc (c : Thread nD τ) ↦[(lslot s).view.set]{fullShare} f
end Pieces

/-! ## What a point computes -/

/-- A column of a two column array of words. -/
def colV (x : Vec F S512x2 .i32) (o : Fin 2) : Vec F S512x1 .i32 := fun y => x (ix2 (y 0) o)
/-- A row of the arrays. -/
def rowI (n : ℕ) : Fin 37888 := Fin.ofNat 37888 n
/-- A row's number, when it is in range. -/
theorem rowI_val (n : ℕ) (h : n < 37888) : (rowI n).val = n := Nat.mod_eq_of_lt h
/-- The 640 rows of an array from row `v` on. -/
def rowsV (X : S37888x1024.Idx → Elt F .bf16) (v : BitVec 32) : Vec F S1x640x1024 .bf16 :=
  fun y => X (ix2 (rowI (v.toNat + (y 1).val)) (y 2))
/-- The indicator of the rows of the window from `w` that a token of expert `n` names. -/
def ohV (n : BitVec 32) (p0 p1 : Vec F S512x1 .i32) (w : BitVec 32) (e0 e1 : Vec F S512x1 .i32) : FVec F S512x640 .bf16 :=
  truncf .bf16 (select (ori
    (cmpi .eq (iota Kind.tc S512x640 32 [1] iota_S512x640_d1_w32)
      (broadcastTo S512x640 (select (cmpi .eq e0 (broadcast S512x1 n)) (subi p0 (broadcast S512x1 w)) (broadcast S512x1 4294967295#32)) broadcasts_S512x1_S512x640))
    (cmpi .eq (iota Kind.tc S512x640 32 [1] iota_S512x640_d1_w32)
      (broadcastTo S512x640 (select (cmpi .eq e1 (broadcast S512x1 n)) (subi p1 (broadcast S512x1 w)) (broadcast S512x1 4294967295#32)) broadcasts_S512x1_S512x640)))
    (broadcast S512x640 (Scalar.ofBits .f32 0x3F800000#32 : F .f32)) (broadcast S512x640 (Scalar.ofBits .f32 0x00000000#32 : F .f32))) bitsLt_bf16_f32
/-- One expert's step: the selected rows of its two windows are added. -/
def stepV (n : BitVec 32) (p0 p1 : Vec F S512x1 .i32) (w : BitVec 32) (e0 e1 : Vec F S512x1 .i32) (A : Vec F S512x1024 .f32) (h l : Vec F S1x640x1024 .bf16) :
    FVec F S512x1024 .f32 :=
  shapeCast S512x1024 (addf A (addf
    (matmul dot_S512x640_S640x1024_S512x1024_1_0_0_1_n_n none (ohV n p0 p1 w e0 e1) (shapeCast S640x1024 h shapeCasts_S1x640x1024_S640x1024) (constant S512x1024 .f32 0x00000000#32))
    (matmul dot_S512x640_S640x1024_S512x1024_1_0_0_1_n_n none (ohV n p0 p1 w e0 e1) (shapeCast S640x1024 l shapeCasts_S1x640x1024_S640x1024) (constant S512x1024 .f32 0x00000000#32))))
    shapeCasts_S512x1024_S512x1024
/-- The accumulator after `e` experts. -/
def accV (XH XL : S37888x1024.Idx → Elt F .bf16) (w : Fin 8 → BitVec 32) (x2 x3 : Vec F S512x2 .i32) (x6 : Vec F S512x1024 .f32) : ℕ → Vec F S512x1024 .f32
  | 0 => k0_pay2 x6
  | e + 1 => stepV (BitVec.ofNat 32 e) (colV x2 0) (colV x2 1) (w (Fin.ofNat 8 e)) (colV x3 0) (colV x3 1) (accV XH XL w x2 x3 x6 e) (rowsV XH (w (Fin.ofNat 8 e))) (rowsV XL (w (Fin.ofNat 8 e)))

/-- The zero offset. -/
theorem off00 : (![0, 0] : Fin 2 → Nat) = fun _ => 0 := by decide

section Whole
variable {sp : Space} {s : Shape} {e : EltTy}
/-- A buffer read after a store of the whole of it: what was stored. -/
theorem read_stored (m : Memref sig .tc sp s e) (f : m.view.ty.Contents (Elt F)) {off : Fin s.rank → Nat} (h0 : off = fun _ => 0) (h) (x : s.Idx → Elt F e)
    (L : List (View.Piece (Elt F) s e)) :
    m.view.read (Elt F) (m.view.writes (Elt F) f (⟨Rect.unit (s := s) off s.size h, x⟩ :: L)) = x := by
  subst h0; funext y
  have := View.read_writes_cons_emb m.view f (Rect.whole s) x L y
  rwa [Rect.emb_whole_apply] at this
/-- A load of the whole of a buffer: what it holds. -/
theorem load_whole {m : Memref sig .tc sp s e} (hm : m.IsWhole) {off : Fin s.rank → Nat} (h0 : off = fun _ => 0) (h) (x : s.Idx → Elt F e) :
    m.view.readAt (Elt F) (Rect.unit (s := s) off s.size h).toLoadRect (hm.unread x) = x := by
  subst h0; funext y
  exact (congrFun (hm.read_unread x) _).trans (congrArg x (Rect.emb_whole_apply s y))
/-- So a buffer just stored whole is owned at what was stored. -/
theorem stored_owns (c : Dev nD) (m : Memref sig .tc sp s e) {off : Fin s.rank → Nat} (h0 : off = fun _ => 0) (h) (x : s.Idx → Elt F e)
    (f : Buf (Elt F) (m.view.loc (c : Thread nD τ))) (L : List (View.Piece (Elt F) s e)) :
    (m.view.loc (c : Thread nD τ) ↦[m.view.set]{fullShare} m.view.writes (Elt F) f (⟨Rect.unit (s := s) off s.size h, x⟩ :: L) : sProp 𝕄)
      ⊢ iprop(∃ g, ⌜m.view.read (Elt F) g = x⌝ ∗ m.view.loc (c : Thread nD τ) ↦[m.view.set]{fullShare} g) := by
  iintro H
  iexists (m.view.writes (Elt F) f (⟨Rect.unit (s := s) off s.size h, x⟩ :: L))
  isplitr; · ipureintro; exact read_stored m f h0 h x L
  iexact H
end Whole

/-- A load of one column of a two column buffer. -/
theorem col_load {m : Memref sig .tc .vmem S512x2 .i32} (hm : m.IsWhole) (o : Fin 2) {off : Fin 2 → Nat} (ho : off = ![0, o.val]) (h) (x : Vec F S512x2 .i32) :
    m.view.readAt (Elt F) (Rect.unit (s := S512x2) off S512x1.size h).toLoadRect (hm.unread x) = colV x o := by
  subst ho; funext y
  refine (congrFun (hm.read_unread x) _).trans (congrArg x ?_)
  funext a; apply Fin.ext
  have h1 : (y 1).val < 1 := (y 1).isLt
  fin_cases a
  · show 0 + 1 * (y 0).val = (y 0).val; omega
  · show o.val + 1 * (y 1).val = o.val; omega
/-- A load of the first column. -/
theorem col0 {m : Memref sig .tc .vmem S512x2 .i32} (hm : m.IsWhole) (h) (x : Vec F S512x2 .i32) :
    m.view.readAt (Elt F) (Rect.unit (s := S512x2) ![0, 0] S512x1.size h).toLoadRect (hm.unread x) = colV x 0 := col_load hm 0 rfl h x
/-- A load of the second column. -/
theorem col1 {m : Memref sig .tc .vmem S512x2 .i32} (hm : m.IsWhole) (h) (x : Vec F S512x2 .i32) :
    m.view.readAt (Elt F) (Rect.unit (s := S512x2) ![0, 1] S512x1.size h).toLoadRect (hm.unread x) = colV x 1 := col_load hm 1 rfl h x

/-- A block may be given a leading axis of one. -/
theorem casts_back : S640x1024.ShapeCasts S1x640x1024 := by decide
/-- A block given a leading axis, at an entry. -/
theorem cast_back_apply (z : Vec F S640x1024 .bf16) (j : Fin 640) (h : Fin 1024) : shapeCast S1x640x1024 z casts_back (ix3 0 j h) = z (ix2 j h) := by
  pointwise []
/-- A window of the array of the high halves, as a transfer reads it. -/
theorem hi_win_apply (c : Dev nD) (X : Buf (Elt F) (hiM.view.loc (c : Thread nD τ))) {v : BitVec 32} (hv : v.toNat ≤ 37248) (hw hs) (j : Fin 640) (h : Fin 1024) :
    shapeCast S1x640x1024 ((hiM.slice (Rect.unit (s := S37888x1024) (winOff v) S640x1024.size hw) hs).view.read (Elt F) X) casts_back (ix3 0 j h)
      = (X : S37888x1024.Idx → Elt F .bf16) (ix2 (rowI (v.toNat + j.val)) h) := by
  have e : shapeCast S1x640x1024 ((hiM.slice (Rect.unit (s := S37888x1024) (winOff v) S640x1024.size hw) hs).view.read (Elt F) X) casts_back (ix3 0 j h)
      = (hiM.slice (Rect.unit (s := S37888x1024) (winOff v) S640x1024.size hw) hs).view.read (Elt F) X (ix2 j h) := cast_back_apply _ j h
  refine e.trans (congrArg X ?_)
  funext a; apply Fin.ext
  refine (ValueKit.view_emb_slice_whole_unit_val main_arg3 (winOff v) S640x1024.size hw (ix2 j h) a).trans ?_
  have hj : j.val < 640 := j.isLt
  fin_cases a
  · exact (rowI_val (v.toNat + j.val) (by omega)).symm
  · exact Nat.zero_add _
/-- A window of the high halves is the 640 rows from its first on. -/
theorem hi_win (c : Dev nD) (X : Buf (Elt F) (hiM.view.loc (c : Thread nD τ))) {v : BitVec 32} (hv : v.toNat ≤ 37248) (hw hs) :
    shapeCast S1x640x1024 ((hiM.slice (Rect.unit (s := S37888x1024) (winOff v) S640x1024.size hw) hs).view.read (Elt F) X) casts_back = rowsV X v := by
  funext y
  have hy : y = ix3 0 (y 1) (y 2) := by
    funext a; apply Fin.ext; fin_cases a
    · have h0 : (y 0).val < 1 := (y 0).isLt
      exact Nat.lt_one_iff.mp h0
    · rfl
    · rfl
  rw [hy]
  exact hi_win_apply c X hv hw hs (y 1) (y 2)
/-- A load of a slot through its buffer reads the rows the last transfer landed there. -/
theorem read_hslot (c : Dev nD) (X : Buf (Elt F) (hiM.view.loc (c : Thread nD τ))) {v : BitVec 32} (hv : v.toNat ≤ 37248) (s : Fin 2) {off : Fin 3 → Nat} (e : off = slotOff s) (hh)
    {woff : Fin 2 → Nat} (ew : woff = winOff v) (hw hs) (f : Buf (Elt F) ((hslot s).view.loc (c : Thread nD τ))) (L) :
    hbM.view.readAt (Elt F) (Rect.unit (s := S2x640x1024) off S1x640x1024.size hh).toLoadRect
      ((hslot s).view.writes (Elt F) f (⟨Rect.whole S640x1024, ReadAs.same.apply ((hiM.slice (Rect.unit (s := S37888x1024) woff S640x1024.size hw) hs).view.read (Elt F) X)⟩ :: L)) = rowsV X v := by
  subst e; subst ew
  have h1 : shapeCast S640x1024 (hbM.view.readAt (Elt F) (Rect.unit (s := S2x640x1024) (slotOff s) S1x640x1024.size hh).toLoadRect
      ((hslot s).view.writes (Elt F) f (⟨Rect.whole S640x1024, ReadAs.same.apply ((hiM.slice (Rect.unit (s := S37888x1024) (winOff v) S640x1024.size hw) hs).view.read (Elt F) X)⟩ :: L)))
      shapeCasts_S1x640x1024_S640x1024 = (hiM.slice (Rect.unit (s := S37888x1024) (winOff v) S640x1024.size hw) hs).view.read (Elt F) X := by
    refine (Memref.read_squeeze_slice hbM (Rect.unit (s := S2x640x1024) (slotOff s) S1x640x1024.size hh) (fun _ => rfl) squeezes_S1x640x1024_S640x1024
      shapeCasts_S1x640x1024_S640x1024 _).symm.trans ?_
    funext y
    have := View.read_writes_cons_emb (hslot s).view f (Rect.whole S640x1024) ((hiM.slice (Rect.unit (s := S37888x1024) (winOff v) S640x1024.size hw) hs).view.read (Elt F) X) L y
    rw [Rect.emb_whole_apply] at this
    exact this
  refine Eq.trans ?_ ((congrArg (fun z => shapeCast S1x640x1024 z casts_back) h1).trans (hi_win c X hv hw hs))
  exact (shapeCast_shapeCast _ _ _).symm
/-- A window of the array of the low halves, as a transfer reads it. -/
theorem lo_win_apply (c : Dev nD) (X : Buf (Elt F) (loM.view.loc (c : Thread nD τ))) {v : BitVec 32} (hv : v.toNat ≤ 37248) (hw hs) (j : Fin 640) (h : Fin 1024) :
    shapeCast S1x640x1024 ((loM.slice (Rect.unit (s := S37888x1024) (winOff v) S640x1024.size hw) hs).view.read (Elt F) X) casts_back (ix3 0 j h)
      = (X : S37888x1024.Idx → Elt F .bf16) (ix2 (rowI (v.toNat + j.val)) h) := by
  have e : shapeCast S1x640x1024 ((loM.slice (Rect.unit (s := S37888x1024) (winOff v) S640x1024.size hw) hs).view.read (Elt F) X) casts_back (ix3 0 j h)
      = (loM.slice (Rect.unit (s := S37888x1024) (winOff v) S640x1024.size hw) hs).view.read (Elt F) X (ix2 j h) := cast_back_apply _ j h
  refine e.trans (congrArg X ?_)
  funext a; apply Fin.ext
  refine (ValueKit.view_emb_slice_whole_unit_val main_arg4 (winOff v) S640x1024.size hw (ix2 j h) a).trans ?_
  have hj : j.val < 640 := j.isLt
  fin_cases a
  · exact (rowI_val (v.toNat + j.val) (by omega)).symm
  · exact Nat.zero_add _
/-- A window of the low halves is the 640 rows from its first on. -/
theorem lo_win (c : Dev nD) (X : Buf (Elt F) (loM.view.loc (c : Thread nD τ))) {v : BitVec 32} (hv : v.toNat ≤ 37248) (hw hs) :
    shapeCast S1x640x1024 ((loM.slice (Rect.unit (s := S37888x1024) (winOff v) S640x1024.size hw) hs).view.read (Elt F) X) casts_back = rowsV X v := by
  funext y
  have hy : y = ix3 0 (y 1) (y 2) := by
    funext a; apply Fin.ext; fin_cases a
    · have h0 : (y 0).val < 1 := (y 0).isLt
      exact Nat.lt_one_iff.mp h0
    · rfl
    · rfl
  rw [hy]
  exact lo_win_apply c X hv hw hs (y 1) (y 2)
/-- A load of a slot through its buffer reads the rows the last transfer landed there. -/
theorem read_lslot (c : Dev nD) (X : Buf (Elt F) (loM.view.loc (c : Thread nD τ))) {v : BitVec 32} (hv : v.toNat ≤ 37248) (s : Fin 2) {off : Fin 3 → Nat} (e : off = slotOff s) (hh)
    {woff : Fin 2 → Nat} (ew : woff = winOff v) (hw hs) (f : Buf (Elt F) ((lslot s).view.loc (c : Thread nD τ))) (L) :
    lbM.view.readAt (Elt F) (Rect.unit (s := S2x640x1024) off S1x640x1024.size hh).toLoadRect
      ((lslot s).view.writes (Elt F) f (⟨Rect.whole S640x1024, ReadAs.same.apply ((loM.slice (Rect.unit (s := S37888x1024) woff S640x1024.size hw) hs).view.read (Elt F) X)⟩ :: L)) = rowsV X v := by
  subst e; subst ew
  have h1 : shapeCast S640x1024 (lbM.view.readAt (Elt F) (Rect.unit (s := S2x640x1024) (slotOff s) S1x640x1024.size hh).toLoadRect
      ((lslot s).view.writes (Elt F) f (⟨Rect.whole S640x1024, ReadAs.same.apply ((loM.slice (Rect.unit (s := S37888x1024) (winOff v) S640x1024.size hw) hs).view.read (Elt F) X)⟩ :: L)))
      shapeCasts_S1x640x1024_S640x1024 = (loM.slice (Rect.unit (s := S37888x1024) (winOff v) S640x1024.size hw) hs).view.read (Elt F) X := by
    refine (Memref.read_squeeze_slice lbM (Rect.unit (s := S2x640x1024) (slotOff s) S1x640x1024.size hh) (fun _ => rfl) squeezes_S1x640x1024_S640x1024
      shapeCasts_S1x640x1024_S640x1024 _).symm.trans ?_
    funext y
    have := View.read_writes_cons_emb (lslot s).view f (Rect.whole S640x1024) ((loM.slice (Rect.unit (s := S37888x1024) (winOff v) S640x1024.size hw) hs).view.read (Elt F) X) L y
    rw [Rect.emb_whole_apply] at this
    exact this
  refine Eq.trans ?_ ((congrArg (fun z => shapeCast S1x640x1024 z casts_back) h1).trans (lo_win c X hv hw hs))
  exact (shapeCast_shapeCast _ _ _).symm

end Cert.Combine.KernelIdeal

end
-- ==== Proof.CombineI.lean ====
/-
  The transfers of the combining kernel: at each point the rows of eight windows are copied, two at a time, into the
  slots of two buffers, and the selected rows of every window are added to an accumulator.
-/
module

public import proofs.«01_k».proof.Proof.CombineD
public import proofs.«01_k».proof.Proof.Gen.Kernel6Ideal.Launch
public import proofs.«01_k».proof.Proof.Gen.Kernel6Ideal.Skeleton
public import Idealize.ShloMosaic.Lib.Pipeline.KitQuiescent
public import Idealize.ShloMosaic.Lib.Pipeline.ValueKit
public import Idealize.ShloMosaic.Lib.Pipeline.ReadBack
public import Idealize.ShloMosaic.Lib.Ring
public import Idealize.ShloMosaic.Lib.Affine
public import Idealize.ShloMosaic.Lib.Tactic
public import Idealize.ShloMosaic.Lib.Pointwise

@[expose] public section

noncomputable section

namespace Cert.Combine.KernelIdeal

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The body at a point -/

section Body
variable (c : Dev nD) (XH : Buf (Elt F) (hiM.view.loc (c : Thread nD τ))) (XL : Buf (Elt F) (loM.view.loc (c : Thread nD τ)))
  (i : grid0.Coords) (arg1 : Memref sig .tc .smem S256 .i32) (harg1 : arg1.IsWhole) (arg2 : Memref sig .tc .vmem S512x2 .i32) (harg2 : arg2.IsWhole) (arg3 : Memref sig .tc .vmem S512x2 .i32) (harg3 : arg3.IsWhole)
  (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole)
  (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole)

/-- The word of expert `e` at point `i`. -/
abbrev wd (xt : Buf (Elt F) (arg1.view.loc (c : Thread nD τ))) (e : Fin 8) : BitVec 32 :=
  arg1.view.readAt (Elt F) (Rect.unit (s := S256) (tOff i e.val) S1.size (tOff_inb i e)).toLoadRect xt (Shape.Idx.first (numel1_S1.symm ▸ Nat.one_pos))
abbrev rdw (xt : Buf (Elt F) (arg1.view.loc (c : Thread nD τ))) (off : Fin 1 → Nat) (h : ∀ a, off a + S1.size a ≤ S256.size a) : BitVec 32 :=
  arg1.view.readAt (Elt F) (Rect.unit (s := S256) off S1.size h).toLoadRect xt (Shape.Idx.first (numel1_S1.symm ▸ Nat.one_pos))
/-- The word the kernel reads is the table's. -/
theorem rdw_eq (xt : Buf (Elt F) (arg1.view.loc (c : Thread nD τ))) (e : Fin 8) {off : Fin 1 → Nat} (h)
    (ho : off = ![(Scalar.addi (Scalar.muli (BitVec.ofNat 32 (i 0).val) 8#32) (BitVec.ofNat 32 e.val)).toNat]) : rdw c arg1 xt off h = wd c i arg1 xt e := by
  have := tOff_of i e.val e.isLt ho
  subst this; rfl
/-- The word the kernel reads is a good window's. -/
theorem rdw_good (xt : Buf (Elt F) (arg1.view.loc (c : Thread nD τ))) (hG : ∀ e, Good (wd c i arg1 xt e)) (e : Fin 8) {off : Fin 1 → Nat} (h)
    (ho : off = ![(Scalar.addi (Scalar.muli (BitVec.ofNat 32 (i 0).val) 8#32) (BitVec.ofNat 32 e.val)).toNat]) : Good (rdw c arg1 xt off h) := by
  rw [rdw_eq c i arg1 xt e h ho]; exact hG e
abbrev tbP (xt : Buf (Elt F) (arg1.view.loc (c : Thread nD τ))) : sProp 𝕄 := arg1.view.loc (c : Thread nD τ) ↦{fullShare.right} xt

abbrev srcP : sProp 𝕄 :=
  iprop((hiM.view.loc (c : Thread nD τ) ↦[hiM.view.set]{fullShare.left} XH) ∗ (hiM.view.loc (c : Thread nD τ) ↦[hiM.view.set]{fullShare.right} XH)
    ∗ (loM.view.loc (c : Thread nD τ) ↦[loM.view.set]{fullShare.left} XL) ∗ (loM.view.loc (c : Thread nD τ) ↦[loM.view.set]{fullShare.right} XL))

/-- The slots, their cells, the two arrays, nothing in flight. -/
def ringP : sProp 𝕄 :=
  iprop(srcP c XH XL ∗ (∃ f, hslotP c 0 f) ∗ (∃ f, hslotP c 1 f) ∗ (∃ f, lslotP c 0 f) ∗ (∃ f, lslotP c 1 f)
    ∗ cellP c 0 0 ∗ cellP c 0 1 ∗ cellP c 1 0 ∗ cellP c 1 1)

set_option maxHeartbeats 4000000 in
/-- The body at a point: what it leaves in its windows, with the copies' slots and cells given back. -/
theorem runPoint (x2 x3 : Vec F S512x2 .i32) (x6 : Vec F S512x1024 .f32) (x7 x8 : Vec F S1x1024 .f32)
    (xt : Buf (Elt F) (arg1.view.loc (c : Thread nD τ)))
    (hG : ∀ e, Good (wd c i arg1 xt e)) (K : PUnit → sProp 𝕄) :
    iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8
        ∗ (∃ A, owns (c : Thread nD τ) arg9 fullShare A) ∗ (∃ A, owns (c : Thread nD τ) arg10 fullShare A) ∗ (∃ A, owns (c : Thread nD τ) arg11 fullShare A)
        ∗ tbP c arg1 xt ∗ ringP c XH XL ∗ (∃ W, owes (c : Thread nD τ) 0 W)
        ∗ (iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8
          ∗ owns (c : Thread nD τ) arg9 fullShare (k0_pay26 (accV XH XL (wd c i arg1 xt) x2 x3 x6 8) x7 x8)
          ∗ owns (c : Thread nD τ) arg10 fullShare (k0_pay1 (k0_pay26 (accV XH XL (wd c i arg1 xt) x2 x3 x6 8) x7 x8)) ∗ (∃ A, owns (c : Thread nD τ) arg11 fullShare A)
          ∗ tbP c arg1 xt ∗ ringP c XH XL ∗ (∃ W, owes (c : Thread nD τ) 0 W)) -∗ K ⟨⟩))
      ⊢ wp frame (wpE (defs₀ (F := F)) 𝒱₀ (c : Thread nD τ) none) Set.univ (cc0_moe_combine_ln i arg1 harg1 arg2 harg2 arg3 harg3 hiM (Memref.isWhole_whole _) loM (Memref.isWhole_whole _) arg6 harg6 arg7 harg7 arg8 harg8 arg9 harg9 arg10 harg10 arg11 harg11 hbM (Memref.isWhole_whole _) lbM (Memref.isWhole_whole _) cc0_scratch3) K := by
  simp only [cc0_moe_combine_ln_eq_skeleton]; unfold cc0_moe_combine_ln_skel
  unfold ringP srcP
  unfold owns
  iintro ⟨⟨%f2, %hf2, H2⟩, ⟨%f3, %hf3, H3⟩, ⟨%f6, %hf6, H6⟩, ⟨%f7, %hf7, H7⟩, ⟨%f8, %hf8, H8⟩, ⟨%A9, %f9, -, H9⟩, ⟨%A10, %f10, -, H10⟩, ⟨%A11, %f11, -, HA⟩, HT, ⟨⟨HH0, HH1, HL0, HL1⟩, ⟨%g0, Sh0⟩, ⟨%g1, Sh1⟩, ⟨%g2, Sl0⟩, ⟨%g3, Sl1⟩, C00, C01, C10, C11⟩, ⟨%W, HW⟩, Hk⟩
  obtain rfl := harg2.eq_unread hf2; obtain rfl := harg3.eq_unread hf3; obtain rfl := harg6.eq_unread hf6; obtain rfl := harg7.eq_unread hf7; obtain rfl := harg8.eq_unread hf8
  have hchk1 : k0_chk1 (rdw c arg1 xt (k0_off1 i) (k0_off1_inb i)) := chk_of (rdw_good c i arg1 xt hG 0 _ rfl)
  have hchk2 : k0_chk2 (rdw c arg1 xt (k0_off3 i) (k0_off3_inb i)) := chk_of (rdw_good c i arg1 xt hG 1 _ rfl)
  have hchk3 : k0_chk3 (rdw c arg1 xt (k0_off5 i) (k0_off5_inb i)) := chk_of (rdw_good c i arg1 xt hG 0 _ rfl)
  have hchk4 : k0_chk4 (rdw c arg1 xt (k0_off7 i 2#32) (k0_off7_inb i 1)) := chk_of (rdw_good c i arg1 xt hG 2 _ rfl)
  have hchk5 : k0_chk5 (rdw c arg1 xt (k0_off9 i) (k0_off9_inb i)) := chk_of (rdw_good c i arg1 xt hG 1 _ rfl)
  have hchk6 : k0_chk6 (rdw c arg1 xt (k0_off11 i 3#32) (k0_off11_inb i 1)) := chk_of (rdw_good c i arg1 xt hG 3 _ rfl)
  have hchk7 : k0_chk7 (rdw c arg1 xt (k0_off13 i) (k0_off13_inb i)) := chk_of (rdw_good c i arg1 xt hG 2 _ rfl)
  have hchk8 : k0_chk8 (rdw c arg1 xt (k0_off15 i 4#32) (k0_off15_inb i 1)) := chk_of (rdw_good c i arg1 xt hG 4 _ rfl)
  have hchk9 : k0_chk9 (rdw c arg1 xt (k0_off17 i) (k0_off17_inb i)) := chk_of (rdw_good c i arg1 xt hG 3 _ rfl)
  have hchk10 : k0_chk10 (rdw c arg1 xt (k0_off19 i 5#32) (k0_off19_inb i 1)) := chk_of (rdw_good c i arg1 xt hG 5 _ rfl)
  have hchk11 : k0_chk11 (rdw c arg1 xt (k0_off21 i) (k0_off21_inb i)) := chk_of (rdw_good c i arg1 xt hG 4 _ rfl)
  have hchk12 : k0_chk12 (rdw c arg1 xt (k0_off23 i 6#32) (k0_off23_inb i 1)) := chk_of (rdw_good c i arg1 xt hG 6 _ rfl)
  have hchk13 : k0_chk13 (rdw c arg1 xt (k0_off25 i) (k0_off25_inb i)) := chk_of (rdw_good c i arg1 xt hG 5 _ rfl)
  have hchk14 : k0_chk14 (rdw c arg1 xt (k0_off27 i 7#32) (k0_off27_inb i 1)) := chk_of (rdw_good c i arg1 xt hG 7 _ rfl)
  have hchk15 : k0_chk15 (rdw c arg1 xt (k0_off29 i) (k0_off29_inb i)) := chk_of (rdw_good c i arg1 xt hG 6 _ rfl)
  have hchk16 : k0_chk16 (rdw c arg1 xt (k0_off31 i 7#32) (k0_off31_inb i 1)) := chk_of (rdw_good c i arg1 xt hG 7 _ rfl)
  sl_exec (disch := first | sl_exact hchk1 | sl_exact hchk2 | sl_exact hchk3 | sl_exact hchk4 | sl_exact hchk5 | sl_exact hchk6 | sl_exact hchk7 | sl_exact hchk8 | sl_exact hchk9 | sl_exact hchk10 | sl_exact hchk11 | sl_exact hchk12 | sl_exact hchk13 | sl_exact hchk14 | sl_exact hchk15 | sl_exact hchk16)
  have hP0 : runPoint.sl.r_2 c arg2 harg2 x2 = colV x2 0 := col0 harg2 _ x2
  have hP1 : runPoint.sl.r_3 c arg2 harg2 x2 = colV x2 1 := col1 harg2 _ x2
  have hW0 : runPoint.sl.r_5 c i arg1 xt = wd c i arg1 xt 0 := rdw_eq c i arg1 xt 0 _ rfl
  have hW1 : runPoint.sl.r_8 c i arg1 xt = wd c i arg1 xt 1 := rdw_eq c i arg1 xt 1 _ rfl
  have hW2 : runPoint.sl.r_13 c i arg1 xt = wd c i arg1 xt 2 := rdw_eq c i arg1 xt 2 _ rfl
  have hW3 : runPoint.sl.r_18 c i arg1 xt = wd c i arg1 xt 3 := rdw_eq c i arg1 xt 3 _ rfl
  have hW4 : runPoint.sl.r_22 c i arg1 xt = wd c i arg1 xt 4 := rdw_eq c i arg1 xt 4 _ rfl
  have hW5 : runPoint.sl.r_25 c i arg1 xt = wd c i arg1 xt 5 := rdw_eq c i arg1 xt 5 _ rfl
  have hW6 : runPoint.sl.r_28 c i arg1 xt = wd c i arg1 xt 6 := rdw_eq c i arg1 xt 6 _ rfl
  have hW7 : runPoint.sl.r_30 c i arg1 xt = wd c i arg1 xt 7 := rdw_eq c i arg1 xt 7 _ rfl
  have hD0 : runPoint.sl.r c i arg1 xt = wd c i arg1 xt 0 := rdw_eq c i arg1 xt 0 _ rfl
  have hH0 : runPoint.sl.v82 c XH i arg1 xt hchk1 = rowsV XH (wd c i arg1 xt 0) := read_hslot c XH (hG 0).2 0 rfl _ (congrArg winOff hD0) _ _ _ _
  have hL0 : runPoint.sl.v85 c XL i arg1 xt hchk1 = rowsV XL (wd c i arg1 xt 0) := read_lslot c XL (hG 0).2 0 rfl _ (congrArg winOff hD0) _ _ _ _
  have hD1 : runPoint.sl.r_1 c i arg1 xt = wd c i arg1 xt 1 := rdw_eq c i arg1 xt 1 _ rfl
  have hH1 : runPoint.sl.v151 c XH i arg1 xt hchk2 = rowsV XH (wd c i arg1 xt 1) := read_hslot c XH (hG 1).2 1 rfl _ (congrArg winOff hD1) _ _ _ _
  have hL1 : runPoint.sl.v154 c XL i arg1 xt hchk2 = rowsV XL (wd c i arg1 xt 1) := read_lslot c XL (hG 1).2 1 rfl _ (congrArg winOff hD1) _ _ _ _
  have hD2 : runPoint.sl.r_6 c i arg1 xt = wd c i arg1 xt 2 := rdw_eq c i arg1 xt 2 _ rfl
  have hH2 : runPoint.sl.v220 c XH i arg1 xt hchk1 hchk4 = rowsV XH (wd c i arg1 xt 2) := read_hslot c XH (hG 2).2 0 rfl _ (congrArg winOff hD2) _ _ _ _
  have hL2 : runPoint.sl.v223 c XL i arg1 xt hchk1 hchk4 = rowsV XL (wd c i arg1 xt 2) := read_lslot c XL (hG 2).2 0 rfl _ (congrArg winOff hD2) _ _ _ _
  have hD3 : runPoint.sl.r_11 c i arg1 xt = wd c i arg1 xt 3 := rdw_eq c i arg1 xt 3 _ rfl
  have hH3 : runPoint.sl.v289 c XH i arg1 xt hchk2 hchk6 = rowsV XH (wd c i arg1 xt 3) := read_hslot c XH (hG 3).2 1 rfl _ (congrArg winOff hD3) _ _ _ _
  have hL3 : runPoint.sl.v292 c XL i arg1 xt hchk2 hchk6 = rowsV XL (wd c i arg1 xt 3) := read_lslot c XL (hG 3).2 1 rfl _ (congrArg winOff hD3) _ _ _ _
  have hD4 : runPoint.sl.r_16 c i arg1 xt = wd c i arg1 xt 4 := rdw_eq c i arg1 xt 4 _ rfl
  have hH4 : runPoint.sl.v358 c XH i arg1 xt hchk1 hchk4 hchk8 = rowsV XH (wd c i arg1 xt 4) := read_hslot c XH (hG 4).2 0 rfl _ (congrArg winOff hD4) _ _ _ _
  have hL4 : runPoint.sl.v361 c XL i arg1 xt hchk1 hchk4 hchk8 = rowsV XL (wd c i arg1 xt 4) := read_lslot c XL (hG 4).2 0 rfl _ (congrArg winOff hD4) _ _ _ _
  have hD5 : runPoint.sl.r_20 c i arg1 xt = wd c i arg1 xt 5 := rdw_eq c i arg1 xt 5 _ rfl
  have hH5 : runPoint.sl.v427 c XH i arg1 xt hchk2 hchk6 hchk10 = rowsV XH (wd c i arg1 xt 5) := read_hslot c XH (hG 5).2 1 rfl _ (congrArg winOff hD5) _ _ _ _
  have hL5 : runPoint.sl.v430 c XL i arg1 xt hchk2 hchk6 hchk10 = rowsV XL (wd c i arg1 xt 5) := read_lslot c XL (hG 5).2 1 rfl _ (congrArg winOff hD5) _ _ _ _
  have hD6 : runPoint.sl.r_23 c i arg1 xt = wd c i arg1 xt 6 := rdw_eq c i arg1 xt 6 _ rfl
  have hH6 : runPoint.sl.v496 c XH i arg1 xt hchk1 hchk4 hchk8 hchk12 = rowsV XH (wd c i arg1 xt 6) := read_hslot c XH (hG 6).2 0 rfl _ (congrArg winOff hD6) _ _ _ _
  have hL6 : runPoint.sl.v499 c XL i arg1 xt hchk1 hchk4 hchk8 hchk12 = rowsV XL (wd c i arg1 xt 6) := read_lslot c XL (hG 6).2 0 rfl _ (congrArg winOff hD6) _ _ _ _
  have hD7 : runPoint.sl.r_26 c i arg1 xt = wd c i arg1 xt 7 := rdw_eq c i arg1 xt 7 _ rfl
  have hH7 : runPoint.sl.v550 c XH i arg1 xt hchk2 hchk6 hchk10 hchk14 = rowsV XH (wd c i arg1 xt 7) := read_hslot c XH (hG 7).2 1 rfl _ (congrArg winOff hD7) _ _ _ _
  have hL7 : runPoint.sl.v553 c XL i arg1 xt hchk2 hchk6 hchk10 hchk14 = rowsV XL (wd c i arg1 xt 7) := read_lslot c XL (hG 7).2 1 rfl _ (congrArg winOff hD7) _ _ _ _
  have hA0 : runPoint.sl.v81 c arg6 harg6 arg11 x6 = accV XH XL (wd c i arg1 xt) x2 x3 x6 0 := by
    unfold runPoint.sl.v81 runPoint.sl.HA_1
    refine (View.readCov_cons_toLoadRect _ _ _ _).trans ?_
    rw [load_whole harg6 off00]
    rfl
  have hA1 : runPoint.sl.v150 c XH XL i arg1 arg2 harg2 arg3 harg3 arg6 harg6 arg11 x2 x3 x6 xt hchk1 = accV XH XL (wd c i arg1 xt) x2 x3 x6 1 := by
    unfold runPoint.sl.v150 runPoint.sl.HA_2
    refine (View.readCov_cons_toLoadRect _ _ _ _).trans ?_
    rw [hA0, hH0, hL0, hW0, hP0, hP1, col0 harg3, col1 harg3]
    rfl
  have hA2 : runPoint.sl.v219 c XH XL i arg1 arg2 harg2 arg3 harg3 arg6 harg6 arg11 x2 x3 x6 xt hchk1 hchk2 = accV XH XL (wd c i arg1 xt) x2 x3 x6 2 := by
    unfold runPoint.sl.v219 runPoint.sl.HA_3
    refine (View.readCov_cons_toLoadRect _ _ _ _).trans ?_
    unfold runPoint.sl.r_9
    unfold runPoint.sl.r_10
    rw [hA1, hH1, hL1, hW1, hP0, hP1, col0 harg3, col1 harg3]
    rfl
  have hA3 : runPoint.sl.v288 c XH XL i arg1 arg2 harg2 arg3 harg3 arg6 harg6 arg11 x2 x3 x6 xt hchk1 hchk2 hchk4 = accV XH XL (wd c i arg1 xt) x2 x3 x6 3 := by
    unfold runPoint.sl.v288 runPoint.sl.HA_4
    refine (View.readCov_cons_toLoadRect _ _ _ _).trans ?_
    unfold runPoint.sl.r_14
    unfold runPoint.sl.r_15
    unfold runPoint.sl.cst_163
    rw [hA2, hH2, hL2, hW2, hP0, hP1, col0 harg3, col1 harg3]
    rfl
  have hA4 : runPoint.sl.v357 c XH XL i arg1 arg2 harg2 arg3 harg3 arg6 harg6 arg11 x2 x3 x6 xt hchk1 hchk2 hchk4 hchk6 = accV XH XL (wd c i arg1 xt) x2 x3 x6 4 := by
    unfold runPoint.sl.v357 runPoint.sl.HA_5
    refine (View.readCov_cons_toLoadRect _ _ _ _).trans ?_
    unfold runPoint.sl.r_19
    rw [hA3, hH3, hL3, hW3, hP0, hP1, col0 harg3, col1 harg3]
    rfl
  have hA5 : runPoint.sl.v426 c XH XL i arg1 arg2 harg2 arg3 harg3 arg6 harg6 arg11 x2 x3 x6 xt hchk1 hchk2 hchk4 hchk6 hchk8 = accV XH XL (wd c i arg1 xt) x2 x3 x6 5 := by
    unfold runPoint.sl.v426 runPoint.sl.HA_6
    refine (View.readCov_cons_toLoadRect _ _ _ _).trans ?_
    unfold runPoint.sl.v349
    unfold runPoint.sl.v351
    unfold runPoint.sl.v348
    unfold runPoint.sl.v350
    unfold runPoint.sl.v340
    unfold runPoint.sl.v347
    unfold runPoint.sl.v336
    unfold runPoint.sl.v338
    unfold runPoint.sl.v339
    unfold runPoint.sl.v343
    unfold runPoint.sl.v345
    unfold runPoint.sl.v335
    unfold runPoint.sl.v337
    rw [hA4, hH4, hL4, hW4, hP0, hP1, col0 harg3, col1 harg3]
    rfl
  have hA6 : runPoint.sl.v495 c XH XL i arg1 arg2 harg2 arg3 harg3 arg6 harg6 arg11 x2 x3 x6 xt hchk1 hchk2 hchk4 hchk6 hchk8 hchk10 = accV XH XL (wd c i arg1 xt) x2 x3 x6 6 := by
    unfold runPoint.sl.v495 runPoint.sl.HA_7
    refine (View.readCov_cons_toLoadRect _ _ _ _).trans ?_
    unfold runPoint.sl.v409
    unfold runPoint.sl.v412
    unfold runPoint.sl.v405
    unfold runPoint.sl.v407
    unfold runPoint.sl.v339
    unfold runPoint.sl.v404
    unfold runPoint.sl.v406
    rw [hA5, hH5, hL5, hW5, hP0, hP1, col0 harg3, col1 harg3]
    rfl
  have hA7 : runPoint.sl.v549 c XH XL i arg1 arg2 harg2 arg3 harg3 arg6 harg6 arg11 x2 x3 x6 xt hchk1 hchk2 hchk4 hchk6 hchk8 hchk10 hchk12 = accV XH XL (wd c i arg1 xt) x2 x3 x6 7 := by
    unfold runPoint.sl.v549 runPoint.sl.HA_8
    refine (View.readCov_cons_toLoadRect _ _ _ _).trans ?_
    unfold runPoint.sl.v474
    unfold runPoint.sl.v476
    unfold runPoint.sl.v339
    unfold runPoint.sl.v473
    unfold runPoint.sl.v475
    rw [hA6, hH6, hL6, hW6, hP0, hP1, col0 harg3, col1 harg3]
    rfl
  have hA8 : runPoint.sl.v561 c XH XL i arg1 arg2 harg2 arg3 harg3 arg6 harg6 arg11 x2 x3 x6 xt hchk1 hchk2 hchk4 hchk6 hchk8 hchk10 hchk12 hchk14 = accV XH XL (wd c i arg1 xt) x2 x3 x6 8 := by
    unfold runPoint.sl.v561 runPoint.sl.HA_9
    refine (View.readCov_cons_toLoadRect _ _ _ _).trans ?_
    unfold runPoint.sl.r_31
    rw [hA7, hH7, hL7, hW7, hP0, hP1, col0 harg3, col1 harg3]
    rfl
  have hR : runPoint.sl.r_32 c XH XL i arg1 arg2 harg2 arg3 harg3 arg6 harg6 arg7 harg7 arg8 harg8 arg11 x2 x3 x6 x7 x8 xt hchk1 hchk2 hchk4 hchk6 hchk8 hchk10 hchk12 hchk14 = k0_pay26 (accV XH XL (wd c i arg1 xt) x2 x3 x6 8) x7 x8 := by
    unfold runPoint.sl.r_32
    rw [hA8, load_whole harg7 off00, load_whole harg8 off00]
  rw [hR]
  sl_step
  iapply Hk
  isplitl [H2]
  · iexists _; isplitr; · ipureintro; exact hf2
    iexact H2
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iapply (stored_owns c arg9 off00 inb_S512x1024_S512x1024_0_0 _ f9 []); iexact H9
  isplitl [H10]
  · iapply (stored_owns c arg10 off00 inb_S512x1024_S512x1024_0_0 _ f10 []); iexact H10
  isplitl [HA]
  · iexists _; iapply (stored_owns c arg11 off00 inb_S512x1024_S512x1024_0_0 _ f11 _); iexact HA
  isplitl [HT]; · iexact HT
  isplitr [HW]
  · isplitl [HH0 HH1 HL0 HL1]
    · isplitl [HH0]; · iexact HH0
      iframe HH1 HL0 HL1
    isplitl [Sh0]; · iexists _; iexact Sh0
    isplitl [Sh1]; · iexists _; iexact Sh1
    isplitl [Sl0]; · iexists _; iexact Sl0
    isplitl [Sl1]; · iexists _; iexact Sl1
    iframe C00 C01 C10 C11
  iexists _; iexact HW
end Body
end Cert.Combine.KernelIdeal
end
-- ==== Proof.CombineLI.lean ====
/-
  The combining kernel's run: its launch, and what every final state holds.

  A point takes one block of 512 tokens. The region invariant keeps the accumulator at any contents, the two row
  arrays in halves, the slots of the two buffers with their cells, and the table of window starts. Here: the invariant,
  the body at every point, the launch, the frame, and the result arrays as the pipeline leaves them.
-/
module

public import proofs.«01_k».proof.Proof.CombineI
public import Idealize.ShloMosaic.Lib.Pipeline.FrameBody

@[expose] public section

set_option maxRecDepth 16384

noncomputable section

namespace Cert.Combine.KernelIdeal

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores and slots -/

abbrev osem : Fin 4 → SemLoc sig := ![.dma (csm 0 0).sem, .dma (csm 0 1).sem, .dma (csm 1 0).sem, .dma (csm 1 1).sem]
/-- The kernel's cells are its own. -/
theorem ownSemFacts : Pipeline.OwnSemFacts spec0 osem := by decide

abbrev S2s (s : Fin 2) : Finset S2x640x1024.Idx := (Rect.unit (s := S2x640x1024) (slotOff s) S1x640x1024.size (slotOff_inb s)).set
/-- A slot's entries in its buffer. -/
theorem hslot_set (s : Fin 2) : (hslot s : Memref sig .tc .vmem _ _).view.set = S2s s := (View.set_reshape _ _).trans (View.set_slice_whole _ _)
/-- A slot's entries in its buffer. -/
theorem lslot_set (s : Fin 2) : (lslot s : Memref sig .tc .vmem _ _).view.set = S2s s := (View.set_reshape _ _).trans (View.set_slice_whole _ _)
/-- An entry is in the slot of its leading number. -/
theorem mem_S2s (s : Fin 2) (y : S2x640x1024.Idx) : y ∈ S2s s ↔ (y 0).val = s.val := by
  rw [Rect.mem_set_unit]
  have h1 : (y 1).val < 640 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 640; omega
    · show 0 ≤ (y 2).val ∧ (y 2).val < 0 + 1024; omega
/-- Slots do not meet. -/
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
/-- The slots cover the buffer. -/
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

omit [FloatOps F] in
/-- A conjunction over two. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
/-- A conjunction over four. -/
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

omit [FloatOps F] in
/-- A slot held is its part of the buffer held. -/
theorem hslotP_eq (c : Dev nD) (s : Fin 2) (f) : hslotP c s f = (((c : Thread nD τ).loc cc0_scratch1) ↦[S2s s]{fullShare} f : sProp 𝕄) :=
  congrArg (fun S => (_ ↦[S]{fullShare} f : sProp 𝕄)) (hslot_set s)
/-- The buffer of the high halves whole is its two slots, and back. -/
theorem hbuf_split (c : Dev nD) :
    iprop(∃ f : Buf (Elt F) ((c : Thread nD τ).loc cc0_scratch1), ((c : Thread nD τ).loc cc0_scratch1) ↦{fullShare} f)
      ⊢ (iprop((∃ f, hslotP c 0 f) ∗ ∃ f, hslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (entails_of_eq (hslotP_eq c 0 f).symm); iexact H0
  · iexists f; iapply (entails_of_eq (hslotP_eq c 1 f).symm); iexact H1
/-- The two slots make the buffer. -/
theorem hbuf_join (c : Dev nD) :
    iprop((∃ f, hslotP c 0 f) ∗ ∃ f, hslotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (entails_of_eq (hslotP_eq c 0 f0)); iexact H0
  · iexists f1; iapply (entails_of_eq (hslotP_eq c 1 f1)); iexact H1

omit [FloatOps F] in
/-- A slot held is its part of the buffer held. -/
theorem lslotP_eq (c : Dev nD) (s : Fin 2) (f) : lslotP c s f = (((c : Thread nD τ).loc cc0_scratch2) ↦[S2s s]{fullShare} f : sProp 𝕄) :=
  congrArg (fun S => (_ ↦[S]{fullShare} f : sProp 𝕄)) (lslot_set s)
/-- The buffer of the low halves whole is its two slots, and back. -/
theorem lbuf_split (c : Dev nD) :
    iprop(∃ f : Buf (Elt F) ((c : Thread nD τ).loc cc0_scratch2), ((c : Thread nD τ).loc cc0_scratch2) ↦{fullShare} f)
      ⊢ (iprop((∃ f, lslotP c 0 f) ∗ ∃ f, lslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) S2s S2s_disjoint S2s_cover f).trans (bigSep_fin2 _))) $$ H
  icases H2 with ⟨H0, H1⟩
  isplitl [H0]
  · iexists f; iapply (entails_of_eq (lslotP_eq c 0 f).symm); iexact H0
  · iexists f; iapply (entails_of_eq (lslotP_eq c 1 f).symm); iexact H1
/-- The two slots make the buffer. -/
theorem lbuf_join (c : Dev nD) :
    iprop((∃ f, lslotP c 0 f) ∗ ∃ f, lslotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) S2s S2s_disjoint S2s_cover f0)
  irw [bigSep_fin2]
  isplitl [H0]
  · iexists f0; iapply (entails_of_eq (lslotP_eq c 0 f0)); iexact H0
  · iexists f1; iapply (entails_of_eq (lslotP_eq c 1 f1)); iexact H1

omit [FloatOps F] in
/-- The kernel's own cells at zero are the slots' cells. -/
theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 0 1 ∗ cellP c 1 0 ∗ cellP c 1 1) := by
  unfold Pipeline.ownSems0; rw [bigSep_fin4]; rfl

omit [FloatOps F] in
/-- The array of the high halves whole is its two half shares. -/
theorem hi_halves (c : Dev nD) (f : Buf (Elt F) (hiM.view.loc (c : Thread nD τ))) :
    (((c : Thread nD τ).loc main_arg3) ↦{fullShare} f : sProp 𝕄)
      ⊣⊢ iprop((hiM.view.loc (c : Thread nD τ) ↦[hiM.view.set]{fullShare.left} f) ∗ (hiM.view.loc (c : Thread nD τ) ↦[hiM.view.set]{fullShare.right} f)) := by
  rw [show hiM.view.set = Finset.univ from View.set_whole _]
  exact pointsTo_share (PosShare.mem_left_op_right fullShare)
omit [FloatOps F] in
/-- The array of the low halves whole is its two half shares. -/
theorem lo_halves (c : Dev nD) (f : Buf (Elt F) (loM.view.loc (c : Thread nD τ))) :
    (((c : Thread nD τ).loc main_arg4) ↦{fullShare} f : sProp 𝕄)
      ⊣⊢ iprop((loM.view.loc (c : Thread nD τ) ↦[loM.view.set]{fullShare.left} f) ∗ (loM.view.loc (c : Thread nD τ) ↦[loM.view.set]{fullShare.right} f)) := by
  rw [show loM.view.set = Finset.univ from View.set_whole _]
  exact pointsTo_share (PosShare.mem_left_op_right fullShare)

/-! ## The launch memory -/

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
/-- The program is this launch alone. -/
theorem hmain (𝒱₀ : Variants) : Pipeline.HMainP (Ix := Unit) (Name := ℕ) (U := UU nD τ) (Lvl := ℕ) pcfgs 0 defs₀ 𝒱₀ m (main (F := F)) (V m) :=
  Pipeline.hmainP_region pcfgs 0 defs₀ 𝒱₀ m main fun c => (main_chain c).trans rfl

/-- The table's contents when the region is entered (the program runs on one device). -/
def tbl : pre0.Contents (Elt F) := fun j => V m (0 : Dev nD) (pre0.ref j)
/-- A table's contents at the launch. -/
theorem V_pre (c : Dev nD) (j : Fin 1) : V m c (pre0.ref j) = tbl m j := by
  obtain rfl : c = 0 := Subsingleton.elim _ _; rfl
/-- The pipeline's side condition of the table's contents. -/
abbrev Ok : Prop := ok0 (F := F) (tbl m)
/-- The tables need meet no condition for this launch. -/
theorem ok : Ok m := trivial
abbrev adm : (pcfg0 (F := F)).Adm := ⟨tbl m, ok m⟩
abbrev cfgM : Pipeline.Cfg sig Λ₀ := cfg0 (adm m)

abbrev tbM0_0 : Memref sig .tc .smem S256 .i32 := Memref.whole main_arg0
abbrev accM : Memref sig .tc .vmem S512x1024 .f32 := Memref.whole cc0_scratch0

/-- The tables held through the launch, one by one. -/
theorem PhiT0_eq (c : Dev nD) : (Pipeline.ΦT pre0 (tbl m) c : sProp 𝕄) = tbP c tbM0_0 (tbl m 0) := by
  unfold Pipeline.ΦT Pipeline.prefHeld
  rw [show (Finset.univ : Finset (Fin 1)) = {(0 : Fin 1)} from by decide, bigSep_singleton]
  rfl

/-- Window `w`'s block at point `t`, read off its array at launch. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Every word of the table may start a window. -/
def GoodAll : Prop := ∀ (c : Dev nD) (t : Fin grid0.N) (e : Fin 8), Good (wd c (grid0.coords t) tbM0_0 (tbl m 0) e)

/-! ## What the kernel leaves at each point -/

/-- The block of the first result that point `t` computes. -/
def res (c : Dev nD) (t : Fin (cfgM m).N) : Vec F S512x1024 .f32 :=
  k0_pay26 (accV (V m c main_arg3) (V m c main_arg4) (wd c (grid0.coords t) tbM0_0 (tbl m 0)) (iblk m c 0 t) (iblk m c 1 t) (iblk m c 2 t) 8) (iblk m c 3 t) (iblk m c 4 t)

/-- The region invariant. -/
def PhiS (c : Dev nD) : sProp 𝕄 :=
  iprop((∃ A, owns (c : Thread nD τ) accM fullShare A) ∗ ringP c (V m c main_arg3) (V m c main_arg4) ∗ (∃ r, prngReg c r) ∗ Pipeline.ΦT pre0 (tbl m) c)

/-- The proof data of the pipeline. -/
def dats (_ : Fin 1) (c : Dev nD) : Dat τ (Elt F) Unit ℕ (UU nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res m c t
    | ⟨6, _⟩ => k0_pay1 (res m c t)
  Φ _ := PhiS m c
  q _ := fullShare
  owed _ := 0

/-- An array's contents before the launch. -/
theorem A_eq (c : Dev nD) (w : Fin (cfgM m).W) : (dats m 0 c).A w = V m c (Pipeline.arrRef spec0 w) := by
  dsimp only [dats]
/-- Window 0 after a point. -/
theorem after0_0 (c : Dev nD) (t : Fin (cfgM m).N) : (dats m 0 c).after 0 t = iblk m c 0 t := by dsimp only [dats]; try rfl
/-- Window 0 before a point. -/
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 0 is live at every point. -/
theorem liveAt0_0 : ∀ t : Fin (cfgM m).N, (cfgM m).idle 0 (grid0.coords t) = false := fun _ => rfl
/-- Window 1 after a point. -/
theorem after0_1 (c : Dev nD) (t : Fin (cfgM m).N) : (dats m 0 c).after 1 t = iblk m c 1 t := by dsimp only [dats]; try rfl
/-- Window 1 before a point. -/
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 1 is live at every point. -/
theorem liveAt0_1 : ∀ t : Fin (cfgM m).N, (cfgM m).idle 1 (grid0.coords t) = false := fun _ => rfl
/-- Window 2 after a point. -/
theorem after0_2 (c : Dev nD) (t : Fin (cfgM m).N) : (dats m 0 c).after 2 t = iblk m c 2 t := by dsimp only [dats]; try rfl
/-- Window 2 before a point. -/
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 2 is live at every point. -/
theorem liveAt0_2 : ∀ t : Fin (cfgM m).N, (cfgM m).idle 2 (grid0.coords t) = false := fun _ => rfl
/-- Window 3 after a point. -/
theorem after0_3 (c : Dev nD) (t : Fin (cfgM m).N) : (dats m 0 c).after 3 t = iblk m c 3 t := by dsimp only [dats]; try rfl
/-- Window 3 before a point. -/
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Window 3 is live at every point. -/
theorem liveAt0_3 : ∀ t : Fin (cfgM m).N, (cfgM m).idle 3 (grid0.coords t) = false := fun _ => rfl
/-- Window 4 after a point. -/
theorem after0_4 (c : Dev nD) (t : Fin (cfgM m).N) : (dats m 0 c).after 4 t = iblk m c 4 t := by dsimp only [dats]; try rfl
/-- Window 4 before a point. -/
theorem before0_4 (c : Dev nD) (t : Fin (cfgM m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Window 4 is live at every point. -/
theorem liveAt0_4 : ∀ t : Fin (cfgM m).N, (cfgM m).idle 4 (grid0.coords t) = false := fun _ => rfl
/-- Window 5 after a point. -/
theorem after0_5 (c : Dev nD) (t : Fin (cfgM m).N) : (dats m 0 c).after 5 t = res m c t := by dsimp only [dats]; try rfl
/-- Window 5 is live at every point. -/
theorem liveAt0_5 : ∀ t : Fin (cfgM m).N, (cfgM m).idle 5 (grid0.coords t) = false := fun _ => rfl
/-- Window 6 after a point. -/
theorem after0_6 (c : Dev nD) (t : Fin (cfgM m).N) : (dats m 0 c).after 6 t = k0_pay1 (res m c t) := by dsimp only [dats]; try rfl
/-- Window 6 is live at every point. -/
theorem liveAt0_6 : ∀ t : Fin (cfgM m).N, (cfgM m).idle 6 (grid0.coords t) = false := fun _ => rfl

/-- Each window's current staging memref at point `t`, and its wholeness. -/
abbrev ms0_0 (t : Fin (cfgM m).N) : Memref sig .tc .vmem S512x2 .i32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S512x2 .i32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S512x1024 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x1024 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x1024 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S512x1024 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S512x1024 .bf16 := spec0_6.stage ((cfgM m).slots t 6)
abbrev hs0_6 (t : Fin (cfgM m).N) : (ms0_6 m t).IsWhole := hstage0_6 (((cfgM m).slots t 6).cast nbuf0_6)
/-- The kernel body at point `t`, on what the pipeline calls it with. -/
abbrev bodyAt0 (t : Fin (cfgM m).N) : Prog (TpuEff nD τ sig (Elt F) Λ₀ .tc) PUnit :=
  cc0_moe_combine_ln (grid0.coords t) tbM0_0 (Memref.isWhole_whole _) (ms0_0 m t) (hs0_0 m t) (ms0_1 m t) (hs0_1 m t) hiM (Memref.isWhole_whole _) loM (Memref.isWhole_whole _) (ms0_2 m t) (hs0_2 m t) (ms0_3 m t) (hs0_3 m t) (ms0_4 m t) (hs0_4 m t) (ms0_5 m t) (hs0_5 m t) (ms0_6 m t) (hs0_6 m t) accM (Memref.isWhole_whole _) hbM (Memref.isWhole_whole _) lbM (Memref.isWhole_whole _) cc0_scratch3
/-- The body the launch calls at a point. -/
theorem defs₀_row (t : Fin (cfgM m).N) :
    defs₀ (F := F) .tc (cfgM m).body ((cfgM m).bodyArgs t ((cfgM m).slots t)) = bodyAt0 m t := by
  unfold defs₀; rw [Defs.onTc_tc]

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
set_option backward.isDefEq.respectTransparency.types false in
/-- The body is sound at every point. -/
theorem sound_body (hR : GoodAll m) (c : Dev nD) (t : Fin (cfgM m).N) :
    bodyPre m c t ⊢ wp frame (wpE (defs₀ (F := F)) 𝒱₀ (c : Thread nD τ) none) Set.univ (bodyAt0 m t) (fun _ => bodyPost m c t) := by
  unfold bodyPre bodyPost bodyAt0
  simp only [before0_0, before0_1, before0_2, before0_3, before0_4]
  rw [show (dats m 0 c).Φ t.succ = PhiS m c from rfl, show (dats m 0 c).Φ t.castSucc = PhiS m c from rfl]
  rw [show (dats m 0 c).leavesExact 0 t = owns (c : Thread nD τ) (ms0_0 m t) fullShare ((dats m 0 c).after 0 t) from by
      unfold Dat.leavesExact; rw [liveAt0_0 m t]; try rfl, after0_0]
  rw [show (dats m 0 c).leavesExact 1 t = owns (c : Thread nD τ) (ms0_1 m t) fullShare ((dats m 0 c).after 1 t) from by
      unfold Dat.leavesExact; rw [liveAt0_1 m t]; try rfl, after0_1]
  rw [show (dats m 0 c).leavesExact 2 t = owns (c : Thread nD τ) (ms0_2 m t) fullShare ((dats m 0 c).after 2 t) from by
      unfold Dat.leavesExact; rw [liveAt0_2 m t]; try rfl, after0_2]
  rw [show (dats m 0 c).leavesExact 3 t = owns (c : Thread nD τ) (ms0_3 m t) fullShare ((dats m 0 c).after 3 t) from by
      unfold Dat.leavesExact; rw [liveAt0_3 m t]; try rfl, after0_3]
  rw [show (dats m 0 c).leavesExact 4 t = owns (c : Thread nD τ) (ms0_4 m t) fullShare ((dats m 0 c).after 4 t) from by
      unfold Dat.leavesExact; rw [liveAt0_4 m t]; try rfl, after0_4]
  rw [show (dats m 0 c).leavesExact 5 t = owns (c : Thread nD τ) (ms0_5 m t) fullShare ((dats m 0 c).after 5 t) from by
      unfold Dat.leavesExact; rw [liveAt0_5 m t]; try rfl, after0_5]
  rw [show (dats m 0 c).leavesExact 6 t = owns (c : Thread nD τ) (ms0_6 m t) fullShare ((dats m 0 c).after 6 t) from by
      unfold Dat.leavesExact; rw [liveAt0_6 m t]; try rfl, after0_6]
  unfold Dat.owesAt Pipeline.owesWithin
  rw [show (dats m 0 c).owed t.castSucc = 0 from rfl, show (dats m 0 c).owed t.succ = 0 from rfl]
  unfold PhiS; rw [PhiT0_eq]
  iintro ⟨⟨⟨%A, HA⟩, Hring, Hg, HT⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (runPoint c (V m c main_arg3) (V m c main_arg4) (grid0.coords t) tbM0_0 _ _ _ _ _ _ _ _ _ _ _ _ _ _ _ accM _ (iblk m c 0 t) (iblk m c 1 t) (iblk m c 2 t) (iblk m c 3 t) (iblk m c 4 t) (tbl m 0) (hR c t) _)
  iframe H0 H1 H2 H3 H4
  isplitl [H5]; · iexists _; iexact H5
  isplitl [H6]; · iexists _; iexact H6
  isplitl [HA]; · iexists _; iexact HA
  iframe HT Hring
  isplitl [HW]; · iexists _; iexact HW
  iintro ⟨H0, H1, H2, H3, H4, H5, H6, HA, HT, Hring, ⟨%W', HW⟩⟩
  isplitl [HA Hring Hg HT]
  · isplitl [HA]; · iexact HA
    iframe Hring Hg HT
  isplitl [HW]
  · iexists W'; isplitr; · ipureintro; exact fun _ _ => Or.inl trivial
    iexact HW
  iframe H0 H1 H2 H3 H4
  isplitl [H5]; · unfold res; iexact H5
  unfold res; iexact H6

/-- The body meets what the launch asks of it at every point. -/
theorem body_obligation (hR : GoodAll m) (c : Dev nD) : BodyObligation (dats (F := F) m 0 c) (defs₀ (F := F)) 𝒱₀ () Set.univ := fun t => by
  rw [bigSep_W0, bigSep_W0, defs₀_row m]
  exact triple_restated (sound_body m hR c t) rfl .rfl fun _ => .rfl

/-! ## The launch -/

/-- The arrays left in HBM are among those with no window. -/
theorem Hsub : ({main_arg3, main_arg4} : Finset (Ref sig .tc)) ⊆ Pipeline.restRefsP sig pre0 spec0 := by decide

/-- The launch's scratch memory, one by one. -/
theorem scoped_open (c : Dev nD) : (Pipeline.scopedRest (Ix := Unit) (Name := ℕ) (U := UU nD τ) (Lvl := ℕ) (Val := Elt F) spec0 c : sProp 𝕄)
    = iprop((∃ d, owns (c : Thread nD τ) accM fullShare d) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) := by
  rw [scopedRest0_eq]; simp only [accM, owns_whole]; try rfl
/-- The arrays left in HBM, one by one. -/
theorem held_open (c : Dev nD) : (bigSep {main_arg3, main_arg4} (fun b : Ref sig .tc => (((c : Thread nD τ).loc b) ↦{fullShare} V m c b : sProp 𝕄)))
    = iprop((((c : Thread nD τ).loc main_arg3) ↦{fullShare} V m c main_arg3) ∗ (((c : Thread nD τ).loc main_arg4) ↦{fullShare} V m c main_arg4)) := by
  rw [bigSep_insert (by decide), bigSep_singleton]; rfl
/-- What the launch holds besides its windows, one by one. -/
theorem ΦD_open (c : Dev nD) : (Pipeline.ΦD (Val := Elt F) osem spec0 {main_arg3, main_arg4} (V m) c : sProp 𝕄)
    = iprop(((∃ d, owns (c : Thread nD τ) accM fullShare d) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
      ∗ (∃ r, prngReg c r) ∗ (cellP c 0 0 ∗ cellP c 0 1 ∗ cellP c 1 0 ∗ cellP c 1 1) ∗ (((c : Thread nD τ).loc main_arg3) ↦{fullShare} V m c main_arg3) ∗ (((c : Thread nD τ).loc main_arg4) ↦{fullShare} V m c main_arg4)) := by
  rw [← held_open, ← ownSems0_eq, ← scoped_open]; rfl

/-- What the launch starts with gives the first point's invariant. -/
theorem hin_aux (c : Dev nD) : iprop(Pipeline.ΦD (Val := Elt F) osem spec0 {main_arg3, main_arg4} (V m) c ∗ Pipeline.ΦT pre0 (tbl m) c) ⊢ (PhiS m c : sProp 𝕄) := by
  rw [ΦD_open]
  unfold PhiS ringP srcP
  iintro ⟨⟨⟨H0, Hb, Lb⟩, Hg, ⟨C0, C1, C2, C3⟩, ⟨Hh, Hl⟩⟩, HT⟩
  ihave Hs := (hbuf_split c) $$ Hb
  icases Hs with ⟨Hs0, Hs1⟩
  ihave Ls := (lbuf_split c) $$ Lb
  icases Ls with ⟨Ls0, Ls1⟩
  ihave Hq := (hi_halves c _).1 $$ Hh
  icases Hq with ⟨Hq0, Hq1⟩
  ihave Lq := (lo_halves c _).1 $$ Hl
  icases Lq with ⟨Lq0, Lq1⟩
  isplitl [H0]; · iexact H0
  isplitr [Hg HT]
  · isplitl [Hq0 Hq1 Lq0 Lq1]
    · isplitl [Hq0]; · iexact Hq0
      iframe Hq1 Lq0 Lq1
    iframe Hs0 Hs1 Ls0 Ls1 C0 C1 C2 C3
  iframe Hg HT
/-- What the launch starts with gives the first point's invariant. -/
theorem hin (c : Dev nD) : iprop(Pipeline.ΦD (Val := Elt F) osem spec0 {main_arg3, main_arg4} (V m) c ∗ Pipeline.ΦT pre0 (tbl m) c) ⊢ ((dats m 0 c).Φ 0 : sProp 𝕄) := hin_aux m c

/-- The last point's invariant gives back what the launch started with. -/
theorem hout_aux (c : Dev nD) : (PhiS m c : sProp 𝕄) ⊢ Pipeline.ΦD (Val := Elt F) osem spec0 {main_arg3, main_arg4} (V m) c := by
  rw [ΦD_open]
  unfold PhiS ringP srcP
  iintro ⟨H0, ⟨⟨Hq0, Hq1, Lq0, Lq1⟩, Hs0, Hs1, Ls0, Ls1, C0, C1, C2, C3⟩, Hg, -⟩
  isplitl [H0 Hs0 Hs1 Ls0 Ls1]
  · isplitl [H0]; · iexact H0
    isplitl [Hs0 Hs1]
    · iapply (hbuf_join c)
      iframe Hs0 Hs1
    iapply (lbuf_join c)
    iframe Ls0 Ls1
  isplitl [Hg]; · iexact Hg
  isplitl [C0 C1 C2 C3]
  · isplitl [C0]; · iexact C0
    iframe C1 C2 C3
  isplitl [Hq0 Hq1]
  · iapply (hi_halves c _).2
    iframe Hq0 Hq1
  iapply (lo_halves c _).2
  iframe Lq0 Lq1
/-- The last point's invariant gives back what the launch started with. -/
theorem hout (c : Dev nD) : ((dats m 0 c).Φ (Fin.last (cfgM m).N) : sProp 𝕄) ⊢ Pipeline.ΦD (Val := Elt F) osem spec0 {main_arg3, main_arg4} (V m) c := hout_aux m c

set_option backward.isDefEq.respectTransparency.types false in
/-- Every weakly fair execution terminates, the arrays at what the pipeline computes of the proof data, every other
    unscoped buffer as launched, every semaphore counter at zero. -/
theorem run_main (hR : GoodAll m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem defs₀ 𝒱₀ ownSemFacts {main_arg3, main_arg4} Hsub m ρ main
    (hbody := fun c => (body_obligation m hR c).loose) (hshare := fun c => (dats m 0 c).share_full fun _ => rfl)
    (howed := fun _ _ => rfl) (V := V m) (hmain := hmain m 𝒱₀) (hA := A_eq m) (hpf := V_pre m) (hin := hin m) (hout := hout m)

/-- The run, result arrays first: the two outputs at what the pipeline leaves, the arguments as launched. -/
theorem run_all (hR : GoodAll m) : θ_run defs (onTc (τ := τ) (main (F := F))) ⟨m, fun _ => 0, ρ⟩ (fun r => (∀ c : Dev nD,
      r.2.mem ((c.tc : Thread nD τ).loc main_v0_0) = (dats m 0 c).arrAt 5 (cfgM m).N
      ∧ r.2.mem ((c.tc : Thread nD τ).loc main_v0_1) = (dats m 0 c).arrAt 6 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 5, (h.1 c).1 6,
    (h.1 c).2 main_arg0 (by decide : main_arg0 ∈ Pipeline.restRefs sig spec0),
    ((h.1 c).1 0).trans ((dats m 0 c).arrAt_in 0 rfl _),
    ((h.1 c).1 1).trans ((dats m 0 c).arrAt_in 1 rfl _),
    (h.1 c).2 main_arg3 (by decide : main_arg3 ∈ Pipeline.restRefs sig spec0),
    (h.1 c).2 main_arg4 (by decide : main_arg4 ∈ Pipeline.restRefs sig spec0),
    ((h.1 c).1 2).trans ((dats m 0 c).arrAt_in 2 rfl _),
    ((h.1 c).1 3).trans ((dats m 0 c).arrAt_in 3 rfl _),
    ((h.1 c).1 4).trans ((dats m 0 c).arrAt_in 4 rfl _)⟩, h.2⟩) (run_main m ρ hR)

end Cert.Combine.KernelIdeal

end
-- ==== Proof.CombineRoute.lean ====
/-
  What the precondition on the window starts and the routing says, tile by tile and row by row.
-/
module

public import proofs.«01_k».proof.Proof.Gen.Pre_placed
public import Idealize.ShloMosaic.Lib.Pipeline.ValueKit
public import Idealize.ShloMosaic.Lib.Pointwise

@[expose] public section

namespace Cert.Combine

open Idealize.ShloMosaic Cert.Pre_placed Cert.Pre_placed.Gen

variable {F : FTy → Type} [FloatOps F]

/-- Row `r` of tile `n`, as a token. -/
abbrev trow (n : Fin 32) (r : Fin 512) : Fin 16384 := ⟨n.val * 512 + r.val, by omega⟩
/-- The window of expert `e` for tile `n`, as an entry of the table of starts. -/
abbrev wrow (n : Fin 32) (e : Fin 8) : Fin 256 := ⟨n.val * 8 + e.val, by omega⟩

/-- Every window starts at a multiple of 16 and lies in the array; a token's two experts exist and differ; the row that
    a token has with one of its experts lies in the window its tile has of that expert. -/
structure Placed (win : IVec S256 32) (pos eid : IVec S16384x2 32) : Prop where
  good : ∀ (n : Fin 32) (e : Fin 8), 16 ∣ (win (ix1 (wrow n e))).toNat ∧ (win (ix1 (wrow n e))).toNat ≤ 37248
  expert : ∀ (n : Fin 32) (r : Fin 512) (k : Fin 2), (eid (ix2 (trow n r) k)).toNat < 8
  differ : ∀ (n : Fin 32) (r : Fin 512), eid (ix2 (trow n r) 0) ≠ eid (ix2 (trow n r) 1)
  inside : ∀ (n : Fin 32) (r : Fin 512) (e : Fin 8) (k : Fin 2), eid (ix2 (trow n r) k) = BitVec.ofNat 32 e.val →
    (win (ix1 (wrow n e))).toNat ≤ (pos (ix2 (trow n r) k)).toNat ∧ (pos (ix2 (trow n r) k)).toNat < (win (ix1 (wrow n e))).toNat + 640

/-- The remainder of a word by 16, with the sign of the divisor. -/
def rem16 (w : BitVec 32) : BitVec 32 :=
  let v2 := Scalar.select (IntOp.cmpi .eq 16#32 0#32) 1#32 16#32
  let r := IntOp.remsi .host w v2
  Scalar.select (IntOp.andi (IntOp.cmpi .ne (IntOp.cmpi .slt r 0#32) (IntOp.cmpi .slt v2 0#32)) (IntOp.cmpi .ne r 0#32)) (IntOp.addi r v2) r

/-- A remainder by 16, at an entry. -/
theorem remainder_apply (w : IVec S32x1x8 32) (n : Fin 32) (e : Fin 8) :
    fn_remainder (F := F) w (constantI S_ 32 16#32) (ix3 n 0 e) = rem16 (w (ix3 n 0 e)) := by
  unfold fn_remainder fn_where
  pointwise [rem16]
  rfl

/-- The precondition at an entry. -/
theorem fn_apply (win : IVec S256 32) (pos eid : IVec S16384x2 32) (hi lo x g b) (n : Fin 32) (r : Fin 512) (e : Fin 8) :
    fn (F := F) win pos eid hi lo x g b (ix3 n r e)
      = IntOp.andi (IntOp.andi (IntOp.andi
          (IntOp.andi (IntOp.andi (IntOp.cmpi .sge (win (ix1 (wrow n e))) 0#32) (IntOp.cmpi .sle (win (ix1 (wrow n e))) 37248#32))
            (IntOp.cmpi .eq (rem16 (win (ix1 (wrow n e)))) 0#32))
          (IntOp.ori (IntOp.cmpi .ne (eid (ix2 (trow n r) 0)) (BitVec.ofNat 32 e.val))
            (IntOp.andi (IntOp.cmpi .sge (pos (ix2 (trow n r) 0)) (win (ix1 (wrow n e))))
              (IntOp.cmpi .slt (pos (ix2 (trow n r) 0)) (IntOp.addi (win (ix1 (wrow n e))) 640#32)))))
          (IntOp.ori (IntOp.cmpi .ne (eid (ix2 (trow n r) 1)) (BitVec.ofNat 32 e.val))
            (IntOp.andi (IntOp.cmpi .sge (pos (ix2 (trow n r) 1)) (win (ix1 (wrow n e))))
              (IntOp.cmpi .slt (pos (ix2 (trow n r) 1)) (IntOp.addi (win (ix1 (wrow n e))) 640#32)))))
        (IntOp.andi (IntOp.andi (IntOp.andi (IntOp.andi (IntOp.cmpi .sge (eid (ix2 (trow n r) 0)) 0#32) (IntOp.cmpi .slt (eid (ix2 (trow n r) 0)) 8#32))
            (IntOp.cmpi .sge (eid (ix2 (trow n r) 1)) 0#32)) (IntOp.cmpi .slt (eid (ix2 (trow n r) 1)) 8#32))
          (IntOp.cmpi .ne (eid (ix2 (trow n r) 0)) (eid (ix2 (trow n r) 1)))) := by
  unfold fn fn_part1 fn_part2
  pointwise [remainder_apply]

/-- A word that is not negative, as a natural number. -/
theorem toInt_of_nonneg (w : BitVec 32) (h : 0 ≤ w.toInt) : w.toInt = w.toNat := by
  have hlt := w.isLt
  rw [BitVec.toInt_eq_toNat_cond] at h ⊢
  by_cases hc : 2 * w.toNat < 2 ^ 32
  · rw [if_pos hc]
  · rw [if_neg hc] at h; omega

/-- A word that is not negative and leaves no remainder is a multiple of 16. -/
theorem dvd_of_rem16 (w : BitVec 32) (h : 0 ≤ w.toInt) (e : rem16 w = 0#32) : 16 ∣ w.toNat := by
  have h2 : Scalar.select (IntOp.cmpi .eq 16#32 0#32) 1#32 16#32 = 16#32 := rfl
  have hr : IntOp.remsi .host w 16#32 = w.srem 16#32 := by
    unfold IntOp.remsi; exact if_neg (fun hc => by
      rcases hc with hc | ⟨-, hc⟩
      · exact absurd hc (by decide)
      · exact absurd hc (by decide))
  have ht : (w.srem 16#32).toInt = (w.toNat % 16 : ℕ) := by
    have h16 : (16#32 : BitVec 32).toInt = (16 : ℕ) := by decide
    rw [BitVec.toInt_srem, toInt_of_nonneg w h, h16, Int.ofNat_tmod]
  unfold rem16 at e
  simp only [h2, hr] at e
  have hs : (w.srem 16#32).slt 0#32 = false := by
    rw [BitVec.slt_eq_decide, ht]; exact decide_eq_false (Int.not_lt.mpr (Int.natCast_nonneg _))
  have h16 : IntOp.cmpi .slt 16#32 0#32 = 0#1 := rfl
  have hc : IntOp.cmpi .slt (w.srem 16#32) 0#32 = 0#1 := congrArg BitVec.ofBool hs
  rw [hc, h16] at e
  have hz : ∀ p : BitVec 1, IntOp.andi (IntOp.cmpi .ne 0#1 0#1) p = 0#1 := by decide
  rw [hz] at e
  have e' : w.srem 16#32 = 0#32 := e
  rw [e'] at ht
  have : (0 : ℤ) = (w.toNat % 16 : ℕ) := ht
  omega

/-- The precondition, decoded. -/
theorem placed_of_pre (win : IVec S256 32) (pos eid : IVec S16384x2 32) (hi lo x g b)
    (h : fn (F := F) win pos eid hi lo x g b = fun _ => 1#1) : Placed win pos eid := by
  have ha : ∀ p q : Bool, IntOp.andi (BitVec.ofBool p) (BitVec.ofBool q) = BitVec.ofBool (p && q) := by decide
  have hoo : ∀ p q : Bool, IntOp.ori (BitVec.ofBool p) (BitVec.ofBool q) = BitVec.ofBool (p || q) := by decide
  have ho : ∀ p : Bool, BitVec.ofBool p = 1#1 ↔ p = true := by decide
  have key : ∀ (n : Fin 32) (r : Fin 512) (e : Fin 8),
      ((0 ≤ (win (ix1 (wrow n e))).toInt ∧ (win (ix1 (wrow n e))).toInt ≤ 37248) ∧ rem16 (win (ix1 (wrow n e))) = 0#32)
      ∧ (∀ k : Fin 2, (eid (ix2 (trow n r) k) ≠ BitVec.ofNat 32 e.val ∨
          ((win (ix1 (wrow n e))).toInt ≤ (pos (ix2 (trow n r) k)).toInt ∧ (pos (ix2 (trow n r) k)).toInt < (win (ix1 (wrow n e)) + 640#32).toInt))
        ∧ 0 ≤ (eid (ix2 (trow n r) k)).toInt ∧ (eid (ix2 (trow n r) k)).toInt < 8)
      ∧ eid (ix2 (trow n r) 0) ≠ eid (ix2 (trow n r) 1) := fun n r e => by
    have q := congrFun h (ix3 n r e)
    rw [fn_apply] at q
    simp only [IntOp.cmpi, IntOp.addi, ha, hoo, ho, Bool.and_eq_true, Bool.or_eq_true, Bool.not_eq_true', bne_iff_ne, beq_iff_eq, BitVec.sle_eq_decide, BitVec.slt_eq_decide, decide_eq_true_eq] at q
    obtain ⟨⟨⟨⟨⟨q1, q2⟩, q3⟩, q4⟩, q5⟩, ⟨⟨⟨q6, q7⟩, q8⟩, q9⟩, q10⟩ := q
    refine ⟨⟨⟨q1, q2⟩, q3⟩, fun k => ?_, q10⟩
    fin_cases k
    · exact ⟨q4, q6, q7⟩
    · exact ⟨q5, q8, q9⟩
  have good : ∀ (n : Fin 32) (e : Fin 8), 16 ∣ (win (ix1 (wrow n e))).toNat ∧ (win (ix1 (wrow n e))).toNat ≤ 37248 := fun n e => by
    obtain ⟨⟨⟨q1, q2⟩, q3⟩, -⟩ := key n 0 e
    refine ⟨dvd_of_rem16 _ q1 q3, ?_⟩
    rw [toInt_of_nonneg _ q1] at q2; omega
  refine ⟨good, fun n r k => ?_, fun n r => (key n r 0).2.2, fun n r e k hk => ?_⟩
  · obtain ⟨-, q1, q2⟩ := (key n r 0).2.1 k
    rw [toInt_of_nonneg _ q1] at q2; omega
  · obtain ⟨⟨⟨q1, q2⟩, -⟩, q3, -⟩ := key n r e
    rcases (q3 k).1 with q | ⟨q4, q5⟩
    · exact absurd hk q
    · have hg := (good n e).2
      have hp := toInt_of_nonneg _ (le_trans q1 q4)
      have hw : (win (ix1 (wrow n e)) + 640#32).toNat = (win (ix1 (wrow n e))).toNat + 640 := by
        rw [BitVec.toNat_add]; show ((win (ix1 (wrow n e))).toNat + 640) % 2 ^ 32 = _; omega
      have hw' : (win (ix1 (wrow n e)) + 640#32).toInt = ((win (ix1 (wrow n e))).toNat + 640 : ℕ) := by
        rw [BitVec.toInt_eq_toNat_cond, hw, if_pos (by omega)]
      rw [hw', hp] at q5
      rw [hp, toInt_of_nonneg _ q1] at q4
      omega

end Cert.Combine
-- ==== Proof.CombineFI.lean ====
/-
  The combining kernel's frame: the window starts the precondition admits lie in the row arrays at whole words, so every
  execution terminates, with the arguments as launched and the counters at zero.
-/
module

public import proofs.«01_k».proof.Proof.CombineLI
public import proofs.«01_k».proof.Proof.CombineRoute
public import proofs.«01_k».proof.Defs

@[expose] public section

set_option maxRecDepth 16384

noncomputable section

namespace Cert.Combine.KernelIdeal

open Cert.Kernel6Ideal Cert.Kernel6Ideal.Gen
open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The launch memory's window starts, positions and experts, typed. -/
abbrev winA (c : Dev nD) : IVec S256 32 := m ((c : Thread nD τ).loc main_arg0)
abbrev posA (c : Dev nD) : IVec S16384x2 32 := m ((c : Thread nD τ).loc main_arg1)
abbrev eidA (c : Dev nD) : IVec S16384x2 32 := m ((c : Thread nD τ).loc main_arg2)

/-- The launch memory's windows hold its tokens' rows. -/
abbrev PlacedM : Prop := ∀ c : Dev nD, Placed (winA m c) (posA m c) (eidA m c)

abbrev tileOf (i : grid0.Coords) : Fin 32 := i 0

/-- The table's word of a tile and an expert. -/
theorem wd_at (c : Dev nD) (i : grid0.Coords) (e : Fin 8) (xt : IVec S256 32) : wd (F := F) c i tbM0_0 xt e = xt (ix1 (wrow (tileOf i) e)) := by
  show xt _ = xt _
  congr 1
  funext a; fin_cases a
  exact Fin.ext rfl
/-- The word a point reads for an expert. -/
theorem wd_eq (c : Dev nD) (t : Fin grid0.N) (e : Fin 8) : wd c (grid0.coords t) tbM0_0 (tbl m 0) e = winA m c (ix1 (wrow (tileOf (grid0.coords t)) e)) := by
  obtain rfl : c = 0 := Subsingleton.elim _ _
  exact wd_at (F := F) 0 _ e (winA m 0)

/-- Every word a point reads is a good window's, by the precondition. -/
theorem goodAll (hP : PlacedM m) : GoodAll m := fun c t e => by
  rw [wd_eq]
  exact (hP c).good _ e

end Cert.Combine.KernelIdeal

namespace Cert.Combine

open Idealize.ShloMosaic Idealize.SL Idealize.SL.Sem

/-- The frame: under the precondition every execution terminates, the arguments as launched, the counters at zero. -/
theorem frame_Kernel6Ideal : quiescent_Kernel6Ideal := fun m ρ hP => by
  have hR : KernelIdeal.PlacedM m := fun c => placed_of_pre _ _ _ _ _ _ _ _ (hP c)
  exact (θ_run _ _ _).mono (fun _ h => ⟨fun c => (h.1 c).2.2, h.2⟩) (KernelIdeal.run_all m ρ (KernelIdeal.goodAll m hR))

end Cert.Combine

end
-- ==== Proof.CombineV.lean ====
/-
  The combining kernel's values over the extended reals: the indicator picks, among the rows of an expert's window, the
  row a token has with that expert; over the eight experts the accumulator gains the token's two rows.
-/
module

public import proofs.«01_k».proof.Proof.CombineD
public import proofs.«01_k».proof.Proof.Dense
public import Idealize.ShloMosaic.Lib.Pointwise
public import Idealize.ShloMosaic.Lib.IdealHost

@[expose] public section

set_option maxRecDepth 16384

noncomputable section

namespace Cert.Combine.KernelIdeal

open Cert.Kernel6Ideal Cert.Kernel6Ideal.Gen
open Cert.Dense (lnAt)
open Idealize.ShloMosaic
open Idealize.ShloMosaic.TcCoe

/-- The row of an expert's window that a token names, -1 (which names none) if it is another expert's. -/
def pick (n p w e : BitVec 32) : BitVec 32 := Scalar.select (IntOp.cmpi .eq e n) (IntOp.subi p w) 4294967295#32
/-- The place in the window of a token's row with its own expert. -/
theorem pick_own (n p w e : BitVec 32) (h : e = n) (h1 : w.toNat ≤ p.toNat) : (pick n p w e).toNat = p.toNat - w.toNat := by
  subst h
  show (if BitVec.ofBool (e == e) = 1#1 then p - w else 4294967295#32 : BitVec 32).toNat = _
  rw [beq_self_eq_true, if_pos (by decide)]
  exact BitVec.toNat_sub_of_le h1
/-- With another expert there is no place. -/
theorem pick_other (n p w e : BitVec 32) (h : e ≠ n) : (pick n p w e).toNat = 4294967295 := by
  show (if BitVec.ofBool (e == n) = 1#1 then p - w else 4294967295#32 : BitVec 32).toNat = _
  rw [beq_eq_false_iff_ne.mpr h, if_neg (by decide)]; rfl

/-- A choice by either of two equalities. -/
theorem select_or (a b c d : BitVec 32) (x y : EReal) :
    Scalar.select (IntOp.ori (IntOp.cmpi .eq a b) (IntOp.cmpi .eq c d)) x y = if a = b ∨ c = d then x else y := by
  have ho : ∀ p q : Bool, IntOp.ori (BitVec.ofBool p) (BitVec.ofBool q) = BitVec.ofBool (p || q) := by decide
  show (if IntOp.ori (BitVec.ofBool (a == b)) (BitVec.ofBool (c == d)) = 1#1 then x else y) = _
  rw [ho]
  by_cases h : a = b ∨ c = d
  · rw [if_pos h, if_pos]
    have : (a == b || c == d) = true := by simpa using h
    rw [this]; rfl
  · rw [if_neg h, if_neg]
    have : (a == b || c == d) = false := by simpa using h
    rw [this]; decide

/-- The indicator, at an index. -/
theorem oh_apply (n : BitVec 32) (p0 p1 : Vec Ideal S512x1 .i32) (w : BitVec 32) (e0 e1 : Vec Ideal S512x1 .i32) (t : Fin 512) (r : Fin 640) :
    (ohV (F := Ideal) n p0 p1 w e0 e1 : S512x640.Idx → EReal) (ix2 t r)
      = if BitVec.ofNat 32 r.val = pick n (p0 (ix2 t 0)) w (e0 (ix2 t 0)) ∨ BitVec.ofNat 32 r.val = pick n (p1 (ix2 t 0)) w (e1 (ix2 t 0)) then 1 else 0 := by
  pointwise [ohV]
  exact select_or _ _ _ _ _ _

/-- One expert's step, at an index. -/
theorem step_apply (n : BitVec 32) (p0 p1 : Vec Ideal S512x1 .i32) (w : BitVec 32) (e0 e1 : Vec Ideal S512x1 .i32) (A : Vec Ideal S512x1024 .f32)
    (h l : Vec Ideal S1x640x1024 .bf16) (t : Fin 512) (d : Fin 1024) :
    stepV (F := Ideal) n p0 p1 w e0 e1 A h l (ix2 t d)
      = A (ix2 t d) + ((∑ r : Fin 640, (ohV (F := Ideal) n p0 p1 w e0 e1 : S512x640.Idx → EReal) (ix2 t r) * h (ix3 0 r d))
        + ∑ r : Fin 640, (ohV (F := Ideal) n p0 p1 w e0 e1 : S512x640.Idx → EReal) (ix2 t r) * l (ix3 0 r d)) := by
  pointwise [stepV]

/-- The scaled residual, at an entry. -/
theorem pay2_apply (x : Vec Ideal S512x1024 .f32) (t : Fin 512) (d : Fin 1024) :
    k0_pay2 (F := Ideal) x (ix2 t d) = Ideal.ofBits .f32 1071072509#32 * x (ix2 t d) := by
  pointwise [k0_pay2]

/-- The stored result, at an entry: the layer norm of the accumulator's row. -/
theorem pay26_apply (a : Vec Ideal S512x1024 .f32) (g b : Vec Ideal S1x1024 .f32) (t : Fin 512) (d : Fin 1024) :
    k0_pay26 (F := Ideal) a g b (ix2 t d) = lnAt (fun j => a (ix2 t j)) (g (ix2 0 d)) (b (ix2 0 d)) d := by
  pointwise [k0_pay26, lnAt]

/-- The second result stored is the first, at an entry. -/
theorem pay1_apply (a : Vec Ideal S512x1024 .f32) (t : Fin 512) (d : Fin 1024) :
    (k0_pay1 (F := Ideal) a : S512x1024.Idx → EReal) (ix2 t d) = a (ix2 t d) := by
  pointwise [k0_pay1]

/-! ## The sums -/

/-- A sum weighted by the indicator of one entry. -/
theorem sum_one (P : Fin 640 → Prop) [DecidablePred P] (X : Fin 640 → EReal) (r0 : Fin 640) (h : ∀ r, P r ↔ r = r0) :
    ∑ r : Fin 640, (if P r then (1 : EReal) else 0) * X r = X r0 := by
  rw [Finset.sum_eq_single r0]
  · rw [if_pos ((h r0).mpr rfl), one_mul]
  · intro r _ hr; rw [if_neg (fun q => hr ((h r).mp q)), zero_mul]
  · intro q; exact absurd (Finset.mem_univ _) q
/-- A one-hot sum with no place is zero. -/
theorem sum_none (P : Fin 640 → Prop) [DecidablePred P] (X : Fin 640 → EReal) (h : ∀ r, ¬ P r) :
    ∑ r : Fin 640, (if P r then (1 : EReal) else 0) * X r = 0 :=
  Finset.sum_eq_zero fun r _ => by rw [if_neg (h r), zero_mul]

section Token
variable (XH XL : S37888x1024.Idx → EReal) (w : Fin 8 → BitVec 32) (x2 x3 : Vec Ideal S512x2 .i32) (x6 : Vec Ideal S512x1024 .f32) (t : Fin 512)
  (hw : ∀ e, (w e).toNat ≤ 37248) (h8 : ∀ k : Fin 2, (x3 (ix2 t k) : BitVec 32).toNat < 8) (hne : x3 (ix2 t 0) ≠ x3 (ix2 t 1))
  (hin : ∀ (e : Fin 8) (k : Fin 2), x3 (ix2 t k) = BitVec.ofNat 32 e.val →
    (w e).toNat ≤ (x2 (ix2 t k) : BitVec 32).toNat ∧ (x2 (ix2 t k) : BitVec 32).toNat < (w e).toNat + 640)

/-- The row a token names first or second, the two halves added. -/
def rowV (k : Fin 2) (d : Fin 1024) : EReal :=
  XH (ix2 (rowI (x2 (ix2 t k) : BitVec 32).toNat) d) + XL (ix2 (rowI (x2 (ix2 t k) : BitVec 32).toNat) d)

include hw h8 hne hin in
/-- One expert's gain: the token's row with it, if it is one of the token's two. -/
theorem gain (e : Fin 8) (d : Fin 1024) :
    (∑ r : Fin 640, (ohV (F := Ideal) (BitVec.ofNat 32 e.val) (colV x2 0) (colV x2 1) (w e) (colV x3 0) (colV x3 1) : S512x640.Idx → EReal) (ix2 t r) * rowsV (F := Ideal) XH (w e) (ix3 0 r d))
      + (∑ r : Fin 640, (ohV (F := Ideal) (BitVec.ofNat 32 e.val) (colV x2 0) (colV x2 1) (w e) (colV x3 0) (colV x3 1) : S512x640.Idx → EReal) (ix2 t r) * rowsV (F := Ideal) XL (w e) (ix3 0 r d))
      = (if e.val = (x3 (ix2 t 0) : BitVec 32).toNat then rowV XH XL x2 t 0 d else 0) + (if e.val = (x3 (ix2 t 1) : BitVec 32).toNat then rowV XH XL x2 t 1 d else 0) := by
  simp only [oh_apply]
  have hwe := hw e
  have c0 : (colV (F := Ideal) x2 0 (ix2 t 0) : BitVec 32) = x2 (ix2 t 0) := rfl
  have c1 : (colV (F := Ideal) x2 1 (ix2 t 0) : BitVec 32) = x2 (ix2 t 1) := rfl
  have c2 : (colV (F := Ideal) x3 0 (ix2 t 0) : BitVec 32) = x3 (ix2 t 0) := rfl
  have c3 : (colV (F := Ideal) x3 1 (ix2 t 0) : BitVec 32) = x3 (ix2 t 1) := rfl
  rw [c0, c1, c2, c3]
  have key : ∀ k : Fin 2, (e.val = (x3 (ix2 t k) : BitVec 32).toNat ↔ x3 (ix2 t k) = BitVec.ofNat 32 e.val) := fun k => by
    have := e.isLt
    constructor
    · intro h; apply BitVec.eq_of_toNat_eq; rw [BitVec.toNat_ofNat, ← h]; omega
    · intro h; rw [h, BitVec.toNat_ofNat]; omega
  have own : ∀ (k : Fin 2), x3 (ix2 t k) = BitVec.ofNat 32 e.val → ∃ r0 : Fin 640, (rowI ((w e).toNat + r0.val) = rowI (x2 (ix2 t k) : BitVec 32).toNat)
      ∧ ∀ r : Fin 640, (BitVec.ofNat 32 r.val = pick (BitVec.ofNat 32 e.val) (x2 (ix2 t k)) (w e) (x3 (ix2 t k)) ↔ r = r0) := fun k hk => by
    obtain ⟨h1, h2⟩ := hin e k hk
    have hp := pick_own (BitVec.ofNat 32 e.val) (x2 (ix2 t k)) (w e) (x3 (ix2 t k)) hk h1
    refine ⟨⟨(x2 (ix2 t k) : BitVec 32).toNat - (w e).toNat, by omega⟩, congrArg rowI (Nat.add_sub_of_le h1), fun r => ?_⟩
    have hr := r.isLt
    constructor
    · intro h
      apply Fin.ext
      have h' := congrArg BitVec.toNat h
      rw [hp, BitVec.toNat_ofNat] at h'
      show r.val = (x2 (ix2 t k) : BitVec 32).toNat - (w e).toNat
      omega
    · rintro rfl
      apply BitVec.eq_of_toNat_eq
      rw [hp, BitVec.toNat_ofNat]
      show ((x2 (ix2 t k) : BitVec 32).toNat - (w e).toNat) % 2 ^ 32 = _
      omega
  have other : ∀ (k : Fin 2), x3 (ix2 t k) ≠ BitVec.ofNat 32 e.val → ∀ r : Fin 640, BitVec.ofNat 32 r.val ≠ pick (BitVec.ofNat 32 e.val) (x2 (ix2 t k)) (w e) (x3 (ix2 t k)) := fun k hk r h => by
    have h' := congrArg BitVec.toNat h
    have hr := r.isLt
    rw [pick_other _ _ _ _ hk, BitVec.toNat_ofNat] at h'
    omega
  by_cases q0 : x3 (ix2 t 0) = BitVec.ofNat 32 e.val
  · have q1 : x3 (ix2 t 1) ≠ BitVec.ofNat 32 e.val := fun h => hne (q0.trans h.symm)
    rw [if_pos ((key 0).mpr q0), if_neg (fun h => q1 ((key 1).mp h)), add_zero]
    obtain ⟨r0, hr, hu⟩ := own 0 q0
    rw [sum_one _ _ r0 (fun r => ⟨fun h => (hu r).mp (h.resolve_right (other 1 q1 r)), fun h => .inl ((hu r).mpr h)⟩),
      sum_one _ _ r0 (fun r => ⟨fun h => (hu r).mp (h.resolve_right (other 1 q1 r)), fun h => .inl ((hu r).mpr h)⟩)]
    show XH (ix2 (rowI ((w e).toNat + r0.val)) d) + XL (ix2 (rowI ((w e).toNat + r0.val)) d) = _
    rw [hr]; rfl
  · rw [if_neg (fun h => q0 ((key 0).mp h)), zero_add]
    by_cases q1 : x3 (ix2 t 1) = BitVec.ofNat 32 e.val
    · rw [if_pos ((key 1).mpr q1)]
      obtain ⟨r0, hr, hu⟩ := own 1 q1
      rw [sum_one _ _ r0 (fun r => ⟨fun h => (hu r).mp (h.resolve_left (other 0 q0 r)), fun h => .inr ((hu r).mpr h)⟩),
        sum_one _ _ r0 (fun r => ⟨fun h => (hu r).mp (h.resolve_left (other 0 q0 r)), fun h => .inr ((hu r).mpr h)⟩)]
      show XH (ix2 (rowI ((w e).toNat + r0.val)) d) + XL (ix2 (rowI ((w e).toNat + r0.val)) d) = _
      rw [hr]; rfl
    · rw [if_neg (fun h => q1 ((key 1).mp h)), sum_none _ _ (fun r h => h.elim (other 0 q0 r) (other 1 q1 r)),
        sum_none _ _ (fun r h => h.elim (other 0 q0 r) (other 1 q1 r)), add_zero]

/-- One of eight terms, the others zero. -/
theorem pick_sum (n : ℕ) (hn : n < 8) (y : EReal) : (∑ e : Fin 8, if e.val = n then y else 0) = y := by
  rw [Finset.sum_eq_single (⟨n, hn⟩ : Fin 8)]
  · rw [if_pos rfl]
  · intro e _ he; exact if_neg fun h => he (Fin.ext h)
  · intro q; exact absurd (Finset.mem_univ _) q

/-- The same for a term chosen by its index. -/
theorem pick_sum' (k : Fin 8) (f : Fin 8 → EReal) : (∑ e : Fin 8, if e = k then f e else 0) = f k := by
  rw [Finset.sum_eq_single k]
  · rw [if_pos rfl]
  · intro e _ he; exact if_neg he
  · intro q; exact absurd (Finset.mem_univ _) q

/-- What an expert adds to a token's entry. -/
def gainV (d : Fin 1024) (e : Fin 8) : EReal :=
  (if e.val = (x3 (ix2 t 0) : BitVec 32).toNat then rowV XH XL x2 t 0 d else 0) + (if e.val = (x3 (ix2 t 1) : BitVec 32).toNat then rowV XH XL x2 t 1 d else 0)

include hw h8 hne hin in
/-- The accumulator after the eight experts: the scaled residual and the token's two rows. -/
theorem acc_apply (d : Fin 1024) :
    accV (F := Ideal) XH XL w x2 x3 x6 8 (ix2 t d)
      = Ideal.ofBits .f32 1071072509#32 * x6 (ix2 t d) + (rowV XH XL x2 t 0 d + rowV XH XL x2 t 1 d) := by
  have st : ∀ e : Fin 8, accV (F := Ideal) XH XL w x2 x3 x6 (e.val + 1) (ix2 t d) = accV (F := Ideal) XH XL w x2 x3 x6 e.val (ix2 t d)
      + gainV XH XL x2 x3 t d e := fun e => by
    have he : Fin.ofNat 8 e.val = e := Fin.ext (Nat.mod_eq_of_lt e.isLt)
    show stepV (F := Ideal) (BitVec.ofNat 32 e.val) (colV x2 0) (colV x2 1) (w (Fin.ofNat 8 e.val)) (colV x3 0) (colV x3 1) (accV XH XL w x2 x3 x6 e.val) (rowsV XH (w (Fin.ofNat 8 e.val))) (rowsV XL (w (Fin.ofNat 8 e.val))) (ix2 t d) = _
    rw [he, step_apply, gain XH XL w x2 x3 t hw h8 hne hin e d]; rfl
  have all : ∀ k : ℕ, k ≤ 8 → accV (F := Ideal) XH XL w x2 x3 x6 k (ix2 t d)
      = Ideal.ofBits .f32 1071072509#32 * x6 (ix2 t d) + ∑ e : Fin 8, if e.val < k then gainV XH XL x2 x3 t d e else 0 := fun k => by
    induction k with
    | zero =>
      intro _
      rw [Finset.sum_eq_zero (fun e _ => if_neg (Nat.not_lt_zero e.val)), add_zero]
      exact pay2_apply x6 t d
    | succ k ih =>
      intro hk
      rw [st ⟨k, hk⟩, ih (Nat.le_of_succ_le hk), add_assoc]
      congr 1
      rw [← pick_sum' ⟨k, hk⟩ (gainV XH XL x2 x3 t d), ← Finset.sum_add_distrib]
      refine Finset.sum_congr rfl fun e _ => ?_
      by_cases h : e = ⟨k, hk⟩
      · subst h
        rw [if_neg (Nat.lt_irrefl k), if_pos rfl, if_pos (Nat.lt_succ_self k), zero_add]
      · have hv : e.val ≠ k := fun q => h (Fin.ext q)
        rw [if_neg h, add_zero]
        by_cases h2 : e.val < k
        · rw [if_pos h2, if_pos (Nat.lt_succ_of_lt h2)]
        · rw [if_neg h2, if_neg (by omega)]
  rw [all 8 le_rfl]
  congr 1
  rw [Finset.sum_congr rfl (fun e _ => if_pos e.isLt)]
  show (∑ e : Fin 8, ((if e.val = (x3 (ix2 t 0) : BitVec 32).toNat then rowV XH XL x2 t 0 d else 0) + (if e.val = (x3 (ix2 t 1) : BitVec 32).toNat then rowV XH XL x2 t 1 d else 0))) = _
  rw [Finset.sum_add_distrib, pick_sum _ (h8 0), pick_sum _ (h8 1)]
end Token

end Cert.Combine.KernelIdeal

end
-- ==== Proof.CombineA.lean ====
/-
  The combining kernel's two result arrays: at each entry the layer norm of the scaled residual and the two rows the token
  names, each row the sum of its two halves.
-/
module

public import proofs.«01_k».proof.Proof.CombineFI
public import proofs.«01_k».proof.Proof.CombineV
public import Idealize.ShloMosaic.Lib.Pipeline.ReadBack

@[expose] public section

set_option maxRecDepth 16384

noncomputable section

namespace Cert.Combine.KernelIdeal

open Cert.Kernel6Ideal Cert.Kernel6Ideal.Gen
open Cert.Dense (lnAt)
open Idealize.ShloMosaic
open Idealize.ShloMosaic.TcCoe
open Idealize.ShloMosaic.Pipeline (Dat)

variable (m : (ℓ : Loc nD τ sig) → Buf (Elt Ideal) ℓ)

/-- The launch's arrays, each at its type. -/
abbrev hiA (c : Dev nD) : S37888x1024.Idx → EReal := m ((c : Thread nD τ).loc main_arg3)
abbrev loA (c : Dev nD) : S37888x1024.Idx → EReal := m ((c : Thread nD τ).loc main_arg4)
abbrev xA (c : Dev nD) : S16384x1024.Idx → EReal := m ((c : Thread nD τ).loc main_arg5)
abbrev gA (c : Dev nD) : S1x1024.Idx → EReal := m ((c : Thread nD τ).loc main_arg6)
abbrev bA (c : Dev nD) : S1x1024.Idx → EReal := m ((c : Thread nD τ).loc main_arg7)

/-- A point's block of tokens. -/
theorem coords0 (t : Fin grid0.N) : (grid0.coords t 0).val = t.val := by
  have ht : t.val < 32 := t.isLt
  have e0 : (grid0.coords t 0).val = t.val / 1 % 32 := Pipeline.Grid.coords_val t 0 (by decide) rfl
  omega
/-- A tile's number as a word. -/
theorem tile_word (i : grid0.Coords) : (BitVec.ofNat 32 (i 0).val).toNat = (i 0).val := by
  have h : (i 0).val < 32 := (i 0).isLt
  rw [BitVec.toNat_ofNat, Nat.mod_eq_of_lt (by omega)]

/-- Window 0's index map. -/
theorem i0 (t : Fin (cfgM m).N) : (pcfg0.win (adm m) 0).index t = ![(grid0.coords t 0).val, 0] := by
  rw [← tile_word (grid0.coords t)]; rfl
/-- Window 1's index map. -/
theorem i1 (t : Fin (cfgM m).N) : (pcfg0.win (adm m) 1).index t = ![(grid0.coords t 0).val, 0] := by
  rw [← tile_word (grid0.coords t)]; rfl
/-- Window 2's index map. -/
theorem i2 (t : Fin (cfgM m).N) : (pcfg0.win (adm m) 2).index t = ![(grid0.coords t 0).val, 0] := by
  rw [← tile_word (grid0.coords t)]; rfl
/-- Window 3's index map. -/
theorem i3 (t : Fin (cfgM m).N) : (pcfg0.win (adm m) 3).index t = ![0, 0] := rfl
/-- Window 4's index map. -/
theorem i4 (t : Fin (cfgM m).N) : (pcfg0.win (adm m) 4).index t = ![0, 0] := rfl
/-- Window 5's index map. -/
theorem i5 (t : Fin (cfgM m).N) : (pcfg0.win (adm m) 5).index t = ![(grid0.coords t 0).val, 0] := by
  rw [← tile_word (grid0.coords t)]; rfl
/-- Window 6's index map. -/
theorem i6 (t : Fin (cfgM m).N) : (pcfg0.win (adm m) 6).index t = ![(grid0.coords t 0).val, 0] := by
  rw [← tile_word (grid0.coords t)]; rfl

section Blocks
variable (c : Dev nD) (t : Fin (cfgM m).N)

/-- Window 0's block at a point. -/
theorem b0 (r : Fin 512) (k : Fin 2) : (iblk m c 0 t : Vec Ideal S512x2 .i32) (ix2 r k) = posA m c (ix2 (trow (tileOf (grid0.coords t)) r) k) := by
  have j := i0 m t
  blk_ext [iblk, V]
  case «0» => exact congrArg (· * 512 + r.val) (congrFun j 0)
  case «1» => exact (congrArg (· * 2 + k.val) (congrFun j 1)).trans (by simp)
/-- Window 1's block at a point. -/
theorem b1 (r : Fin 512) (k : Fin 2) : (iblk m c 1 t : Vec Ideal S512x2 .i32) (ix2 r k) = eidA m c (ix2 (trow (tileOf (grid0.coords t)) r) k) := by
  have j := i1 m t
  blk_ext [iblk, V]
  case «0» => exact congrArg (· * 512 + r.val) (congrFun j 0)
  case «1» => exact (congrArg (· * 2 + k.val) (congrFun j 1)).trans (by simp)
/-- Window 2's block at a point. -/
theorem b2 (r : Fin 512) (d : Fin 1024) : (iblk m c 2 t : Vec Ideal S512x1024 .f32) (ix2 r d) = xA m c (ix2 (trow (tileOf (grid0.coords t)) r) d) := by
  have j := i2 m t
  blk_ext [iblk, V]
  case «0» => exact congrArg (· * 512 + r.val) (congrFun j 0)
  case «1» => exact (congrArg (· * 1024 + d.val) (congrFun j 1)).trans (by simp)
/-- Window 3's block at a point. -/
theorem b3 (d : Fin 1024) : (iblk m c 3 t : Vec Ideal S1x1024 .f32) (ix2 0 d) = gA m c (ix2 0 d) := by
  have j := i3 m t
  blk_ext [iblk, V]
  case «0» => exact congrFun j 0
  case «1» => exact (congrArg (· * 1024 + d.val) (congrFun j 1)).trans (by simp)
/-- Window 4's block at a point. -/
theorem b4 (d : Fin 1024) : (iblk m c 4 t : Vec Ideal S1x1024 .f32) (ix2 0 d) = bA m c (ix2 0 d) := by
  have j := i4 m t
  blk_ext [iblk, V]
  case «0» => exact congrFun j 0
  case «1» => exact (congrArg (· * 1024 + d.val) (congrFun j 1)).trans (by simp)
end Blocks

/-- The row a token names, the two halves added. -/
def rowA (c : Dev nD) (q : Fin 16384) (k : Fin 2) (d : Fin 1024) : EReal :=
  hiA m c (ix2 (rowI (posA m c (ix2 q k)).toNat) d) + loA m c (ix2 (rowI (posA m c (ix2 q k)).toNat) d)

/-- The result, of the launch's arrays. -/
def Y (c : Dev nD) : S16384x1024.Idx → EReal := fun i =>
  lnAt (fun j => Ideal.ofBits .f32 1071072509#32 * xA m c (ix2 (i 0) j) + (rowA m c (i 0) 0 j + rowA m c (i 0) 1 j)) (gA m c (ix2 0 (i 1))) (bA m c (ix2 0 (i 1))) (i 1)

/-- The accumulator of a point, at an entry. -/
theorem acc_at (hP : PlacedM m) (c : Dev nD) (t : Fin (cfgM m).N) (r : Fin 512) (d : Fin 1024) :
    accV (F := Ideal) (V m c main_arg3) (V m c main_arg4) (wd c (grid0.coords t) tbM0_0 (tbl m 0)) (iblk m c 0 t) (iblk m c 1 t) (iblk m c 2 t) 8 (ix2 r d)
      = Ideal.ofBits .f32 1071072509#32 * xA m c (ix2 (trow (tileOf (grid0.coords t)) r) d)
        + (rowA m c (trow (tileOf (grid0.coords t)) r) 0 d + rowA m c (trow (tileOf (grid0.coords t)) r) 1 d) := by
  have h := acc_apply (hiA m c) (loA m c) (wd c (grid0.coords t) tbM0_0 (tbl m 0)) (iblk m c 0 t) (iblk m c 1 t) (iblk m c 2 t) r
    (fun e => by rw [wd_eq]; exact ((hP c).good _ e).2)
    (fun k => by rw [b1]; exact (hP c).expert _ r k)
    (by rw [b1, b1]; exact (hP c).differ _ r)
    (fun e k hk => by rw [b1] at hk; rw [b0, wd_eq]; exact (hP c).inside _ r e k hk) d
  refine h.trans ?_
  unfold rowV rowA
  rw [b0, b0, b2]

/-- The layer norm of a row that is known. -/
theorem norm_aux (a : Vec Ideal S512x1024 .f32) (g b : Vec Ideal S1x1024 .f32) (r : Fin 512) (d : Fin 1024) (z : Fin 1024 → EReal) (gv bv : EReal)
    (ha : ∀ j, a (ix2 r j) = z j) (hg : g (ix2 0 d) = gv) (hb : b (ix2 0 d) = bv) : k0_pay26 (F := Ideal) a g b (ix2 r d) = lnAt z gv bv d := by
  rw [pay26_apply, hg, hb]
  simp only [ha]

/-- The stored block of a point, at an entry. -/
theorem res_at (hP : PlacedM m) (c : Dev nD) (t : Fin (cfgM m).N) (r : Fin 512) (d : Fin 1024) :
    res m c t (ix2 r d) = Y m c (ix2 (trow (tileOf (grid0.coords t)) r) d) := by
  unfold res
  exact norm_aux _ _ _ r d _ _ _ (acc_at m hP c t r) (b3 m c t d) (b4 m c t d)

/-- The first output's blocks cover it. -/
theorem covers5 : ((cfgM m).win 5).Covers := by
  refine ⟨(by decide : ∀ a : Fin 2, 0 < S512x1024.size a), fun β => ?_⟩
  have hb : (β (0 : Fin 2)).val < 32 := lt_of_lt_of_eq (β (0 : Fin 2)).isLt (by show (16384 + 512 - 1) / 512 = 32; rfl)
  have hb1 : (β (1 : Fin 2)).val < 1 := lt_of_lt_of_eq (β (1 : Fin 2)).isLt (by show (1024 + 1024 - 1) / 1024 = 1; rfl)
  refine ⟨⟨(β (0 : Fin 2)).val, hb⟩, (by decide +kernel : ∀ t : Fin grid0.N, Pipeline.Window.flushOf grid0 true cc0_transform_7 t = true) _, fun a => ⟨?_, Or.inl rfl⟩⟩
  refine (congrFun (i5 m ⟨_, hb⟩) a).trans ?_
  revert a
  refine fun (a : Fin 2) => ?_
  fin_cases a
  · exact coords0 ⟨_, hb⟩
  · show 0 = (β (1 : Fin 2)).val; omega
/-- The second output's blocks cover it. -/
theorem covers6 : ((cfgM m).win 6).Covers := by
  refine ⟨(by decide : ∀ a : Fin 2, 0 < S512x1024.size a), fun β => ?_⟩
  have hb : (β (0 : Fin 2)).val < 32 := lt_of_lt_of_eq (β (0 : Fin 2)).isLt (by show (16384 + 512 - 1) / 512 = 32; rfl)
  have hb1 : (β (1 : Fin 2)).val < 1 := lt_of_lt_of_eq (β (1 : Fin 2)).isLt (by show (1024 + 1024 - 1) / 1024 = 1; rfl)
  refine ⟨⟨(β (0 : Fin 2)).val, hb⟩, (by decide +kernel : ∀ t : Fin grid0.N, Pipeline.Window.flushOf grid0 true cc0_transform_8 t = true) _, fun a => ⟨?_, Or.inl rfl⟩⟩
  refine (congrFun (i6 m ⟨_, hb⟩) a).trans ?_
  revert a
  refine fun (a : Fin 2) => ?_
  fin_cases a
  · exact coords0 ⟨_, hb⟩
  · show 0 = (β (1 : Fin 2)).val; omega

/-- The f32 result array after the last point. -/
theorem arr5 (hP : PlacedM m) (c : Dev nD) : (dats m 0 c).arrAt 5 (cfgM m).N = Y m c := by
  refine (dats m 0 c).arrAt_eq_of_covers 5 _ (covers5 m) fun t hf y => ?_
  blk_simp
  rw [after0_5]
  revert y
  refine fun (y : S512x1024.Idx) => ?_
  idx_vars y
  have j := i5 m t
  have e : ((View.whole main_v0_0).slice ((pcfg0.win (adm m) 5).rect t)).emb (ix2 y0 y1) = (ix2 (trow (tileOf (grid0.coords t)) y0) y1 : S16384x1024.Idx) := by
    blk_ext []
    case «0» => exact congrArg (· * 512 + y0.val) (congrFun j 0)
    case «1» => exact (congrArg (· * 1024 + y1.val) (congrFun j 1)).trans (by simp)
  refine Eq.trans ?_ (congrArg (Y m c) e).symm
  exact res_at m hP c t y0 y1

/-- The bf16 result array after the last point: over the extended reals the same numbers. -/
theorem arr6 (hP : PlacedM m) (c : Dev nD) : (dats m 0 c).arrAt 6 (cfgM m).N = Y m c := by
  refine (dats m 0 c).arrAt_eq_of_covers 6 _ (covers6 m) fun t hf y => ?_
  blk_simp
  rw [after0_6]
  revert y
  refine fun (y : S512x1024.Idx) => ?_
  idx_vars y
  have j := i6 m t
  have e : ((View.whole main_v0_1).slice ((pcfg0.win (adm m) 6).rect t)).emb (ix2 y0 y1) = (ix2 (trow (tileOf (grid0.coords t)) y0) y1 : S16384x1024.Idx) := by
    blk_ext []
    case «0» => exact congrArg (· * 512 + y0.val) (congrFun j 0)
    case «1» => exact (congrArg (· * 1024 + y1.val) (congrFun j 1)).trans (by simp)
  refine Eq.trans ?_ (congrArg (Y m c) e).symm
  exact (pay1_apply (res m c t) y0 y1).trans (res_at m hP c t y0 y1)

end Cert.Combine.KernelIdeal

end
-- ==== Proof.CombineR.lean ====
/-
  The combining reference's value: at each entry the layer norm of the scaled residual and the two rows the token names,
  each row the sum of its two halves.
-/
module

public import proofs.«01_k».proof.Proof.CombineD
public import proofs.«01_k».proof.Proof.Dense
public import proofs.«01_k».proof.Proof.Gen.Reference6Ideal.Run
public import Idealize.ShloMosaic.Lib.Routing.Ops
public import Idealize.ShloMosaic.Lib.Pointwise
public import Idealize.ShloMosaic.Lib.IdealHost

@[expose] public section

set_option maxRecDepth 16384

noncomputable section

namespace Cert.Combine.R

open Cert.Reference6Ideal Cert.Reference6Ideal.Gen
open Cert.Dense (lnAt)
open Cert.Combine.KernelIdeal (rowI rowI_val)
open Idealize.ShloMosaic Idealize.ShloMosaic.TcCoe

section Parts
variable (hi lo : FVec Ideal S37888x1024 .bf16) (pos : IVec S16384x2 32) (x : FVec Ideal S16384x1024 .f32)

/-- The layer norm of an array's rows, as the reference takes it. -/
def lnR (Z : FVec Ideal S16384x1024 .f32) (g b : FVec Ideal S1x1024 .f32) : FVec Ideal S16384x1024 .f32 :=
  addf (mulf (mulf (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))))) (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 g)) (broadcastInDim S16384x1024 ![0, 1] bcast_S1x1024_S16384x1024_0_1 b)

/-- The two halves added. -/
def both : FVec Ideal S37888x1024 .f32 := addf (extf .f32 hi bitsLt_bf16_f32) (extf .f32 lo bitsLt_bf16_f32)
/-- The number of the row a token names first. -/
def rowIdx0 : IVec S16384x1 32 := (broadcastInDim S16384x1 ![0] bcast_S16384_S16384x1_0 (select (cmpi .slt (shapeCast _ (extractStridedSlice S16384x1 ![0, 0] pos slices_S16384x2_S16384x1_0_0) shapeCasts_S16384x1_S16384) (broadcastInDim S16384 ![] bcast_S_S16384 (constantI S_ 32 0#32))) (addi (shapeCast _ (extractStridedSlice S16384x1 ![0, 0] pos slices_S16384x2_S16384x1_0_0) shapeCasts_S16384x1_S16384) (broadcastInDim S16384 ![] bcast_S_S16384 (constantI S_ 32 37888#32))) (shapeCast _ (extractStridedSlice S16384x1 ![0, 0] pos slices_S16384x2_S16384x1_0_0) shapeCasts_S16384x1_S16384)))
/-- The number of the row a token names second. -/
def rowIdx1 : IVec S16384x1 32 := (broadcastInDim S16384x1 ![0] bcast_S16384_S16384x1_0 (select (cmpi .slt (shapeCast _ (extractStridedSlice S16384x1 ![0, 1] pos slices_S16384x2_S16384x1_0_1) shapeCasts_S16384x1_S16384) (broadcastInDim S16384 ![] bcast_S_S16384 (constantI S_ 32 0#32))) (addi (shapeCast _ (extractStridedSlice S16384x1 ![0, 1] pos slices_S16384x2_S16384x1_0_1) shapeCasts_S16384x1_S16384) (broadcastInDim S16384 ![] bcast_S_S16384 (constantI S_ 32 37888#32))) (shapeCast _ (extractStridedSlice S16384x1 ![0, 1] pos slices_S16384x2_S16384x1_0_1) shapeCasts_S16384x1_S16384)))
/-- The array before the norm. -/
def zz : FVec Ideal S16384x1024 .f32 := (addf (mulf (broadcastInDim S16384x1024 ![] bcast_S_S16384x1024 (constant S_ .f32 0x3FD744FD#32)) x) (addf (Host.gather gather_S37888x1024_S16384x1_S16384x1024_1_0_n_n_0_1_11024 (both hi lo) (rowIdx0 pos)) (Host.gather gather_S37888x1024_S16384x1_S16384x1024_1_0_n_n_0_1_11024 (both hi lo) (rowIdx1 pos))))

/-- The reference's layer norm at an entry. -/
theorem lnR_apply (Z : FVec Ideal S16384x1024 .f32) (g b : FVec Ideal S1x1024 .f32) (q : Fin 16384) (d : Fin 1024) :
    lnR Z g b (ix2 q d) = lnAt (fun j => Z (ix2 q j)) (g (ix2 0 d)) (b (ix2 0 d)) d := by
  pointwise [lnR, lnAt]

/-- The sum of the halves at an entry. -/
theorem both_apply (q : Fin 37888) (d : Fin 1024) : both hi lo (ix2 q d) = hi (ix2 q d) + lo (ix2 q d) := by
  pointwise [both]

/-- A row's number is not negative. -/
theorem slt_small (s : BitVec 32) (hs : s.toNat < 37888) : IntOp.cmpi .slt s 0#32 = 0#1 := by
  show BitVec.ofBool (s.slt 0#32) = 0#1
  rw [show s.slt 0#32 = false from ?_]
  · rfl
  · have h : s.toInt = s.toNat := by rw [BitVec.toInt_eq_toNat_cond, if_pos (by omega)]
    simp only [BitVec.slt, h, BitVec.toInt_zero, decide_eq_false_iff_not]
    omega

/-- A token's first row. -/
theorem rowIdx0_apply (q : Fin 16384) (hs : (pos (ix2 q 0) : BitVec 32).toNat < 37888) : rowIdx0 pos (ix2 q 0) = pos (ix2 q 0) := by
  have e : rowIdx0 pos (ix2 q 0) = Scalar.select (IntOp.cmpi .slt (pos (ix2 q 0)) 0#32) (IntOp.addi (pos (ix2 q 0)) 37888#32) (pos (ix2 q 0)) := by
    pointwise [rowIdx0]
    try rfl
  rw [e, slt_small _ hs]
  rfl
/-- A token's second row. -/
theorem rowIdx1_apply (q : Fin 16384) (hs : (pos (ix2 q 1) : BitVec 32).toNat < 37888) : rowIdx1 pos (ix2 q 0) = pos (ix2 q 1) := by
  have e : rowIdx1 pos (ix2 q 0) = Scalar.select (IntOp.cmpi .slt (pos (ix2 q 1)) 0#32) (IntOp.addi (pos (ix2 q 1)) 37888#32) (pos (ix2 q 1)) := by
    pointwise [rowIdx1]
    try rfl
  rw [e, slt_small _ hs]
  rfl

/-- A gather of whole rows, read at an index. -/
theorem gather_at (y : S37888x1024.Idx → EReal) (idx : IVec S16384x1 32) (q : Fin 16384) (h : Fin 1024) (r : Fin 37888)
    (hb : idx (ix2 q 0) = BitVec.ofNat 32 r.val) :
    Host.gather gather_S37888x1024_S16384x1_S16384x1024_1_0_n_n_0_1_11024 y idx (ix2 q h) = y (ix2 r h) := by
  have e0 : (ValueIdx.ix2 q (0 : Fin 1) : S16384x1.Idx) = ix2 q 0 := by funext a; fin_cases a <;> rfl
  have e1 : (ValueIdx.ix2 q h : S16384x1024.Idx) = ix2 q h := by funext a; fin_cases a <;> rfl
  have e2 : (ValueIdx.ix2 r h : S37888x1024.Idx) = ix2 r h := by funext a; fin_cases a <;> rfl
  have g := Routing.gather_row gather_S37888x1024_S16384x1_S16384x1024_1_0_n_n_0_1_11024 rfl rfl rfl rfl rfl y idx q h r
    ((congrArg idx e0).trans hb) (by decide)
  exact ((congrArg _ e1).symm.trans g).trans (congrArg y e2)

/-- The row a token names, the two halves added. -/
def rowR (q : Fin 16384) (k : Fin 2) (d : Fin 1024) : EReal :=
  hi (ix2 (rowI (pos (ix2 q k) : BitVec 32).toNat) d) + lo (ix2 (rowI (pos (ix2 q k) : BitVec 32).toNat) d)

/-- A row's number and its word. -/
theorem word_row (s : BitVec 32) (hs : s.toNat < 37888) : s = BitVec.ofNat 32 (rowI s.toNat).val := by
  rw [rowI_val _ hs]
  exact (BitVec.eq_of_toNat_eq (by rw [BitVec.toNat_ofNat, Nat.mod_eq_of_lt s.isLt])).symm

/-- The array before the norm, at an entry. -/
theorem zz_apply (q : Fin 16384) (hs : ∀ k : Fin 2, (pos (ix2 q k) : BitVec 32).toNat < 37888) (d : Fin 1024) :
    zz hi lo pos x (ix2 q d) = Ideal.ofBits .f32 1071072509#32 * x (ix2 q d) + (rowR hi lo pos q 0 d + rowR hi lo pos q 1 d) := by
  have e : zz hi lo pos x (ix2 q d) = Ideal.ofBits .f32 1071072509#32 * x (ix2 q d) +
      (Host.gather gather_S37888x1024_S16384x1_S16384x1024_1_0_n_n_0_1_11024 (both hi lo) (rowIdx0 pos) (ix2 q d)
        + Host.gather gather_S37888x1024_S16384x1_S16384x1024_1_0_n_n_0_1_11024 (both hi lo) (rowIdx1 pos) (ix2 q d)) := by
    pointwise [zz]
    try rfl
  rw [e, gather_at (both hi lo) (rowIdx0 pos) q d (rowI (pos (ix2 q 0) : BitVec 32).toNat) ((rowIdx0_apply pos q (hs 0)).trans (word_row _ (hs 0))),
    gather_at (both hi lo) (rowIdx1 pos) q d (rowI (pos (ix2 q 1) : BitVec 32).toNat) ((rowIdx1_apply pos q (hs 1)).trans (word_row _ (hs 1))),
    both_apply, both_apply]
  rfl
end Parts

section Result
variable (m : (ℓ : Loc nD τ sig) → Buf (Elt Ideal) ℓ)

/-- The launch's arrays, each at its type. -/
abbrev posA (c : Dev nD) : IVec S16384x2 32 := m ((c : Thread nD τ).loc main_arg1)
abbrev hiA (c : Dev nD) : S37888x1024.Idx → EReal := m ((c : Thread nD τ).loc main_arg3)
abbrev loA (c : Dev nD) : S37888x1024.Idx → EReal := m ((c : Thread nD τ).loc main_arg4)
abbrev xA (c : Dev nD) : S16384x1024.Idx → EReal := m ((c : Thread nD τ).loc main_arg5)
abbrev gA (c : Dev nD) : S1x1024.Idx → EReal := m ((c : Thread nD τ).loc main_arg6)
abbrev bA (c : Dev nD) : S1x1024.Idx → EReal := m ((c : Thread nD τ).loc main_arg7)

/-- The reference's first result, by its parts. -/
theorem v46_eq (c : Dev nD) : (Value.res_main_v46 m c : S16384x1024.Idx → EReal)
    = lnR (zz (hiA m c) (loA m c) (posA m c) (xA m c)) (gA m c) (bA m c) := rfl

/-- Rounding changes nothing over the extended reals. -/
theorem trunc_eq (X : FVec Ideal S16384x1024 .f32) : (truncf (F := Ideal) .bf16 X bitsLt_bf16_f32 : S16384x1024.Idx → EReal) = X := by
  funext y
  pointwise []

/-- The reference's second result is the first. -/
theorem v47_eq (c : Dev nD) : (Value.res_main_v47 m c : S16384x1024.Idx → EReal) = Value.res_main_v46 m c :=
  (show (Value.res_main_v47 m c : S16384x1024.Idx → EReal) = truncf (F := Ideal) .bf16 (lnR (zz (hiA m c) (loA m c) (posA m c) (xA m c)) (gA m c) (bA m c)) bitsLt_bf16_f32 from rfl).trans
    ((trunc_eq _).trans (v46_eq m c).symm)

/-- The reference's result, at an entry. -/
theorem v46_apply (c : Dev nD) (q : Fin 16384) (hs : ∀ k : Fin 2, (posA m c (ix2 q k)).toNat < 37888) (d : Fin 1024) :
    (Value.res_main_v46 m c : S16384x1024.Idx → EReal) (ix2 q d)
      = lnAt (fun j => Ideal.ofBits .f32 1071072509#32 * xA m c (ix2 q j) + (rowR (hiA m c) (loA m c) (posA m c) q 0 j + rowR (hiA m c) (loA m c) (posA m c) q 1 j))
          (gA m c (ix2 0 d)) (bA m c (ix2 0 d)) d := by
  rw [v46_eq, lnR_apply]
  simp only [zz_apply _ _ _ _ q hs]
end Result

end Cert.Combine.R
end
-- ==== Proof.CombineE.lean ====
/- The combining call's two programs compared: on the same arguments under the precondition the kernel's two results are the
   reference's. -/
module

public import proofs.«01_k».proof.Proof.CombineA
public import proofs.«01_k».proof.Proof.CombineR

@[expose] public section

set_option maxRecDepth 16384

noncomputable section

namespace Cert.Combine

open Idealize.ShloMosaic Idealize.ShloMosaic.TcCoe Idealize.SL.Sem

/-- The reference runs over the extended reals and leaves its arguments; it declares no semaphore. -/
theorem frame_r : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run (F := Ideal) m ρ)

/-- A row a token names lies in the row arrays. -/
theorem pos_small {win : IVec Cert.Pre_placed.S256 32} {pos eid : IVec Cert.Pre_placed.S16384x2 32} (h : Placed win pos eid) (q : Fin 16384) (k : Fin 2) :
    (pos (ix2 q k)).toNat < 37888 := by
  have hq : trow ⟨q.val / 512, by omega⟩ ⟨q.val % 512, Nat.mod_lt _ (by decide)⟩ = q := Fin.ext (by
    show q.val / 512 * 512 + q.val % 512 = q.val; omega)
  have he := h.expert ⟨q.val / 512, by omega⟩ ⟨q.val % 512, Nat.mod_lt _ (by decide)⟩ k
  have hi := h.inside ⟨q.val / 512, by omega⟩ ⟨q.val % 512, Nat.mod_lt _ (by decide)⟩ ⟨_, he⟩ k
    (BitVec.eq_of_toNat_eq (by rw [BitVec.toNat_ofNat, Nat.mod_eq_of_lt (BitVec.isLt _)]))
  have hg := (h.good ⟨q.val / 512, by omega⟩ ⟨_, he⟩).2
  have hlt := lt_of_lt_of_le hi.2 (Nat.add_le_add_right hg 640)
  exact lt_of_eq_of_lt (congrArg (fun a : Fin 16384 => (pos (ix2 a k)).toNat) hq.symm) hlt

section Same
variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ)

/-- One array of results: the reference's and the kernel's. -/
theorem res_eq (hP : KernelIdeal.PlacedM m) (c c' : Dev 1) (h1 : R.posA m' c' = KernelIdeal.posA m c) (h3 : R.hiA m' c' = KernelIdeal.hiA m c)
    (h4 : R.loA m' c' = KernelIdeal.loA m c) (h5 : R.xA m' c' = KernelIdeal.xA m c) (h6 : R.gA m' c' = KernelIdeal.gA m c) (h7 : R.bA m' c' = KernelIdeal.bA m c) :
    (Cert.Reference6Ideal.Value.res_main_v46 m' c' : Cert.Reference6Ideal.S16384x1024.Idx → EReal) = KernelIdeal.Y m c := by
  funext y
  idx_vars y
  rw [R.v46_apply m' c' y0 (fun k => by rw [h1]; exact pos_small (hP c) y0 k), h1, h3, h4, h5, h6, h7]
  rfl
end Same

/-- The kernel and its reference have the same two results on the same arguments. -/
theorem algebraic : Cert.algebraic_Kernel6Ideal_Reference6Ideal := by
  intro m g m' g' hP ha
  have hR : KernelIdeal.PlacedM m := fun c => placed_of_pre _ _ _ _ _ _ _ _ (hP c)
  refine ⟨fun c => (KernelIdeal.dats m 0 c).arrAt 5 (KernelIdeal.cfgM m).N,
    fun c => (KernelIdeal.dats m 0 c).arrAt 6 (KernelIdeal.cfgM m).N,
    (θ_run _ _ _).mono (fun _ h => h.1) (KernelIdeal.run_all m g (KernelIdeal.goodAll m hR)), ?_⟩
  have hY : ∀ c, (Cert.Reference6Ideal.Value.res_main_v46 m' c : Cert.Reference6Ideal.S16384x1024.Idx → EReal) = KernelIdeal.Y m c := fun c => by
    obtain ⟨-, h1, -, h3, h4, h5, h6, h7⟩ := ha c
    exact res_eq m m' hR c c h1 h3 h4 h5 h6 h7
  refine (θ_run Cert.Reference6Ideal.defs _ _).mono (fun r h c => ⟨?_, ?_, (h c).2.2⟩) (Cert.Reference6Ideal.Value.run (F := Ideal) m' g')
  · exact ((h c).1.trans (hY c)).trans (KernelIdeal.arr5 m hR c).symm
  · exact (((h c).2.1.trans (R.v47_eq m' c)).trans (hY c)).trans (KernelIdeal.arr6 m hR c).symm

end Cert.Combine

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Dense
public import proofs.«01_k».proof.Proof.MoeFI
public import proofs.«01_k».proof.Proof.MoeFK
public import proofs.«01_k».proof.Proof.MoeE
public import proofs.«01_k».proof.Proof.Proj3
public import proofs.«01_k».proof.Proof.Proj4
public import proofs.«01_k».proof.Proof.OutProj
public import proofs.«01_k».proof.Proof.Forget
public import proofs.«01_k».proof.Proof.Merge
public import proofs.«01_k».proof.Proof.DilatedRef
public import proofs.«01_k».proof.Proof.Proj8
public import proofs.«01_k».proof.Proof.Proj7
public import proofs.«01_k».proof.Proof.CombineFI
public import proofs.«01_k».proof.Proof.CombineFK
public import proofs.«01_k».proof.Proof.CombineE
public import proofs.«01_k».proof.Proof.Gen.Kernel.Loops
public import proofs.«01_k».proof.Proof.Gen.Kernel.Launch
public import proofs.«01_k».proof.Proof.Gen.Kernel.Skeleton
public import proofs.«01_k».proof.Proof.Gen.KernelIdeal.Loops
public import proofs.«01_k».proof.Proof.Gen.KernelIdeal.Launch
public import proofs.«01_k».proof.Proof.Gen.KernelIdeal.Skeleton
public import proofs.«01_k».proof.Proof.Gen.ReferenceIdeal.Run
public import proofs.«01_k».proof.Proof.Gen.Pre_routed
public import proofs.«01_k».proof.Proof.Gen.Kernel3.Frame
public import proofs.«01_k».proof.Proof.Gen.Kernel3.Launch
public import proofs.«01_k».proof.Proof.Gen.Kernel3.Points
public import proofs.«01_k».proof.Proof.Gen.Kernel3.Skeleton
public import proofs.«01_k».proof.Proof.Gen.Kernel3Ideal.Frame
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Value
public import proofs.«01_k».proof.Proof.Gen.Kernel4.Frame
public import proofs.«01_k».proof.Proof.Gen.Kernel4.Launch
public import proofs.«01_k».proof.Proof.Gen.Kernel4.Points
public import proofs.«01_k».proof.Proof.Gen.Kernel4.Skeleton
public import proofs.«01_k».proof.Proof.Gen.Kernel4Ideal.Frame
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Value
public import proofs.«01_k».proof.Proof.Gen.Kernel5.Frame
public import proofs.«01_k».proof.Proof.Gen.Kernel5.Launch
public import proofs.«01_k».proof.Proof.Gen.Kernel5.Points
public import proofs.«01_k».proof.Proof.Gen.Kernel5.Skeleton
public import proofs.«01_k».proof.Proof.Gen.Kernel5Ideal.Frame
public import proofs.«01_k».proof.Proof.Gen.Kernel5Ideal.Launch
public import proofs.«01_k».proof.Proof.Gen.Kernel5Ideal.Points
public import proofs.«01_k».proof.Proof.Gen.Kernel5Ideal.Skeleton
public import proofs.«01_k».proof.Proof.Gen.Kernel5Ideal.Value
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Kernel7.Frame
public import proofs.«01_k».proof.Proof.Gen.Kernel7.Launch
public import proofs.«01_k».proof.Proof.Gen.Kernel7.Points
public import proofs.«01_k».proof.Proof.Gen.Kernel7.Skeleton
public import proofs.«01_k».proof.Proof.Gen.Kernel7Ideal.Frame
public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8.Launch
public import proofs.«01_k».proof.Proof.Gen.Kernel8.Points
public import proofs.«01_k».proof.Proof.Gen.Kernel8.Skeleton
public import proofs.«01_k».proof.Proof.Gen.Kernel8Ideal.Frame
public import proofs.«01_k».proof.Proof.Gen.Kernel8Ideal.Launch
public import proofs.«01_k».proof.Proof.Gen.Kernel8Ideal.Points
public import proofs.«01_k».proof.Proof.Gen.Kernel8Ideal.Skeleton
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9.Launch
public import proofs.«01_k».proof.Proof.Gen.Kernel9.Points
public import proofs.«01_k».proof.Proof.Gen.Kernel9.Skeleton
public import proofs.«01_k».proof.Proof.Gen.Kernel9Ideal.Frame
public import proofs.«01_k».proof.Proof.Gen.Kernel9Ideal.Launch
public import proofs.«01_k».proof.Proof.Gen.Kernel9Ideal.Points
public import proofs.«01_k».proof.Proof.Gen.Kernel9Ideal.Skeleton
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10.Launch
public import proofs.«01_k».proof.Proof.Gen.Kernel10.Points
public import proofs.«01_k».proof.Proof.Gen.Kernel10.Skeleton
public import proofs.«01_k».proof.Proof.Gen.Kernel10Ideal.Frame
public import proofs.«01_k».proof.Proof.Gen.Kernel10Ideal.Launch
public import proofs.«01_k».proof.Proof.Gen.Kernel10Ideal.Points
public import proofs.«01_k».proof.Proof.Gen.Kernel10Ideal.Skeleton
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11.Launch
public import proofs.«01_k».proof.Proof.Gen.Kernel11.Points
public import proofs.«01_k».proof.Proof.Gen.Kernel11.Skeleton
public import proofs.«01_k».proof.Proof.Gen.Kernel11Ideal.Frame
public import proofs.«01_k».proof.Proof.Gen.Kernel11Ideal.Launch
public import proofs.«01_k».proof.Proof.Gen.Kernel11Ideal.Points
public import proofs.«01_k».proof.Proof.Gen.Kernel11Ideal.Skeleton
public import proofs.«01_k».proof.Proof.Gen.Kernel11Ideal.Value
public import proofs.«01_k».proof.Proof.Gen.Reference11Ideal.Run
public import proofs.«01_k».proof.Proof.Gen.Kernel6.Launch
public import proofs.«01_k».proof.Proof.Gen.Kernel6.Skeleton
public import proofs.«01_k».proof.Proof.Gen.Kernel6Ideal.Launch
public import proofs.«01_k».proof.Proof.Gen.Kernel6Ideal.Skeleton
public import proofs.«01_k».proof.Proof.Gen.Reference6Ideal.Run
public import proofs.«01_k».proof.Proof.Gen.Pre_placed
public import Idealize.ShloMosaic.Lib.Quiescent
public import Idealize.ShloMosaic.Adequacy
public import Idealize.ShloMosaic.Init

@[expose] public section

noncomputable section

namespace Cert.Proof

open Idealize.ShloMosaic Idealize.SL.Sem Cert.Kernel2

/-- The dense reference runs over the extended reals and leaves its arguments; it declares no semaphore. -/
theorem dense_frame_r : Cert.quiescent_Reference2Ideal := fun m ρ _ =>
  (θ_run Cert.Reference2Ideal.defs _ _).mono
    (fun r h => ⟨fun c => ⟨(h c).2.2.1, (h c).2.2.2.1, (h c).2.2.2.2.1, (h c).2.2.2.2.2.1, (h c).2.2.2.2.2.2.1,
      (h c).2.2.2.2.2.2.2.1, (h c).2.2.2.2.2.2.2.2⟩, sem_eq_zero_of_no_sems (by decide) r.2⟩)
    (Cert.Reference2Ideal.Value.run (F := Ideal) m ρ)

/-- The dense call and its reference have the same two results on the same arguments. -/
theorem dense_algebraic : Cert.algebraic_Kernel2Ideal_Reference2Ideal := by
  intro m g m' g' _ ha
  refine ⟨fun c => (Cert.Kernel2Ideal.Gen.dats m 0 c).arrAt 7 Cert.Kernel2Ideal.cfg0.N,
    fun c => (Cert.Kernel2Ideal.Gen.dats m 0 c).arrAt 8 Cert.Kernel2Ideal.cfg0.N,
    Cert.Kernel2Ideal.Value.run_blocks m g, ?_⟩
  have hY : ∀ c, Cert.Dense.R.Y m' c = Cert.Dense.K.Y m c := fun c => by
    obtain ⟨h0, h1, h2, h3, h4, h5, h6⟩ := ha c
    unfold Cert.Dense.R.Y Cert.Dense.K.Y Cert.Dense.R.z Cert.Dense.K.z
    simp only [Cert.Dense.R.A0, Cert.Dense.R.A1, Cert.Dense.R.A2, Cert.Dense.R.A3, Cert.Dense.R.A4, Cert.Dense.R.A5,
      Cert.Dense.R.A6, h0, h1, h2, h3, h4, h5, h6]
  refine (θ_run Cert.Reference2Ideal.defs _ _).mono (fun r h c => ⟨?_, ?_, (h c).2.2⟩)
    (Cert.Reference2Ideal.Value.run (F := Ideal) m' g')
  · exact ((h c).1.trans (Cert.Dense.R.out0 m' c)).trans ((hY c).trans (Cert.Dense.K.arr7 m c).symm)
  · exact ((h c).2.1.trans (Cert.Dense.R.out1 m' c)).trans ((hY c).trans (Cert.Dense.K.arr8 m c).symm)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_routed.Gen.facts, Cert.Pre_placed.Gen.facts,
  Cert.Moe.frame_Kernel, Cert.Moe.frame_KernelIdeal, Cert.Moe.moe_frame_r,
  fun m ρ _ => Cert.Kernel2.Gen.frame m ρ, fun m ρ _ => Cert.Kernel2Ideal.Gen.frame m ρ, dense_frame_r,
  fun m ρ _ => Cert.Kernel3.Gen.frame m ρ, fun m ρ _ => Cert.Kernel3Ideal.Gen.frame m ρ, Cert.Proj3.frame_r,
  fun m ρ _ => Cert.Kernel4.Gen.frame m ρ, fun m ρ _ => Cert.Kernel4Ideal.Gen.frame m ρ, Cert.Proj4.frame_r,
  fun m ρ _ => Cert.Kernel5.Gen.frame m ρ, fun m ρ _ => Cert.Kernel5Ideal.Gen.frame m ρ, Cert.OutProj.frame_r,
  Cert.Combine.frame_Kernel6, Cert.Combine.frame_Kernel6Ideal, Cert.Combine.frame_r,
  fun m ρ _ => Cert.Kernel7.Gen.frame m ρ, fun m ρ _ => Cert.Kernel7Ideal.Gen.frame m ρ, Cert.Proj7.frame_r,
  fun m ρ _ => Cert.Kernel8.Gen.frame m ρ, fun m ρ _ => Cert.Kernel8Ideal.Gen.frame m ρ, Cert.Proj8.frame_r,
  fun m ρ _ => Cert.Kernel9.Gen.frame m ρ, fun m ρ _ => Cert.Kernel9Ideal.Gen.frame m ρ, Cert.Forget.frame_r,
  fun m ρ _ => Cert.Kernel10.Gen.frame m ρ, fun m ρ _ => Cert.Kernel10Ideal.Gen.frame m ρ, Cert.Merge.frame_r,
  fun m ρ _ => Cert.Kernel11.Gen.frame m ρ, fun m ρ _ => Cert.Kernel11Ideal.Gen.frame m ρ, Cert.Dilated.frame_r,
  trivial, Cert.Moe.moe_algebraic, trivial, dense_algebraic, trivial, Cert.Proj3.algebraic, trivial, Cert.Proj4.algebraic, trivial, Cert.OutProj.algebraic, trivial, Cert.Combine.algebraic, trivial, Cert.Proj7.algebraic, trivial, Cert.Proj8.algebraic, trivial, Cert.Forget.algebraic, trivial, Cert.Merge.algebraic, Cert.Dilated.preserves, Cert.Dilated.algebraic⟩

end Cert.Proof

end
